-- ==== Defs.lean ====
def Pre_PoolIn (m : (ℓ : Loc Cert.PoolIn.nD Cert.PoolIn.τ Cert.PoolIn.sig) → Buf (Elt Bits) ℓ) : Prop :=
  True

def Pre_PoolInIdeal (m : (ℓ : Loc Cert.PoolInIdeal.nD Cert.PoolInIdeal.τ Cert.PoolInIdeal.sig) → Buf (Elt Ideal) ℓ) : Prop :=
  True

def Pre_PoolInRefIdeal (m : (ℓ : Loc Cert.PoolInRefIdeal.nD Cert.PoolInRefIdeal.τ Cert.PoolInRefIdeal.sig) → Buf (Elt Ideal) ℓ) : Prop :=
  True

def Pre_DeltaIn (m : (ℓ : Loc Cert.DeltaIn.nD Cert.DeltaIn.τ Cert.DeltaIn.sig) → Buf (Elt Bits) ℓ) : Prop :=
  True

def Pre_DeltaInIdeal (m : (ℓ : Loc Cert.DeltaInIdeal.nD Cert.DeltaInIdeal.τ Cert.DeltaInIdeal.sig) → Buf (Elt Ideal) ℓ) : Prop :=
  True

def Pre_DeltaInRefIdeal (m : (ℓ : Loc Cert.DeltaInRefIdeal.nD Cert.DeltaInRefIdeal.τ Cert.DeltaInRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_OutZ (m : (ℓ : Loc Cert.OutZ.nD Cert.OutZ.τ Cert.OutZ.sig) → Buf (Elt Bits) ℓ) : Prop :=
  True

def Pre_OutZIdeal (m : (ℓ : Loc Cert.OutZIdeal.nD Cert.OutZIdeal.τ Cert.OutZIdeal.sig) → Buf (Elt Ideal) ℓ) : Prop :=
  True

def Pre_OutZRefIdeal (m : (ℓ : Loc Cert.OutZRefIdeal.nD Cert.OutZRefIdeal.τ Cert.OutZRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolRefIdeal (m : (ℓ : Loc Cert.PoolRefIdeal.nD Cert.PoolRefIdeal.τ Cert.PoolRefIdeal.sig) → Buf (Elt Ideal) ℓ) : Prop :=
  True

def Pre_PoolS (m : (ℓ : Loc Cert.PoolS.nD Cert.PoolS.τ Cert.PoolS.sig) → Buf (Elt Bits) ℓ) : Prop :=
  True

def Pre_PoolSIdeal (m : (ℓ : Loc Cert.PoolSIdeal.nD Cert.PoolSIdeal.τ Cert.PoolSIdeal.sig) → Buf (Elt Ideal) ℓ) : Prop :=
  True

def Pre_PoolSRefIdeal (m : (ℓ : Loc Cert.PoolSRefIdeal.nD Cert.PoolSRefIdeal.τ Cert.PoolSRefIdeal.sig) → Buf (Elt Ideal) ℓ) : Prop :=
  True

def Pre_NormP (m : (ℓ : Loc Cert.NormP.nD Cert.NormP.τ Cert.NormP.sig) → Buf (Elt Bits) ℓ) : Prop :=
  True

def Pre_NormPIdeal (m : (ℓ : Loc Cert.NormPIdeal.nD Cert.NormPIdeal.τ Cert.NormPIdeal.sig) → Buf (Elt Ideal) ℓ) : Prop :=
  True

def Pre_NormPRefIdeal (m : (ℓ : Loc Cert.NormPRefIdeal.nD Cert.NormPRefIdeal.τ Cert.NormPRefIdeal.sig) → Buf (Elt Ideal) ℓ) : Prop :=
  True

def Pre_NormS (m : (ℓ : Loc Cert.NormS.nD Cert.NormS.τ Cert.NormS.sig) → Buf (Elt Bits) ℓ) : Prop :=
  True

def Pre_NormSIdeal (m : (ℓ : Loc Cert.NormSIdeal.nD Cert.NormSIdeal.τ Cert.NormSIdeal.sig) → Buf (Elt Ideal) ℓ) : Prop :=
  True

def Pre_NormSRefIdeal (m : (ℓ : Loc Cert.NormSRefIdeal.nD Cert.NormSRefIdeal.τ Cert.NormSRefIdeal.sig) → Buf (Elt Ideal) ℓ) : Prop :=
  True

def Pre_NormZ (m : (ℓ : Loc Cert.NormZ.nD Cert.NormZ.τ Cert.NormZ.sig) → Buf (Elt Bits) ℓ) : Prop :=
  True

def Pre_NormZIdeal (m : (ℓ : Loc Cert.NormZIdeal.nD Cert.NormZIdeal.τ Cert.NormZIdeal.sig) → Buf (Elt Ideal) ℓ) : Prop :=
  True

def Pre_NormZRefIdeal (m : (ℓ : Loc Cert.NormZRefIdeal.nD Cert.NormZRefIdeal.τ Cert.NormZRefIdeal.sig) → Buf (Elt Ideal) ℓ) : Prop :=
  True

def Pre_Delta (m : (ℓ : Loc Cert.Delta.nD Cert.Delta.τ Cert.Delta.sig) → Buf (Elt Bits) ℓ) : Prop :=
  True

def Pre_DeltaIdeal (m : (ℓ : Loc Cert.DeltaIdeal.nD Cert.DeltaIdeal.τ Cert.DeltaIdeal.sig) → Buf (Elt Ideal) ℓ) : Prop :=
  True

def Pre_DeltaRefIdeal (m : (ℓ : Loc Cert.DeltaRefIdeal.nD Cert.DeltaRefIdeal.τ Cert.DeltaRefIdeal.sig) → Buf (Elt Ideal) ℓ) : Prop :=
  True

def Pre_DeltaS (m : (ℓ : Loc Cert.DeltaS.nD Cert.DeltaS.τ Cert.DeltaS.sig) → Buf (Elt Bits) ℓ) : Prop :=
  True

def Pre_DeltaSIdeal (m : (ℓ : Loc Cert.DeltaSIdeal.nD Cert.DeltaSIdeal.τ Cert.DeltaSIdeal.sig) → Buf (Elt Ideal) ℓ) : Prop :=
  True

def Pre_DeltaSRefIdeal (m : (ℓ : Loc Cert.DeltaSRefIdeal.nD Cert.DeltaSRefIdeal.τ Cert.DeltaSRefIdeal.sig) → Buf (Elt Ideal) ℓ) : Prop :=
  True

def quiescent_PoolIn [hPoolIn : Cert.PoolIn.Facts] : Prop :=
  ∀ (m : (ℓ : Loc Cert.PoolIn.nD Cert.PoolIn.τ Cert.PoolIn.sig) → Buf (Elt Bits) ℓ) (g : Dev Cert.PoolIn.nD → PrngReg), Pre_PoolIn m →
    θ_run (Cert.PoolIn.defs (F := Bits)) (onTc (τ := Cert.PoolIn.τ) (Cert.PoolIn.main (F := Bits))) ⟨m, fun _ => 0, g⟩ (fun r => (∀ c : Dev Cert.PoolIn.nD,
      r.2.mem ((c.tc : Thread Cert.PoolIn.nD Cert.PoolIn.τ).loc Cert.PoolIn.main_arg0) = m ((c.tc : Thread Cert.PoolIn.nD Cert.PoolIn.τ).loc Cert.PoolIn.main_arg0)
      ∧ r.2.mem ((c.tc : Thread Cert.PoolIn.nD Cert.PoolIn.τ).loc Cert.PoolIn.main_arg1) = m ((c.tc : Thread Cert.PoolIn.nD Cert.PoolIn.τ).loc Cert.PoolIn.main_arg1))
      ∧ r.2.sem = fun _ => 0)

def quiescent_PoolInIdeal [hPoolInIdeal : Cert.PoolInIdeal.Facts] : Prop :=
  ∀ (m : (ℓ : Loc Cert.PoolInIdeal.nD Cert.PoolInIdeal.τ Cert.PoolInIdeal.sig) → Buf (Elt Ideal) ℓ) (g : Dev Cert.PoolInIdeal.nD → PrngReg), Pre_PoolInIdeal m →
    θ_run (Cert.PoolInIdeal.defs (F := Ideal)) (onTc (τ := Cert.PoolInIdeal.τ) (Cert.PoolInIdeal.main (F := Ideal))) ⟨m, fun _ => 0, g⟩ (fun r => (∀ c : Dev Cert.PoolInIdeal.nD,
      r.2.mem ((c.tc : Thread Cert.PoolInIdeal.nD Cert.PoolInIdeal.τ).loc Cert.PoolInIdeal.main_arg0) = m ((c.tc : Thread Cert.PoolInIdeal.nD Cert.PoolInIdeal.τ).loc Cert.PoolInIdeal.main_arg0)
      ∧ r.2.mem ((c.tc : Thread Cert.PoolInIdeal.nD Cert.PoolInIdeal.τ).loc Cert.PoolInIdeal.main_arg1) = m ((c.tc : Thread Cert.PoolInIdeal.nD Cert.PoolInIdeal.τ).loc Cert.PoolInIdeal.main_arg1))
      ∧ r.2.sem = fun _ => 0)

def quiescent_PoolInRefIdeal [hPoolInRefIdeal : Cert.PoolInRefIdeal.Facts] : Prop :=
  ∀ (m : (ℓ : Loc Cert.PoolInRefIdeal.nD Cert.PoolInRefIdeal.τ Cert.PoolInRefIdeal.sig) → Buf (Elt Ideal) ℓ) (g : Dev Cert.PoolInRefIdeal.nD → PrngReg), Pre_PoolInRefIdeal m →
    θ_run (Cert.PoolInRefIdeal.defs (F := Ideal)) (onTc (τ := Cert.PoolInRefIdeal.τ) (Cert.PoolInRefIdeal.main (F := Ideal))) ⟨m, fun _ => 0, g⟩ (fun r => (∀ c : Dev Cert.PoolInRefIdeal.nD,
      r.2.mem ((c.tc : Thread Cert.PoolInRefIdeal.nD Cert.PoolInRefIdeal.τ).loc Cert.PoolInRefIdeal.main_arg0) = m ((c.tc : Thread Cert.PoolInRefIdeal.nD Cert.PoolInRefIdeal.τ).loc Cert.PoolInRefIdeal.main_arg0)
      ∧ r.2.mem ((c.tc : Thread Cert.PoolInRefIdeal.nD Cert.PoolInRefIdeal.τ).loc Cert.PoolInRefIdeal.main_arg1) = m ((c.tc : Thread Cert.PoolInRefIdeal.nD Cert.PoolInRefIdeal.τ).loc Cert.PoolInRefIdeal.main_arg1))
      ∧ r.2.sem = fun _ => 0)

def quiescent_DeltaIn [hDeltaIn : Cert.DeltaIn.Facts] : Prop :=
  ∀ (m : (ℓ : Loc Cert.DeltaIn.nD Cert.DeltaIn.τ Cert.DeltaIn.sig) → Buf (Elt Bits) ℓ) (g : Dev Cert.DeltaIn.nD → PrngReg), Pre_DeltaIn m →
    θ_run (Cert.DeltaIn.defs (F := Bits)) (onTc (τ := Cert.DeltaIn.τ) (Cert.DeltaIn.main (F := Bits))) ⟨m, fun _ => 0, g⟩ (fun r => (∀ c : Dev Cert.DeltaIn.nD,
      r.2.mem ((c.tc : Thread Cert.DeltaIn.nD Cert.DeltaIn.τ).loc Cert.DeltaIn.main_arg0) = m ((c.tc : Thread Cert.DeltaIn.nD Cert.DeltaIn.τ).loc Cert.DeltaIn.main_arg0)
      ∧ r.2.mem ((c.tc : Thread Cert.DeltaIn.nD Cert.DeltaIn.τ).loc Cert.DeltaIn.main_arg1) = m ((c.tc : Thread Cert.DeltaIn.nD Cert.DeltaIn.τ).loc Cert.DeltaIn.main_arg1))
      ∧ r.2.sem = fun _ => 0)

def quiescent_DeltaInIdeal [hDeltaInIdeal : Cert.DeltaInIdeal.Facts] : Prop :=
  ∀ (m : (ℓ : Loc Cert.DeltaInIdeal.nD Cert.DeltaInIdeal.τ Cert.DeltaInIdeal.sig) → Buf (Elt Ideal) ℓ) (g : Dev Cert.DeltaInIdeal.nD → PrngReg), Pre_DeltaInIdeal m →
    θ_run (Cert.DeltaInIdeal.defs (F := Ideal)) (onTc (τ := Cert.DeltaInIdeal.τ) (Cert.DeltaInIdeal.main (F := Ideal))) ⟨m, fun _ => 0, g⟩ (fun r => (∀ c : Dev Cert.DeltaInIdeal.nD,
      r.2.mem ((c.tc : Thread Cert.DeltaInIdeal.nD Cert.DeltaInIdeal.τ).loc Cert.DeltaInIdeal.main_arg0) = m ((c.tc : Thread Cert.DeltaInIdeal.nD Cert.DeltaInIdeal.τ).loc Cert.DeltaInIdeal.main_arg0)
      ∧ r.2.mem ((c.tc : Thread Cert.DeltaInIdeal.nD Cert.DeltaInIdeal.τ).loc Cert.DeltaInIdeal.main_arg1) = m ((c.tc : Thread Cert.DeltaInIdeal.nD Cert.DeltaInIdeal.τ).loc Cert.DeltaInIdeal.main_arg1))
      ∧ r.2.sem = fun _ => 0)

def quiescent_DeltaInRefIdeal [hDeltaInRefIdeal : Cert.DeltaInRefIdeal.Facts] : Prop :=
  ∀ (m : (ℓ : Loc Cert.DeltaInRefIdeal.nD Cert.DeltaInRefIdeal.τ Cert.DeltaInRefIdeal.sig) → Buf (Elt Ideal) ℓ) (g : Dev Cert.DeltaInRefIdeal.nD → PrngReg), Pre_DeltaInRefIdeal m →
    θ_run (Cert.DeltaInRefIdeal.defs (F := Ideal)) (onTc (τ := Cert.DeltaInRefIdeal.τ) (Cert.DeltaInRefIdeal.main (F := Ideal))) ⟨m, fun _ => 0, g⟩ (fun r => (∀ c : Dev Cert.DeltaInRefIdeal.nD,
      r.2.mem ((c.tc : Thread Cert.DeltaInRefIdeal.nD Cert.DeltaInRefIdeal.τ).loc Cert.DeltaInRefIdeal.main_arg0) = m ((c.tc : Thread Cert.DeltaInRefIdeal.nD Cert.DeltaInRefIdeal.τ).loc Cert.DeltaInRefIdeal.main_arg0)
      ∧ r.2.mem ((c.tc : Thread Cert.DeltaInRefIdeal.nD Cert.DeltaInRefIdeal.τ).loc Cert.DeltaInRefIdeal.main_arg1) = m ((c.tc : Thread Cert.DeltaInRefIdeal.nD Cert.DeltaInRefIdeal.τ).loc Cert.DeltaInRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_OutZ [hOutZ : Cert.OutZ.Facts] : Prop :=
  ∀ (m : (ℓ : Loc Cert.OutZ.nD Cert.OutZ.τ Cert.OutZ.sig) → Buf (Elt Bits) ℓ) (g : Dev Cert.OutZ.nD → PrngReg), Pre_OutZ m →
    θ_run (Cert.OutZ.defs (F := Bits)) (onTc (τ := Cert.OutZ.τ) (Cert.OutZ.main (F := Bits))) ⟨m, fun _ => 0, g⟩ (fun r => (∀ c : Dev Cert.OutZ.nD,
      r.2.mem ((c.tc : Thread Cert.OutZ.nD Cert.OutZ.τ).loc Cert.OutZ.main_arg0) = m ((c.tc : Thread Cert.OutZ.nD Cert.OutZ.τ).loc Cert.OutZ.main_arg0)
      ∧ r.2.mem ((c.tc : Thread Cert.OutZ.nD Cert.OutZ.τ).loc Cert.OutZ.main_arg1) = m ((c.tc : Thread Cert.OutZ.nD Cert.OutZ.τ).loc Cert.OutZ.main_arg1)
      ∧ r.2.mem ((c.tc : Thread Cert.OutZ.nD Cert.OutZ.τ).loc Cert.OutZ.main_arg2) = m ((c.tc : Thread Cert.OutZ.nD Cert.OutZ.τ).loc Cert.OutZ.main_arg2)
      ∧ r.2.mem ((c.tc : Thread Cert.OutZ.nD Cert.OutZ.τ).loc Cert.OutZ.main_arg3) = m ((c.tc : Thread Cert.OutZ.nD Cert.OutZ.τ).loc Cert.OutZ.main_arg3)
      ∧ r.2.mem ((c.tc : Thread Cert.OutZ.nD Cert.OutZ.τ).loc Cert.OutZ.main_arg4) = m ((c.tc : Thread Cert.OutZ.nD Cert.OutZ.τ).loc Cert.OutZ.main_arg4))
      ∧ r.2.sem = fun _ => 0)

def quiescent_OutZIdeal [hOutZIdeal : Cert.OutZIdeal.Facts] : Prop :=
  ∀ (m : (ℓ : Loc Cert.OutZIdeal.nD Cert.OutZIdeal.τ Cert.OutZIdeal.sig) → Buf (Elt Ideal) ℓ) (g : Dev Cert.OutZIdeal.nD → PrngReg), Pre_OutZIdeal m →
    θ_run (Cert.OutZIdeal.defs (F := Ideal)) (onTc (τ := Cert.OutZIdeal.τ) (Cert.OutZIdeal.main (F := Ideal))) ⟨m, fun _ => 0, g⟩ (fun r => (∀ c : Dev Cert.OutZIdeal.nD,
      r.2.mem ((c.tc : Thread Cert.OutZIdeal.nD Cert.OutZIdeal.τ).loc Cert.OutZIdeal.main_arg0) = m ((c.tc : Thread Cert.OutZIdeal.nD Cert.OutZIdeal.τ).loc Cert.OutZIdeal.main_arg0)
      ∧ r.2.mem ((c.tc : Thread Cert.OutZIdeal.nD Cert.OutZIdeal.τ).loc Cert.OutZIdeal.main_arg1) = m ((c.tc : Thread Cert.OutZIdeal.nD Cert.OutZIdeal.τ).loc Cert.OutZIdeal.main_arg1)
      ∧ r.2.mem ((c.tc : Thread Cert.OutZIdeal.nD Cert.OutZIdeal.τ).loc Cert.OutZIdeal.main_arg2) = m ((c.tc : Thread Cert.OutZIdeal.nD Cert.OutZIdeal.τ).loc Cert.OutZIdeal.main_arg2)
      ∧ r.2.mem ((c.tc : Thread Cert.OutZIdeal.nD Cert.OutZIdeal.τ).loc Cert.OutZIdeal.main_arg3) = m ((c.tc : Thread Cert.OutZIdeal.nD Cert.OutZIdeal.τ).loc Cert.OutZIdeal.main_arg3)
      ∧ r.2.mem ((c.tc : Thread Cert.OutZIdeal.nD Cert.OutZIdeal.τ).loc Cert.OutZIdeal.main_arg4) = m ((c.tc : Thread Cert.OutZIdeal.nD Cert.OutZIdeal.τ).loc Cert.OutZIdeal.main_arg4))
      ∧ r.2.sem = fun _ => 0)

def quiescent_OutZRefIdeal [hOutZRefIdeal : Cert.OutZRefIdeal.Facts] : Prop :=
  ∀ (m : (ℓ : Loc Cert.OutZRefIdeal.nD Cert.OutZRefIdeal.τ Cert.OutZRefIdeal.sig) → Buf (Elt Ideal) ℓ) (g : Dev Cert.OutZRefIdeal.nD → PrngReg), Pre_OutZRefIdeal m →
    θ_run (Cert.OutZRefIdeal.defs (F := Ideal)) (onTc (τ := Cert.OutZRefIdeal.τ) (Cert.OutZRefIdeal.main (F := Ideal))) ⟨m, fun _ => 0, g⟩ (fun r => (∀ c : Dev Cert.OutZRefIdeal.nD,
      r.2.mem ((c.tc : Thread Cert.OutZRefIdeal.nD Cert.OutZRefIdeal.τ).loc Cert.OutZRefIdeal.main_arg0) = m ((c.tc : Thread Cert.OutZRefIdeal.nD Cert.OutZRefIdeal.τ).loc Cert.OutZRefIdeal.main_arg0)
      ∧ r.2.mem ((c.tc : Thread Cert.OutZRefIdeal.nD Cert.OutZRefIdeal.τ).loc Cert.OutZRefIdeal.main_arg1) = m ((c.tc : Thread Cert.OutZRefIdeal.nD Cert.OutZRefIdeal.τ).loc Cert.OutZRefIdeal.main_arg1)
      ∧ r.2.mem ((c.tc : Thread Cert.OutZRefIdeal.nD Cert.OutZRefIdeal.τ).loc Cert.OutZRefIdeal.main_arg2) = m ((c.tc : Thread Cert.OutZRefIdeal.nD Cert.OutZRefIdeal.τ).loc Cert.OutZRefIdeal.main_arg2)
      ∧ r.2.mem ((c.tc : Thread Cert.OutZRefIdeal.nD Cert.OutZRefIdeal.τ).loc Cert.OutZRefIdeal.main_arg3) = m ((c.tc : Thread Cert.OutZRefIdeal.nD Cert.OutZRefIdeal.τ).loc Cert.OutZRefIdeal.main_arg3)
      ∧ r.2.mem ((c.tc : Thread Cert.OutZRefIdeal.nD Cert.OutZRefIdeal.τ).loc Cert.OutZRefIdeal.main_arg4) = m ((c.tc : Thread Cert.OutZRefIdeal.nD Cert.OutZRefIdeal.τ).loc Cert.OutZRefIdeal.main_arg4))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2))
      ∧ r.2.sem = fun _ => 0)

def quiescent_PoolS [hPoolS : Cert.PoolS.Facts] : Prop :=
  ∀ (m : (ℓ : Loc Cert.PoolS.nD Cert.PoolS.τ Cert.PoolS.sig) → Buf (Elt Bits) ℓ) (g : Dev Cert.PoolS.nD → PrngReg), Pre_PoolS m →
    θ_run (Cert.PoolS.defs (F := Bits)) (onTc (τ := Cert.PoolS.τ) (Cert.PoolS.main (F := Bits))) ⟨m, fun _ => 0, g⟩ (fun r => (∀ c : Dev Cert.PoolS.nD,
      r.2.mem ((c.tc : Thread Cert.PoolS.nD Cert.PoolS.τ).loc Cert.PoolS.main_arg0) = m ((c.tc : Thread Cert.PoolS.nD Cert.PoolS.τ).loc Cert.PoolS.main_arg0)
      ∧ r.2.mem ((c.tc : Thread Cert.PoolS.nD Cert.PoolS.τ).loc Cert.PoolS.main_arg1) = m ((c.tc : Thread Cert.PoolS.nD Cert.PoolS.τ).loc Cert.PoolS.main_arg1)
      ∧ r.2.mem ((c.tc : Thread Cert.PoolS.nD Cert.PoolS.τ).loc Cert.PoolS.main_arg2) = m ((c.tc : Thread Cert.PoolS.nD Cert.PoolS.τ).loc Cert.PoolS.main_arg2)
      ∧ r.2.mem ((c.tc : Thread Cert.PoolS.nD Cert.PoolS.τ).loc Cert.PoolS.main_arg3) = m ((c.tc : Thread Cert.PoolS.nD Cert.PoolS.τ).loc Cert.PoolS.main_arg3)
      ∧ r.2.mem ((c.tc : Thread Cert.PoolS.nD Cert.PoolS.τ).loc Cert.PoolS.main_arg4) = m ((c.tc : Thread Cert.PoolS.nD Cert.PoolS.τ).loc Cert.PoolS.main_arg4))
      ∧ r.2.sem = fun _ => 0)

def quiescent_PoolSIdeal [hPoolSIdeal : Cert.PoolSIdeal.Facts] : Prop :=
  ∀ (m : (ℓ : Loc Cert.PoolSIdeal.nD Cert.PoolSIdeal.τ Cert.PoolSIdeal.sig) → Buf (Elt Ideal) ℓ) (g : Dev Cert.PoolSIdeal.nD → PrngReg), Pre_PoolSIdeal m →
    θ_run (Cert.PoolSIdeal.defs (F := Ideal)) (onTc (τ := Cert.PoolSIdeal.τ) (Cert.PoolSIdeal.main (F := Ideal))) ⟨m, fun _ => 0, g⟩ (fun r => (∀ c : Dev Cert.PoolSIdeal.nD,
      r.2.mem ((c.tc : Thread Cert.PoolSIdeal.nD Cert.PoolSIdeal.τ).loc Cert.PoolSIdeal.main_arg0) = m ((c.tc : Thread Cert.PoolSIdeal.nD Cert.PoolSIdeal.τ).loc Cert.PoolSIdeal.main_arg0)
      ∧ r.2.mem ((c.tc : Thread Cert.PoolSIdeal.nD Cert.PoolSIdeal.τ).loc Cert.PoolSIdeal.main_arg1) = m ((c.tc : Thread Cert.PoolSIdeal.nD Cert.PoolSIdeal.τ).loc Cert.PoolSIdeal.main_arg1)
      ∧ r.2.mem ((c.tc : Thread Cert.PoolSIdeal.nD Cert.PoolSIdeal.τ).loc Cert.PoolSIdeal.main_arg2) = m ((c.tc : Thread Cert.PoolSIdeal.nD Cert.PoolSIdeal.τ).loc Cert.PoolSIdeal.main_arg2)
      ∧ r.2.mem ((c.tc : Thread Cert.PoolSIdeal.nD Cert.PoolSIdeal.τ).loc Cert.PoolSIdeal.main_arg3) = m ((c.tc : Thread Cert.PoolSIdeal.nD Cert.PoolSIdeal.τ).loc Cert.PoolSIdeal.main_arg3)
      ∧ r.2.mem ((c.tc : Thread Cert.PoolSIdeal.nD Cert.PoolSIdeal.τ).loc Cert.PoolSIdeal.main_arg4) = m ((c.tc : Thread Cert.PoolSIdeal.nD Cert.PoolSIdeal.τ).loc Cert.PoolSIdeal.main_arg4))
      ∧ r.2.sem = fun _ => 0)

def quiescent_PoolSRefIdeal [hPoolSRefIdeal : Cert.PoolSRefIdeal.Facts] : Prop :=
  ∀ (m : (ℓ : Loc Cert.PoolSRefIdeal.nD Cert.PoolSRefIdeal.τ Cert.PoolSRefIdeal.sig) → Buf (Elt Ideal) ℓ) (g : Dev Cert.PoolSRefIdeal.nD → PrngReg), Pre_PoolSRefIdeal m →
    θ_run (Cert.PoolSRefIdeal.defs (F := Ideal)) (onTc (τ := Cert.PoolSRefIdeal.τ) (Cert.PoolSRefIdeal.main (F := Ideal))) ⟨m, fun _ => 0, g⟩ (fun r => (∀ c : Dev Cert.PoolSRefIdeal.nD,
      r.2.mem ((c.tc : Thread Cert.PoolSRefIdeal.nD Cert.PoolSRefIdeal.τ).loc Cert.PoolSRefIdeal.main_arg0) = m ((c.tc : Thread Cert.PoolSRefIdeal.nD Cert.PoolSRefIdeal.τ).loc Cert.PoolSRefIdeal.main_arg0)
      ∧ r.2.mem ((c.tc : Thread Cert.PoolSRefIdeal.nD Cert.PoolSRefIdeal.τ).loc Cert.PoolSRefIdeal.main_arg1) = m ((c.tc : Thread Cert.PoolSRefIdeal.nD Cert.PoolSRefIdeal.τ).loc Cert.PoolSRefIdeal.main_arg1)
      ∧ r.2.mem ((c.tc : Thread Cert.PoolSRefIdeal.nD Cert.PoolSRefIdeal.τ).loc Cert.PoolSRefIdeal.main_arg2) = m ((c.tc : Thread Cert.PoolSRefIdeal.nD Cert.PoolSRefIdeal.τ).loc Cert.PoolSRefIdeal.main_arg2)
      ∧ r.2.mem ((c.tc : Thread Cert.PoolSRefIdeal.nD Cert.PoolSRefIdeal.τ).loc Cert.PoolSRefIdeal.main_arg3) = m ((c.tc : Thread Cert.PoolSRefIdeal.nD Cert.PoolSRefIdeal.τ).loc Cert.PoolSRefIdeal.main_arg3)
      ∧ r.2.mem ((c.tc : Thread Cert.PoolSRefIdeal.nD Cert.PoolSRefIdeal.τ).loc Cert.PoolSRefIdeal.main_arg4) = m ((c.tc : Thread Cert.PoolSRefIdeal.nD Cert.PoolSRefIdeal.τ).loc Cert.PoolSRefIdeal.main_arg4))
      ∧ r.2.sem = fun _ => 0)

def quiescent_NormP [hNormP : Cert.NormP.Facts] : Prop :=
  ∀ (m : (ℓ : Loc Cert.NormP.nD Cert.NormP.τ Cert.NormP.sig) → Buf (Elt Bits) ℓ) (g : Dev Cert.NormP.nD → PrngReg), Pre_NormP m →
    θ_run (Cert.NormP.defs (F := Bits)) (onTc (τ := Cert.NormP.τ) (Cert.NormP.main (F := Bits))) ⟨m, fun _ => 0, g⟩ (fun r => (∀ c : Dev Cert.NormP.nD,
      r.2.mem ((c.tc : Thread Cert.NormP.nD Cert.NormP.τ).loc Cert.NormP.main_arg0) = m ((c.tc : Thread Cert.NormP.nD Cert.NormP.τ).loc Cert.NormP.main_arg0)
      ∧ r.2.mem ((c.tc : Thread Cert.NormP.nD Cert.NormP.τ).loc Cert.NormP.main_arg1) = m ((c.tc : Thread Cert.NormP.nD Cert.NormP.τ).loc Cert.NormP.main_arg1))
      ∧ r.2.sem = fun _ => 0)

def quiescent_NormPIdeal [hNormPIdeal : Cert.NormPIdeal.Facts] : Prop :=
  ∀ (m : (ℓ : Loc Cert.NormPIdeal.nD Cert.NormPIdeal.τ Cert.NormPIdeal.sig) → Buf (Elt Ideal) ℓ) (g : Dev Cert.NormPIdeal.nD → PrngReg), Pre_NormPIdeal m →
    θ_run (Cert.NormPIdeal.defs (F := Ideal)) (onTc (τ := Cert.NormPIdeal.τ) (Cert.NormPIdeal.main (F := Ideal))) ⟨m, fun _ => 0, g⟩ (fun r => (∀ c : Dev Cert.NormPIdeal.nD,
      r.2.mem ((c.tc : Thread Cert.NormPIdeal.nD Cert.NormPIdeal.τ).loc Cert.NormPIdeal.main_arg0) = m ((c.tc : Thread Cert.NormPIdeal.nD Cert.NormPIdeal.τ).loc Cert.NormPIdeal.main_arg0)
      ∧ r.2.mem ((c.tc : Thread Cert.NormPIdeal.nD Cert.NormPIdeal.τ).loc Cert.NormPIdeal.main_arg1) = m ((c.tc : Thread Cert.NormPIdeal.nD Cert.NormPIdeal.τ).loc Cert.NormPIdeal.main_arg1))
      ∧ r.2.sem = fun _ => 0)

def quiescent_NormPRefIdeal [hNormPRefIdeal : Cert.NormPRefIdeal.Facts] : Prop :=
  ∀ (m : (ℓ : Loc Cert.NormPRefIdeal.nD Cert.NormPRefIdeal.τ Cert.NormPRefIdeal.sig) → Buf (Elt Ideal) ℓ) (g : Dev Cert.NormPRefIdeal.nD → PrngReg), Pre_NormPRefIdeal m →
    θ_run (Cert.NormPRefIdeal.defs (F := Ideal)) (onTc (τ := Cert.NormPRefIdeal.τ) (Cert.NormPRefIdeal.main (F := Ideal))) ⟨m, fun _ => 0, g⟩ (fun r => (∀ c : Dev Cert.NormPRefIdeal.nD,
      r.2.mem ((c.tc : Thread Cert.NormPRefIdeal.nD Cert.NormPRefIdeal.τ).loc Cert.NormPRefIdeal.main_arg0) = m ((c.tc : Thread Cert.NormPRefIdeal.nD Cert.NormPRefIdeal.τ).loc Cert.NormPRefIdeal.main_arg0)
      ∧ r.2.mem ((c.tc : Thread Cert.NormPRefIdeal.nD Cert.NormPRefIdeal.τ).loc Cert.NormPRefIdeal.main_arg1) = m ((c.tc : Thread Cert.NormPRefIdeal.nD Cert.NormPRefIdeal.τ).loc Cert.NormPRefIdeal.main_arg1))
      ∧ r.2.sem = fun _ => 0)

def quiescent_NormS [hNormS : Cert.NormS.Facts] : Prop :=
  ∀ (m : (ℓ : Loc Cert.NormS.nD Cert.NormS.τ Cert.NormS.sig) → Buf (Elt Bits) ℓ) (g : Dev Cert.NormS.nD → PrngReg), Pre_NormS m →
    θ_run (Cert.NormS.defs (F := Bits)) (onTc (τ := Cert.NormS.τ) (Cert.NormS.main (F := Bits))) ⟨m, fun _ => 0, g⟩ (fun r => (∀ c : Dev Cert.NormS.nD,
      r.2.mem ((c.tc : Thread Cert.NormS.nD Cert.NormS.τ).loc Cert.NormS.main_arg0) = m ((c.tc : Thread Cert.NormS.nD Cert.NormS.τ).loc Cert.NormS.main_arg0)
      ∧ r.2.mem ((c.tc : Thread Cert.NormS.nD Cert.NormS.τ).loc Cert.NormS.main_arg1) = m ((c.tc : Thread Cert.NormS.nD Cert.NormS.τ).loc Cert.NormS.main_arg1))
      ∧ r.2.sem = fun _ => 0)

def quiescent_NormSIdeal [hNormSIdeal : Cert.NormSIdeal.Facts] : Prop :=
  ∀ (m : (ℓ : Loc Cert.NormSIdeal.nD Cert.NormSIdeal.τ Cert.NormSIdeal.sig) → Buf (Elt Ideal) ℓ) (g : Dev Cert.NormSIdeal.nD → PrngReg), Pre_NormSIdeal m →
    θ_run (Cert.NormSIdeal.defs (F := Ideal)) (onTc (τ := Cert.NormSIdeal.τ) (Cert.NormSIdeal.main (F := Ideal))) ⟨m, fun _ => 0, g⟩ (fun r => (∀ c : Dev Cert.NormSIdeal.nD,
      r.2.mem ((c.tc : Thread Cert.NormSIdeal.nD Cert.NormSIdeal.τ).loc Cert.NormSIdeal.main_arg0) = m ((c.tc : Thread Cert.NormSIdeal.nD Cert.NormSIdeal.τ).loc Cert.NormSIdeal.main_arg0)
      ∧ r.2.mem ((c.tc : Thread Cert.NormSIdeal.nD Cert.NormSIdeal.τ).loc Cert.NormSIdeal.main_arg1) = m ((c.tc : Thread Cert.NormSIdeal.nD Cert.NormSIdeal.τ).loc Cert.NormSIdeal.main_arg1))
      ∧ r.2.sem = fun _ => 0)

def quiescent_NormSRefIdeal [hNormSRefIdeal : Cert.NormSRefIdeal.Facts] : Prop :=
  ∀ (m : (ℓ : Loc Cert.NormSRefIdeal.nD Cert.NormSRefIdeal.τ Cert.NormSRefIdeal.sig) → Buf (Elt Ideal) ℓ) (g : Dev Cert.NormSRefIdeal.nD → PrngReg), Pre_NormSRefIdeal m →
    θ_run (Cert.NormSRefIdeal.defs (F := Ideal)) (onTc (τ := Cert.NormSRefIdeal.τ) (Cert.NormSRefIdeal.main (F := Ideal))) ⟨m, fun _ => 0, g⟩ (fun r => (∀ c : Dev Cert.NormSRefIdeal.nD,
      r.2.mem ((c.tc : Thread Cert.NormSRefIdeal.nD Cert.NormSRefIdeal.τ).loc Cert.NormSRefIdeal.main_arg0) = m ((c.tc : Thread Cert.NormSRefIdeal.nD Cert.NormSRefIdeal.τ).loc Cert.NormSRefIdeal.main_arg0)
      ∧ r.2.mem ((c.tc : Thread Cert.NormSRefIdeal.nD Cert.NormSRefIdeal.τ).loc Cert.NormSRefIdeal.main_arg1) = m ((c.tc : Thread Cert.NormSRefIdeal.nD Cert.NormSRefIdeal.τ).loc Cert.NormSRefIdeal.main_arg1))
      ∧ r.2.sem = fun _ => 0)

def quiescent_NormZ [hNormZ : Cert.NormZ.Facts] : Prop :=
  ∀ (m : (ℓ : Loc Cert.NormZ.nD Cert.NormZ.τ Cert.NormZ.sig) → Buf (Elt Bits) ℓ) (g : Dev Cert.NormZ.nD → PrngReg), Pre_NormZ m →
    θ_run (Cert.NormZ.defs (F := Bits)) (onTc (τ := Cert.NormZ.τ) (Cert.NormZ.main (F := Bits))) ⟨m, fun _ => 0, g⟩ (fun r => (∀ c : Dev Cert.NormZ.nD,
      r.2.mem ((c.tc : Thread Cert.NormZ.nD Cert.NormZ.τ).loc Cert.NormZ.main_arg0) = m ((c.tc : Thread Cert.NormZ.nD Cert.NormZ.τ).loc Cert.NormZ.main_arg0)
      ∧ r.2.mem ((c.tc : Thread Cert.NormZ.nD Cert.NormZ.τ).loc Cert.NormZ.main_arg1) = m ((c.tc : Thread Cert.NormZ.nD Cert.NormZ.τ).loc Cert.NormZ.main_arg1)
      ∧ r.2.mem ((c.tc : Thread Cert.NormZ.nD Cert.NormZ.τ).loc Cert.NormZ.main_arg2) = m ((c.tc : Thread Cert.NormZ.nD Cert.NormZ.τ).loc Cert.NormZ.main_arg2))
      ∧ r.2.sem = fun _ => 0)

def quiescent_NormZIdeal [hNormZIdeal : Cert.NormZIdeal.Facts] : Prop :=
  ∀ (m : (ℓ : Loc Cert.NormZIdeal.nD Cert.NormZIdeal.τ Cert.NormZIdeal.sig) → Buf (Elt Ideal) ℓ) (g : Dev Cert.NormZIdeal.nD → PrngReg), Pre_NormZIdeal m →
    θ_run (Cert.NormZIdeal.defs (F := Ideal)) (onTc (τ := Cert.NormZIdeal.τ) (Cert.NormZIdeal.main (F := Ideal))) ⟨m, fun _ => 0, g⟩ (fun r => (∀ c : Dev Cert.NormZIdeal.nD,
      r.2.mem ((c.tc : Thread Cert.NormZIdeal.nD Cert.NormZIdeal.τ).loc Cert.NormZIdeal.main_arg0) = m ((c.tc : Thread Cert.NormZIdeal.nD Cert.NormZIdeal.τ).loc Cert.NormZIdeal.main_arg0)
      ∧ r.2.mem ((c.tc : Thread Cert.NormZIdeal.nD Cert.NormZIdeal.τ).loc Cert.NormZIdeal.main_arg1) = m ((c.tc : Thread Cert.NormZIdeal.nD Cert.NormZIdeal.τ).loc Cert.NormZIdeal.main_arg1)
      ∧ r.2.mem ((c.tc : Thread Cert.NormZIdeal.nD Cert.NormZIdeal.τ).loc Cert.NormZIdeal.main_arg2) = m ((c.tc : Thread Cert.NormZIdeal.nD Cert.NormZIdeal.τ).loc Cert.NormZIdeal.main_arg2))
      ∧ r.2.sem = fun _ => 0)

def quiescent_NormZRefIdeal [hNormZRefIdeal : Cert.NormZRefIdeal.Facts] : Prop :=
  ∀ (m : (ℓ : Loc Cert.NormZRefIdeal.nD Cert.NormZRefIdeal.τ Cert.NormZRefIdeal.sig) → Buf (Elt Ideal) ℓ) (g : Dev Cert.NormZRefIdeal.nD → PrngReg), Pre_NormZRefIdeal m →
    θ_run (Cert.NormZRefIdeal.defs (F := Ideal)) (onTc (τ := Cert.NormZRefIdeal.τ) (Cert.NormZRefIdeal.main (F := Ideal))) ⟨m, fun _ => 0, g⟩ (fun r => (∀ c : Dev Cert.NormZRefIdeal.nD,
      r.2.mem ((c.tc : Thread Cert.NormZRefIdeal.nD Cert.NormZRefIdeal.τ).loc Cert.NormZRefIdeal.main_arg0) = m ((c.tc : Thread Cert.NormZRefIdeal.nD Cert.NormZRefIdeal.τ).loc Cert.NormZRefIdeal.main_arg0)
      ∧ r.2.mem ((c.tc : Thread Cert.NormZRefIdeal.nD Cert.NormZRefIdeal.τ).loc Cert.NormZRefIdeal.main_arg1) = m ((c.tc : Thread Cert.NormZRefIdeal.nD Cert.NormZRefIdeal.τ).loc Cert.NormZRefIdeal.main_arg1)
      ∧ r.2.mem ((c.tc : Thread Cert.NormZRefIdeal.nD Cert.NormZRefIdeal.τ).loc Cert.NormZRefIdeal.main_arg2) = m ((c.tc : Thread Cert.NormZRefIdeal.nD Cert.NormZRefIdeal.τ).loc Cert.NormZRefIdeal.main_arg2))
      ∧ r.2.sem = fun _ => 0)

def quiescent_Delta [hDelta : Cert.Delta.Facts] : Prop :=
  ∀ (m : (ℓ : Loc Cert.Delta.nD Cert.Delta.τ Cert.Delta.sig) → Buf (Elt Bits) ℓ) (g : Dev Cert.Delta.nD → PrngReg), Pre_Delta m →
    θ_run (Cert.Delta.defs (F := Bits)) (onTc (τ := Cert.Delta.τ) (Cert.Delta.main (F := Bits))) ⟨m, fun _ => 0, g⟩ (fun r => (∀ c : Dev Cert.Delta.nD,
      r.2.mem ((c.tc : Thread Cert.Delta.nD Cert.Delta.τ).loc Cert.Delta.main_arg0) = m ((c.tc : Thread Cert.Delta.nD Cert.Delta.τ).loc Cert.Delta.main_arg0)
      ∧ r.2.mem ((c.tc : Thread Cert.Delta.nD Cert.Delta.τ).loc Cert.Delta.main_arg1) = m ((c.tc : Thread Cert.Delta.nD Cert.Delta.τ).loc Cert.Delta.main_arg1)
      ∧ r.2.mem ((c.tc : Thread Cert.Delta.nD Cert.Delta.τ).loc Cert.Delta.main_arg2) = m ((c.tc : Thread Cert.Delta.nD Cert.Delta.τ).loc Cert.Delta.main_arg2)
      ∧ r.2.mem ((c.tc : Thread Cert.Delta.nD Cert.Delta.τ).loc Cert.Delta.main_arg3) = m ((c.tc : Thread Cert.Delta.nD Cert.Delta.τ).loc Cert.Delta.main_arg3))
      ∧ r.2.sem = fun _ => 0)

def quiescent_DeltaIdeal [hDeltaIdeal : Cert.DeltaIdeal.Facts] : Prop :=
  ∀ (m : (ℓ : Loc Cert.DeltaIdeal.nD Cert.DeltaIdeal.τ Cert.DeltaIdeal.sig) → Buf (Elt Ideal) ℓ) (g : Dev Cert.DeltaIdeal.nD → PrngReg), Pre_DeltaIdeal m →
    θ_run (Cert.DeltaIdeal.defs (F := Ideal)) (onTc (τ := Cert.DeltaIdeal.τ) (Cert.DeltaIdeal.main (F := Ideal))) ⟨m, fun _ => 0, g⟩ (fun r => (∀ c : Dev Cert.DeltaIdeal.nD,
      r.2.mem ((c.tc : Thread Cert.DeltaIdeal.nD Cert.DeltaIdeal.τ).loc Cert.DeltaIdeal.main_arg0) = m ((c.tc : Thread Cert.DeltaIdeal.nD Cert.DeltaIdeal.τ).loc Cert.DeltaIdeal.main_arg0)
      ∧ r.2.mem ((c.tc : Thread Cert.DeltaIdeal.nD Cert.DeltaIdeal.τ).loc Cert.DeltaIdeal.main_arg1) = m ((c.tc : Thread Cert.DeltaIdeal.nD Cert.DeltaIdeal.τ).loc Cert.DeltaIdeal.main_arg1)
      ∧ r.2.mem ((c.tc : Thread Cert.DeltaIdeal.nD Cert.DeltaIdeal.τ).loc Cert.DeltaIdeal.main_arg2) = m ((c.tc : Thread Cert.DeltaIdeal.nD Cert.DeltaIdeal.τ).loc Cert.DeltaIdeal.main_arg2)
      ∧ r.2.mem ((c.tc : Thread Cert.DeltaIdeal.nD Cert.DeltaIdeal.τ).loc Cert.DeltaIdeal.main_arg3) = m ((c.tc : Thread Cert.DeltaIdeal.nD Cert.DeltaIdeal.τ).loc Cert.DeltaIdeal.main_arg3))
      ∧ r.2.sem = fun _ => 0)

def quiescent_DeltaRefIdeal [hDeltaRefIdeal : Cert.DeltaRefIdeal.Facts] : Prop :=
  ∀ (m : (ℓ : Loc Cert.DeltaRefIdeal.nD Cert.DeltaRefIdeal.τ Cert.DeltaRefIdeal.sig) → Buf (Elt Ideal) ℓ) (g : Dev Cert.DeltaRefIdeal.nD → PrngReg), Pre_DeltaRefIdeal m →
    θ_run (Cert.DeltaRefIdeal.defs (F := Ideal)) (onTc (τ := Cert.DeltaRefIdeal.τ) (Cert.DeltaRefIdeal.main (F := Ideal))) ⟨m, fun _ => 0, g⟩ (fun r => (∀ c : Dev Cert.DeltaRefIdeal.nD,
      r.2.mem ((c.tc : Thread Cert.DeltaRefIdeal.nD Cert.DeltaRefIdeal.τ).loc Cert.DeltaRefIdeal.main_arg0) = m ((c.tc : Thread Cert.DeltaRefIdeal.nD Cert.DeltaRefIdeal.τ).loc Cert.DeltaRefIdeal.main_arg0)
      ∧ r.2.mem ((c.tc : Thread Cert.DeltaRefIdeal.nD Cert.DeltaRefIdeal.τ).loc Cert.DeltaRefIdeal.main_arg1) = m ((c.tc : Thread Cert.DeltaRefIdeal.nD Cert.DeltaRefIdeal.τ).loc Cert.DeltaRefIdeal.main_arg1)
      ∧ r.2.mem ((c.tc : Thread Cert.DeltaRefIdeal.nD Cert.DeltaRefIdeal.τ).loc Cert.DeltaRefIdeal.main_arg2) = m ((c.tc : Thread Cert.DeltaRefIdeal.nD Cert.DeltaRefIdeal.τ).loc Cert.DeltaRefIdeal.main_arg2)
      ∧ r.2.mem ((c.tc : Thread Cert.DeltaRefIdeal.nD Cert.DeltaRefIdeal.τ).loc Cert.DeltaRefIdeal.main_arg3) = m ((c.tc : Thread Cert.DeltaRefIdeal.nD Cert.DeltaRefIdeal.τ).loc Cert.DeltaRefIdeal.main_arg3))
      ∧ r.2.sem = fun _ => 0)

def quiescent_DeltaS [hDeltaS : Cert.DeltaS.Facts] : Prop :=
  ∀ (m : (ℓ : Loc Cert.DeltaS.nD Cert.DeltaS.τ Cert.DeltaS.sig) → Buf (Elt Bits) ℓ) (g : Dev Cert.DeltaS.nD → PrngReg), Pre_DeltaS m →
    θ_run (Cert.DeltaS.defs (F := Bits)) (onTc (τ := Cert.DeltaS.τ) (Cert.DeltaS.main (F := Bits))) ⟨m, fun _ => 0, g⟩ (fun r => (∀ c : Dev Cert.DeltaS.nD,
      r.2.mem ((c.tc : Thread Cert.DeltaS.nD Cert.DeltaS.τ).loc Cert.DeltaS.main_arg0) = m ((c.tc : Thread Cert.DeltaS.nD Cert.DeltaS.τ).loc Cert.DeltaS.main_arg0)
      ∧ r.2.mem ((c.tc : Thread Cert.DeltaS.nD Cert.DeltaS.τ).loc Cert.DeltaS.main_arg1) = m ((c.tc : Thread Cert.DeltaS.nD Cert.DeltaS.τ).loc Cert.DeltaS.main_arg1)
      ∧ r.2.mem ((c.tc : Thread Cert.DeltaS.nD Cert.DeltaS.τ).loc Cert.DeltaS.main_arg2) = m ((c.tc : Thread Cert.DeltaS.nD Cert.DeltaS.τ).loc Cert.DeltaS.main_arg2)
      ∧ r.2.mem ((c.tc : Thread Cert.DeltaS.nD Cert.DeltaS.τ).loc Cert.DeltaS.main_arg3) = m ((c.tc : Thread Cert.DeltaS.nD Cert.DeltaS.τ).loc Cert.DeltaS.main_arg3)
      ∧ r.2.mem ((c.tc : Thread Cert.DeltaS.nD Cert.DeltaS.τ).loc Cert.DeltaS.main_arg4) = m ((c.tc : Thread Cert.DeltaS.nD Cert.DeltaS.τ).loc Cert.DeltaS.main_arg4)
      ∧ r.2.mem ((c.tc : Thread Cert.DeltaS.nD Cert.DeltaS.τ).loc Cert.DeltaS.main_arg5) = m ((c.tc : Thread Cert.DeltaS.nD Cert.DeltaS.τ).loc Cert.DeltaS.main_arg5)
      ∧ r.2.mem ((c.tc : Thread Cert.DeltaS.nD Cert.DeltaS.τ).loc Cert.DeltaS.main_arg6) = m ((c.tc : Thread Cert.DeltaS.nD Cert.DeltaS.τ).loc Cert.DeltaS.main_arg6))
      ∧ r.2.sem = fun _ => 0)

def quiescent_DeltaSIdeal [hDeltaSIdeal : Cert.DeltaSIdeal.Facts] : Prop :=
  ∀ (m : (ℓ : Loc Cert.DeltaSIdeal.nD Cert.DeltaSIdeal.τ Cert.DeltaSIdeal.sig) → Buf (Elt Ideal) ℓ) (g : Dev Cert.DeltaSIdeal.nD → PrngReg), Pre_DeltaSIdeal m →
    θ_run (Cert.DeltaSIdeal.defs (F := Ideal)) (onTc (τ := Cert.DeltaSIdeal.τ) (Cert.DeltaSIdeal.main (F := Ideal))) ⟨m, fun _ => 0, g⟩ (fun r => (∀ c : Dev Cert.DeltaSIdeal.nD,
      r.2.mem ((c.tc : Thread Cert.DeltaSIdeal.nD Cert.DeltaSIdeal.τ).loc Cert.DeltaSIdeal.main_arg0) = m ((c.tc : Thread Cert.DeltaSIdeal.nD Cert.DeltaSIdeal.τ).loc Cert.DeltaSIdeal.main_arg0)
      ∧ r.2.mem ((c.tc : Thread Cert.DeltaSIdeal.nD Cert.DeltaSIdeal.τ).loc Cert.DeltaSIdeal.main_arg1) = m ((c.tc : Thread Cert.DeltaSIdeal.nD Cert.DeltaSIdeal.τ).loc Cert.DeltaSIdeal.main_arg1)
      ∧ r.2.mem ((c.tc : Thread Cert.DeltaSIdeal.nD Cert.DeltaSIdeal.τ).loc Cert.DeltaSIdeal.main_arg2) = m ((c.tc : Thread Cert.DeltaSIdeal.nD Cert.DeltaSIdeal.τ).loc Cert.DeltaSIdeal.main_arg2)
      ∧ r.2.mem ((c.tc : Thread Cert.DeltaSIdeal.nD Cert.DeltaSIdeal.τ).loc Cert.DeltaSIdeal.main_arg3) = m ((c.tc : Thread Cert.DeltaSIdeal.nD Cert.DeltaSIdeal.τ).loc Cert.DeltaSIdeal.main_arg3)
      ∧ r.2.mem ((c.tc : Thread Cert.DeltaSIdeal.nD Cert.DeltaSIdeal.τ).loc Cert.DeltaSIdeal.main_arg4) = m ((c.tc : Thread Cert.DeltaSIdeal.nD Cert.DeltaSIdeal.τ).loc Cert.DeltaSIdeal.main_arg4)
      ∧ r.2.mem ((c.tc : Thread Cert.DeltaSIdeal.nD Cert.DeltaSIdeal.τ).loc Cert.DeltaSIdeal.main_arg5) = m ((c.tc : Thread Cert.DeltaSIdeal.nD Cert.DeltaSIdeal.τ).loc Cert.DeltaSIdeal.main_arg5)
      ∧ r.2.mem ((c.tc : Thread Cert.DeltaSIdeal.nD Cert.DeltaSIdeal.τ).loc Cert.DeltaSIdeal.main_arg6) = m ((c.tc : Thread Cert.DeltaSIdeal.nD Cert.DeltaSIdeal.τ).loc Cert.DeltaSIdeal.main_arg6))
      ∧ r.2.sem = fun _ => 0)

def quiescent_DeltaSRefIdeal [hDeltaSRefIdeal : Cert.DeltaSRefIdeal.Facts] : Prop :=
  ∀ (m : (ℓ : Loc Cert.DeltaSRefIdeal.nD Cert.DeltaSRefIdeal.τ Cert.DeltaSRefIdeal.sig) → Buf (Elt Ideal) ℓ) (g : Dev Cert.DeltaSRefIdeal.nD → PrngReg), Pre_DeltaSRefIdeal m →
    θ_run (Cert.DeltaSRefIdeal.defs (F := Ideal)) (onTc (τ := Cert.DeltaSRefIdeal.τ) (Cert.DeltaSRefIdeal.main (F := Ideal))) ⟨m, fun _ => 0, g⟩ (fun r => (∀ c : Dev Cert.DeltaSRefIdeal.nD,
      r.2.mem ((c.tc : Thread Cert.DeltaSRefIdeal.nD Cert.DeltaSRefIdeal.τ).loc Cert.DeltaSRefIdeal.main_arg0) = m ((c.tc : Thread Cert.DeltaSRefIdeal.nD Cert.DeltaSRefIdeal.τ).loc Cert.DeltaSRefIdeal.main_arg0)
      ∧ r.2.mem ((c.tc : Thread Cert.DeltaSRefIdeal.nD Cert.DeltaSRefIdeal.τ).loc Cert.DeltaSRefIdeal.main_arg1) = m ((c.tc : Thread Cert.DeltaSRefIdeal.nD Cert.DeltaSRefIdeal.τ).loc Cert.DeltaSRefIdeal.main_arg1)
      ∧ r.2.mem ((c.tc : Thread Cert.DeltaSRefIdeal.nD Cert.DeltaSRefIdeal.τ).loc Cert.DeltaSRefIdeal.main_arg2) = m ((c.tc : Thread Cert.DeltaSRefIdeal.nD Cert.DeltaSRefIdeal.τ).loc Cert.DeltaSRefIdeal.main_arg2)
      ∧ r.2.mem ((c.tc : Thread Cert.DeltaSRefIdeal.nD Cert.DeltaSRefIdeal.τ).loc Cert.DeltaSRefIdeal.main_arg3) = m ((c.tc : Thread Cert.DeltaSRefIdeal.nD Cert.DeltaSRefIdeal.τ).loc Cert.DeltaSRefIdeal.main_arg3)
      ∧ r.2.mem ((c.tc : Thread Cert.DeltaSRefIdeal.nD Cert.DeltaSRefIdeal.τ).loc Cert.DeltaSRefIdeal.main_arg4) = m ((c.tc : Thread Cert.DeltaSRefIdeal.nD Cert.DeltaSRefIdeal.τ).loc Cert.DeltaSRefIdeal.main_arg4)
      ∧ r.2.mem ((c.tc : Thread Cert.DeltaSRefIdeal.nD Cert.DeltaSRefIdeal.τ).loc Cert.DeltaSRefIdeal.main_arg5) = m ((c.tc : Thread Cert.DeltaSRefIdeal.nD Cert.DeltaSRefIdeal.τ).loc Cert.DeltaSRefIdeal.main_arg5)
      ∧ r.2.mem ((c.tc : Thread Cert.DeltaSRefIdeal.nD Cert.DeltaSRefIdeal.τ).loc Cert.DeltaSRefIdeal.main_arg6) = m ((c.tc : Thread Cert.DeltaSRefIdeal.nD Cert.DeltaSRefIdeal.τ).loc Cert.DeltaSRefIdeal.main_arg6))
      ∧ r.2.sem = fun _ => 0)

def preserves_PoolIn_PoolInIdeal : Prop :=
  True

def algebraic_PoolInIdeal_PoolInRefIdeal [hPoolInIdeal : Cert.PoolInIdeal.Facts] [hPoolInRefIdeal : Cert.PoolInRefIdeal.Facts] : Prop :=
  ∀ (m : (ℓ : Loc Cert.PoolInIdeal.nD Cert.PoolInIdeal.τ Cert.PoolInIdeal.sig) → Buf (Elt Ideal) ℓ) (g : Dev Cert.PoolInIdeal.nD → PrngReg)
    (m' : (ℓ : Loc Cert.PoolInRefIdeal.nD Cert.PoolInRefIdeal.τ Cert.PoolInRefIdeal.sig) → Buf (Elt Ideal) ℓ) (g' : Dev Cert.PoolInRefIdeal.nD → PrngReg), Pre_PoolInIdeal m →
    (∀ c : Dev Cert.PoolInIdeal.nD,
      m' ((c.tc : Thread Cert.PoolInRefIdeal.nD Cert.PoolInRefIdeal.τ).loc Cert.PoolInRefIdeal.main_arg0) = m ((c.tc : Thread Cert.PoolInIdeal.nD Cert.PoolInIdeal.τ).loc Cert.PoolInIdeal.main_arg0)
      ∧ m' ((c.tc : Thread Cert.PoolInRefIdeal.nD Cert.PoolInRefIdeal.τ).loc Cert.PoolInRefIdeal.main_arg1) = m ((c.tc : Thread Cert.PoolInIdeal.nD Cert.PoolInIdeal.τ).loc Cert.PoolInIdeal.main_arg1)) →
    ∃ (v0 : (c : Dev Cert.PoolInIdeal.nD) → Buf (Elt Ideal) ((c.tc : Thread Cert.PoolInIdeal.nD Cert.PoolInIdeal.τ).loc Cert.PoolInIdeal.main_v0)),
      θ_run (Cert.PoolInIdeal.defs (F := Ideal)) (onTc (τ := Cert.PoolInIdeal.τ) (Cert.PoolInIdeal.main (F := Ideal))) ⟨m, fun _ => 0, g⟩ (fun r => ∀ c : Dev Cert.PoolInIdeal.nD,
          r.2.mem ((c.tc : Thread Cert.PoolInIdeal.nD Cert.PoolInIdeal.τ).loc Cert.PoolInIdeal.main_v0) = v0 c
          ∧ r.2.mem ((c.tc : Thread Cert.PoolInIdeal.nD Cert.PoolInIdeal.τ).loc Cert.PoolInIdeal.main_arg0) = m ((c.tc : Thread Cert.PoolInIdeal.nD Cert.PoolInIdeal.τ).loc Cert.PoolInIdeal.main_arg0)
          ∧ r.2.mem ((c.tc : Thread Cert.PoolInIdeal.nD Cert.PoolInIdeal.τ).loc Cert.PoolInIdeal.main_arg1) = m ((c.tc : Thread Cert.PoolInIdeal.nD Cert.PoolInIdeal.τ).loc Cert.PoolInIdeal.main_arg1))
      ∧ θ_run (Cert.PoolInRefIdeal.defs (F := Ideal)) (onTc (τ := Cert.PoolInRefIdeal.τ) (Cert.PoolInRefIdeal.main (F := Ideal))) ⟨m', fun _ => 0, g'⟩ (fun r => ∀ c : Dev Cert.PoolInRefIdeal.nD,
          r.2.mem ((c.tc : Thread Cert.PoolInRefIdeal.nD Cert.PoolInRefIdeal.τ).loc Cert.PoolInRefIdeal.main_v3) = v0 c
          ∧ r.2.mem ((c.tc : Thread Cert.PoolInRefIdeal.nD Cert.PoolInRefIdeal.τ).loc Cert.PoolInRefIdeal.main_arg0) = m' ((c.tc : Thread Cert.PoolInRefIdeal.nD Cert.PoolInRefIdeal.τ).loc Cert.PoolInRefIdeal.main_arg0)
          ∧ r.2.mem ((c.tc : Thread Cert.PoolInRefIdeal.nD Cert.PoolInRefIdeal.τ).loc Cert.PoolInRefIdeal.main_arg1) = m' ((c.tc : Thread Cert.PoolInRefIdeal.nD Cert.PoolInRefIdeal.τ).loc Cert.PoolInRefIdeal.main_arg1))

def preserves_DeltaIn_DeltaInIdeal : Prop :=
  True

def algebraic_DeltaInIdeal_DeltaInRefIdeal [hDeltaInIdeal : Cert.DeltaInIdeal.Facts] [hDeltaInRefIdeal : Cert.DeltaInRefIdeal.Facts] : Prop :=
  ∀ (m : (ℓ : Loc Cert.DeltaInIdeal.nD Cert.DeltaInIdeal.τ Cert.DeltaInIdeal.sig) → Buf (Elt Ideal) ℓ) (g : Dev Cert.DeltaInIdeal.nD → PrngReg)
    (m' : (ℓ : Loc Cert.DeltaInRefIdeal.nD Cert.DeltaInRefIdeal.τ Cert.DeltaInRefIdeal.sig) → Buf (Elt Ideal) ℓ) (g' : Dev Cert.DeltaInRefIdeal.nD → PrngReg), Pre_DeltaInIdeal m →
    (∀ c : Dev Cert.DeltaInIdeal.nD,
      m' ((c.tc : Thread Cert.DeltaInRefIdeal.nD Cert.DeltaInRefIdeal.τ).loc Cert.DeltaInRefIdeal.main_arg0) = m ((c.tc : Thread Cert.DeltaInIdeal.nD Cert.DeltaInIdeal.τ).loc Cert.DeltaInIdeal.main_arg0)
      ∧ m' ((c.tc : Thread Cert.DeltaInRefIdeal.nD Cert.DeltaInRefIdeal.τ).loc Cert.DeltaInRefIdeal.main_arg1) = m ((c.tc : Thread Cert.DeltaInIdeal.nD Cert.DeltaInIdeal.τ).loc Cert.DeltaInIdeal.main_arg1)) →
    ∃ (v0 : (c : Dev Cert.DeltaInIdeal.nD) → Buf (Elt Ideal) ((c.tc : Thread Cert.DeltaInIdeal.nD Cert.DeltaInIdeal.τ).loc Cert.DeltaInIdeal.main_v1)),
      θ_run (Cert.DeltaInIdeal.defs (F := Ideal)) (onTc (τ := Cert.DeltaInIdeal.τ) (Cert.DeltaInIdeal.main (F := Ideal))) ⟨m, fun _ => 0, g⟩ (fun r => ∀ c : Dev Cert.DeltaInIdeal.nD,
          r.2.mem ((c.tc : Thread Cert.DeltaInIdeal.nD Cert.DeltaInIdeal.τ).loc Cert.DeltaInIdeal.main_v1) = v0 c
          ∧ r.2.mem ((c.tc : Thread Cert.DeltaInIdeal.nD Cert.DeltaInIdeal.τ).loc Cert.DeltaInIdeal.main_arg0) = m ((c.tc : Thread Cert.DeltaInIdeal.nD Cert.DeltaInIdeal.τ).loc Cert.DeltaInIdeal.main_arg0)
          ∧ r.2.mem ((c.tc : Thread Cert.DeltaInIdeal.nD Cert.DeltaInIdeal.τ).loc Cert.DeltaInIdeal.main_arg1) = m ((c.tc : Thread Cert.DeltaInIdeal.nD Cert.DeltaInIdeal.τ).loc Cert.DeltaInIdeal.main_arg1))
      ∧ θ_run (Cert.DeltaInRefIdeal.defs (F := Ideal)) (onTc (τ := Cert.DeltaInRefIdeal.τ) (Cert.DeltaInRefIdeal.main (F := Ideal))) ⟨m', fun _ => 0, g'⟩ (fun r => ∀ c : Dev Cert.DeltaInRefIdeal.nD,
          r.2.mem ((c.tc : Thread Cert.DeltaInRefIdeal.nD Cert.DeltaInRefIdeal.τ).loc Cert.DeltaInRefIdeal.main_v4) = v0 c
          ∧ r.2.mem ((c.tc : Thread Cert.DeltaInRefIdeal.nD Cert.DeltaInRefIdeal.τ).loc Cert.DeltaInRefIdeal.main_arg0) = m' ((c.tc : Thread Cert.DeltaInRefIdeal.nD Cert.DeltaInRefIdeal.τ).loc Cert.DeltaInRefIdeal.main_arg0)
          ∧ r.2.mem ((c.tc : Thread Cert.DeltaInRefIdeal.nD Cert.DeltaInRefIdeal.τ).loc Cert.DeltaInRefIdeal.main_arg1) = m' ((c.tc : Thread Cert.DeltaInRefIdeal.nD Cert.DeltaInRefIdeal.τ).loc Cert.DeltaInRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v5) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_OutZ_OutZIdeal : Prop :=
  True

def algebraic_OutZIdeal_OutZRefIdeal [hOutZIdeal : Cert.OutZIdeal.Facts] [hOutZRefIdeal : Cert.OutZRefIdeal.Facts] : Prop :=
  ∀ (m : (ℓ : Loc Cert.OutZIdeal.nD Cert.OutZIdeal.τ Cert.OutZIdeal.sig) → Buf (Elt Ideal) ℓ) (g : Dev Cert.OutZIdeal.nD → PrngReg)
    (m' : (ℓ : Loc Cert.OutZRefIdeal.nD Cert.OutZRefIdeal.τ Cert.OutZRefIdeal.sig) → Buf (Elt Ideal) ℓ) (g' : Dev Cert.OutZRefIdeal.nD → PrngReg), Pre_OutZIdeal m →
    (∀ c : Dev Cert.OutZIdeal.nD,
      m' ((c.tc : Thread Cert.OutZRefIdeal.nD Cert.OutZRefIdeal.τ).loc Cert.OutZRefIdeal.main_arg0) = m ((c.tc : Thread Cert.OutZIdeal.nD Cert.OutZIdeal.τ).loc Cert.OutZIdeal.main_arg0)
      ∧ m' ((c.tc : Thread Cert.OutZRefIdeal.nD Cert.OutZRefIdeal.τ).loc Cert.OutZRefIdeal.main_arg1) = m ((c.tc : Thread Cert.OutZIdeal.nD Cert.OutZIdeal.τ).loc Cert.OutZIdeal.main_arg1)
      ∧ m' ((c.tc : Thread Cert.OutZRefIdeal.nD Cert.OutZRefIdeal.τ).loc Cert.OutZRefIdeal.main_arg2) = m ((c.tc : Thread Cert.OutZIdeal.nD Cert.OutZIdeal.τ).loc Cert.OutZIdeal.main_arg2)
      ∧ m' ((c.tc : Thread Cert.OutZRefIdeal.nD Cert.OutZRefIdeal.τ).loc Cert.OutZRefIdeal.main_arg3) = m ((c.tc : Thread Cert.OutZIdeal.nD Cert.OutZIdeal.τ).loc Cert.OutZIdeal.main_arg3)
      ∧ m' ((c.tc : Thread Cert.OutZRefIdeal.nD Cert.OutZRefIdeal.τ).loc Cert.OutZRefIdeal.main_arg4) = m ((c.tc : Thread Cert.OutZIdeal.nD Cert.OutZIdeal.τ).loc Cert.OutZIdeal.main_arg4)) →
    ∃ (v0 : (c : Dev Cert.OutZIdeal.nD) → Buf (Elt Ideal) ((c.tc : Thread Cert.OutZIdeal.nD Cert.OutZIdeal.τ).loc Cert.OutZIdeal.main_v3)),
      θ_run (Cert.OutZIdeal.defs (F := Ideal)) (onTc (τ := Cert.OutZIdeal.τ) (Cert.OutZIdeal.main (F := Ideal))) ⟨m, fun _ => 0, g⟩ (fun r => ∀ c : Dev Cert.OutZIdeal.nD,
          r.2.mem ((c.tc : Thread Cert.OutZIdeal.nD Cert.OutZIdeal.τ).loc Cert.OutZIdeal.main_v3) = v0 c
          ∧ r.2.mem ((c.tc : Thread Cert.OutZIdeal.nD Cert.OutZIdeal.τ).loc Cert.OutZIdeal.main_arg0) = m ((c.tc : Thread Cert.OutZIdeal.nD Cert.OutZIdeal.τ).loc Cert.OutZIdeal.main_arg0)
          ∧ r.2.mem ((c.tc : Thread Cert.OutZIdeal.nD Cert.OutZIdeal.τ).loc Cert.OutZIdeal.main_arg1) = m ((c.tc : Thread Cert.OutZIdeal.nD Cert.OutZIdeal.τ).loc Cert.OutZIdeal.main_arg1)
          ∧ r.2.mem ((c.tc : Thread Cert.OutZIdeal.nD Cert.OutZIdeal.τ).loc Cert.OutZIdeal.main_arg2) = m ((c.tc : Thread Cert.OutZIdeal.nD Cert.OutZIdeal.τ).loc Cert.OutZIdeal.main_arg2)
          ∧ r.2.mem ((c.tc : Thread Cert.OutZIdeal.nD Cert.OutZIdeal.τ).loc Cert.OutZIdeal.main_arg3) = m ((c.tc : Thread Cert.OutZIdeal.nD Cert.OutZIdeal.τ).loc Cert.OutZIdeal.main_arg3)
          ∧ r.2.mem ((c.tc : Thread Cert.OutZIdeal.nD Cert.OutZIdeal.τ).loc Cert.OutZIdeal.main_arg4) = m ((c.tc : Thread Cert.OutZIdeal.nD Cert.OutZIdeal.τ).loc Cert.OutZIdeal.main_arg4))
      ∧ θ_run (Cert.OutZRefIdeal.defs (F := Ideal)) (onTc (τ := Cert.OutZRefIdeal.τ) (Cert.OutZRefIdeal.main (F := Ideal))) ⟨m', fun _ => 0, g'⟩ (fun r => ∀ c : Dev Cert.OutZRefIdeal.nD,
          r.2.mem ((c.tc : Thread Cert.OutZRefIdeal.nD Cert.OutZRefIdeal.τ).loc Cert.OutZRefIdeal.main_v10) = v0 c
          ∧ r.2.mem ((c.tc : Thread Cert.OutZRefIdeal.nD Cert.OutZRefIdeal.τ).loc Cert.OutZRefIdeal.main_arg0) = m' ((c.tc : Thread Cert.OutZRefIdeal.nD Cert.OutZRefIdeal.τ).loc Cert.OutZRefIdeal.main_arg0)
          ∧ r.2.mem ((c.tc : Thread Cert.OutZRefIdeal.nD Cert.OutZRefIdeal.τ).loc Cert.OutZRefIdeal.main_arg1) = m' ((c.tc : Thread Cert.OutZRefIdeal.nD Cert.OutZRefIdeal.τ).loc Cert.OutZRefIdeal.main_arg1)
          ∧ r.2.mem ((c.tc : Thread Cert.OutZRefIdeal.nD Cert.OutZRefIdeal.τ).loc Cert.OutZRefIdeal.main_arg2) = m' ((c.tc : Thread Cert.OutZRefIdeal.nD Cert.OutZRefIdeal.τ).loc Cert.OutZRefIdeal.main_arg2)
          ∧ r.2.mem ((c.tc : Thread Cert.OutZRefIdeal.nD Cert.OutZRefIdeal.τ).loc Cert.OutZRefIdeal.main_arg3) = m' ((c.tc : Thread Cert.OutZRefIdeal.nD Cert.OutZRefIdeal.τ).loc Cert.OutZRefIdeal.main_arg3)
          ∧ r.2.mem ((c.tc : Thread Cert.OutZRefIdeal.nD Cert.OutZRefIdeal.τ).loc Cert.OutZRefIdeal.main_arg4) = m' ((c.tc : Thread Cert.OutZRefIdeal.nD Cert.OutZRefIdeal.τ).loc Cert.OutZRefIdeal.main_arg4))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v3)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v3) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v15) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Pool_PoolIdeal : Prop :=
  True

def algebraic_PoolIdeal_PoolRefIdeal [hPoolIdeal : Cert.PoolIdeal.Facts] [hPoolRefIdeal : Cert.PoolRefIdeal.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)) →
    ∃ (v0 : (c : Dev Cert.PoolIdeal.nD) → Buf (Elt Ideal) ((c.tc : Thread Cert.PoolIdeal.nD Cert.PoolIdeal.τ).loc Cert.PoolIdeal.main_v2_0)) (v1 : (c : Dev Cert.PoolIdeal.nD) → Buf (Elt Ideal) ((c.tc : Thread Cert.PoolIdeal.nD Cert.PoolIdeal.τ).loc Cert.PoolIdeal.main_v2_1)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v2_0) = v0 c
          ∧ r.2.mem ((c.tc : Thread Cert.PoolIdeal.nD Cert.PoolIdeal.τ).loc Cert.PoolIdeal.main_v2_1) = v1 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v80) = v0 c
          ∧ r.2.mem ((c.tc : Thread Cert.PoolRefIdeal.nD Cert.PoolRefIdeal.τ).loc Cert.PoolRefIdeal.main_v78) = v1 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2))

def preserves_PoolS_PoolSIdeal : Prop :=
  True

def algebraic_PoolSIdeal_PoolSRefIdeal [hPoolSIdeal : Cert.PoolSIdeal.Facts] [hPoolSRefIdeal : Cert.PoolSRefIdeal.Facts] : Prop :=
  ∀ (m : (ℓ : Loc Cert.PoolSIdeal.nD Cert.PoolSIdeal.τ Cert.PoolSIdeal.sig) → Buf (Elt Ideal) ℓ) (g : Dev Cert.PoolSIdeal.nD → PrngReg)
    (m' : (ℓ : Loc Cert.PoolSRefIdeal.nD Cert.PoolSRefIdeal.τ Cert.PoolSRefIdeal.sig) → Buf (Elt Ideal) ℓ) (g' : Dev Cert.PoolSRefIdeal.nD → PrngReg), Pre_PoolSIdeal m →
    (∀ c : Dev Cert.PoolSIdeal.nD,
      m' ((c.tc : Thread Cert.PoolSRefIdeal.nD Cert.PoolSRefIdeal.τ).loc Cert.PoolSRefIdeal.main_arg0) = m ((c.tc : Thread Cert.PoolSIdeal.nD Cert.PoolSIdeal.τ).loc Cert.PoolSIdeal.main_arg0)
      ∧ m' ((c.tc : Thread Cert.PoolSRefIdeal.nD Cert.PoolSRefIdeal.τ).loc Cert.PoolSRefIdeal.main_arg1) = m ((c.tc : Thread Cert.PoolSIdeal.nD Cert.PoolSIdeal.τ).loc Cert.PoolSIdeal.main_arg1)
      ∧ m' ((c.tc : Thread Cert.PoolSRefIdeal.nD Cert.PoolSRefIdeal.τ).loc Cert.PoolSRefIdeal.main_arg2) = m ((c.tc : Thread Cert.PoolSIdeal.nD Cert.PoolSIdeal.τ).loc Cert.PoolSIdeal.main_arg2)
      ∧ m' ((c.tc : Thread Cert.PoolSRefIdeal.nD Cert.PoolSRefIdeal.τ).loc Cert.PoolSRefIdeal.main_arg3) = m ((c.tc : Thread Cert.PoolSIdeal.nD Cert.PoolSIdeal.τ).loc Cert.PoolSIdeal.main_arg3)
      ∧ m' ((c.tc : Thread Cert.PoolSRefIdeal.nD Cert.PoolSRefIdeal.τ).loc Cert.PoolSRefIdeal.main_arg4) = m ((c.tc : Thread Cert.PoolSIdeal.nD Cert.PoolSIdeal.τ).loc Cert.PoolSIdeal.main_arg4)) →
    ∃ (v0 : (c : Dev Cert.PoolSIdeal.nD) → Buf (Elt Ideal) ((c.tc : Thread Cert.PoolSIdeal.nD Cert.PoolSIdeal.τ).loc Cert.PoolSIdeal.main_v3_0)) (v1 : (c : Dev Cert.PoolSIdeal.nD) → Buf (Elt Ideal) ((c.tc : Thread Cert.PoolSIdeal.nD Cert.PoolSIdeal.τ).loc Cert.PoolSIdeal.main_v3_1)),
      θ_run (Cert.PoolSIdeal.defs (F := Ideal)) (onTc (τ := Cert.PoolSIdeal.τ) (Cert.PoolSIdeal.main (F := Ideal))) ⟨m, fun _ => 0, g⟩ (fun r => ∀ c : Dev Cert.PoolSIdeal.nD,
          r.2.mem ((c.tc : Thread Cert.PoolSIdeal.nD Cert.PoolSIdeal.τ).loc Cert.PoolSIdeal.main_v3_0) = v0 c
          ∧ r.2.mem ((c.tc : Thread Cert.PoolSIdeal.nD Cert.PoolSIdeal.τ).loc Cert.PoolSIdeal.main_v3_1) = v1 c
          ∧ r.2.mem ((c.tc : Thread Cert.PoolSIdeal.nD Cert.PoolSIdeal.τ).loc Cert.PoolSIdeal.main_arg0) = m ((c.tc : Thread Cert.PoolSIdeal.nD Cert.PoolSIdeal.τ).loc Cert.PoolSIdeal.main_arg0)
          ∧ r.2.mem ((c.tc : Thread Cert.PoolSIdeal.nD Cert.PoolSIdeal.τ).loc Cert.PoolSIdeal.main_arg1) = m ((c.tc : Thread Cert.PoolSIdeal.nD Cert.PoolSIdeal.τ).loc Cert.PoolSIdeal.main_arg1)
          ∧ r.2.mem ((c.tc : Thread Cert.PoolSIdeal.nD Cert.PoolSIdeal.τ).loc Cert.PoolSIdeal.main_arg2) = m ((c.tc : Thread Cert.PoolSIdeal.nD Cert.PoolSIdeal.τ).loc Cert.PoolSIdeal.main_arg2)
          ∧ r.2.mem ((c.tc : Thread Cert.PoolSIdeal.nD Cert.PoolSIdeal.τ).loc Cert.PoolSIdeal.main_arg3) = m ((c.tc : Thread Cert.PoolSIdeal.nD Cert.PoolSIdeal.τ).loc Cert.PoolSIdeal.main_arg3)
          ∧ r.2.mem ((c.tc : Thread Cert.PoolSIdeal.nD Cert.PoolSIdeal.τ).loc Cert.PoolSIdeal.main_arg4) = m ((c.tc : Thread Cert.PoolSIdeal.nD Cert.PoolSIdeal.τ).loc Cert.PoolSIdeal.main_arg4))
      ∧ θ_run (Cert.PoolSRefIdeal.defs (F := Ideal)) (onTc (τ := Cert.PoolSRefIdeal.τ) (Cert.PoolSRefIdeal.main (F := Ideal))) ⟨m', fun _ => 0, g'⟩ (fun r => ∀ c : Dev Cert.PoolSRefIdeal.nD,
          r.2.mem ((c.tc : Thread Cert.PoolSRefIdeal.nD Cert.PoolSRefIdeal.τ).loc Cert.PoolSRefIdeal.main_v81) = v0 c
          ∧ r.2.mem ((c.tc : Thread Cert.PoolSRefIdeal.nD Cert.PoolSRefIdeal.τ).loc Cert.PoolSRefIdeal.main_v87) = v1 c
          ∧ r.2.mem ((c.tc : Thread Cert.PoolSRefIdeal.nD Cert.PoolSRefIdeal.τ).loc Cert.PoolSRefIdeal.main_arg0) = m' ((c.tc : Thread Cert.PoolSRefIdeal.nD Cert.PoolSRefIdeal.τ).loc Cert.PoolSRefIdeal.main_arg0)
          ∧ r.2.mem ((c.tc : Thread Cert.PoolSRefIdeal.nD Cert.PoolSRefIdeal.τ).loc Cert.PoolSRefIdeal.main_arg1) = m' ((c.tc : Thread Cert.PoolSRefIdeal.nD Cert.PoolSRefIdeal.τ).loc Cert.PoolSRefIdeal.main_arg1)
          ∧ r.2.mem ((c.tc : Thread Cert.PoolSRefIdeal.nD Cert.PoolSRefIdeal.τ).loc Cert.PoolSRefIdeal.main_arg2) = m' ((c.tc : Thread Cert.PoolSRefIdeal.nD Cert.PoolSRefIdeal.τ).loc Cert.PoolSRefIdeal.main_arg2)
          ∧ r.2.mem ((c.tc : Thread Cert.PoolSRefIdeal.nD Cert.PoolSRefIdeal.τ).loc Cert.PoolSRefIdeal.main_arg3) = m' ((c.tc : Thread Cert.PoolSRefIdeal.nD Cert.PoolSRefIdeal.τ).loc Cert.PoolSRefIdeal.main_arg3)
          ∧ r.2.mem ((c.tc : Thread Cert.PoolSRefIdeal.nD Cert.PoolSRefIdeal.τ).loc Cert.PoolSRefIdeal.main_arg4) = m' ((c.tc : Thread Cert.PoolSRefIdeal.nD Cert.PoolSRefIdeal.τ).loc Cert.PoolSRefIdeal.main_arg4))

def preserves_NormP_NormPIdeal : Prop :=
  True

def algebraic_NormPIdeal_NormPRefIdeal [hNormPIdeal : Cert.NormPIdeal.Facts] [hNormPRefIdeal : Cert.NormPRefIdeal.Facts] : Prop :=
  ∀ (m : (ℓ : Loc Cert.NormPIdeal.nD Cert.NormPIdeal.τ Cert.NormPIdeal.sig) → Buf (Elt Ideal) ℓ) (g : Dev Cert.NormPIdeal.nD → PrngReg)
    (m' : (ℓ : Loc Cert.NormPRefIdeal.nD Cert.NormPRefIdeal.τ Cert.NormPRefIdeal.sig) → Buf (Elt Ideal) ℓ) (g' : Dev Cert.NormPRefIdeal.nD → PrngReg), Pre_NormPIdeal m →
    (∀ c : Dev Cert.NormPIdeal.nD,
      m' ((c.tc : Thread Cert.NormPRefIdeal.nD Cert.NormPRefIdeal.τ).loc Cert.NormPRefIdeal.main_arg0) = m ((c.tc : Thread Cert.NormPIdeal.nD Cert.NormPIdeal.τ).loc Cert.NormPIdeal.main_arg0)
      ∧ m' ((c.tc : Thread Cert.NormPRefIdeal.nD Cert.NormPRefIdeal.τ).loc Cert.NormPRefIdeal.main_arg1) = m ((c.tc : Thread Cert.NormPIdeal.nD Cert.NormPIdeal.τ).loc Cert.NormPIdeal.main_arg1)) →
    ∃ (v0 : (c : Dev Cert.NormPIdeal.nD) → Buf (Elt Ideal) ((c.tc : Thread Cert.NormPIdeal.nD Cert.NormPIdeal.τ).loc Cert.NormPIdeal.main_v1)),
      θ_run (Cert.NormPIdeal.defs (F := Ideal)) (onTc (τ := Cert.NormPIdeal.τ) (Cert.NormPIdeal.main (F := Ideal))) ⟨m, fun _ => 0, g⟩ (fun r => ∀ c : Dev Cert.NormPIdeal.nD,
          r.2.mem ((c.tc : Thread Cert.NormPIdeal.nD Cert.NormPIdeal.τ).loc Cert.NormPIdeal.main_v1) = v0 c
          ∧ r.2.mem ((c.tc : Thread Cert.NormPIdeal.nD Cert.NormPIdeal.τ).loc Cert.NormPIdeal.main_arg0) = m ((c.tc : Thread Cert.NormPIdeal.nD Cert.NormPIdeal.τ).loc Cert.NormPIdeal.main_arg0)
          ∧ r.2.mem ((c.tc : Thread Cert.NormPIdeal.nD Cert.NormPIdeal.τ).loc Cert.NormPIdeal.main_arg1) = m ((c.tc : Thread Cert.NormPIdeal.nD Cert.NormPIdeal.τ).loc Cert.NormPIdeal.main_arg1))
      ∧ θ_run (Cert.NormPRefIdeal.defs (F := Ideal)) (onTc (τ := Cert.NormPRefIdeal.τ) (Cert.NormPRefIdeal.main (F := Ideal))) ⟨m', fun _ => 0, g'⟩ (fun r => ∀ c : Dev Cert.NormPRefIdeal.nD,
          r.2.mem ((c.tc : Thread Cert.NormPRefIdeal.nD Cert.NormPRefIdeal.τ).loc Cert.NormPRefIdeal.main_v13) = v0 c
          ∧ r.2.mem ((c.tc : Thread Cert.NormPRefIdeal.nD Cert.NormPRefIdeal.τ).loc Cert.NormPRefIdeal.main_arg0) = m' ((c.tc : Thread Cert.NormPRefIdeal.nD Cert.NormPRefIdeal.τ).loc Cert.NormPRefIdeal.main_arg0)
          ∧ r.2.mem ((c.tc : Thread Cert.NormPRefIdeal.nD Cert.NormPRefIdeal.τ).loc Cert.NormPRefIdeal.main_arg1) = m' ((c.tc : Thread Cert.NormPRefIdeal.nD Cert.NormPRefIdeal.τ).loc Cert.NormPRefIdeal.main_arg1))

def preserves_NormS_NormSIdeal : Prop :=
  True

def algebraic_NormSIdeal_NormSRefIdeal [hNormSIdeal : Cert.NormSIdeal.Facts] [hNormSRefIdeal : Cert.NormSRefIdeal.Facts] : Prop :=
  ∀ (m : (ℓ : Loc Cert.NormSIdeal.nD Cert.NormSIdeal.τ Cert.NormSIdeal.sig) → Buf (Elt Ideal) ℓ) (g : Dev Cert.NormSIdeal.nD → PrngReg)
    (m' : (ℓ : Loc Cert.NormSRefIdeal.nD Cert.NormSRefIdeal.τ Cert.NormSRefIdeal.sig) → Buf (Elt Ideal) ℓ) (g' : Dev Cert.NormSRefIdeal.nD → PrngReg), Pre_NormSIdeal m →
    (∀ c : Dev Cert.NormSIdeal.nD,
      m' ((c.tc : Thread Cert.NormSRefIdeal.nD Cert.NormSRefIdeal.τ).loc Cert.NormSRefIdeal.main_arg0) = m ((c.tc : Thread Cert.NormSIdeal.nD Cert.NormSIdeal.τ).loc Cert.NormSIdeal.main_arg0)
      ∧ m' ((c.tc : Thread Cert.NormSRefIdeal.nD Cert.NormSRefIdeal.τ).loc Cert.NormSRefIdeal.main_arg1) = m ((c.tc : Thread Cert.NormSIdeal.nD Cert.NormSIdeal.τ).loc Cert.NormSIdeal.main_arg1)) →
    ∃ (v0 : (c : Dev Cert.NormSIdeal.nD) → Buf (Elt Ideal) ((c.tc : Thread Cert.NormSIdeal.nD Cert.NormSIdeal.τ).loc Cert.NormSIdeal.main_v1)),
      θ_run (Cert.NormSIdeal.defs (F := Ideal)) (onTc (τ := Cert.NormSIdeal.τ) (Cert.NormSIdeal.main (F := Ideal))) ⟨m, fun _ => 0, g⟩ (fun r => ∀ c : Dev Cert.NormSIdeal.nD,
          r.2.mem ((c.tc : Thread Cert.NormSIdeal.nD Cert.NormSIdeal.τ).loc Cert.NormSIdeal.main_v1) = v0 c
          ∧ r.2.mem ((c.tc : Thread Cert.NormSIdeal.nD Cert.NormSIdeal.τ).loc Cert.NormSIdeal.main_arg0) = m ((c.tc : Thread Cert.NormSIdeal.nD Cert.NormSIdeal.τ).loc Cert.NormSIdeal.main_arg0)
          ∧ r.2.mem ((c.tc : Thread Cert.NormSIdeal.nD Cert.NormSIdeal.τ).loc Cert.NormSIdeal.main_arg1) = m ((c.tc : Thread Cert.NormSIdeal.nD Cert.NormSIdeal.τ).loc Cert.NormSIdeal.main_arg1))
      ∧ θ_run (Cert.NormSRefIdeal.defs (F := Ideal)) (onTc (τ := Cert.NormSRefIdeal.τ) (Cert.NormSRefIdeal.main (F := Ideal))) ⟨m', fun _ => 0, g'⟩ (fun r => ∀ c : Dev Cert.NormSRefIdeal.nD,
          r.2.mem ((c.tc : Thread Cert.NormSRefIdeal.nD Cert.NormSRefIdeal.τ).loc Cert.NormSRefIdeal.main_v13) = v0 c
          ∧ r.2.mem ((c.tc : Thread Cert.NormSRefIdeal.nD Cert.NormSRefIdeal.τ).loc Cert.NormSRefIdeal.main_arg0) = m' ((c.tc : Thread Cert.NormSRefIdeal.nD Cert.NormSRefIdeal.τ).loc Cert.NormSRefIdeal.main_arg0)
          ∧ r.2.mem ((c.tc : Thread Cert.NormSRefIdeal.nD Cert.NormSRefIdeal.τ).loc Cert.NormSRefIdeal.main_arg1) = m' ((c.tc : Thread Cert.NormSRefIdeal.nD Cert.NormSRefIdeal.τ).loc Cert.NormSRefIdeal.main_arg1))

def preserves_NormZ_NormZIdeal : Prop :=
  True

def algebraic_NormZIdeal_NormZRefIdeal [hNormZIdeal : Cert.NormZIdeal.Facts] [hNormZRefIdeal : Cert.NormZRefIdeal.Facts] : Prop :=
  ∀ (m : (ℓ : Loc Cert.NormZIdeal.nD Cert.NormZIdeal.τ Cert.NormZIdeal.sig) → Buf (Elt Ideal) ℓ) (g : Dev Cert.NormZIdeal.nD → PrngReg)
    (m' : (ℓ : Loc Cert.NormZRefIdeal.nD Cert.NormZRefIdeal.τ Cert.NormZRefIdeal.sig) → Buf (Elt Ideal) ℓ) (g' : Dev Cert.NormZRefIdeal.nD → PrngReg), Pre_NormZIdeal m →
    (∀ c : Dev Cert.NormZIdeal.nD,
      m' ((c.tc : Thread Cert.NormZRefIdeal.nD Cert.NormZRefIdeal.τ).loc Cert.NormZRefIdeal.main_arg0) = m ((c.tc : Thread Cert.NormZIdeal.nD Cert.NormZIdeal.τ).loc Cert.NormZIdeal.main_arg0)
      ∧ m' ((c.tc : Thread Cert.NormZRefIdeal.nD Cert.NormZRefIdeal.τ).loc Cert.NormZRefIdeal.main_arg1) = m ((c.tc : Thread Cert.NormZIdeal.nD Cert.NormZIdeal.τ).loc Cert.NormZIdeal.main_arg1)
      ∧ m' ((c.tc : Thread Cert.NormZRefIdeal.nD Cert.NormZRefIdeal.τ).loc Cert.NormZRefIdeal.main_arg2) = m ((c.tc : Thread Cert.NormZIdeal.nD Cert.NormZIdeal.τ).loc Cert.NormZIdeal.main_arg2)) →
    ∃ (v0 : (c : Dev Cert.NormZIdeal.nD) → Buf (Elt Ideal) ((c.tc : Thread Cert.NormZIdeal.nD Cert.NormZIdeal.τ).loc Cert.NormZIdeal.main_v5)),
      θ_run (Cert.NormZIdeal.defs (F := Ideal)) (onTc (τ := Cert.NormZIdeal.τ) (Cert.NormZIdeal.main (F := Ideal))) ⟨m, fun _ => 0, g⟩ (fun r => ∀ c : Dev Cert.NormZIdeal.nD,
          r.2.mem ((c.tc : Thread Cert.NormZIdeal.nD Cert.NormZIdeal.τ).loc Cert.NormZIdeal.main_v5) = v0 c
          ∧ r.2.mem ((c.tc : Thread Cert.NormZIdeal.nD Cert.NormZIdeal.τ).loc Cert.NormZIdeal.main_arg0) = m ((c.tc : Thread Cert.NormZIdeal.nD Cert.NormZIdeal.τ).loc Cert.NormZIdeal.main_arg0)
          ∧ r.2.mem ((c.tc : Thread Cert.NormZIdeal.nD Cert.NormZIdeal.τ).loc Cert.NormZIdeal.main_arg1) = m ((c.tc : Thread Cert.NormZIdeal.nD Cert.NormZIdeal.τ).loc Cert.NormZIdeal.main_arg1)
          ∧ r.2.mem ((c.tc : Thread Cert.NormZIdeal.nD Cert.NormZIdeal.τ).loc Cert.NormZIdeal.main_arg2) = m ((c.tc : Thread Cert.NormZIdeal.nD Cert.NormZIdeal.τ).loc Cert.NormZIdeal.main_arg2))
      ∧ θ_run (Cert.NormZRefIdeal.defs (F := Ideal)) (onTc (τ := Cert.NormZRefIdeal.τ) (Cert.NormZRefIdeal.main (F := Ideal))) ⟨m', fun _ => 0, g'⟩ (fun r => ∀ c : Dev Cert.NormZRefIdeal.nD,
          r.2.mem ((c.tc : Thread Cert.NormZRefIdeal.nD Cert.NormZRefIdeal.τ).loc Cert.NormZRefIdeal.main_v18) = v0 c
          ∧ r.2.mem ((c.tc : Thread Cert.NormZRefIdeal.nD Cert.NormZRefIdeal.τ).loc Cert.NormZRefIdeal.main_arg0) = m' ((c.tc : Thread Cert.NormZRefIdeal.nD Cert.NormZRefIdeal.τ).loc Cert.NormZRefIdeal.main_arg0)
          ∧ r.2.mem ((c.tc : Thread Cert.NormZRefIdeal.nD Cert.NormZRefIdeal.τ).loc Cert.NormZRefIdeal.main_arg1) = m' ((c.tc : Thread Cert.NormZRefIdeal.nD Cert.NormZRefIdeal.τ).loc Cert.NormZRefIdeal.main_arg1)
          ∧ r.2.mem ((c.tc : Thread Cert.NormZRefIdeal.nD Cert.NormZRefIdeal.τ).loc Cert.NormZRefIdeal.main_arg2) = m' ((c.tc : Thread Cert.NormZRefIdeal.nD Cert.NormZRefIdeal.τ).loc Cert.NormZRefIdeal.main_arg2))

def preserves_Delta_DeltaIdeal : Prop :=
  True

def algebraic_DeltaIdeal_DeltaRefIdeal [hDeltaIdeal : Cert.DeltaIdeal.Facts] [hDeltaRefIdeal : Cert.DeltaRefIdeal.Facts] : Prop :=
  ∀ (m : (ℓ : Loc Cert.DeltaIdeal.nD Cert.DeltaIdeal.τ Cert.DeltaIdeal.sig) → Buf (Elt Ideal) ℓ) (g : Dev Cert.DeltaIdeal.nD → PrngReg)
    (m' : (ℓ : Loc Cert.DeltaRefIdeal.nD Cert.DeltaRefIdeal.τ Cert.DeltaRefIdeal.sig) → Buf (Elt Ideal) ℓ) (g' : Dev Cert.DeltaRefIdeal.nD → PrngReg), Pre_DeltaIdeal m →
    (∀ c : Dev Cert.DeltaIdeal.nD,
      m' ((c.tc : Thread Cert.DeltaRefIdeal.nD Cert.DeltaRefIdeal.τ).loc Cert.DeltaRefIdeal.main_arg0) = m ((c.tc : Thread Cert.DeltaIdeal.nD Cert.DeltaIdeal.τ).loc Cert.DeltaIdeal.main_arg0)
      ∧ m' ((c.tc : Thread Cert.DeltaRefIdeal.nD Cert.DeltaRefIdeal.τ).loc Cert.DeltaRefIdeal.main_arg1) = m ((c.tc : Thread Cert.DeltaIdeal.nD Cert.DeltaIdeal.τ).loc Cert.DeltaIdeal.main_arg1)
      ∧ m' ((c.tc : Thread Cert.DeltaRefIdeal.nD Cert.DeltaRefIdeal.τ).loc Cert.DeltaRefIdeal.main_arg2) = m ((c.tc : Thread Cert.DeltaIdeal.nD Cert.DeltaIdeal.τ).loc Cert.DeltaIdeal.main_arg2)
      ∧ m' ((c.tc : Thread Cert.DeltaRefIdeal.nD Cert.DeltaRefIdeal.τ).loc Cert.DeltaRefIdeal.main_arg3) = m ((c.tc : Thread Cert.DeltaIdeal.nD Cert.DeltaIdeal.τ).loc Cert.DeltaIdeal.main_arg3)) →
    ∃ (v0 : (c : Dev Cert.DeltaIdeal.nD) → Buf (Elt Ideal) ((c.tc : Thread Cert.DeltaIdeal.nD Cert.DeltaIdeal.τ).loc Cert.DeltaIdeal.main_v6_2)) (v1 : (c : Dev Cert.DeltaIdeal.nD) → Buf (Elt Ideal) ((c.tc : Thread Cert.DeltaIdeal.nD Cert.DeltaIdeal.τ).loc Cert.DeltaIdeal.main_v6_3)) (v2 : (c : Dev Cert.DeltaIdeal.nD) → Buf (Elt Ideal) ((c.tc : Thread Cert.DeltaIdeal.nD Cert.DeltaIdeal.τ).loc Cert.DeltaIdeal.main_v6_4)),
      θ_run (Cert.DeltaIdeal.defs (F := Ideal)) (onTc (τ := Cert.DeltaIdeal.τ) (Cert.DeltaIdeal.main (F := Ideal))) ⟨m, fun _ => 0, g⟩ (fun r => ∀ c : Dev Cert.DeltaIdeal.nD,
          r.2.mem ((c.tc : Thread Cert.DeltaIdeal.nD Cert.DeltaIdeal.τ).loc Cert.DeltaIdeal.main_v6_2) = v0 c
          ∧ r.2.mem ((c.tc : Thread Cert.DeltaIdeal.nD Cert.DeltaIdeal.τ).loc Cert.DeltaIdeal.main_v6_3) = v1 c
          ∧ r.2.mem ((c.tc : Thread Cert.DeltaIdeal.nD Cert.DeltaIdeal.τ).loc Cert.DeltaIdeal.main_v6_4) = v2 c
          ∧ r.2.mem ((c.tc : Thread Cert.DeltaIdeal.nD Cert.DeltaIdeal.τ).loc Cert.DeltaIdeal.main_arg0) = m ((c.tc : Thread Cert.DeltaIdeal.nD Cert.DeltaIdeal.τ).loc Cert.DeltaIdeal.main_arg0)
          ∧ r.2.mem ((c.tc : Thread Cert.DeltaIdeal.nD Cert.DeltaIdeal.τ).loc Cert.DeltaIdeal.main_arg1) = m ((c.tc : Thread Cert.DeltaIdeal.nD Cert.DeltaIdeal.τ).loc Cert.DeltaIdeal.main_arg1)
          ∧ r.2.mem ((c.tc : Thread Cert.DeltaIdeal.nD Cert.DeltaIdeal.τ).loc Cert.DeltaIdeal.main_arg2) = m ((c.tc : Thread Cert.DeltaIdeal.nD Cert.DeltaIdeal.τ).loc Cert.DeltaIdeal.main_arg2)
          ∧ r.2.mem ((c.tc : Thread Cert.DeltaIdeal.nD Cert.DeltaIdeal.τ).loc Cert.DeltaIdeal.main_arg3) = m ((c.tc : Thread Cert.DeltaIdeal.nD Cert.DeltaIdeal.τ).loc Cert.DeltaIdeal.main_arg3))
      ∧ θ_run (Cert.DeltaRefIdeal.defs (F := Ideal)) (onTc (τ := Cert.DeltaRefIdeal.τ) (Cert.DeltaRefIdeal.main (F := Ideal))) ⟨m', fun _ => 0, g'⟩ (fun r => ∀ c : Dev Cert.DeltaRefIdeal.nD,
          r.2.mem ((c.tc : Thread Cert.DeltaRefIdeal.nD Cert.DeltaRefIdeal.τ).loc Cert.DeltaRefIdeal.main_v5) = v0 c
          ∧ r.2.mem ((c.tc : Thread Cert.DeltaRefIdeal.nD Cert.DeltaRefIdeal.τ).loc Cert.DeltaRefIdeal.main_v6) = v1 c
          ∧ r.2.mem ((c.tc : Thread Cert.DeltaRefIdeal.nD Cert.DeltaRefIdeal.τ).loc Cert.DeltaRefIdeal.main_v7) = v2 c
          ∧ r.2.mem ((c.tc : Thread Cert.DeltaRefIdeal.nD Cert.DeltaRefIdeal.τ).loc Cert.DeltaRefIdeal.main_arg0) = m' ((c.tc : Thread Cert.DeltaRefIdeal.nD Cert.DeltaRefIdeal.τ).loc Cert.DeltaRefIdeal.main_arg0)
          ∧ r.2.mem ((c.tc : Thread Cert.DeltaRefIdeal.nD Cert.DeltaRefIdeal.τ).loc Cert.DeltaRefIdeal.main_arg1) = m' ((c.tc : Thread Cert.DeltaRefIdeal.nD Cert.DeltaRefIdeal.τ).loc Cert.DeltaRefIdeal.main_arg1)
          ∧ r.2.mem ((c.tc : Thread Cert.DeltaRefIdeal.nD Cert.DeltaRefIdeal.τ).loc Cert.DeltaRefIdeal.main_arg2) = m' ((c.tc : Thread Cert.DeltaRefIdeal.nD Cert.DeltaRefIdeal.τ).loc Cert.DeltaRefIdeal.main_arg2)
          ∧ r.2.mem ((c.tc : Thread Cert.DeltaRefIdeal.nD Cert.DeltaRefIdeal.τ).loc Cert.DeltaRefIdeal.main_arg3) = m' ((c.tc : Thread Cert.DeltaRefIdeal.nD Cert.DeltaRefIdeal.τ).loc Cert.DeltaRefIdeal.main_arg3))

def preserves_DeltaS_DeltaSIdeal : Prop :=
  True

def algebraic_DeltaSIdeal_DeltaSRefIdeal [hDeltaSIdeal : Cert.DeltaSIdeal.Facts] [hDeltaSRefIdeal : Cert.DeltaSRefIdeal.Facts] : Prop :=
  ∀ (m : (ℓ : Loc Cert.DeltaSIdeal.nD Cert.DeltaSIdeal.τ Cert.DeltaSIdeal.sig) → Buf (Elt Ideal) ℓ) (g : Dev Cert.DeltaSIdeal.nD → PrngReg)
    (m' : (ℓ : Loc Cert.DeltaSRefIdeal.nD Cert.DeltaSRefIdeal.τ Cert.DeltaSRefIdeal.sig) → Buf (Elt Ideal) ℓ) (g' : Dev Cert.DeltaSRefIdeal.nD → PrngReg), Pre_DeltaSIdeal m →
    (∀ c : Dev Cert.DeltaSIdeal.nD,
      m' ((c.tc : Thread Cert.DeltaSRefIdeal.nD Cert.DeltaSRefIdeal.τ).loc Cert.DeltaSRefIdeal.main_arg0) = m ((c.tc : Thread Cert.DeltaSIdeal.nD Cert.DeltaSIdeal.τ).loc Cert.DeltaSIdeal.main_arg0)
      ∧ m' ((c.tc : Thread Cert.DeltaSRefIdeal.nD Cert.DeltaSRefIdeal.τ).loc Cert.DeltaSRefIdeal.main_arg1) = m ((c.tc : Thread Cert.DeltaSIdeal.nD Cert.DeltaSIdeal.τ).loc Cert.DeltaSIdeal.main_arg1)
      ∧ m' ((c.tc : Thread Cert.DeltaSRefIdeal.nD Cert.DeltaSRefIdeal.τ).loc Cert.DeltaSRefIdeal.main_arg2) = m ((c.tc : Thread Cert.DeltaSIdeal.nD Cert.DeltaSIdeal.τ).loc Cert.DeltaSIdeal.main_arg2)
      ∧ m' ((c.tc : Thread Cert.DeltaSRefIdeal.nD Cert.DeltaSRefIdeal.τ).loc Cert.DeltaSRefIdeal.main_arg3) = m ((c.tc : Thread Cert.DeltaSIdeal.nD Cert.DeltaSIdeal.τ).loc Cert.DeltaSIdeal.main_arg3)
      ∧ m' ((c.tc : Thread Cert.DeltaSRefIdeal.nD Cert.DeltaSRefIdeal.τ).loc Cert.DeltaSRefIdeal.main_arg4) = m ((c.tc : Thread Cert.DeltaSIdeal.nD Cert.DeltaSIdeal.τ).loc Cert.DeltaSIdeal.main_arg4)
      ∧ m' ((c.tc : Thread Cert.DeltaSRefIdeal.nD Cert.DeltaSRefIdeal.τ).loc Cert.DeltaSRefIdeal.main_arg5) = m ((c.tc : Thread Cert.DeltaSIdeal.nD Cert.DeltaSIdeal.τ).loc Cert.DeltaSIdeal.main_arg5)
      ∧ m' ((c.tc : Thread Cert.DeltaSRefIdeal.nD Cert.DeltaSRefIdeal.τ).loc Cert.DeltaSRefIdeal.main_arg6) = m ((c.tc : Thread Cert.DeltaSIdeal.nD Cert.DeltaSIdeal.τ).loc Cert.DeltaSIdeal.main_arg6)) →
    ∃ (v0 : (c : Dev Cert.DeltaSIdeal.nD) → Buf (Elt Ideal) ((c.tc : Thread Cert.DeltaSIdeal.nD Cert.DeltaSIdeal.τ).loc Cert.DeltaSIdeal.main_v6_2)) (v1 : (c : Dev Cert.DeltaSIdeal.nD) → Buf (Elt Ideal) ((c.tc : Thread Cert.DeltaSIdeal.nD Cert.DeltaSIdeal.τ).loc Cert.DeltaSIdeal.main_v6_3)) (v2 : (c : Dev Cert.DeltaSIdeal.nD) → Buf (Elt Ideal) ((c.tc : Thread Cert.DeltaSIdeal.nD Cert.DeltaSIdeal.τ).loc Cert.DeltaSIdeal.main_v6_4)),
      θ_run (Cert.DeltaSIdeal.defs (F := Ideal)) (onTc (τ := Cert.DeltaSIdeal.τ) (Cert.DeltaSIdeal.main (F := Ideal))) ⟨m, fun _ => 0, g⟩ (fun r => ∀ c : Dev Cert.DeltaSIdeal.nD,
          r.2.mem ((c.tc : Thread Cert.DeltaSIdeal.nD Cert.DeltaSIdeal.τ).loc Cert.DeltaSIdeal.main_v6_2) = v0 c
          ∧ r.2.mem ((c.tc : Thread Cert.DeltaSIdeal.nD Cert.DeltaSIdeal.τ).loc Cert.DeltaSIdeal.main_v6_3) = v1 c
          ∧ r.2.mem ((c.tc : Thread Cert.DeltaSIdeal.nD Cert.DeltaSIdeal.τ).loc Cert.DeltaSIdeal.main_v6_4) = v2 c
          ∧ r.2.mem ((c.tc : Thread Cert.DeltaSIdeal.nD Cert.DeltaSIdeal.τ).loc Cert.DeltaSIdeal.main_arg0) = m ((c.tc : Thread Cert.DeltaSIdeal.nD Cert.DeltaSIdeal.τ).loc Cert.DeltaSIdeal.main_arg0)
          ∧ r.2.mem ((c.tc : Thread Cert.DeltaSIdeal.nD Cert.DeltaSIdeal.τ).loc Cert.DeltaSIdeal.main_arg1) = m ((c.tc : Thread Cert.DeltaSIdeal.nD Cert.DeltaSIdeal.τ).loc Cert.DeltaSIdeal.main_arg1)
          ∧ r.2.mem ((c.tc : Thread Cert.DeltaSIdeal.nD Cert.DeltaSIdeal.τ).loc Cert.DeltaSIdeal.main_arg2) = m ((c.tc : Thread Cert.DeltaSIdeal.nD Cert.DeltaSIdeal.τ).loc Cert.DeltaSIdeal.main_arg2)
          ∧ r.2.mem ((c.tc : Thread Cert.DeltaSIdeal.nD Cert.DeltaSIdeal.τ).loc Cert.DeltaSIdeal.main_arg3) = m ((c.tc : Thread Cert.DeltaSIdeal.nD Cert.DeltaSIdeal.τ).loc Cert.DeltaSIdeal.main_arg3)
          ∧ r.2.mem ((c.tc : Thread Cert.DeltaSIdeal.nD Cert.DeltaSIdeal.τ).loc Cert.DeltaSIdeal.main_arg4) = m ((c.tc : Thread Cert.DeltaSIdeal.nD Cert.DeltaSIdeal.τ).loc Cert.DeltaSIdeal.main_arg4)
          ∧ r.2.mem ((c.tc : Thread Cert.DeltaSIdeal.nD Cert.DeltaSIdeal.τ).loc Cert.DeltaSIdeal.main_arg5) = m ((c.tc : Thread Cert.DeltaSIdeal.nD Cert.DeltaSIdeal.τ).loc Cert.DeltaSIdeal.main_arg5)
          ∧ r.2.mem ((c.tc : Thread Cert.DeltaSIdeal.nD Cert.DeltaSIdeal.τ).loc Cert.DeltaSIdeal.main_arg6) = m ((c.tc : Thread Cert.DeltaSIdeal.nD Cert.DeltaSIdeal.τ).loc Cert.DeltaSIdeal.main_arg6))
      ∧ θ_run (Cert.DeltaSRefIdeal.defs (F := Ideal)) (onTc (τ := Cert.DeltaSRefIdeal.τ) (Cert.DeltaSRefIdeal.main (F := Ideal))) ⟨m', fun _ => 0, g'⟩ (fun r => ∀ c : Dev Cert.DeltaSRefIdeal.nD,
          r.2.mem ((c.tc : Thread Cert.DeltaSRefIdeal.nD Cert.DeltaSRefIdeal.τ).loc Cert.DeltaSRefIdeal.main_v7) = v0 c
          ∧ r.2.mem ((c.tc : Thread Cert.DeltaSRefIdeal.nD Cert.DeltaSRefIdeal.τ).loc Cert.DeltaSRefIdeal.main_v8) = v1 c
          ∧ r.2.mem ((c.tc : Thread Cert.DeltaSRefIdeal.nD Cert.DeltaSRefIdeal.τ).loc Cert.DeltaSRefIdeal.main_v9) = v2 c
          ∧ r.2.mem ((c.tc : Thread Cert.DeltaSRefIdeal.nD Cert.DeltaSRefIdeal.τ).loc Cert.DeltaSRefIdeal.main_arg0) = m' ((c.tc : Thread Cert.DeltaSRefIdeal.nD Cert.DeltaSRefIdeal.τ).loc Cert.DeltaSRefIdeal.main_arg0)
          ∧ r.2.mem ((c.tc : Thread Cert.DeltaSRefIdeal.nD Cert.DeltaSRefIdeal.τ).loc Cert.DeltaSRefIdeal.main_arg1) = m' ((c.tc : Thread Cert.DeltaSRefIdeal.nD Cert.DeltaSRefIdeal.τ).loc Cert.DeltaSRefIdeal.main_arg1)
          ∧ r.2.mem ((c.tc : Thread Cert.DeltaSRefIdeal.nD Cert.DeltaSRefIdeal.τ).loc Cert.DeltaSRefIdeal.main_arg2) = m' ((c.tc : Thread Cert.DeltaSRefIdeal.nD Cert.DeltaSRefIdeal.τ).loc Cert.DeltaSRefIdeal.main_arg2)
          ∧ r.2.mem ((c.tc : Thread Cert.DeltaSRefIdeal.nD Cert.DeltaSRefIdeal.τ).loc Cert.DeltaSRefIdeal.main_arg3) = m' ((c.tc : Thread Cert.DeltaSRefIdeal.nD Cert.DeltaSRefIdeal.τ).loc Cert.DeltaSRefIdeal.main_arg3)
          ∧ r.2.mem ((c.tc : Thread Cert.DeltaSRefIdeal.nD Cert.DeltaSRefIdeal.τ).loc Cert.DeltaSRefIdeal.main_arg4) = m' ((c.tc : Thread Cert.DeltaSRefIdeal.nD Cert.DeltaSRefIdeal.τ).loc Cert.DeltaSRefIdeal.main_arg4)
          ∧ r.2.mem ((c.tc : Thread Cert.DeltaSRefIdeal.nD Cert.DeltaSRefIdeal.τ).loc Cert.DeltaSRefIdeal.main_arg5) = m' ((c.tc : Thread Cert.DeltaSRefIdeal.nD Cert.DeltaSRefIdeal.τ).loc Cert.DeltaSRefIdeal.main_arg5)
          ∧ r.2.mem ((c.tc : Thread Cert.DeltaSRefIdeal.nD Cert.DeltaSRefIdeal.τ).loc Cert.DeltaSRefIdeal.main_arg6) = m' ((c.tc : Thread Cert.DeltaSRefIdeal.nD Cert.DeltaSRefIdeal.τ).loc Cert.DeltaSRefIdeal.main_arg6))

def Claim : Prop :=
  ∃ (hPoolIn : Cert.PoolIn.Facts) (hPoolInIdeal : Cert.PoolInIdeal.Facts) (hPoolInRefIdeal : Cert.PoolInRefIdeal.Facts) (hDeltaIn : Cert.DeltaIn.Facts) (hDeltaInIdeal : Cert.DeltaInIdeal.Facts) (hDeltaInRefIdeal : Cert.DeltaInRefIdeal.Facts) (hOut : Cert.Out.Facts) (hOutIdeal : Cert.OutIdeal.Facts) (hOutRefIdeal : Cert.OutRefIdeal.Facts) (hOutZ : Cert.OutZ.Facts) (hOutZIdeal : Cert.OutZIdeal.Facts) (hOutZRefIdeal : Cert.OutZRefIdeal.Facts) (hNorm : Cert.Norm.Facts) (hNormIdeal : Cert.NormIdeal.Facts) (hNormRefIdeal : Cert.NormRefIdeal.Facts) (hPool : Cert.Pool.Facts) (hPoolIdeal : Cert.PoolIdeal.Facts) (hPoolRefIdeal : Cert.PoolRefIdeal.Facts) (hPoolS : Cert.PoolS.Facts) (hPoolSIdeal : Cert.PoolSIdeal.Facts) (hPoolSRefIdeal : Cert.PoolSRefIdeal.Facts) (hNormP : Cert.NormP.Facts) (hNormPIdeal : Cert.NormPIdeal.Facts) (hNormPRefIdeal : Cert.NormPRefIdeal.Facts) (hNormS : Cert.NormS.Facts) (hNormSIdeal : Cert.NormSIdeal.Facts) (hNormSRefIdeal : Cert.NormSRefIdeal.Facts) (hNormZ : Cert.NormZ.Facts) (hNormZIdeal : Cert.NormZIdeal.Facts) (hNormZRefIdeal : Cert.NormZRefIdeal.Facts) (hDelta : Cert.Delta.Facts) (hDeltaIdeal : Cert.DeltaIdeal.Facts) (hDeltaRefIdeal : Cert.DeltaRefIdeal.Facts) (hDeltaS : Cert.DeltaS.Facts) (hDeltaSIdeal : Cert.DeltaSIdeal.Facts) (hDeltaSRefIdeal : Cert.DeltaSRefIdeal.Facts),
    quiescent_PoolIn (hPoolIn := hPoolIn)
    ∧ quiescent_PoolInIdeal (hPoolInIdeal := hPoolInIdeal)
    ∧ quiescent_PoolInRefIdeal (hPoolInRefIdeal := hPoolInRefIdeal)
    ∧ quiescent_DeltaIn (hDeltaIn := hDeltaIn)
    ∧ quiescent_DeltaInIdeal (hDeltaInIdeal := hDeltaInIdeal)
    ∧ quiescent_DeltaInRefIdeal (hDeltaInRefIdeal := hDeltaInRefIdeal)
    ∧ quiescent_Out (hOut := hOut)
    ∧ quiescent_OutIdeal (hOutIdeal := hOutIdeal)
    ∧ quiescent_OutRefIdeal (hOutRefIdeal := hOutRefIdeal)
    ∧ quiescent_OutZ (hOutZ := hOutZ)
    ∧ quiescent_OutZIdeal (hOutZIdeal := hOutZIdeal)
    ∧ quiescent_OutZRefIdeal (hOutZRefIdeal := hOutZRefIdeal)
    ∧ quiescent_Norm (hNorm := hNorm)
    ∧ quiescent_NormIdeal (hNormIdeal := hNormIdeal)
    ∧ quiescent_NormRefIdeal (hNormRefIdeal := hNormRefIdeal)
    ∧ quiescent_Pool (hPool := hPool)
    ∧ quiescent_PoolIdeal (hPoolIdeal := hPoolIdeal)
    ∧ quiescent_PoolRefIdeal (hPoolRefIdeal := hPoolRefIdeal)
    ∧ quiescent_PoolS (hPoolS := hPoolS)
    ∧ quiescent_PoolSIdeal (hPoolSIdeal := hPoolSIdeal)
    ∧ quiescent_PoolSRefIdeal (hPoolSRefIdeal := hPoolSRefIdeal)
    ∧ quiescent_NormP (hNormP := hNormP)
    ∧ quiescent_NormPIdeal (hNormPIdeal := hNormPIdeal)
    ∧ quiescent_NormPRefIdeal (hNormPRefIdeal := hNormPRefIdeal)
    ∧ quiescent_NormS (hNormS := hNormS)
    ∧ quiescent_NormSIdeal (hNormSIdeal := hNormSIdeal)
    ∧ quiescent_NormSRefIdeal (hNormSRefIdeal := hNormSRefIdeal)
    ∧ quiescent_NormZ (hNormZ := hNormZ)
    ∧ quiescent_NormZIdeal (hNormZIdeal := hNormZIdeal)
    ∧ quiescent_NormZRefIdeal (hNormZRefIdeal := hNormZRefIdeal)
    ∧ quiescent_Delta (hDelta := hDelta)
    ∧ quiescent_DeltaIdeal (hDeltaIdeal := hDeltaIdeal)
    ∧ quiescent_DeltaRefIdeal (hDeltaRefIdeal := hDeltaRefIdeal)
    ∧ quiescent_DeltaS (hDeltaS := hDeltaS)
    ∧ quiescent_DeltaSIdeal (hDeltaSIdeal := hDeltaSIdeal)
    ∧ quiescent_DeltaSRefIdeal (hDeltaSRefIdeal := hDeltaSRefIdeal)
    ∧ preserves_PoolIn_PoolInIdeal
    ∧ algebraic_PoolInIdeal_PoolInRefIdeal (hPoolInIdeal := hPoolInIdeal) (hPoolInRefIdeal := hPoolInRefIdeal)
    ∧ preserves_DeltaIn_DeltaInIdeal
    ∧ algebraic_DeltaInIdeal_DeltaInRefIdeal (hDeltaInIdeal := hDeltaInIdeal) (hDeltaInRefIdeal := hDeltaInRefIdeal)
    ∧ preserves_Out_OutIdeal
    ∧ algebraic_OutIdeal_OutRefIdeal (hOutIdeal := hOutIdeal) (hOutRefIdeal := hOutRefIdeal)
    ∧ preserves_OutZ_OutZIdeal
    ∧ algebraic_OutZIdeal_OutZRefIdeal (hOutZIdeal := hOutZIdeal) (hOutZRefIdeal := hOutZRefIdeal)
    ∧ preserves_Norm_NormIdeal
    ∧ algebraic_NormIdeal_NormRefIdeal (hNormIdeal := hNormIdeal) (hNormRefIdeal := hNormRefIdeal)
    ∧ preserves_Pool_PoolIdeal
    ∧ algebraic_PoolIdeal_PoolRefIdeal (hPoolIdeal := hPoolIdeal) (hPoolRefIdeal := hPoolRefIdeal)
    ∧ preserves_PoolS_PoolSIdeal
    ∧ algebraic_PoolSIdeal_PoolSRefIdeal (hPoolSIdeal := hPoolSIdeal) (hPoolSRefIdeal := hPoolSRefIdeal)
    ∧ preserves_NormP_NormPIdeal
    ∧ algebraic_NormPIdeal_NormPRefIdeal (hNormPIdeal := hNormPIdeal) (hNormPRefIdeal := hNormPRefIdeal)
    ∧ preserves_NormS_NormSIdeal
    ∧ algebraic_NormSIdeal_NormSRefIdeal (hNormSIdeal := hNormSIdeal) (hNormSRefIdeal := hNormSRefIdeal)
    ∧ preserves_NormZ_NormZIdeal
    ∧ algebraic_NormZIdeal_NormZRefIdeal (hNormZIdeal := hNormZIdeal) (hNormZRefIdeal := hNormZRefIdeal)
    ∧ preserves_Delta_DeltaIdeal
    ∧ algebraic_DeltaIdeal_DeltaRefIdeal (hDeltaIdeal := hDeltaIdeal) (hDeltaRefIdeal := hDeltaRefIdeal)
    ∧ preserves_DeltaS_DeltaSIdeal
    ∧ algebraic_DeltaSIdeal_DeltaSRefIdeal (hDeltaSIdeal := hDeltaSIdeal) (hDeltaSRefIdeal := hDeltaSRefIdeal)
-- ==== PoolIn.lean ====
abbrev S9216x2048 : Shape := ⟨2, ![9216, 2048]⟩
abbrev S2x2048x8192 : Shape := ⟨3, ![2, 2048, 8192]⟩
abbrev S9216x8192 : Shape := ⟨2, ![9216, 8192]⟩
abbrev S3072x2048 : Shape := ⟨2, ![3072, 2048]⟩
abbrev S1x2048x512 : Shape := ⟨3, ![1, 2048, 512]⟩
abbrev S3072x512 : Shape := ⟨2, ![3072, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S9216x2048, .bf16⟩
  | .hbm, ⟨1, _⟩ => ⟨S2x2048x8192, .f32⟩
  | .hbm, ⟨2, _⟩ => ⟨S9216x8192, .f32⟩
  | .local _ .vmem, ⟨0, _⟩ => ⟨S3072x2048, .bf16⟩
  | .local _ .vmem, ⟨1, _⟩ => ⟨S3072x2048, .bf16⟩
  | .local _ .vmem, ⟨2, _⟩ => ⟨S1x2048x512, .f32⟩
  | .local _ .vmem, ⟨3, _⟩ => ⟨S1x2048x512, .f32⟩
  | .local _ .vmem, ⟨4, _⟩ => ⟨S3072x512, .f32⟩
  | .local _ .vmem, ⟨5, _⟩ => ⟨S3072x512, .f32⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S3072x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S3072x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PoolInRefIdeal.lean ====
abbrev S9216x2048 : Shape := ⟨2, ![9216, 2048]⟩
abbrev S2x2048x8192 : Shape := ⟨3, ![2, 2048, 8192]⟩
abbrev S1x2048x8192 : Shape := ⟨3, ![1, 2048, 8192]⟩
abbrev S2048x8192 : Shape := ⟨2, ![2048, 8192]⟩
abbrev S9216x8192 : Shape := ⟨2, ![9216, 8192]⟩

abbrev nBuf : Space → Nat
  | .hbm => 6
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S2x2048x8192, .f32⟩
  | .hbm, ⟨2, _⟩ => ⟨S9216x2048, .f32⟩
  | .hbm, ⟨3, _⟩ => ⟨S1x2048x8192, .f32⟩
  | .hbm, ⟨4, _⟩ => ⟨S2048x8192, .f32⟩
  | .hbm, ⟨5, _⟩ => ⟨S9216x8192, .f32⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DeltaIn.lean ====
abbrev S9216x2048 : Shape := ⟨2, ![9216, 2048]⟩
abbrev S2x2048x12352 : Shape := ⟨3, ![2, 2048, 12352]⟩
abbrev S2x12352x2048 : Shape := ⟨3, ![2, 12352, 2048]⟩
abbrev S9216x12288 : Shape := ⟨2, ![9216, 12288]⟩
abbrev S3072x2048 : Shape := ⟨2, ![3072, 2048]⟩
abbrev S1x512x2048 : Shape := ⟨3, ![1, 512, 2048]⟩
abbrev S3072x512 : Shape := ⟨2, ![3072, 512]⟩
abbrev S512x2048 : Shape := ⟨2, ![512, 2048]⟩

abbrev nBuf : Space → Nat
  | .hbm => 4
  | .vmem => 6
  | .smem => 0
  | _ => 0

abbrev bufTy : (tb : Table) → Fin (tcTables nBuf tb) → BufTy
  | .hbm, ⟨0, _⟩ => ⟨S9216x2048, .bf16⟩
  | .hbm, ⟨1, _⟩ => ⟨S2x2048x12352, .f32⟩
  | .hbm, ⟨2, _⟩ => ⟨S2x12352x2048, .f32⟩
  | .hbm, ⟨3, _⟩ => ⟨S9216x12288, .f32⟩
  | .local _ .vmem, ⟨0, _⟩ => ⟨S3072x2048, .bf16⟩
  | .local _ .vmem, ⟨1, _⟩ => ⟨S3072x2048, .bf16⟩
  | .local _ .vmem, ⟨2, _⟩ => ⟨S1x512x2048, .f32⟩
  | .local _ .vmem, ⟨3, _⟩ => ⟨S1x512x2048, .f32⟩
  | .local _ .vmem, ⟨4, _⟩ => ⟨S3072x512, .f32⟩
  | .local _ .vmem, ⟨5, _⟩ => ⟨S3072x512, .f32⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S3072x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S3072x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DeltaInRefIdeal.lean ====
abbrev S9216x2048 : Shape := ⟨2, ![9216, 2048]⟩
abbrev S2x2048x12352 : Shape := ⟨3, ![2, 2048, 12352]⟩
abbrev S1x2048x12352 : Shape := ⟨3, ![1, 2048, 12352]⟩
abbrev S2048x12352 : Shape := ⟨2, ![2048, 12352]⟩
abbrev S9216x12352 : Shape := ⟨2, ![9216, 12352]⟩
abbrev S9216x12288 : Shape := ⟨2, ![9216, 12288]⟩

abbrev nBuf : Space → Nat
  | .hbm => 7
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S2x2048x12352, .f32⟩
  | .hbm, ⟨2, _⟩ => ⟨S9216x2048, .f32⟩
  | .hbm, ⟨3, _⟩ => ⟨S1x2048x12352, .f32⟩
  | .hbm, ⟨4, _⟩ => ⟨S2048x12352, .f32⟩
  | .hbm, ⟨5, _⟩ => ⟨S9216x12352, .f32⟩
  | .hbm, ⟨6, _⟩ => ⟨S9216x12288, .f32⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Out.lean ====
abbrev S8192x4096 : Shape := ⟨2, ![8192, 4096]⟩
abbrev S1024x4096 : Shape := ⟨2, ![1024, 4096]⟩
abbrev S2x4096x2048 : Shape := ⟨3, ![2, 4096, 2048]⟩
abbrev S9216x2048 : Shape := ⟨2, ![9216, 2048]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 6
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S2x4096x2048, .f32⟩
  | .hbm, ⟨3, _⟩ => ⟨S9216x2048, .f32⟩
  | .hbm, ⟨4, _⟩ => ⟨S2x4096x2048, .bf16⟩
  | .hbm, ⟨5, _⟩ => ⟨S9216x2048, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1x4096x512, .bf16⟩
  | .local _ .vmem, ⟨4, _⟩ => ⟨S1x4096x512, .bf16⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![9, 4], ![false, false]⟩

def k0_cond1 (i : grid0.Coords) : BitVec 1 :=
  let arg0 : BitVec 32 := BitVec.ofNat 32 (i 0).val
  let c8_i32 : BitVec 32 := 8#32
  let v2 : BitVec 1 := Scalar.cmpi .slt arg0 c8_i32
  let v3 : BitVec 32 := Scalar.extui v2
  let c0_i32 : BitVec 32 := 0#32
  let v4 : BitVec 1 := Scalar.cmpi .ne v3 c0_i32
  v4

def k0_cond2 (i : grid0.Coords) : BitVec 1 :=
  let arg0 : BitVec 32 := BitVec.ofNat 32 (i 0).val
  let c8_i32_2 : BitVec 32 := 8#32
  let v5 : BitVec 1 := Scalar.cmpi .sge arg0 c8_i32_2
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutRefIdeal.lean ====
abbrev S8192x4096 : Shape := ⟨2, ![8192, 4096]⟩
abbrev S1024x4096 : Shape := ⟨2, ![1024, 4096]⟩
abbrev S2x4096x2048 : Shape := ⟨3, ![2, 4096, 2048]⟩
abbrev S9216x2048 : Shape := ⟨2, ![9216, 2048]⟩
abbrev S9216x4096 : Shape := ⟨2, ![9216, 4096]⟩
abbrev S1x4096x2048 : Shape := ⟨3, ![1, 4096, 2048]⟩
abbrev S4096x2048 : Shape := ⟨2, ![4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S2x4096x2048, .f32⟩
  | .hbm, ⟨3, _⟩ => ⟨S9216x2048, .f32⟩
  | .hbm, ⟨4, _⟩ => ⟨S9216x4096, .bf16⟩
  | .hbm, ⟨5, _⟩ => ⟨S9216x4096, .f32⟩
  | .hbm, ⟨6, _⟩ => ⟨S1x4096x2048, .f32⟩
  | .hbm, ⟨7, _⟩ => ⟨S4096x2048, .f32⟩
  | .hbm, ⟨8, _⟩ => ⟨S9216x2048, .f32⟩
  | .hbm, ⟨9, _⟩ => ⟨S9216x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== OutZ.lean ====
abbrev S8192x4096 : Shape := ⟨2, ![8192, 4096]⟩
abbrev S1024x4096 : Shape := ⟨2, ![1024, 4096]⟩
abbrev S2x4096x2048 : Shape := ⟨3, ![2, 4096, 2048]⟩
abbrev S4x2048x2048 : Shape := ⟨3, ![4, 2048, 2048]⟩
abbrev S128x8x2048 : Shape := ⟨3, ![128, 8, 2048]⟩
abbrev S8192x2048 : Shape := ⟨2, ![8192, 2048]⟩
abbrev S1024x2048 : Shape := ⟨2, ![1024, 2048]⟩
abbrev S9216x2048 : Shape := ⟨2, ![9216, 2048]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 9
  | .vmem => 11
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S2x4096x2048, .f32⟩
  | .hbm, ⟨3, _⟩ => ⟨S4x2048x2048, .f32⟩
  | .hbm, ⟨4, _⟩ => ⟨S128x8x2048, .f32⟩
  | .hbm, ⟨5, _⟩ => ⟨S2x4096x2048, .bf16⟩
  | .hbm, ⟨6, _⟩ => ⟨S8192x2048, .f32⟩
  | .hbm, ⟨7, _⟩ => ⟨S1024x2048, .f32⟩
  | .hbm, ⟨8, _⟩ => ⟨S9216x2048, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1x4096x512, .bf16⟩
  | .local _ .vmem, ⟨4, _⟩ => ⟨S1x4096x512, .bf16⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![9, 4], ![false, false]⟩

def k0_cond1 (i : grid0.Coords) : BitVec 1 :=
  let arg0 : BitVec 32 := BitVec.ofNat 32 (i 0).val
  let c8_i32 : BitVec 32 := 8#32
  let v2 : BitVec 1 := Scalar.cmpi .slt arg0 c8_i32
  let v3 : BitVec 32 := Scalar.extui v2
  let c0_i32 : BitVec 32 := 0#32
  let v4 : BitVec 1 := Scalar.cmpi .ne v3 c0_i32
  v4

def k0_cond2 (i : grid0.Coords) : BitVec 1 :=
  let arg0 : BitVec 32 := BitVec.ofNat 32 (i 0).val
  let c8_i32_2 : BitVec 32 := 8#32
  let v5 : BitVec 1 := Scalar.cmpi .sge arg0 c8_i32_2
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  ![v0.toNat, arg1.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg0 c8_i32
  let c0_i32 : BitVec 32 := 0#32
  let v1 : BitVec 32 := Scalar.maxsi v0 c0_i32
  let c8_i32_0 : BitVec 32 := 8#32
  let v2 : BitVec 1 := Scalar.cmpi .slt arg0 c8_i32_0
  let c0_i32_1 : BitVec 32 := 0#32
  let v3 : BitVec 32 := Scalar.select v2 c0_i32_1 arg1
  let c0_i32_2 : BitVec 32 := 0#32
  ![v1.toNat, v3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutZRefIdeal.lean ====
abbrev S8192x4096 : Shape := ⟨2, ![8192, 4096]⟩
abbrev S1024x4096 : Shape := ⟨2, ![1024, 4096]⟩
abbrev S2x4096x2048 : Shape := ⟨3, ![2, 4096, 2048]⟩
abbrev S4x2048x2048 : Shape := ⟨3, ![4, 2048, 2048]⟩
abbrev S128x8x2048 : Shape := ⟨3, ![128, 8, 2048]⟩
abbrev S1x4096x2048 : Shape := ⟨3, ![1, 4096, 2048]⟩
abbrev S4096x2048 : Shape := ⟨2, ![4096, 2048]⟩
abbrev S8192x2048 : Shape := ⟨2, ![8192, 2048]⟩
abbrev S1024x2048 : Shape := ⟨2, ![1024, 2048]⟩
abbrev S9216x2048 : Shape := ⟨2, ![9216, 2048]⟩

abbrev nBuf : Space → Nat
  | .hbm => 16
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S2x4096x2048, .f32⟩
  | .hbm, ⟨3, _⟩ => ⟨S4x2048x2048, .f32⟩
  | .hbm, ⟨4, _⟩ => ⟨S128x8x2048, .f32⟩
  | .hbm, ⟨5, _⟩ => ⟨S1x4096x2048, .f32⟩
  | .hbm, ⟨6, _⟩ => ⟨S4096x2048, .f32⟩
  | .hbm, ⟨7, _⟩ => ⟨S8192x2048, .f32⟩
  | .hbm, ⟨8, _⟩ => ⟨S8192x4096, .f32⟩
  | .hbm, ⟨9, _⟩ => ⟨S8192x2048, .f32⟩
  | .hbm, ⟨10, _⟩ => ⟨S8192x2048, .f32⟩
  | .hbm, ⟨11, _⟩ => ⟨S1024x2048, .f32⟩
  | .hbm, ⟨12, _⟩ => ⟨S1024x4096, .f32⟩
  | .hbm, ⟨13, _⟩ => ⟨S1024x2048, .f32⟩
  | .hbm, ⟨14, _⟩ => ⟨S1024x2048, .f32⟩
  | .hbm, ⟨15, _⟩ => ⟨S9216x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Norm.lean ====
abbrev S9216x2048 : Shape := ⟨2, ![9216, 2048]⟩
abbrev S4x2048 : Shape := ⟨2, ![4, 2048]⟩
abbrev S1x2048 : Shape := ⟨2, ![1, 2048]⟩
abbrev S2048 : Shape := ⟨1, ![2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 5
  | .smem => 0
  | _ => 0

abbrev bufTy : (tb : Table) → Fin (tcTables nBuf tb) → BufTy
  | .hbm, ⟨0, _⟩ => ⟨S9216x2048, .f32⟩
  | .hbm, ⟨1, _⟩ => ⟨S4x2048, .f32⟩
  | .hbm, ⟨2, _⟩ => ⟨S1x2048, .f32⟩
  | .hbm, ⟨3, _⟩ => ⟨S2048, .f32⟩
  | .hbm, ⟨4, _⟩ => ⟨S1x2048, .f32⟩
  | .hbm, ⟨5, _⟩ => ⟨S9216x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S9216x2048 : Shape := ⟨2, ![9216, 2048]⟩
abbrev S4x2048 : Shape := ⟨2, ![4, 2048]⟩
abbrev S_ : Shape := ⟨0, ![]⟩
abbrev S9216 : Shape := ⟨1, ![9216]⟩
abbrev S9216x1 : Shape := ⟨2, ![9216, 1]⟩
abbrev S1x2048 : Shape := ⟨2, ![1, 2048]⟩
abbrev S2048 : Shape := ⟨1, ![2048]⟩

abbrev nBuf : Space → Nat
  | .hbm => 21
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S4x2048, .f32⟩
  | .hbm, ⟨2, _⟩ => ⟨S9216x2048, .f32⟩
  | .hbm, ⟨3, _⟩ => ⟨S_, .f32⟩
  | .hbm, ⟨4, _⟩ => ⟨S9216, .f32⟩
  | .hbm, ⟨5, _⟩ => ⟨S9216x1, .f32⟩
  | .hbm, ⟨6, _⟩ => ⟨S_, .f32⟩
  | .hbm, ⟨7, _⟩ => ⟨S9216x1, .f32⟩
  | .hbm, ⟨8, _⟩ => ⟨S9216x1, .f32⟩
  | .hbm, ⟨9, _⟩ => ⟨S_, .f32⟩
  | .hbm, ⟨10, _⟩ => ⟨S9216x1, .f32⟩
  | .hbm, ⟨11, _⟩ => ⟨S9216x1, .f32⟩
  | .hbm, ⟨12, _⟩ => ⟨S9216x1, .f32⟩
  | .hbm, ⟨13, _⟩ => ⟨S9216x2048, .f32⟩
  | .hbm, ⟨14, _⟩ => ⟨S9216x2048, .f32⟩
  | .hbm, ⟨15, _⟩ => ⟨S1x2048, .f32⟩
  | .hbm, ⟨16, _⟩ => ⟨S2048, .f32⟩
  | .hbm, ⟨17, _⟩ => ⟨S1x2048, .f32⟩
  | .hbm, ⟨18, _⟩ => ⟨S9216x2048, .f32⟩
  | .hbm, ⟨19, _⟩ => ⟨S9216x2048, .f32⟩
  | .hbm, ⟨20, _⟩ => ⟨S9216x2048, .bf16⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Pool.lean ====
abbrev S9216x8192 : Shape := ⟨2, ![9216, 8192]⟩
abbrev S2x4x1024x1024 : Shape := ⟨4, ![2, 4, 1024, 1024]⟩
abbrev S2x4096 : Shape := ⟨2, ![2, 4096]⟩
abbrev S2x1x4096 : Shape := ⟨3, ![2, 1, 4096]⟩
abbrev S8192x4096 : Shape := ⟨2, ![8192, 4096]⟩
abbrev S4x15x4096 : Shape := ⟨3, ![4, 15, 4096]⟩
abbrev S512x1024 : Shape := ⟨2, ![512, 1024]⟩
abbrev S16x1024 : Shape := ⟨2, ![16, 1024]⟩
abbrev S1x1x1024x1024 : Shape := ⟨4, ![1, 1, 1024, 1024]⟩
abbrev S1x1x1024 : Shape := ⟨3, ![1, 1, 1024]⟩
abbrev S1x15x1024 : Shape := ⟨3, ![1, 15, 1024]⟩
abbrev S528x1024 : Shape := ⟨2, ![528, 1024]⟩
abbrev S512x1 : Shape := ⟨2, ![512, 1]⟩
abbrev S1024x1024 : Shape := ⟨2, ![1024, 1024]⟩
abbrev S1x1024 : Shape := ⟨2, ![1, 1024]⟩
abbrev S15x1024 : Shape := ⟨2, ![15, 1024]⟩

abbrev nBuf : Space → Nat
  | .hbm => 7
  | .vmem => 15
  | .smem => 0
  | _ => 0

abbrev bufTy : (tb : Table) → Fin (tcTables nBuf tb) → BufTy
  | .hbm, ⟨0, _⟩ => ⟨S9216x8192, .f32⟩
  | .hbm, ⟨1, _⟩ => ⟨S2x4x1024x1024, .f32⟩
  | .hbm, ⟨2, _⟩ => ⟨S2x4096, .f32⟩
  | .hbm, ⟨3, _⟩ => ⟨S2x4x1024x1024, .bf16⟩
  | .hbm, ⟨4, _⟩ => ⟨S2x1x4096, .f32⟩
  | .hbm, ⟨5, _⟩ => ⟨S8192x4096, .bf16⟩
  | .hbm, ⟨6, _⟩ => ⟨S4x15x4096, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S512x1024, .f32⟩
  | .local _ .vmem, ⟨5, _⟩ => ⟨S512x1024, .f32⟩
  | .local _ .vmem, ⟨6, _⟩ => ⟨S1x1x1024x1024, .bf16⟩
  | .local _ .vmem, ⟨7, _⟩ => ⟨S1x1x1024x1024, .bf16⟩
  | .local _ .vmem, ⟨8, _⟩ => ⟨S1x1x1024, .f32⟩
  | .local _ .vmem, ⟨9, _⟩ => ⟨S1x1x1024, .f32⟩
  | .local _ .vmem, ⟨10, _⟩ => ⟨S512x1024, .bf16⟩
  | .local _ .vmem, ⟨11, _⟩ => ⟨S512x1024, .bf16⟩
  | .local _ .vmem, ⟨12, _⟩ => ⟨S1x15x1024, .f32⟩
  | .local _ .vmem, ⟨13, _⟩ => ⟨S1x15x1024, .f32⟩
  | .local _ .vmem, ⟨14, _⟩ => ⟨S528x1024, .f32⟩
  | _, _ => ⟨S9216x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg0 : BitVec 32 := BitVec.ofNat 32 (i 0).val
  let c0_i32_5 : BitVec 32 := 0#32
  let v14 : BitVec 1 := Scalar.cmpi .eq arg0 c0_i32_5
  let v15 : BitVec 32 := Scalar.extui v14
  let c0_i32_6 : BitVec 32 := 0#32
  let v16 : BitVec 1 := Scalar.cmpi .ne v15 c0_i32_6
  v16

def k0_cond4 (i : grid0.Coords) : BitVec 1 :=
  let arg0 : BitVec 32 := BitVec.ofNat 32 (i 0).val
  let c1_i32 : BitVec 32 := 1#32
  let v17 : BitVec 1 := Scalar.cmpi .eq arg0 c1_i32
  let v18 : BitVec 32 := Scalar.extui v17
  let c0_i32_7 : BitVec 32 := 0#32
  let v19 : BitVec 1 := Scalar.cmpi .ne v18 c0_i32_7
  v19

def k0_cond5 (i : grid0.Coords) : BitVec 1 :=
  let arg0 : BitVec 32 := BitVec.ofNat 32 (i 0).val
  let c2_i32 : BitVec 32 := 2#32
  let v20 : BitVec 1 := Scalar.cmpi .eq arg0 c2_i32
  let v21 : BitVec 32 := Scalar.extui v20
  let c0_i32_8 : BitVec 32 := 0#32
  let v22 : BitVec 1 := Scalar.cmpi .ne v21 c0_i32_8
  v22

def k0_cond6 (i : grid0.Coords) : BitVec 1 :=
  let arg0 : BitVec 32 := BitVec.ofNat 32 (i 0).val
  let c3_i32 : BitVec 32 := 3#32
  let v23 : BitVec 1 := Scalar.cmpi .eq arg0 c3_i32
  let v24 : BitVec 32 := Scalar.extui v23
  let c0_i32_9 : BitVec 32 := 0#32
  let v25 : BitVec 1 := Scalar.cmpi .ne v24 c0_i32_9
  v25

def k0_cond7 (i : grid0.Coords) : BitVec 1 :=
  let arg2 : BitVec 32 := BitVec.ofNat 32 (i 2).val
  let c3_i32_10 : BitVec 32 := 3#32
  let v26 : BitVec 1 := Scalar.cmpi .eq arg2 c3_i32_10
  let v27 : BitVec 32 := Scalar.extui v26
  let c0_i32_11 : BitVec 32 := 0#32
  let v28 : BitVec 1 := Scalar.cmpi .ne v27 c0_i32_11
  v28

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  ![v1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c32_i32 : BitVec 32 := 32#32
  let v2 : BitVec 32 := Scalar.muli v1 c32_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  ![v4.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c4_i32_0 : BitVec 32 := 4#32
  let v2 : BitVec 32 := Scalar.addi c4_i32_0 arg0
  let c0_i32 : BitVec 32 := 0#32
  ![v1.toNat, v2.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  ![v1.toNat, arg0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x15x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== PoolRefIdeal.lean ====
abbrev S9216x8192 : Shape := ⟨2, ![9216, 8192]⟩
abbrev S2x4x1024x1024 : Shape := ⟨4, ![2, 4, 1024, 1024]⟩
abbrev S2x4096 : Shape := ⟨2, ![2, 4096]⟩
abbrev S8192x4096 : Shape := ⟨2, ![8192, 4096]⟩
abbrev S4x2048x4096 : Shape := ⟨3, ![4, 2048, 4096]⟩
abbrev S_ : Shape := ⟨0, ![]⟩
abbrev S4x15x4096 : Shape := ⟨3, ![4, 15, 4096]⟩
abbrev S1x4x1024x1024 : Shape := ⟨4, ![1, 4, 1024, 1024]⟩
abbrev S4x1024x1024 : Shape := ⟨3, ![4, 1024, 1024]⟩
abbrev S1x4096 : Shape := ⟨2, ![1, 4096]⟩
abbrev S4096 : Shape := ⟨1, ![4096]⟩
abbrev S4x2063x4096 : Shape := ⟨3, ![4, 2063, 4096]⟩
abbrev S2048 : Shape := ⟨1, ![2048]⟩
abbrev S4x2063x1024 : Shape := ⟨3, ![4, 2063, 1024]⟩
abbrev S4x2049x1024 : Shape := ⟨3, ![4, 2049, 1024]⟩
abbrev S4x2048x1024 : Shape := ⟨3, ![4, 2048, 1024]⟩
abbrev S1x2048x1 : Shape := ⟨3, ![1, 2048, 1]⟩
abbrev S4x2051x1024 : Shape := ⟨3, ![4, 2051, 1024]⟩
abbrev S4x2055x1024 : Shape := ⟨3, ![4, 2055, 1024]⟩
abbrev S4x2048x4x1024 : Shape := ⟨4, ![4, 2048, 4, 1024]⟩
abbrev S4x1024x4x2048 : Shape := ⟨4, ![4, 1024, 4, 2048]⟩
abbrev S1x1x4096 : Shape := ⟨3, ![1, 1, 4096]⟩

abbrev nBuf : Space → Nat
  | .hbm => 100
  | .vmem => 0
  | .smem => 0
  | _ => 0

abbrev bufTy : (tb : Table) → Fin (tcTables nBuf tb) → BufTy
  | .hbm, ⟨0, _⟩ => ⟨S9216x8192, .f32⟩
  | .hbm, ⟨1, _⟩ => ⟨S2x4x1024x1024, .f32⟩
  | .hbm, ⟨2, _⟩ => ⟨S2x4096, .f32⟩
  | .hbm, ⟨3, _⟩ => ⟨S8192x4096, .f32⟩
  | .hbm, ⟨4, _⟩ => ⟨S4x2048x4096, .f32⟩
  | .hbm, ⟨5, _⟩ => ⟨S8192x4096, .f32⟩
  | .hbm, ⟨6, _⟩ => ⟨S4x2048x4096, .f32⟩
  | .hbm, ⟨7, _⟩ => ⟨S_, .f32⟩
  | .hbm, ⟨8, _⟩ => ⟨S4x15x4096, .f32⟩
  | .hbm, ⟨9, _⟩ => ⟨S1x4x1024x1024, .f32⟩
  | .hbm, ⟨10, _⟩ => ⟨S4x1024x1024, .f32⟩
  | .hbm, ⟨11, _⟩ => ⟨S1x4096, .f32⟩
  | .hbm, ⟨12, _⟩ => ⟨S4096, .f32⟩
  | .hbm, ⟨13, _⟩ => ⟨S4x2063x4096, .f32⟩
  | .hbm, ⟨14, _⟩ => ⟨S2048, .i32⟩
  | .hbm, ⟨15, _⟩ => ⟨S_, .i32⟩
  | .hbm, ⟨16, _⟩ => ⟨S2048, .i32⟩
  | .hbm, ⟨17, _⟩ => ⟨S2048, .i32⟩
  | .hbm, ⟨18, _⟩ => ⟨S4x2063x1024, .f32⟩
  | .hbm, ⟨19, _⟩ => ⟨S4x2049x1024, .f32⟩
  | .hbm, ⟨20, _⟩ => ⟨S_, .f32⟩
  | .hbm, ⟨21, _⟩ => ⟨S_, .f32⟩
  | .hbm, ⟨22, _⟩ => ⟨S4x2048x1024, .f32⟩
  | .hbm, ⟨23, _⟩ => ⟨S_, .i32⟩
  | .hbm, ⟨24, _⟩ => ⟨S2048, .i32⟩
  | .hbm, ⟨25, _⟩ => ⟨S2048, .i32⟩
  | .hbm, ⟨26, _⟩ => ⟨S_, .i32⟩
  | .hbm, ⟨27, _⟩ => ⟨S2048, .i32⟩
  | .hbm, ⟨28, _⟩ => ⟨S2048, .i32⟩
  | .hbm, ⟨29, _⟩ => ⟨S2048, .f32⟩
  | .hbm, ⟨30, _⟩ => ⟨S1x2048x1, .f32⟩
  | .hbm, ⟨31, _⟩ => ⟨S4x2048x1024, .f32⟩
  | .hbm, ⟨32, _⟩ => ⟨S4x2048x1024, .f32⟩
  | .hbm, ⟨33, _⟩ => ⟨S4x2063x1024, .f32⟩
  | .hbm, ⟨34, _⟩ => ⟨S4x2051x1024, .f32⟩
  | .hbm, ⟨35, _⟩ => ⟨S_, .f32⟩
  | .hbm, ⟨36, _⟩ => ⟨S_, .f32⟩
  | .hbm, ⟨37, _⟩ => ⟨S4x2048x1024, .f32⟩
  | .hbm, ⟨38, _⟩ => ⟨S_, .i32⟩
  | .hbm, ⟨39, _⟩ => ⟨S2048, .i32⟩
  | .hbm, ⟨40, _⟩ => ⟨S2048, .i32⟩
  | .hbm, ⟨41, _⟩ => ⟨S_, .i32⟩
  | .hbm, ⟨42, _⟩ => ⟨S2048, .i32⟩
  | .hbm, ⟨43, _⟩ => ⟨S2048, .i32⟩
  | .hbm, ⟨44, _⟩ => ⟨S2048, .f32⟩
  | .hbm, ⟨45, _⟩ => ⟨S1x2048x1, .f32⟩
  | .hbm, ⟨46, _⟩ => ⟨S4x2048x1024, .f32⟩
  | .hbm, ⟨47, _⟩ => ⟨S4x2048x1024, .f32⟩
  | .hbm, ⟨48, _⟩ => ⟨S4x2063x1024, .f32⟩
  | .hbm, ⟨49, _⟩ => ⟨S4x2055x1024, .f32⟩
  | .hbm, ⟨50, _⟩ => ⟨S_, .f32⟩
  | .hbm, ⟨51, _⟩ => ⟨S_, .f32⟩
  | .hbm, ⟨52, _⟩ => ⟨S4x2048x1024, .f32⟩
  | .hbm, ⟨53, _⟩ => ⟨S_, .i32⟩
  | .hbm, ⟨54, _⟩ => ⟨S2048, .i32⟩
  | .hbm, ⟨55, _⟩ => ⟨S2048, .i32⟩
  | .hbm, ⟨56, _⟩ => ⟨S_, .i32⟩
  | .hbm, ⟨57, _⟩ => ⟨S2048, .i32⟩
  | .hbm, ⟨58, _⟩ => ⟨S2048, .i32⟩
  | .hbm, ⟨59, _⟩ => ⟨S2048, .f32⟩
  | .hbm, ⟨60, _⟩ => ⟨S1x2048x1, .f32⟩
  | .hbm, ⟨61, _⟩ => ⟨S4x2048x1024, .f32⟩
  | .hbm, ⟨62, _⟩ => ⟨S4x2048x1024, .f32⟩
  | .hbm, ⟨63, _⟩ => ⟨S4x2063x1024, .f32⟩
  | .hbm, ⟨64, _⟩ => ⟨S_, .f32⟩
  | .hbm, ⟨65, _⟩ => ⟨S_, .f32⟩
  | .hbm, ⟨66, _⟩ => ⟨S4x2048x1024, .f32⟩
  | .hbm, ⟨67, _⟩ => ⟨S_, .i32⟩
  | .hbm, ⟨68, _⟩ => ⟨S2048, .i32⟩
  | .hbm, ⟨69, _⟩ => ⟨S2048, .i32⟩
  | .hbm, ⟨70, _⟩ => ⟨S_, .i32⟩
  | .hbm, ⟨71, _⟩ => ⟨S2048, .i32⟩
  | .hbm, ⟨72, _⟩ => ⟨S2048, .i32⟩
  | .hbm, ⟨73, _⟩ => ⟨S2048, .f32⟩
  | .hbm, ⟨74, _⟩ => ⟨S1x2048x1, .f32⟩
  | .hbm, ⟨75, _⟩ => ⟨S4x2048x1024, .f32⟩
  | .hbm, ⟨76, _⟩ => ⟨S4x2048x1024, .f32⟩
  | .hbm, ⟨77, _⟩ => ⟨S4x2048x4096, .f32⟩
  | .hbm, ⟨78, _⟩ => ⟨S4x2048x4096, .f32⟩
  | .hbm, ⟨79, _⟩ => ⟨S4x2048x4096, .f32⟩
  | .hbm, ⟨80, _⟩ => ⟨S4x2048x4x1024, .f32⟩
  | .hbm, ⟨81, _⟩ => ⟨S4x1024x4x2048, .f32⟩
  | .hbm, ⟨82, _⟩ => ⟨S4x2048x4x1024, .f32⟩
  | .hbm, ⟨83, _⟩ => ⟨S4x2048x4096, .f32⟩
  | .hbm, ⟨84, _⟩ => ⟨S1x1x4096, .f32⟩
  | .hbm, ⟨85, _⟩ => ⟨S4x2048x4096, .f32⟩
  | .hbm, ⟨86, _⟩ => ⟨S4x2048x4096, .f32⟩
  | .hbm, ⟨87, _⟩ => ⟨S4x2048x4096, .f32⟩
  | .hbm, ⟨88, _⟩ => ⟨S4x2048x4096, .f32⟩
  | .hbm, ⟨89, _⟩ => ⟨S_, .f32⟩
  | .hbm, ⟨90, _⟩ => ⟨S4x2048x4096, .f32⟩
  | .hbm, ⟨91, _⟩ => ⟨S4x2048x4096, .f32⟩
  | .hbm, ⟨92, _⟩ => ⟨S_, .f32⟩
  | .hbm, ⟨93, _⟩ => ⟨S4x2048x4096, .f32⟩
  | .hbm, ⟨94, _⟩ => ⟨S4x2048x4096, .f32⟩
  | .hbm, ⟨95, _⟩ => ⟨S4x2048x4096, .f32⟩
  | .hbm, ⟨96, _⟩ => ⟨S4x2048x4096, .f32⟩
  | .hbm, ⟨97, _⟩ => ⟨S4x15x4096, .f32⟩
  | .hbm, ⟨98, _⟩ => ⟨S8192x4096, .f32⟩
  | .hbm, ⟨99, _⟩ => ⟨S8192x4096, .bf16⟩
  | _, _ => ⟨S9216x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_c_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_c_4 : Ref sig .tc := ⟨.hbm, 38, rfl⟩
abbrev main_v29 : Ref sig .tc := ⟨.hbm, 39, rfl⟩
abbrev main_v30 : Ref sig .tc := ⟨.hbm, 40, rfl⟩
abbrev main_c_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_6 : Ref sig .tc := ⟨.hbm, 50, rfl⟩
abbrev main_v39 : Ref sig .tc := ⟨.hbm, 51, rfl⟩
abbrev main_v40 : Ref sig .tc := ⟨.hbm, 52, rfl⟩
abbrev main_c_7 : Ref sig .tc := ⟨.hbm, 53, rfl⟩
abbrev main_v41 : Ref sig .tc := ⟨.hbm, 54, rfl⟩
abbrev main_v42 : Ref sig .tc := ⟨.hbm, 55, rfl⟩
abbrev main_c_8 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_9 : Ref sig .tc := ⟨.hbm, 64, rfl⟩
abbrev main_v50 : Ref sig .tc := ⟨.hbm, 65, rfl⟩
abbrev main_v51 : Ref sig .tc := ⟨.hbm, 66, rfl⟩
abbrev main_c_10 : Ref sig .tc := ⟨.hbm, 67, rfl⟩
abbrev main_v52 : Ref sig .tc := ⟨.hbm, 68, rfl⟩
abbrev main_v53 : Ref sig .tc := ⟨.hbm, 69, rfl⟩
abbrev main_c_11 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_12 : Ref sig .tc := ⟨.hbm, 89, rfl⟩
abbrev main_v72 : Ref sig .tc := ⟨.hbm, 90, rfl⟩
abbrev main_v73 : Ref sig .tc := ⟨.hbm, 91, rfl⟩
abbrev main_cst_13 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩

abbrev nD : Nat := 1
abbrev τ : Topo := Topo.v7x

variable {F : FTy → Type} [FloatOps F]
-- ==== PoolS.lean ====
abbrev S9216x8192 : Shape := ⟨2, ![9216, 8192]⟩
abbrev S2x128x15x4096 : Shape := ⟨4, ![2, 128, 15, 4096]⟩
abbrev S2x15x128x4096 : Shape := ⟨4, ![2, 15, 128, 4096]⟩
abbrev S2x4x1024x1024 : Shape := ⟨4, ![2, 4, 1024, 1024]⟩
abbrev S2x4096 : Shape := ⟨2, ![2, 4096]⟩
abbrev S2x1x4096 : Shape := ⟨3, ![2, 1, 4096]⟩
abbrev S1024x4096 : Shape := ⟨2, ![1024, 4096]⟩
abbrev S128x1024 : Shape := ⟨2, ![128, 1024]⟩
abbrev S1x15x16x1024 : Shape := ⟨4, ![1, 15, 16, 1024]⟩
abbrev S1x1x1024x1024 : Shape := ⟨4, ![1, 1, 1024, 1024]⟩
abbrev S1x1x1024 : Shape := ⟨3, ![1, 1, 1024]⟩
abbrev S16x24x1024 : Shape := ⟨3, ![16, 24, 1024]⟩
abbrev S16x8x1024 : Shape := ⟨3, ![16, 8, 1024]⟩
abbrev S1x1x16x1024 : Shape := ⟨4, ![1, 1, 16, 1024]⟩
abbrev S16x1024 : Shape := ⟨2, ![16, 1024]⟩
abbrev S16x1x1024 : Shape := ⟨3, ![16, 1, 1024]⟩
abbrev S1x8x1 : Shape := ⟨3, ![1, 8, 1]⟩
abbrev S1024x1024 : Shape := ⟨2, ![1024, 1024]⟩
abbrev S1x1024 : Shape := ⟨2, ![1, 1024]⟩

abbrev nBuf : Space → Nat
  | .hbm => 10
  | .vmem => 15
  | .smem => 0
  | _ => 0

abbrev bufTy : (tb : Table) → Fin (tcTables nBuf tb) → BufTy
  | .hbm, ⟨0, _⟩ => ⟨S9216x8192, .f32⟩
  | .hbm, ⟨1, _⟩ => ⟨S2x128x15x4096, .f32⟩
  | .hbm, ⟨2, _⟩ => ⟨S2x15x128x4096, .f32⟩
  | .hbm, ⟨3, _⟩ => ⟨S2x4x1024x1024, .f32⟩
  | .hbm, ⟨4, _⟩ => ⟨S2x4096, .f32⟩
  | .hbm, ⟨5, _⟩ => ⟨S2x4x1024x1024, .bf16⟩
  | .hbm, ⟨6, _⟩ => ⟨S2x1x4096, .f32⟩
  | .hbm, ⟨7, _⟩ => ⟨S2x15x128x4096, .f32⟩
  | .hbm, ⟨8, _⟩ => ⟨S1024x4096, .bf16⟩
  | .hbm, ⟨9, _⟩ => ⟨S2x15x128x4096, .f32⟩
  | .local _ .vmem, ⟨0, _⟩ => ⟨S128x1024, .f32⟩
  | .local _ .vmem, ⟨1, _⟩ => ⟨S128x1024, .f32⟩
  | .local _ .vmem, ⟨2, _⟩ => ⟨S1x15x16x1024, .f32⟩
  | .local _ .vmem, ⟨3, _⟩ => ⟨S1x15x16x1024, .f32⟩
  | .local _ .vmem, ⟨4, _⟩ => ⟨S128x1024, .f32⟩
  | .local _ .vmem, ⟨5, _⟩ => ⟨S128x1024, .f32⟩
  | .local _ .vmem, ⟨6, _⟩ => ⟨S1x1x1024x1024, .bf16⟩
  | .local _ .vmem, ⟨7, _⟩ => ⟨S1x1x1024x1024, .bf16⟩
  | .local _ .vmem, ⟨8, _⟩ => ⟨S1x1x1024, .f32⟩
  | .local _ .vmem, ⟨9, _⟩ => ⟨S1x1x1024, .f32⟩
  | .local _ .vmem, ⟨10, _⟩ => ⟨S128x1024, .bf16⟩
  | .local _ .vmem, ⟨11, _⟩ => ⟨S128x1024, .bf16⟩
  | .local _ .vmem, ⟨12, _⟩ => ⟨S1x15x16x1024, .f32⟩
  | .local _ .vmem, ⟨13, _⟩ => ⟨S1x15x16x1024, .f32⟩
  | .local _ .vmem, ⟨14, _⟩ => ⟨S16x24x1024, .f32⟩
  | _, _ => ⟨S9216x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg0 : BitVec 32 := BitVec.ofNat 32 (i 0).val
  let c0_i32 : BitVec 32 := 0#32
  let v87 : BitVec 1 := Scalar.cmpi .eq arg0 c0_i32
  let v88 : BitVec 32 := Scalar.extui v87
  let c0_i32_96 : BitVec 32 := 0#32
  let v89 : BitVec 1 := Scalar.cmpi .ne v88 c0_i32_96
  v89

def k0_cond2 (i : grid0.Coords) : BitVec 1 :=
  let arg0 : BitVec 32 := BitVec.ofNat 32 (i 0).val
  let c1_i32 : BitVec 32 := 1#32
  let v90 : BitVec 1 := Scalar.cmpi .eq arg0 c1_i32
  let v91 : BitVec 32 := Scalar.extui v90
  let c0_i32_97 : BitVec 32 := 0#32
  let v92 : BitVec 1 := Scalar.cmpi .ne v91 c0_i32_97
  v92

def k0_cond3 (i : grid0.Coords) : BitVec 1 :=
  let arg0 : BitVec 32 := BitVec.ofNat 32 (i 0).val
  let c2_i32 : BitVec 32 := 2#32
  let v93 : BitVec 1 := Scalar.cmpi .eq arg0 c2_i32
  let v94 : BitVec 32 := Scalar.extui v93
  let c0_i32_98 : BitVec 32 := 0#32
  let v95 : BitVec 1 := Scalar.cmpi .ne v94 c0_i32_98
  v95

def k0_cond4 (i : grid0.Coords) : BitVec 1 :=
  let arg0 : BitVec 32 := BitVec.ofNat 32 (i 0).val
  let c3_i32 : BitVec 32 := 3#32
  let v96 : BitVec 1 := Scalar.cmpi .eq arg0 c3_i32
  let v97 : BitVec 32 := Scalar.extui v96
  let c0_i32_99 : BitVec 32 := 0#32
  let v98 : BitVec 1 := Scalar.cmpi .ne v97 c0_i32_99
  v98

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg1
  let c0_i32 : BitVec 32 := 0#32
  ![v0.toNat, arg0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat, arg0.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg1
  let c4_i32 : BitVec 32 := 4#32
  let v1 : BitVec 32 := Scalar.addi c4_i32 arg0
  let c0_i32 : BitVec 32 := 0#32
  ![v0.toNat, v1.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat, arg0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x15x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x15x16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== PoolSRefIdeal.lean ====
abbrev S9216x8192 : Shape := ⟨2, ![9216, 8192]⟩
abbrev S2x128x15x4096 : Shape := ⟨4, ![2, 128, 15, 4096]⟩
abbrev S2x15x128x4096 : Shape := ⟨4, ![2, 15, 128, 4096]⟩
abbrev S2x4x1024x1024 : Shape := ⟨4, ![2, 4, 1024, 1024]⟩
abbrev S2x4096 : Shape := ⟨2, ![2, 4096]⟩
abbrev S1024x4096 : Shape := ⟨2, ![1024, 4096]⟩
abbrev S128x8x4096 : Shape := ⟨3, ![128, 8, 4096]⟩
abbrev S1x128x15x4096 : Shape := ⟨4, ![1, 128, 15, 4096]⟩
abbrev S128x15x4096 : Shape := ⟨3, ![128, 15, 4096]⟩
abbrev S1x4x1024x1024 : Shape := ⟨4, ![1, 4, 1024, 1024]⟩
abbrev S4x1024x1024 : Shape := ⟨3, ![4, 1024, 1024]⟩
abbrev S1x4096 : Shape := ⟨2, ![1, 4096]⟩
abbrev S4096 : Shape := ⟨1, ![4096]⟩
abbrev S128x23x4096 : Shape := ⟨3, ![128, 23, 4096]⟩
abbrev S8 : Shape := ⟨1, ![8]⟩
abbrev S_ : Shape := ⟨0, ![]⟩
abbrev S128x23x1024 : Shape := ⟨3, ![128, 23, 1024]⟩
abbrev S128x9x1024 : Shape := ⟨3, ![128, 9, 1024]⟩
abbrev S128x8x1024 : Shape := ⟨3, ![128, 8, 1024]⟩
abbrev S1x8x1 : Shape := ⟨3, ![1, 8, 1]⟩
abbrev S128x11x1024 : Shape := ⟨3, ![128, 11, 1024]⟩
abbrev S128x15x1024 : Shape := ⟨3, ![128, 15, 1024]⟩
abbrev S128x8x4x1024 : Shape := ⟨4, ![128, 8, 4, 1024]⟩
abbrev S4x1024x128x8 : Shape := ⟨4, ![4, 1024, 128, 8]⟩
abbrev S1x1x4096 : Shape := ⟨3, ![1, 1, 4096]⟩
abbrev S1x15x128x4096 : Shape := ⟨4, ![1, 15, 128, 4096]⟩
abbrev S15x128x4096 : Shape := ⟨3, ![15, 128, 4096]⟩

abbrev nBuf : Space → Nat
  | .hbm => 108
  | .vmem => 0
  | .smem => 0
  | _ => 0

abbrev bufTy : (tb : Table) → Fin (tcTables nBuf tb) → BufTy
  | .hbm, ⟨0, _⟩ => ⟨S9216x8192, .f32⟩
  | .hbm, ⟨1, _⟩ => ⟨S2x128x15x4096, .f32⟩
  | .hbm, ⟨2, _⟩ => ⟨S2x15x128x4096, .f32⟩
  | .hbm, ⟨3, _⟩ => ⟨S2x4x1024x1024, .f32⟩
  | .hbm, ⟨4, _⟩ => ⟨S2x4096, .f32⟩
  | .hbm, ⟨5, _⟩ => ⟨S1024x4096, .f32⟩
  | .hbm, ⟨6, _⟩ => ⟨S128x8x4096, .f32⟩
  | .hbm, ⟨7, _⟩ => ⟨S1024x4096, .f32⟩
  | .hbm, ⟨8, _⟩ => ⟨S128x8x4096, .f32⟩
  | .hbm, ⟨9, _⟩ => ⟨S1x128x15x4096, .f32⟩
  | .hbm, ⟨10, _⟩ => ⟨S128x15x4096, .f32⟩
  | .hbm, ⟨11, _⟩ => ⟨S1x4x1024x1024, .f32⟩
  | .hbm, ⟨12, _⟩ => ⟨S4x1024x1024, .f32⟩
  | .hbm, ⟨13, _⟩ => ⟨S1x4096, .f32⟩
  | .hbm, ⟨14, _⟩ => ⟨S4096, .f32⟩
  | .hbm, ⟨15, _⟩ => ⟨S128x23x4096, .f32⟩
  | .hbm, ⟨16, _⟩ => ⟨S8, .i32⟩
  | .hbm, ⟨17, _⟩ => ⟨S_, .i32⟩
  | .hbm, ⟨18, _⟩ => ⟨S8, .i32⟩
  | .hbm, ⟨19, _⟩ => ⟨S8, .i32⟩
  | .hbm, ⟨20, _⟩ => ⟨S128x23x1024, .f32⟩
  | .hbm, ⟨21, _⟩ => ⟨S128x9x1024, .f32⟩
  | .hbm, ⟨22, _⟩ => ⟨S_, .f32⟩
  | .hbm, ⟨23, _⟩ => ⟨S_, .f32⟩
  | .hbm, ⟨24, _⟩ => ⟨S128x8x1024, .f32⟩
  | .hbm, ⟨25, _⟩ => ⟨S_, .i32⟩
  | .hbm, ⟨26, _⟩ => ⟨S8, .i32⟩
  | .hbm, ⟨27, _⟩ => ⟨S8, .i32⟩
  | .hbm, ⟨28, _⟩ => ⟨S_, .i32⟩
  | .hbm, ⟨29, _⟩ => ⟨S8, .i32⟩
  | .hbm, ⟨30, _⟩ => ⟨S8, .i32⟩
  | .hbm, ⟨31, _⟩ => ⟨S8, .f32⟩
  | .hbm, ⟨32, _⟩ => ⟨S1x8x1, .f32⟩
  | .hbm, ⟨33, _⟩ => ⟨S128x8x1024, .f32⟩
  | .hbm, ⟨34, _⟩ => ⟨S128x8x1024, .f32⟩
  | .hbm, ⟨35, _⟩ => ⟨S128x23x1024, .f32⟩
  | .hbm, ⟨36, _⟩ => ⟨S128x11x1024, .f32⟩
  | .hbm, ⟨37, _⟩ => ⟨S_, .f32⟩
  | .hbm, ⟨38, _⟩ => ⟨S_, .f32⟩
  | .hbm, ⟨39, _⟩ => ⟨S128x8x1024, .f32⟩
  | .hbm, ⟨40, _⟩ => ⟨S_, .i32⟩
  | .hbm, ⟨41, _⟩ => ⟨S8, .i32⟩
  | .hbm, ⟨42, _⟩ => ⟨S8, .i32⟩
  | .hbm, ⟨43, _⟩ => ⟨S_, .i32⟩
  | .hbm, ⟨44, _⟩ => ⟨S8, .i32⟩
  | .hbm, ⟨45, _⟩ => ⟨S8, .i32⟩
  | .hbm, ⟨46, _⟩ => ⟨S8, .f32⟩
  | .hbm, ⟨47, _⟩ => ⟨S1x8x1, .f32⟩
  | .hbm, ⟨48, _⟩ => ⟨S128x8x1024, .f32⟩
  | .hbm, ⟨49, _⟩ => ⟨S128x8x1024, .f32⟩
  | .hbm, ⟨50, _⟩ => ⟨S128x23x1024, .f32⟩
  | .hbm, ⟨51, _⟩ => ⟨S128x15x1024, .f32⟩
  | .hbm, ⟨52, _⟩ => ⟨S_, .f32⟩
  | .hbm, ⟨53, _⟩ => ⟨S_, .f32⟩
  | .hbm, ⟨54, _⟩ => ⟨S128x8x1024, .f32⟩
  | .hbm, ⟨55, _⟩ => ⟨S_, .i32⟩
  | .hbm, ⟨56, _⟩ => ⟨S8, .i32⟩
  | .hbm, ⟨57, _⟩ => ⟨S8, .i32⟩
  | .hbm, ⟨58, _⟩ => ⟨S_, .i32⟩
  | .hbm, ⟨59, _⟩ => ⟨S8, .i32⟩
  | .hbm, ⟨60, _⟩ => ⟨S8, .i32⟩
  | .hbm, ⟨61, _⟩ => ⟨S8, .f32⟩
  | .hbm, ⟨62, _⟩ => ⟨S1x8x1, .f32⟩
  | .hbm, ⟨63, _⟩ => ⟨S128x8x1024, .f32⟩
  | .hbm, ⟨64, _⟩ => ⟨S128x8x1024, .f32⟩
  | .hbm, ⟨65, _⟩ => ⟨S128x23x1024, .f32⟩
  | .hbm, ⟨66, _⟩ => ⟨S_, .f32⟩
  | .hbm, ⟨67, _⟩ => ⟨S_, .f32⟩
  | .hbm, ⟨68, _⟩ => ⟨S128x8x1024, .f32⟩
  | .hbm, ⟨69, _⟩ => ⟨S_, .i32⟩
  | .hbm, ⟨70, _⟩ => ⟨S8, .i32⟩
  | .hbm, ⟨71, _⟩ => ⟨S8, .i32⟩
  | .hbm, ⟨72, _⟩ => ⟨S_, .i32⟩
  | .hbm, ⟨73, _⟩ => ⟨S8, .i32⟩
  | .hbm, ⟨74, _⟩ => ⟨S8, .i32⟩
  | .hbm, ⟨75, _⟩ => ⟨S8, .f32⟩
  | .hbm, ⟨76, _⟩ => ⟨S1x8x1, .f32⟩
  | .hbm, ⟨77, _⟩ => ⟨S128x8x1024, .f32⟩
  | .hbm, ⟨78, _⟩ => ⟨S128x8x1024, .f32⟩
  | .hbm, ⟨79, _⟩ => ⟨S128x8x4096, .f32⟩
  | .hbm, ⟨80, _⟩ => ⟨S128x8x4096, .f32⟩
  | .hbm, ⟨81, _⟩ => ⟨S128x8x4096, .f32⟩
  | .hbm, ⟨82, _⟩ => ⟨S128x8x4x1024, .f32⟩
  | .hbm, ⟨83, _⟩ => ⟨S4x1024x128x8, .f32⟩
  | .hbm, ⟨84, _⟩ => ⟨S128x8x4x1024, .f32⟩
  | .hbm, ⟨85, _⟩ => ⟨S128x8x4096, .f32⟩
  | .hbm, ⟨86, _⟩ => ⟨S1x1x4096, .f32⟩
  | .hbm, ⟨87, _⟩ => ⟨S128x8x4096, .f32⟩
  | .hbm, ⟨88, _⟩ => ⟨S128x8x4096, .f32⟩
  | .hbm, ⟨89, _⟩ => ⟨S128x8x4096, .f32⟩
  | .hbm, ⟨90, _⟩ => ⟨S128x8x4096, .f32⟩
  | .hbm, ⟨91, _⟩ => ⟨S_, .f32⟩
  | .hbm, ⟨92, _⟩ => ⟨S128x8x4096, .f32⟩
  | .hbm, ⟨93, _⟩ => ⟨S128x8x4096, .f32⟩
  | .hbm, ⟨94, _⟩ => ⟨S_, .f32⟩
  | .hbm, ⟨95, _⟩ => ⟨S128x8x4096, .f32⟩
  | .hbm, ⟨96, _⟩ => ⟨S128x8x4096, .f32⟩
  | .hbm, ⟨97, _⟩ => ⟨S128x8x4096, .f32⟩
  | .hbm, ⟨98, _⟩ => ⟨S128x8x4096, .f32⟩
  | .hbm, ⟨99, _⟩ => ⟨S128x15x4096, .f32⟩
  | .hbm, ⟨100, _⟩ => ⟨S1024x4096, .f32⟩
  | .hbm, ⟨101, _⟩ => ⟨S1024x4096, .bf16⟩
  | .hbm, ⟨102, _⟩ => ⟨S1x15x128x4096, .f32⟩
  | .hbm, ⟨103, _⟩ => ⟨S15x128x4096, .f32⟩
  | .hbm, ⟨104, _⟩ => ⟨S15x128x4096, .f32⟩
  | .hbm, ⟨105, _⟩ => ⟨S1x15x128x4096, .f32⟩
  | .hbm, ⟨106, _⟩ => ⟨S1x15x128x4096, .f32⟩
  | .hbm, ⟨107, _⟩ => ⟨S2x15x128x4096, .f32⟩
  | _, _ => ⟨S9216x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_c_0 : Ref sig .tc := ⟨.hbm, 25, rfl⟩
abbrev main_v18 : Ref sig .tc := ⟨.hbm, 26, rfl⟩
abbrev main_v19 : Ref sig .tc := ⟨.hbm, 27, rfl⟩
abbrev main_c_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_c_3 : Ref sig .tc := ⟨.hbm, 40, rfl⟩
abbrev main_v30 : Ref sig .tc := ⟨.hbm, 41, rfl⟩
abbrev main_v31 : Ref sig .tc := ⟨.hbm, 42, rfl⟩
abbrev main_c_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_5 : Ref sig .tc := ⟨.hbm, 52, rfl⟩
abbrev main_v40 : Ref sig .tc := ⟨.hbm, 53, rfl⟩
abbrev main_v41 : Ref sig .tc := ⟨.hbm, 54, rfl⟩
abbrev main_c_6 : Ref sig .tc := ⟨.hbm, 55, rfl⟩
abbrev main_v42 : Ref sig .tc := ⟨.hbm, 56, rfl⟩
abbrev main_v43 : Ref sig .tc := ⟨.hbm, 57, rfl⟩
abbrev main_c_7 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_8 : Ref sig .tc := ⟨.hbm, 66, rfl⟩
abbrev main_v51 : Ref sig .tc := ⟨.hbm, 67, rfl⟩
abbrev main_v52 : Ref sig .tc := ⟨.hbm, 68, rfl⟩
abbrev main_c_9 : Ref sig .tc := ⟨.hbm, 69, rfl⟩
abbrev main_v53 : Ref sig .tc := ⟨.hbm, 70, rfl⟩
abbrev main_v54 : Ref sig .tc := ⟨.hbm, 71, rfl⟩
abbrev main_c_10 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_11 : Ref sig .tc := ⟨.hbm, 91, rfl⟩
abbrev main_v73 : Ref sig .tc := ⟨.hbm, 92, rfl⟩
abbrev main_v74 : Ref sig .tc := ⟨.hbm, 93, rfl⟩
abbrev main_cst_12 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩

abbrev nD : Nat := 1
abbrev τ : Topo := Topo.v7x

variable {F : FTy → Type} [FloatOps F]
-- ==== NormP.lean ====
abbrev S9216x2048 : Shape := ⟨2, ![9216, 2048]⟩
abbrev S2048 : Shape := ⟨1, ![2048]⟩
abbrev S1x2048 : Shape := ⟨2, ![1, 2048]⟩
abbrev S8192x2048 : Shape := ⟨2, ![8192, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S1x2048, .f32⟩
  | .hbm, ⟨3, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormPRefIdeal.lean ====
abbrev S9216x2048 : Shape := ⟨2, ![9216, 2048]⟩
abbrev S2048 : Shape := ⟨1, ![2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NormS.lean ====
abbrev S9216x2048 : Shape := ⟨2, ![9216, 2048]⟩
abbrev S2048 : Shape := ⟨1, ![2048]⟩
abbrev S1x2048 : Shape := ⟨2, ![1, 2048]⟩
abbrev S1024x2048 : Shape := ⟨2, ![1024, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S1x2048, .f32⟩
  | .hbm, ⟨3, _⟩ => ⟨S1024x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormSRefIdeal.lean ====
abbrev S9216x2048 : Shape := ⟨2, ![9216, 2048]⟩
abbrev S2048 : Shape := ⟨1, ![2048]⟩
abbrev S1024x2048 : Shape := ⟨2, ![1024, 2048]⟩
abbrev S_ : Shape := ⟨0, ![]⟩
abbrev S1024 : Shape := ⟨1, ![1024]⟩
abbrev S1024x1 : Shape := ⟨2, ![1024, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S1024x2048, .f32⟩
  | .hbm, ⟨3, _⟩ => ⟨S1024x2048, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S1024x1, .f32⟩
  | .hbm, ⟨14, _⟩ => ⟨S1024x2048, .f32⟩
  | .hbm, ⟨15, _⟩ => ⟨S1024x2048, .f32⟩
  | .hbm, ⟨16, _⟩ => ⟨S1x2048, .f32⟩
  | .hbm, ⟨17, _⟩ => ⟨S1024x2048, .f32⟩
  | .hbm, ⟨18, _⟩ => ⟨S1024x2048, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NormZ.lean ====
abbrev S4x2048x2048 : Shape := ⟨3, ![4, 2048, 2048]⟩
abbrev S128x8x2048 : Shape := ⟨3, ![128, 8, 2048]⟩
abbrev S4x2048 : Shape := ⟨2, ![4, 2048]⟩
abbrev S8192x2048 : Shape := ⟨2, ![8192, 2048]⟩
abbrev S1024x2048 : Shape := ⟨2, ![1024, 2048]⟩
abbrev S1x2048 : Shape := ⟨2, ![1, 2048]⟩
abbrev S2048 : Shape := ⟨1, ![2048]⟩
abbrev S9216x2048 : Shape := ⟨2, ![9216, 2048]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 7
  | .smem => 0
  | _ => 0

abbrev bufTy : (tb : Table) → Fin (tcTables nBuf tb) → BufTy
  | .hbm, ⟨0, _⟩ => ⟨S4x2048x2048, .f32⟩
  | .hbm, ⟨1, _⟩ => ⟨S128x8x2048, .f32⟩
  | .hbm, ⟨2, _⟩ => ⟨S4x2048, .f32⟩
  | .hbm, ⟨3, _⟩ => ⟨S8192x2048, .f32⟩
  | .hbm, ⟨4, _⟩ => ⟨S1024x2048, .f32⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S9216x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![18], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c16_i32_0 : BitVec 32 := 16#32
  let v3 : BitVec 1 := Scalar.cmpi .sge arg0 c16_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormZRefIdeal.lean ====
abbrev S4x2048x2048 : Shape := ⟨3, ![4, 2048, 2048]⟩
abbrev S128x8x2048 : Shape := ⟨3, ![128, 8, 2048]⟩
abbrev S4x2048 : Shape := ⟨2, ![4, 2048]⟩
abbrev S8192x2048 : Shape := ⟨2, ![8192, 2048]⟩
abbrev S1024x2048 : Shape := ⟨2, ![1024, 2048]⟩
abbrev S9216x2048 : Shape := ⟨2, ![9216, 2048]⟩
abbrev S_ : Shape := ⟨0, ![]⟩
abbrev S9216 : Shape := ⟨1, ![9216]⟩
abbrev S9216x1 : Shape := ⟨2, ![9216, 1]⟩
abbrev S1x2048 : Shape := ⟨2, ![1, 2048]⟩
abbrev S2048 : Shape := ⟨1, ![2048]⟩

abbrev nBuf : Space → Nat
  | .hbm => 25
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S128x8x2048, .f32⟩
  | .hbm, ⟨2, _⟩ => ⟨S4x2048, .f32⟩
  | .hbm, ⟨3, _⟩ => ⟨S8192x2048, .f32⟩
  | .hbm, ⟨4, _⟩ => ⟨S1024x2048, .f32⟩
  | .hbm, ⟨5, _⟩ => ⟨S9216x2048, .f32⟩
  | .hbm, ⟨6, _⟩ => ⟨S9216x2048, .f32⟩
  | .hbm, ⟨7, _⟩ => ⟨S_, .f32⟩
  | .hbm, ⟨8, _⟩ => ⟨S9216, .f32⟩
  | .hbm, ⟨9, _⟩ => ⟨S9216x1, .f32⟩
  | .hbm, ⟨10, _⟩ => ⟨S_, .f32⟩
  | .hbm, ⟨11, _⟩ => ⟨S9216x1, .f32⟩
  | .hbm, ⟨12, _⟩ => ⟨S9216x1, .f32⟩
  | .hbm, ⟨13, _⟩ => ⟨S_, .f32⟩
  | .hbm, ⟨14, _⟩ => ⟨S9216x1, .f32⟩
  | .hbm, ⟨15, _⟩ => ⟨S9216x1, .f32⟩
  | .hbm, ⟨16, _⟩ => ⟨S9216x1, .f32⟩
  | .hbm, ⟨17, _⟩ => ⟨S9216x2048, .f32⟩
  | .hbm, ⟨18, _⟩ => ⟨S9216x2048, .f32⟩
  | .hbm, ⟨19, _⟩ => ⟨S1x2048, .f32⟩
  | .hbm, ⟨20, _⟩ => ⟨S2048, .f32⟩
  | .hbm, ⟨21, _⟩ => ⟨S1x2048, .f32⟩
  | .hbm, ⟨22, _⟩ => ⟨S9216x2048, .f32⟩
  | .hbm, ⟨23, _⟩ => ⟨S9216x2048, .f32⟩
  | .hbm, ⟨24, _⟩ => ⟨S9216x2048, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Delta.lean ====
abbrev S9216x12288 : Shape := ⟨2, ![9216, 12288]⟩
abbrev S9216x128 : Shape := ⟨2, ![9216, 128]⟩
abbrev S2x4x8192 : Shape := ⟨3, ![2, 4, 8192]⟩
abbrev S2x128 : Shape := ⟨2, ![2, 128]⟩
abbrev S2x1x128 : Shape := ⟨3, ![2, 1, 128]⟩
abbrev S9216x32 : Shape := ⟨2, ![9216, 32]⟩
abbrev S8192x32 : Shape := ⟨2, ![8192, 32]⟩
abbrev S4x32x64x16x2 : Shape := ⟨5, ![4, 32, 64, 16, 2]⟩
abbrev S4x32x16x2x64 : Shape := ⟨5, ![4, 32, 16, 2, 64]⟩
abbrev S4x8x64x128 : Shape := ⟨4, ![4, 8, 64, 128]⟩
abbrev S8192x4096 : Shape := ⟨2, ![8192, 4096]⟩
abbrev S4x32x128x128 : Shape := ⟨4, ![4, 32, 128, 128]⟩
abbrev S4x3x2048 : Shape := ⟨3, ![4, 3, 2048]⟩
abbrev S4x3x4096 : Shape := ⟨3, ![4, 3, 4096]⟩
abbrev S256x1024 : Shape := ⟨2, ![256, 1024]⟩
abbrev S256x2048 : Shape := ⟨2, ![256, 2048]⟩
abbrev S256x128 : Shape := ⟨2, ![256, 128]⟩
abbrev S1x1x64x128 : Shape := ⟨4, ![1, 1, 64, 128]⟩
abbrev S1x4x1024 : Shape := ⟨3, ![1, 4, 1024]⟩
abbrev S1x4x2048 : Shape := ⟨3, ![1, 4, 2048]⟩
abbrev S1x1x128 : Shape := ⟨3, ![1, 1, 128]⟩
abbrev S1x16x128x128 : Shape := ⟨4, ![1, 16, 128, 128]⟩
abbrev S1x3x1024 : Shape := ⟨3, ![1, 3, 1024]⟩
abbrev S1x3x2048 : Shape := ⟨3, ![1, 3, 2048]⟩
abbrev S264x1024 : Shape := ⟨2, ![264, 1024]⟩
abbrev S264x2048 : Shape := ⟨2, ![264, 2048]⟩
abbrev S4x4x64x256 : Shape := ⟨4, ![4, 4, 64, 256]⟩
abbrev S8x1024 : Shape := ⟨2, ![8, 1024]⟩
abbrev S8x2048 : Shape := ⟨2, ![8, 2048]⟩
abbrev S1x1x1024 : Shape := ⟨3, ![1, 1, 1024]⟩
abbrev S1x1024 : Shape := ⟨2, ![1, 1024]⟩
abbrev S1x1x2048 : Shape := ⟨3, ![1, 1, 2048]⟩
abbrev S1x2048 : Shape := ⟨2, ![1, 2048]⟩
abbrev S256 : Shape := ⟨1, ![256]⟩
abbrev S256x1 : Shape := ⟨2, ![256, 1]⟩
abbrev S3x1024 : Shape := ⟨2, ![3, 1024]⟩
abbrev S3x2048 : Shape := ⟨2, ![3, 2048]⟩
abbrev S64x256 : Shape := ⟨2, ![64, 256]⟩
abbrev S1x256 : Shape := ⟨2, ![1, 256]⟩
abbrev S64x128 : Shape := ⟨2, ![64, 128]⟩
abbrev S128x256 : Shape := ⟨2, ![128, 256]⟩
abbrev S256x256 : Shape := ⟨2, ![256, 256]⟩
abbrev S1x1x1x128 : Shape := ⟨4, ![1, 1, 1, 128]⟩
abbrev S1x128 : Shape := ⟨2, ![1, 128]⟩
abbrev S64x1 : Shape := ⟨2, ![64, 1]⟩
abbrev S1x1x64x256 : Shape := ⟨4, ![1, 1, 64, 256]⟩
abbrev S128x128 : Shape := ⟨2, ![128, 128]⟩
abbrev S1x1x128x128 : Shape := ⟨4, ![1, 1, 128, 128]⟩
abbrev S1x1 : Shape := ⟨2, ![1, 1]⟩
abbrev S64 : Shape := ⟨1, ![64]⟩

abbrev nBuf : Space → Nat
  | .hbm => 15
  | .vmem => 38
  | .smem => 0
  | _ => 0

abbrev bufTy : (tb : Table) → Fin (tcTables nBuf tb) → BufTy
  | .hbm, ⟨0, _⟩ => ⟨S9216x12288, .f32⟩
  | .hbm, ⟨1, _⟩ => ⟨S9216x128, .f32⟩
  | .hbm, ⟨2, _⟩ => ⟨S2x4x8192, .f32⟩
  | .hbm, ⟨3, _⟩ => ⟨S2x128, .f32⟩
  | .hbm, ⟨4, _⟩ => ⟨S2x1x128, .f32⟩
  | .hbm, ⟨5, _⟩ => ⟨S9216x32, .f32⟩
  | .hbm, ⟨6, _⟩ => ⟨S8192x32, .f32⟩
  | .hbm, ⟨7, _⟩ => ⟨S4x32x64x16x2, .f32⟩
  | .hbm, ⟨8, _⟩ => ⟨S4x32x16x2x64, .f32⟩
  | .hbm, ⟨9, _⟩ => ⟨S4x8x64x128, .f32⟩
  | .hbm, ⟨10, _⟩ => ⟨S8192x4096, .bf16⟩
  | .hbm, ⟨11, _⟩ => ⟨S4x32x128x128, .f32⟩
  | .hbm, ⟨12, _⟩ => ⟨S4x3x2048, .f32⟩
  | .hbm, ⟨13, _⟩ => ⟨S4x3x2048, .f32⟩
  | .hbm, ⟨14, _⟩ => ⟨S4x3x4096, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x128, .f32⟩
  | .local _ .vmem, ⟨9, _⟩ => ⟨S256x128, .f32⟩
  | .local _ .vmem, ⟨10, _⟩ => ⟨S1x1x64x128, .f32⟩
  | .local _ .vmem, ⟨11, _⟩ => ⟨S1x1x64x128, .f32⟩
  | .local _ .vmem, ⟨12, _⟩ => ⟨S1x4x1024, .f32⟩
  | .local _ .vmem, ⟨13, _⟩ => ⟨S1x4x1024, .f32⟩
  | .local _ .vmem, ⟨14, _⟩ => ⟨S1x4x1024, .f32⟩
  | .local _ .vmem, ⟨15, _⟩ => ⟨S1x4x1024, .f32⟩
  | .local _ .vmem, ⟨16, _⟩ => ⟨S1x4x2048, .f32⟩
  | .local _ .vmem, ⟨17, _⟩ => ⟨S1x4x2048, .f32⟩
  | .local _ .vmem, ⟨18, _⟩ => ⟨S1x1x128, .f32⟩
  | .local _ .vmem, ⟨19, _⟩ => ⟨S256x2048, .bf16⟩
  | .local _ .vmem, ⟨20, _⟩ => ⟨S256x2048, .bf16⟩
  | .local _ .vmem, ⟨21, _⟩ => ⟨S1x16x128x128, .f32⟩
  | .local _ .vmem, ⟨22, _⟩ => ⟨S1x16x128x128, .f32⟩
  | .local _ .vmem, ⟨23, _⟩ => ⟨S1x3x1024, .f32⟩
  | .local _ .vmem, ⟨24, _⟩ => ⟨S1x3x1024, .f32⟩
  | .local _ .vmem, ⟨25, _⟩ => ⟨S1x3x1024, .f32⟩
  | .local _ .vmem, ⟨26, _⟩ => ⟨S1x3x1024, .f32⟩
  | .local _ .vmem, ⟨27, _⟩ => ⟨S1x3x2048, .f32⟩
  | .local _ .vmem, ⟨28, _⟩ => ⟨S1x3x2048, .f32⟩
  | .local _ .vmem, ⟨29, _⟩ => ⟨S264x1024, .f32⟩
  | .local _ .vmem, ⟨30, _⟩ => ⟨S264x1024, .f32⟩
  | .local _ .vmem, ⟨31, _⟩ => ⟨S264x2048, .f32⟩
  | .local _ .vmem, ⟨32, _⟩ => ⟨S256x1024, .bf16⟩
  | .local _ .vmem, ⟨33, _⟩ => ⟨S256x1024, .bf16⟩
  | .local _ .vmem, ⟨34, _⟩ => ⟨S256x2048, .f32⟩
  | .local _ .vmem, ⟨35, _⟩ => ⟨S256x128, .f32⟩
  | .local _ .vmem, ⟨36, _⟩ => ⟨S4x4x64x256, .bf16⟩
  | .local _ .vmem, ⟨37, _⟩ => ⟨S4x4x64x256, .bf16⟩
  | _, _ => ⟨S9216x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev main_v6_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_scratch3 : Ref sig .tc := ⟨.vmem, 32, rfl⟩
abbrev cc0_scratch4 : Ref sig .tc := ⟨.vmem, 33, rfl⟩
abbrev cc0_scratch5 : Ref sig .tc := ⟨.vmem, 34, rfl⟩
abbrev cc0_scratch6 : Ref sig .tc := ⟨.vmem, 35, rfl⟩
abbrev cc0_scratch7 : Ref sig .tc := ⟨.vmem, 36, rfl⟩
abbrev cc0_scratch8 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28

abbrev nD : Nat := 1
abbrev τ : Topo := Topo.v7x

variable {F : FTy → Type} [FloatOps F]

abbrev grid0 : Pipeline.Grid := ⟨3, ![4, 2, 8], ![false, false, false]⟩

def k0_off1 (i : grid0.Coords) (c0_i32_262 : BitVec 32) (c0_i32_263 : BitVec 32) : Fin 4 → Nat :=
  let c0_264 : Index := 0#32
  let c0_265 : Index := 0#32
  let c8_i32 : BitVec 32 := 8#32
  let arg1 : BitVec 32 := BitVec.ofNat 32 (i 1).val
  let v557 : BitVec 32 := Scalar.muli c8_i32 arg1
  let v558 : BitVec 32 := Scalar.addi c0_i32_262 v557
  let v559 : BitVec 32 := Scalar.addi v558 c0_i32_263
  let v560 : Index := Scalar.indexCast v559
  let c0_266 : Index := 0#32
  ![0, 0, v560.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c2_i32 : BitVec 32 := 2#32
  let v2 : BitVec 32 := Scalar.addi c2_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c2_i32 : BitVec 32 := 2#32
  let v2 : BitVec 32 := Scalar.addi c2_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c4_i32 : BitVec 32 := 4#32
  let v2 : BitVec 32 := Scalar.addi c4_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![v1.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c1_i32 : BitVec 32 := 1#32
  let c0_i32 : BitVec 32 := 0#32
  let c0_i32_0 : BitVec 32 := 0#32
  ![c1_i32.toNat, c0_i32.toNat, v0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c1_i32 : BitVec 32 := 1#32
  let c0_i32 : BitVec 32 := 0#32
  let c0_i32_0 : BitVec 32 := 0#32
  ![c1_i32.toNat, c0_i32.toNat, v0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x1x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x4x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x4x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x4x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 1 → Memref sig .tc .vmem S1x1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x16x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S1x3x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev stage0_13 : Fin 2 → Memref sig .tc .vmem S1x3x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]

abbrev stage0_14 : Fin 2 → Memref sig .tc .vmem S1x3x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, false]
-- ==== DeltaRefIdeal.lean ====
abbrev S9216x12288 : Shape := ⟨2, ![9216, 12288]⟩
abbrev S9216x128 : Shape := ⟨2, ![9216, 128]⟩
abbrev S2x4x8192 : Shape := ⟨3, ![2, 4, 8192]⟩
abbrev S2x128 : Shape := ⟨2, ![2, 128]⟩
abbrev S8192x8192 : Shape := ⟨2, ![8192, 8192]⟩
abbrev S4x2048x8192 : Shape := ⟨3, ![4, 2048, 8192]⟩
abbrev S_ : Shape := ⟨0, ![]⟩
abbrev S4x3x8192 : Shape := ⟨3, ![4, 3, 8192]⟩
abbrev S4x2051x8192 : Shape := ⟨3, ![4, 2051, 8192]⟩
abbrev S4x3x2048 : Shape := ⟨3, ![4, 3, 2048]⟩
abbrev S4x3x4096 : Shape := ⟨3, ![4, 3, 4096]⟩

abbrev nBuf : Space → Nat
  | .hbm => 13
  | .vmem => 0
  | .smem => 0
  | _ => 0

abbrev bufTy : (tb : Table) → Fin (tcTables nBuf tb) → BufTy
  | .hbm, ⟨0, _⟩ => ⟨S9216x12288, .f32⟩
  | .hbm, ⟨1, _⟩ => ⟨S9216x128, .f32⟩
  | .hbm, ⟨2, _⟩ => ⟨S2x4x8192, .f32⟩
  | .hbm, ⟨3, _⟩ => ⟨S2x128, .f32⟩
  | .hbm, ⟨4, _⟩ => ⟨S8192x8192, .f32⟩
  | .hbm, ⟨5, _⟩ => ⟨S4x2048x8192, .f32⟩
  | .hbm, ⟨6, _⟩ => ⟨S_, .f32⟩
  | .hbm, ⟨7, _⟩ => ⟨S4x3x8192, .f32⟩
  | .hbm, ⟨8, _⟩ => ⟨S4x2051x8192, .f32⟩
  | .hbm, ⟨9, _⟩ => ⟨S4x3x8192, .f32⟩
  | .hbm, ⟨10, _⟩ => ⟨S4x3x2048, .f32⟩
  | .hbm, ⟨11, _⟩ => ⟨S4x3x2048, .f32⟩
  | .hbm, ⟨12, _⟩ => ⟨S4x3x4096, .f32⟩
  | _, _ => ⟨S9216x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== DeltaS.lean ====
abbrev S9216x12288 : Shape := ⟨2, ![9216, 12288]⟩
abbrev S9216x128 : Shape := ⟨2, ![9216, 128]⟩
abbrev S2x128x3x8192 : Shape := ⟨4, ![2, 128, 3, 8192]⟩
abbrev S2x128x32x128x128 : Shape := ⟨5, ![2, 128, 32, 128, 128]⟩
abbrev S2x4x8192 : Shape := ⟨3, ![2, 4, 8192]⟩
abbrev S2x128 : Shape := ⟨2, ![2, 128]⟩
abbrev S2x1x128 : Shape := ⟨3, ![2, 1, 128]⟩
abbrev S1024x32 : Shape := ⟨2, ![1024, 32]⟩
abbrev S16x64x16x2 : Shape := ⟨4, ![16, 64, 16, 2]⟩
abbrev S16x16x2x64 : Shape := ⟨4, ![16, 16, 2, 64]⟩
abbrev S16x16x128 : Shape := ⟨3, ![16, 16, 128]⟩
abbrev S2x3x128x8192 : Shape := ⟨4, ![2, 3, 128, 8192]⟩
abbrev S1024x4096 : Shape := ⟨2, ![1024, 4096]⟩
abbrev S3x128x2048 : Shape := ⟨3, ![3, 128, 2048]⟩
abbrev S3x128x4096 : Shape := ⟨3, ![3, 128, 4096]⟩
abbrev S64x1024 : Shape := ⟨2, ![64, 1024]⟩
abbrev S64x2048 : Shape := ⟨2, ![64, 2048]⟩
abbrev S1x3x8x1024 : Shape := ⟨4, ![1, 3, 8, 1024]⟩
abbrev S1x3x8x2048 : Shape := ⟨4, ![1, 3, 8, 2048]⟩
abbrev S64x128 : Shape := ⟨2, ![64, 128]⟩
abbrev S1x16x128 : Shape := ⟨3, ![1, 16, 128]⟩
abbrev S1x4x1024 : Shape := ⟨3, ![1, 4, 1024]⟩
abbrev S1x4x2048 : Shape := ⟨3, ![1, 4, 2048]⟩
abbrev S1x1x128 : Shape := ⟨3, ![1, 1, 128]⟩
abbrev S1x8x16x128x128 : Shape := ⟨5, ![1, 8, 16, 128, 128]⟩
abbrev S3x8x1024 : Shape := ⟨3, ![3, 8, 1024]⟩
abbrev S3x8x2048 : Shape := ⟨3, ![3, 8, 2048]⟩
abbrev S8x16x1024 : Shape := ⟨3, ![8, 16, 1024]⟩
abbrev S8x16x2048 : Shape := ⟨3, ![8, 16, 2048]⟩
abbrev S8x8x1024 : Shape := ⟨3, ![8, 8, 1024]⟩
abbrev S1x1x8x1024 : Shape := ⟨4, ![1, 1, 8, 1024]⟩
abbrev S8x1024 : Shape := ⟨2, ![8, 1024]⟩
abbrev S8x1x1024 : Shape := ⟨3, ![8, 1, 1024]⟩
abbrev S1x8x1024 : Shape := ⟨3, ![1, 8, 1024]⟩
abbrev S1x1x1024 : Shape := ⟨3, ![1, 1, 1024]⟩
abbrev S1x1024 : Shape := ⟨2, ![1, 1024]⟩
abbrev S8x8x2048 : Shape := ⟨3, ![8, 8, 2048]⟩
abbrev S1x1x8x2048 : Shape := ⟨4, ![1, 1, 8, 2048]⟩
abbrev S8x2048 : Shape := ⟨2, ![8, 2048]⟩
abbrev S8x1x2048 : Shape := ⟨3, ![8, 1, 2048]⟩
abbrev S1x8x2048 : Shape := ⟨3, ![1, 8, 2048]⟩
abbrev S1x1x2048 : Shape := ⟨3, ![1, 1, 2048]⟩
abbrev S1x2048 : Shape := ⟨2, ![1, 2048]⟩
abbrev S1x256 : Shape := ⟨2, ![1, 256]⟩
abbrev S64x256 : Shape := ⟨2, ![64, 256]⟩
abbrev S64 : Shape := ⟨1, ![64]⟩
abbrev S64x1 : Shape := ⟨2, ![64, 1]⟩
abbrev S128x256 : Shape := ⟨2, ![128, 256]⟩
abbrev S256x256 : Shape := ⟨2, ![256, 256]⟩
abbrev S1x128 : Shape := ⟨2, ![1, 128]⟩
abbrev S8x128 : Shape := ⟨2, ![8, 128]⟩
abbrev S16x128 : Shape := ⟨2, ![16, 128]⟩
abbrev S1x1x1x128x128 : Shape := ⟨5, ![1, 1, 1, 128, 128]⟩
abbrev S128x128 : Shape := ⟨2, ![128, 128]⟩
abbrev S16x256 : Shape := ⟨2, ![16, 256]⟩
abbrev S8x256 : Shape := ⟨2, ![8, 256]⟩
abbrev S1x1 : Shape := ⟨2, ![1, 1]⟩

abbrev nBuf : Space → Nat
  | .hbm => 18
  | .vmem => 40
  | .smem => 0
  | _ => 0

abbrev bufTy : (tb : Table) → Fin (tcTables nBuf tb) → BufTy
  | .hbm, ⟨0, _⟩ => ⟨S9216x12288, .f32⟩
  | .hbm, ⟨1, _⟩ => ⟨S9216x128, .f32⟩
  | .hbm, ⟨2, _⟩ => ⟨S2x128x3x8192, .f32⟩
  | .hbm, ⟨3, _⟩ => ⟨S2x128x32x128x128, .f32⟩
  | .hbm, ⟨4, _⟩ => ⟨S2x128x32x128x128, .f32⟩
  | .hbm, ⟨5, _⟩ => ⟨S2x4x8192, .f32⟩
  | .hbm, ⟨6, _⟩ => ⟨S2x128, .f32⟩
  | .hbm, ⟨7, _⟩ => ⟨S2x1x128, .f32⟩
  | .hbm, ⟨8, _⟩ => ⟨S1024x32, .f32⟩
  | .hbm, ⟨9, _⟩ => ⟨S16x64x16x2, .f32⟩
  | .hbm, ⟨10, _⟩ => ⟨S16x16x2x64, .f32⟩
  | .hbm, ⟨11, _⟩ => ⟨S16x16x128, .f32⟩
  | .hbm, ⟨12, _⟩ => ⟨S2x3x128x8192, .f32⟩
  | .hbm, ⟨13, _⟩ => ⟨S1024x4096, .bf16⟩
  | .hbm, ⟨14, _⟩ => ⟨S2x128x32x128x128, .f32⟩
  | .hbm, ⟨15, _⟩ => ⟨S3x128x2048, .f32⟩
  | .hbm, ⟨16, _⟩ => ⟨S3x128x2048, .f32⟩
  | .hbm, ⟨17, _⟩ => ⟨S3x128x4096, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S1x3x8x1024, .f32⟩
  | .local _ .vmem, ⟨9, _⟩ => ⟨S1x3x8x1024, .f32⟩
  | .local _ .vmem, ⟨10, _⟩ => ⟨S1x3x8x1024, .f32⟩
  | .local _ .vmem, ⟨11, _⟩ => ⟨S1x3x8x1024, .f32⟩
  | .local _ .vmem, ⟨12, _⟩ => ⟨S1x3x8x2048, .f32⟩
  | .local _ .vmem, ⟨13, _⟩ => ⟨S1x3x8x2048, .f32⟩
  | .local _ .vmem, ⟨14, _⟩ => ⟨S64x128, .f32⟩
  | .local _ .vmem, ⟨15, _⟩ => ⟨S64x128, .f32⟩
  | .local _ .vmem, ⟨16, _⟩ => ⟨S1x16x128, .f32⟩
  | .local _ .vmem, ⟨17, _⟩ => ⟨S1x16x128, .f32⟩
  | .local _ .vmem, ⟨18, _⟩ => ⟨S1x4x1024, .f32⟩
  | .local _ .vmem, ⟨19, _⟩ => ⟨S1x4x1024, .f32⟩
  | .local _ .vmem, ⟨20, _⟩ => ⟨S1x4x1024, .f32⟩
  | .local _ .vmem, ⟨21, _⟩ => ⟨S1x4x1024, .f32⟩
  | .local _ .vmem, ⟨22, _⟩ => ⟨S1x4x2048, .f32⟩
  | .local _ .vmem, ⟨23, _⟩ => ⟨S1x4x2048, .f32⟩
  | .local _ .vmem, ⟨24, _⟩ => ⟨S1x1x128, .f32⟩
  | .local _ .vmem, ⟨25, _⟩ => ⟨S1x8x16x128x128, .f32⟩
  | .local _ .vmem, ⟨26, _⟩ => ⟨S1x8x16x128x128, .f32⟩
  | .local _ .vmem, ⟨27, _⟩ => ⟨S64x2048, .bf16⟩
  | .local _ .vmem, ⟨28, _⟩ => ⟨S64x2048, .bf16⟩
  | .local _ .vmem, ⟨29, _⟩ => ⟨S1x8x16x128x128, .f32⟩
  | .local _ .vmem, ⟨30, _⟩ => ⟨S1x8x16x128x128, .f32⟩
  | .local _ .vmem, ⟨31, _⟩ => ⟨S3x8x1024, .f32⟩
  | .local _ .vmem, ⟨32, _⟩ => ⟨S3x8x1024, .f32⟩
  | .local _ .vmem, ⟨33, _⟩ => ⟨S3x8x1024, .f32⟩
  | .local _ .vmem, ⟨34, _⟩ => ⟨S3x8x1024, .f32⟩
  | .local _ .vmem, ⟨35, _⟩ => ⟨S3x8x2048, .f32⟩
  | .local _ .vmem, ⟨36, _⟩ => ⟨S3x8x2048, .f32⟩
  | .local _ .vmem, ⟨37, _⟩ => ⟨S8x16x1024, .f32⟩
  | .local _ .vmem, ⟨38, _⟩ => ⟨S8x16x1024, .f32⟩
  | .local _ .vmem, ⟨39, _⟩ => ⟨S8x16x2048, .f32⟩
  | _, _ => ⟨S9216x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v6_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg18_1 : Ref sig .tc := ⟨.vmem, 36, rfl⟩
abbrev cc0_scratch0 : Ref sig .tc := ⟨.vmem, 37, rfl⟩
abbrev cc0_scratch1 : Ref sig .tc := ⟨.vmem, 38, rfl⟩
abbrev cc0_scratch2 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36

abbrev nD : Nat := 1
abbrev τ : Topo := Topo.v7x

variable {F : FTy → Type} [FloatOps F]

abbrev grid0 : Pipeline.Grid := ⟨2, ![16, 2], ![false, false]⟩

def k0_off1 (i : grid0.Coords) (c0_i32_282 : BitVec 32) : Fin 3 → Nat :=
  let c0_283 : Index := 0#32
  let c8_i32_281 : BitVec 32 := 8#32
  let arg1 : BitVec 32 := BitVec.ofNat 32 (i 1).val
  let v606 : BitVec 32 := Scalar.muli c8_i32_281 arg1
  let v607 : BitVec 32 := Scalar.addi v606 c0_i32_282
  let v608 : Index := Scalar.indexCast v607
  let c0_284 : Index := 0#32
  ![0, v608.toNat, 0]
def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg0
  let c0_i32 : BitVec 32 := 0#32
  let v1 : BitVec 32 := Scalar.addi c0_i32 arg1
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg0
  let c2_i32 : BitVec 32 := 2#32
  let v1 : BitVec 32 := Scalar.addi c2_i32 arg1
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg0
  let c2_i32 : BitVec 32 := 2#32
  let v1 : BitVec 32 := Scalar.addi c2_i32 arg1
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg0
  let c4_i32 : BitVec 32 := 4#32
  let v1 : BitVec 32 := Scalar.addi c4_i32 arg1
  let c0_i32 : BitVec 32 := 0#32
  ![v0.toNat, v1.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat, arg1.toNat]

def cc0_transform_5 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c1_i32 : BitVec 32 := 1#32
  let c0_i32 : BitVec 32 := 0#32
  let c0_i32_0 : BitVec 32 := 0#32
  ![c1_i32.toNat, c0_i32.toNat, arg0.toNat, v0.toNat]

def cc0_transform_6 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c1_i32 : BitVec 32 := 1#32
  let c0_i32 : BitVec 32 := 0#32
  let c0_i32_0 : BitVec 32 := 0#32
  ![c1_i32.toNat, c0_i32.toNat, arg0.toNat, v0.toNat]

def cc0_transform_7 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg0
  let c0_i32 : BitVec 32 := 0#32
  let c0_i32_0 : BitVec 32 := 0#32
  ![v0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c1_i32 : BitVec 32 := 1#32
  let c0_i32 : BitVec 32 := 0#32
  let c0_i32_0 : BitVec 32 := 0#32
  ![c1_i32.toNat, c0_i32.toNat, v0.toNat]

def cc0_transform_11 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c1_i32 : BitVec 32 := 1#32
  let c0_i32 : BitVec 32 := 0#32
  let c0_i32_0 : BitVec 32 := 0#32
  ![c1_i32.toNat, c0_i32.toNat, v0.toNat]

def cc0_transform_12 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_13 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, arg1.toNat, c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_16 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, arg1.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x3x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x3x8x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x16x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x4x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x4x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x4x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 1 → Memref sig .tc .vmem S1x1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x8x16x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S64x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x8x16x128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S3x8x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S3x8x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S3x8x2048 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== DeltaSRefIdeal.lean ====
abbrev S9216x12288 : Shape := ⟨2, ![9216, 12288]⟩
abbrev S9216x128 : Shape := ⟨2, ![9216, 128]⟩
abbrev S2x128x3x8192 : Shape := ⟨4, ![2, 128, 3, 8192]⟩
abbrev S2x128x32x128x128 : Shape := ⟨5, ![2, 128, 32, 128, 128]⟩
abbrev S2x4x8192 : Shape := ⟨3, ![2, 4, 8192]⟩
abbrev S2x128 : Shape := ⟨2, ![2, 128]⟩
abbrev S1024x8192 : Shape := ⟨2, ![1024, 8192]⟩
abbrev S128x8x8192 : Shape := ⟨3, ![128, 8, 8192]⟩
abbrev S1x128x3x8192 : Shape := ⟨4, ![1, 128, 3, 8192]⟩
abbrev S128x3x8192 : Shape := ⟨3, ![128, 3, 8192]⟩
abbrev S128x11x8192 : Shape := ⟨3, ![128, 11, 8192]⟩
abbrev S3x128x8192 : Shape := ⟨3, ![3, 128, 8192]⟩
abbrev S3x128x2048 : Shape := ⟨3, ![3, 128, 2048]⟩
abbrev S3x128x4096 : Shape := ⟨3, ![3, 128, 4096]⟩

abbrev nBuf : Space → Nat
  | .hbm => 17
  | .vmem => 0
  | .smem => 0
  | _ => 0

abbrev bufTy : (tb : Table) → Fin (tcTables nBuf tb) → BufTy
  | .hbm, ⟨0, _⟩ => ⟨S9216x12288, .f32⟩
  | .hbm, ⟨1, _⟩ => ⟨S9216x128, .f32⟩
  | .hbm, ⟨2, _⟩ => ⟨S2x128x3x8192, .f32⟩
  | .hbm, ⟨3, _⟩ => ⟨S2x128x32x128x128, .f32⟩
  | .hbm, ⟨4, _⟩ => ⟨S2x128x32x128x128, .f32⟩
  | .hbm, ⟨5, _⟩ => ⟨S2x4x8192, .f32⟩
  | .hbm, ⟨6, _⟩ => ⟨S2x128, .f32⟩
  | .hbm, ⟨7, _⟩ => ⟨S1024x8192, .f32⟩
  | .hbm, ⟨8, _⟩ => ⟨S128x8x8192, .f32⟩
  | .hbm, ⟨9, _⟩ => ⟨S1x128x3x8192, .f32⟩
  | .hbm, ⟨10, _⟩ => ⟨S128x3x8192, .f32⟩
  | .hbm, ⟨11, _⟩ => ⟨S128x11x8192, .f32⟩
  | .hbm, ⟨12, _⟩ => ⟨S128x3x8192, .f32⟩
  | .hbm, ⟨13, _⟩ => ⟨S3x128x8192, .f32⟩
  | .hbm, ⟨14, _⟩ => ⟨S3x128x2048, .f32⟩
  | .hbm, ⟨15, _⟩ => ⟨S3x128x2048, .f32⟩
  | .hbm, ⟨16, _⟩ => ⟨S3x128x4096, .f32⟩
  | _, _ => ⟨S9216x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== Proof.PoolInVal.lean ====
/- The pool layer's input projection: the tiled product writes the whole product `xn · W₁`. -/
module

public import proofs.«01_k».proof.Proof.Gen.PoolInIdeal.Value
public import proofs.«01_k».proof.Proof.Gen.PoolInRefIdeal.Run
public import proofs.«01_k».proof.Defs
public import proofs.«01_k».proof.Proof.Gen.PoolIn.Frame
public import Idealize.ShloMosaic.Lib.Pointwise

@[expose] public section

set_option maxRecDepth 16384

noncomputable section

namespace Cert.PoolInIdeal.Val

open Cert.PoolInIdeal Cert.PoolInIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem z2 : (![0, 0] : Fin 2 → Nat) = fun _ => 0 := funext fun a => by fin_cases a <;> rfl
theorem z3 : (![0, 0, 0] : Fin 3 → Nat) = fun _ => 0 := funext fun a => by fin_cases a <;> rfl

/-- One tile of the product, at an index: the row of the activations against the column of the weights. -/
theorem tile (x : Vec Ideal S3072x2048 .bf16) (w : Vec Ideal S1x2048x512 .f32) (r : Fin 3072) (j : Fin 512) :
    out0_2 (F := Ideal) x w (ix2 r j) = ∑ k : Fin 2048, (x (ix2 r k) * w (ix3 0 k j) : EReal) := by
  unfold out0_2
  rw [View.canon_unit_zero z2, View.ld_unit_zero z3, View.ld_unit_zero z2]
  pointwise [k0_pay1]

/-- The whole product. -/
def G (x : S9216x2048.Idx → EReal) (w : S2x2048x8192.Idx → EReal) : S9216x8192.Idx → EReal :=
  fun i => ∑ k : Fin 2048, x (ix2 (i 0) k) * w (ix3 1 k (i 1))

theorem idx (t : Fin cfg0.N) : win0_0.index t 0 = t.val / 16 ∧ win0_0.index t 1 = 0 ∧ win0_1.index t 0 = 1 ∧ win0_1.index t 1 = 0
    ∧ win0_1.index t 2 = t.val % 16 ∧ win0_2.index t 0 = t.val / 16 ∧ win0_2.index t 1 = t.val % 16 := by
  revert t; decide +kernel

theorem flushed_eq (c : Dev nD) (t : Fin cfg0.N) :
    (dats m 0 c).flushed 2 t = ((cfg0.win 2).blk t).view.read (Elt Ideal)
      (G (m ((c : Thread nD τ).loc main_arg0)) (m ((c : Thread nD τ).loc main_arg1))) := by
  obtain ⟨h00, h01, h10, h11, h12, h20, h21⟩ := idx t
  rw [Value.flushed2]
  funext y
  have hy : (y : S3072x512.Idx) = ix2 (y 0) (y 1) := by funext a; fin_cases a <;> rfl
  refine (congrArg (out0_2 (iblk m c 0 t) (iblk m c 1 t)) hy).trans ((tile _ _ _ _).trans ?_)
  rw [View.read_apply, cast_eq]
  unfold G
  refine Finset.sum_congr rfl fun k _ => ?_
  congr 1
  · unfold iblk
    rw [View.read_apply, cast_eq]
    refine congrArg (m _) (funext fun a => Fin.ext ?_)
    match a with
    | ⟨0, _⟩ => show win0_0.index t 0 * 3072 + 1 * (y 0).val = win0_2.index t 0 * 3072 + 1 * (y 0).val; rw [h00, h20]
    | ⟨1, _⟩ => show win0_0.index t 1 * 2048 + 1 * k.val = k.val; rw [h01]; omega
  · unfold iblk
    rw [View.read_apply, cast_eq]
    refine congrArg (m _) (funext fun a => Fin.ext ?_)
    match a with
    | ⟨0, _⟩ => show win0_1.index t 0 * 1 + 1 * 0 = 1; rw [h10]
    | ⟨1, _⟩ => show win0_1.index t 1 * 2048 + 1 * k.val = k.val; rw [h11]; omega
    | ⟨2, _⟩ => show win0_1.index t 2 * 512 + 1 * (y 1).val = win0_2.index t 1 * 512 + 1 * (y 1).val; rw [h12, h21]

/-- Every entry of the result lies in one tile. -/
theorem cover (i : S9216x8192.Idx) : ∃ t : Fin cfg0.N, (cfg0.win 2).flush t = true ∧ i ∈ ((cfg0.win 2).blk t).view.set := by
  have hN : cfg0.N = 48 := N_0
  have h0 : (i 0 : Nat) < 9216 := (i 0).isLt
  have h1 : (i 1 : Nat) < 8192 := (i 1).isLt
  obtain ⟨t, ht⟩ : ∃ t : Fin cfg0.N, t.val = (i 0 : Nat) / 3072 * 16 + (i 1 : Nat) / 512 := ⟨⟨_, by omega⟩, rfl⟩
  obtain ⟨-, -, -, -, -, h20, h21⟩ := idx t
  refine ⟨t, flush0_2 t, ?_⟩
  show i ∈ ((View.whole main_v0).slice (win0_2.rect t)).set
  rw [View.set_slice_whole, Rect.mem_set_unit]
  intro a
  match a with
  | ⟨0, _⟩ => show win0_2.index t 0 * 3072 ≤ (i 0 : Nat) ∧ (i 0 : Nat) < win0_2.index t 0 * 3072 + 3072
              rw [h20]; omega
  | ⟨1, _⟩ => show win0_2.index t 1 * 512 ≤ (i 1 : Nat) ∧ (i 1 : Nat) < win0_2.index t 1 * 512 + 512
              rw [h21]; omega

/-- The run of the kernel, read: its result is the whole product, its arguments are unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((dats m 0 c).arrAt_eq_of_cover 2 _ (fun t _ => flushed_eq m c t) cover), (h c).2⟩)
    (Value.run_blocks m ρ)

/-- The three programs run and leave their arguments as they were; the third is the reference. -/
theorem frame : Cert.quiescent_PoolIn := fun m ρ _ => Cert.PoolIn.Gen.frame m ρ
theorem frameI : Cert.quiescent_PoolInIdeal := fun m ρ _ => Cert.PoolInIdeal.Gen.frame m ρ
theorem frameR : Cert.quiescent_PoolInRefIdeal := fun m ρ _ =>
  (θ_run Cert.PoolInRefIdeal.defs _ _).mono
    (fun r h => ⟨fun c => (h c).2, Idealize.ShloMosaic.sem_eq_zero_of_no_sems (by decide) r.2⟩)
    (Cert.PoolInRefIdeal.Value.run (F := Ideal) m ρ)

/-- Over the extended reals the kernel's result is the reference's. -/
theorem algebraic : Cert.algebraic_PoolInIdeal_PoolInRefIdeal := by
  intro m ρ m' ρ' _ hagree
  refine ⟨fun c => G (m ((c : Thread nD τ).loc main_arg0)) (m ((c : Thread nD τ).loc main_arg1)), run m ρ, ?_⟩
  refine (θ_run Cert.PoolInRefIdeal.defs _ _).mono (fun r h c => ?_) (Cert.PoolInRefIdeal.Value.run (F := Ideal) m' ρ')
  refine ⟨(h c).1.trans ?_, (h c).2⟩
  rw [(hagree c).1, (hagree c).2]
  show (_ : S9216x8192.Idx → EReal) = _
  funext i
  idx_vars i
  unfold G
  pointwise

end Cert.PoolInIdeal.Val

end
-- ==== Proof.DeltaInVal.lean ====
/- The delta layer's input projection: the tiled product writes the whole product `xn · W₁` (without its last 64 columns). -/
module

public import proofs.«01_k».proof.Proof.Gen.DeltaInIdeal.Value
public import proofs.«01_k».proof.Proof.Gen.DeltaInRefIdeal.Run
public import proofs.«01_k».proof.Defs
public import proofs.«01_k».proof.Proof.Gen.DeltaIn.Frame
public import Idealize.ShloMosaic.Lib.Pointwise

@[expose] public section

set_option maxRecDepth 16384

noncomputable section

namespace Cert.DeltaInIdeal.Val

open Cert.DeltaInIdeal Cert.DeltaInIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem z2 : (![0, 0] : Fin 2 → Nat) = fun _ => 0 := funext fun a => by fin_cases a <;> rfl
theorem z3 : (![0, 0, 0] : Fin 3 → Nat) = fun _ => 0 := funext fun a => by fin_cases a <;> rfl

/-- One tile of the product, at an index: the row of the activations against the row of the transposed weights. -/
theorem tile (c : Dev nD) (i : grid0.Coords) (a2 : Memref sig .tc .vmem S3072x2048 .bf16) (h2 : a2.IsWhole)
    (a3 : Memref sig .tc .vmem S1x512x2048 .f32) (h3 : a3.IsWhole) (a4 : Memref sig .tc .vmem S3072x512 .f32) (h4 : a4.IsWhole)
    (x : Vec Ideal S3072x2048 .bf16) (w : Vec Ideal S1x512x2048 .f32) (r : Fin 3072) (j : Fin 512) :
    out0_A_2 (F := Ideal) c i a2 h2 a3 h3 a4 h4 x w (ix2 r j) = ∑ k : Fin 2048, (x (ix2 r k) * w (ix3 0 j k) : EReal) := by
  unfold out0_A_2
  rw [View.read_writes_eq_canon _ _ _ (cover0_A_2 c i a2 h2 a3 h3 a4 h4 x w)]
  unfold kernelRun0_A
  dsimp only
  rw [View.canon_unit_zero z2]
  simp only [View.readAt_eq_ld, h2.read_unread, h3.read_unread]
  rw [View.ld_unit_zero (S := S1x512x2048) z3, View.ld_unit_zero (S := S3072x2048) z2]
  pointwise [k0_pay1]

/-- The transposed weights the tiles are read from. -/
theorem V_v0 (c : Dev nD) : (V m c main_v0 : S2x12352x2048.Idx → EReal)
    = fun i => m ((c : Thread nD τ).loc main_arg1) (ix3 (i 0) (i 2) (i 1)) := by
  have h : (V m c main_v0 : S2x12352x2048.Idx → EReal) = transpose S2x12352x2048 [0, 2, 1]
      (m ((c : Thread nD τ).loc main_arg1) : S2x2048x12352.Idx → EReal) transposes_S2x2048x12352_S2x12352x2048_0_2_1 := by
    show StableHlo.after hostOps0 _ main_v0 = _
    after_results <;> rfl
  rw [h]
  funext i
  idx_vars i
  pointwise

/-- The whole product. -/
def G (x : S9216x2048.Idx → EReal) (w : S2x2048x12352.Idx → EReal) : S9216x12288.Idx → EReal :=
  fun i => ∑ k : Fin 2048, x (ix2 (i 0) k) * w (ix3 1 k (Fin.castLE (show 12288 ≤ 12352 by decide) (i 1)))

theorem idx (t : Fin cfg0.N) : win0_0.index t 0 = t.val / 24 ∧ win0_0.index t 1 = 0 ∧ win0_1.index t 0 = 1 ∧ win0_1.index t 2 = 0
    ∧ win0_1.index t 1 = t.val % 24 ∧ win0_2.index t 0 = t.val / 24 ∧ win0_2.index t 1 = t.val % 24 := by
  revert t; decide +kernel

theorem flushed_eq (c : Dev nD) (t : Fin cfg0.N) :
    (dats m 0 c).flushed 2 t = ((cfg0.win 2).blk t).view.read (Elt Ideal)
      (G (m ((c : Thread nD τ).loc main_arg0)) (m ((c : Thread nD τ).loc main_arg1))) := by
  obtain ⟨h00, h01, h10, h11, h12, h20, h21⟩ := idx t
  rw [Value.flushed2_A]
  funext y
  have hy : (y : S3072x512.Idx) = ix2 (y 0) (y 1) := by funext a; fin_cases a <;> rfl
  refine (congrArg (out0_A_2 c (grid0.coords t) (ms0_0 t) (hs0_0 t) (ms0_1 t) (hs0_1 t) (ms0_2 t) (hs0_2 t) (iblk m c 0 t) (X0_1 m c t)) hy).trans
    ((tile ..).trans ?_)
  rw [View.read_apply, cast_eq]
  unfold G
  refine Finset.sum_congr rfl fun k _ => ?_
  congr 1
  · unfold iblk
    rw [View.read_apply, cast_eq]
    refine (congrFun (V_main_arg0 m c) _).trans (congrArg (m _) (funext fun a => Fin.ext ?_))
    match a with
    | ⟨0, _⟩ => show win0_0.index t 0 * 3072 + 1 * (y 0).val = win0_2.index t 0 * 3072 + 1 * (y 0).val; rw [h00, h20]
    | ⟨1, _⟩ => show win0_0.index t 1 * 2048 + 1 * k.val = k.val; rw [h01]; omega
  · unfold X0_1 Pipeline.Window.fill
    rw [dif_pos (moved0_1 t _)]
    unfold iblk
    rw [View.read_apply, cast_eq]
    refine (congrFun (V_v0 m c) _).trans (congrArg (m _) (funext fun a => Fin.ext ?_))
    match a with
    | ⟨0, _⟩ => show win0_1.index t 0 * 1 + 1 * 0 = 1; rw [h10]
    | ⟨1, _⟩ => show win0_1.index t 2 * 2048 + 1 * k.val = k.val; rw [h11]; omega
    | ⟨2, _⟩ => show win0_1.index t 1 * 512 + 1 * (y 1).val = win0_2.index t 1 * 512 + 1 * (y 1).val; rw [h12, h21]

/-- Every entry of the result lies in one tile. -/
theorem cover (i : S9216x12288.Idx) : ∃ t : Fin cfg0.N, (cfg0.win 2).flush t = true ∧ i ∈ ((cfg0.win 2).blk t).view.set := by
  have hN : cfg0.N = 72 := N_0
  have h0 : (i 0 : Nat) < 9216 := (i 0).isLt
  have h1 : (i 1 : Nat) < 12288 := (i 1).isLt
  obtain ⟨t, ht⟩ : ∃ t : Fin cfg0.N, t.val = (i 0 : Nat) / 3072 * 24 + (i 1 : Nat) / 512 := ⟨⟨_, by omega⟩, rfl⟩
  obtain ⟨-, -, -, -, -, h20, h21⟩ := idx t
  refine ⟨t, flush0_2 t, ?_⟩
  show i ∈ ((View.whole main_v1).slice (win0_2.rect t)).set
  rw [View.set_slice_whole, Rect.mem_set_unit]
  intro a
  match a with
  | ⟨0, _⟩ => show win0_2.index t 0 * 3072 ≤ (i 0 : Nat) ∧ (i 0 : Nat) < win0_2.index t 0 * 3072 + 3072
              rw [h20]; omega
  | ⟨1, _⟩ => show win0_2.index t 1 * 512 ≤ (i 1 : Nat) ∧ (i 1 : Nat) < win0_2.index t 1 * 512 + 512
              rw [h21]; omega

/-- The run of the kernel, read: its result is the whole product, its arguments are unchanged. -/
theorem run : θ_run defs (onTc (τ := τ) (main (F := Ideal))) ⟨m, fun _ => 0, ρ⟩ fun r => ∀ c : Dev nD,
      r.2.mem ((c : Thread nD τ).loc main_v1) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((dats m 0 c).arrAt_eq_of_cover 2 _ (fun t _ => flushed_eq m c t) cover), (h c).2⟩)
    (Value.run_blocks m ρ)

/-- The three programs run and leave their arguments as they were; the third is the reference. -/
theorem frame : Cert.quiescent_DeltaIn := fun m ρ _ => Cert.DeltaIn.Gen.frame m ρ
theorem frameI : Cert.quiescent_DeltaInIdeal := fun m ρ _ => Cert.DeltaInIdeal.Gen.frame m ρ
theorem frameR : Cert.quiescent_DeltaInRefIdeal := fun m ρ _ =>
  (θ_run Cert.DeltaInRefIdeal.defs _ _).mono
    (fun r h => ⟨fun c => (h c).2, Idealize.ShloMosaic.sem_eq_zero_of_no_sems (by decide) r.2⟩)
    (Cert.DeltaInRefIdeal.Value.run (F := Ideal) m ρ)

/-- Over the extended reals the kernel's result is the reference's. -/
theorem algebraic : Cert.algebraic_DeltaInIdeal_DeltaInRefIdeal := by
  intro m ρ m' ρ' _ hagree
  refine ⟨fun c => G (m ((c : Thread nD τ).loc main_arg0)) (m ((c : Thread nD τ).loc main_arg1)), run m ρ, ?_⟩
  refine (θ_run Cert.DeltaInRefIdeal.defs _ _).mono (fun r h c => ?_) (Cert.DeltaInRefIdeal.Value.run (F := Ideal) m' ρ')
  refine ⟨(h c).1.trans ?_, (h c).2⟩
  rw [(hagree c).1, (hagree c).2]
  show (_ : S9216x12288.Idx → EReal) = _
  funext i
  idx_vars i
  unfold G
  pointwise
  rfl

end Cert.DeltaInIdeal.Val

end
-- ==== Proof.OutVal.lean ====
/- The output projection of a mixer, layer 1, whose residual stream is one array: the tiled product plus the residual
   writes `h + [y_p; y_s] · W₁`. -/
module

public import proofs.«01_k».proof.Proof.Gen.OutIdeal.Value
public import proofs.«01_k».proof.Proof.Gen.OutRefIdeal.Run
public import proofs.«01_k».proof.Defs
public import proofs.«01_k».proof.Proof.Gen.Out.Frame
public import Idealize.ShloMosaic.Lib.Pointwise

@[expose] public section

set_option maxRecDepth 16384
set_option maxHeartbeats 1000000

noncomputable section

namespace Cert.OutIdeal.Val

open Cert.OutIdeal Cert.OutIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem z2 : (![0, 0] : Fin 2 → Nat) = fun _ => 0 := funext fun a => by fin_cases a <;> rfl
theorem z3 : (![0, 0, 0] : Fin 3 → Nat) = fun _ => 0 := funext fun a => by fin_cases a <;> rfl

/-- One tile, among the prompt's rows, at an index. -/
theorem tileA (c : Dev nD) (i : grid0.Coords) (a2 : Memref sig .tc .vmem S1024x4096 .bf16) (h2 : a2.IsWhole)
    (a3 : Memref sig .tc .vmem S1024x4096 .bf16) (h3 : a3.IsWhole)
    (a4 : Memref sig .tc .vmem S1x4096x512 .bf16) (h4 : a4.IsWhole)
    (a5 : Memref sig .tc .vmem S1024x512 .f32) (h5 : a5.IsWhole)
    (a6 : Memref sig .tc .vmem S1024x512 .f32) (h6 : a6.IsWhole)
    (c1 : cond0_0 i) (c2 : ¬cond0_1 i) (xp xs : Vec Ideal S1024x4096 .bf16) (w : Vec Ideal S1x4096x512 .bf16) (h : Vec Ideal S1024x512 .f32) (r : Fin 1024) (j : Fin 512) :
    out0_A_4 (F := Ideal) c i a2 h2 a3 h3 a4 h4 a5 h5 a6 h6 c1 c2 xp xs w h (ix2 r j)
      = h (ix2 r j) + ∑ k : Fin 4096, (xp (ix2 r k) * w (ix3 0 k j) : EReal) := by
  unfold out0_A_4
  rw [View.read_writes_eq_canon _ _ _ (cover0_A_4 c i a2 h2 a3 h3 a4 h4 a5 h5 a6 h6 c1 c2 xp xs w h)]
  unfold kernelRun0_A
  dsimp only
  rw [View.canon_unit_zero z2]
  simp only [View.readAt_eq_ld, h2.read_unread, h3.read_unread, h4.read_unread, h5.read_unread]
  rw [View.ld_unit_zero (S := S1x4096x512) z3, View.ld_unit_zero (S := S1024x4096) z2, View.ld_unit_zero (S := S1024x512) z2]
  pointwise [k0_pay2, k0_pay1]

/-- One tile, among the sample's rows, at an index. -/
theorem tileB (c : Dev nD) (i : grid0.Coords) (a2 : Memref sig .tc .vmem S1024x4096 .bf16) (h2 : a2.IsWhole)
    (a3 : Memref sig .tc .vmem S1024x4096 .bf16) (h3 : a3.IsWhole)
    (a4 : Memref sig .tc .vmem S1x4096x512 .bf16) (h4 : a4.IsWhole)
    (a5 : Memref sig .tc .vmem S1024x512 .f32) (h5 : a5.IsWhole)
    (a6 : Memref sig .tc .vmem S1024x512 .f32) (h6 : a6.IsWhole)
    (c1 : ¬cond0_0 i) (c2 : cond0_1 i) (xp xs : Vec Ideal S1024x4096 .bf16) (w : Vec Ideal S1x4096x512 .bf16) (h : Vec Ideal S1024x512 .f32) (r : Fin 1024) (j : Fin 512) :
    out0_B_4 (F := Ideal) c i a2 h2 a3 h3 a4 h4 a5 h5 a6 h6 c1 c2 xp xs w h (ix2 r j)
      = h (ix2 r j) + ∑ k : Fin 4096, (xs (ix2 r k) * w (ix3 0 k j) : EReal) := by
  unfold out0_B_4
  rw [View.read_writes_eq_canon _ _ _ (cover0_B_4 c i a2 h2 a3 h3 a4 h4 a5 h5 a6 h6 c1 c2 xp xs w h)]
  unfold kernelRun0_B
  dsimp only
  rw [View.canon_unit_zero z2]
  simp only [View.readAt_eq_ld, h2.read_unread, h3.read_unread, h4.read_unread, h5.read_unread]
  rw [View.ld_unit_zero (S := S1x4096x512) z3, View.ld_unit_zero (S := S1024x4096) z2, View.ld_unit_zero (S := S1024x512) z2]
  pointwise [k0_pay3, k0_pay1]

/-- The residual plus the whole product, the prompt's rows over the sample's. -/
def G (yp : S8192x4096.Idx → EReal) (ys : S1024x4096.Idx → EReal) (w : S2x4096x2048.Idx → EReal) (h : S9216x2048.Idx → EReal) :
    S9216x2048.Idx → EReal := fun i => h i
  + ∑ k : Fin 4096, (if hr : (i 0).val < 8192 then yp (ix2 ⟨(i 0).val, hr⟩ k)
      else ys (ix2 ⟨(i 0).val - 8192, by have := (i 0).isLt; dsimp at this; omega⟩ k)) * w (ix3 1 k (i 1))

theorem V_v0 (c : Dev nD) : (V m c main_v0 : S2x4096x2048.Idx → EReal) = m ((c : Thread nD τ).loc main_arg2) := by
  show StableHlo.after hostOps0 _ main_v0 = _
  after_results <;> rfl

theorem idx (t : Fin cfg0.N) : win0_2.index t 0 = 1
    ∧ win0_2.index t 1 = 0
    ∧ win0_2.index t 2 = t.val % 4
    ∧ win0_4.index t 0 = t.val / 4
    ∧ win0_4.index t 1 = t.val % 4
    ∧ win0_0.index t 1 = 0
    ∧ win0_1.index t 0 = 0
    ∧ win0_1.index t 1 = 0
    ∧ (t.val < 32 → win0_0.index t 0 = t.val / 4)
    ∧ win0_3.index t 0 = t.val / 4
    ∧ win0_3.index t 1 = t.val % 4 := by
  revert t; decide +kernel

theorem flushed_eq (c : Dev nD) (t : Fin cfg0.N) :
    (dats m 0 c).flushed 4 t = ((cfg0.win 4).blk t).view.read (Elt Ideal)
      (G (m ((c : Thread nD τ).loc main_arg0)) (m ((c : Thread nD τ).loc main_arg1)) (m ((c : Thread nD τ).loc main_arg2)) (m ((c : Thread nD τ).loc main_arg3))) := by
  have hN : t.val < 36 := lt_of_lt_of_eq t.isLt N_0
  obtain ⟨w0, w1, w2, o0, o1, p1, s0, s1, p0, h0, h1⟩ := idx t
  funext y
  have hy : (y : S1024x512.Idx) = ix2 (y 0) (y 1) := by funext a; fin_cases a <;> rfl
  have hy0 : (y 0).val < 1024 := (y 0).isLt
  have e0 : (((cfg0.win 4).blk t).view.emb y 0).val = t.val / 4 * 1024 + (y 0).val := by
    show win0_4.index t 0 * 1024 + 1 * (y 0).val = _; rw [o0]; omega
  have e1 : (((cfg0.win 4).blk t).view.emb y 1).val = t.val % 4 * 512 + (y 1).val := by
    show win0_4.index t 1 * 512 + 1 * (y 1).val = _; rw [o1]; omega
  have hw (k : Fin 4096) : (iblk m c 2 t : S1x4096x512.Idx → EReal) (ix3 0 k (y 1))
      = m ((c : Thread nD τ).loc main_arg2) (ix3 1 k (((cfg0.win 4).blk t).view.emb y 1)) := by
    unfold iblk
    rw [View.read_apply, cast_eq]
    refine (congrFun (V_v0 m c) _).trans (congrArg (m _) (funext fun a => Fin.ext ?_))
    match a with
    | ⟨0, _⟩ => show win0_2.index t 0 * 1 + 1 * 0 = 1; rw [w0]
    | ⟨1, _⟩ => show win0_2.index t 1 * 4096 + 1 * k.val = k.val; rw [w1]; omega
    | ⟨2, _⟩ => show win0_2.index t 2 * 512 + 1 * (y 1).val = (((cfg0.win 4).blk t).view.emb y 1).val; rw [w2, e1]; omega
  by_cases ht : t.val < 32
  · have ht' : ¬32 ≤ t.val := by omega
    have hr : (((cfg0.win 4).blk t).view.emb y 0).val < 8192 := by rw [e0]; omega
    rw [Value.flushed4_A m c t ht ht']
    refine (congrArg (out0_A_4 c (grid0.coords t) (ms0_0 t) (hs0_0 t) (ms0_1 t) (hs0_1 t) (ms0_2 t) (hs0_2 t) (ms0_3 t) (hs0_3 t) (ms0_4 t) (hs0_4 t) ((hcond0_0 t).mpr ht) (fun h => ht' ((hcond0_1 t).mp h)) (iblk m c 0 t) (iblk m c 1 t) (iblk m c 2 t) (iblk m c 3 t)) hy).trans ((tileA ..).trans ?_)
    rw [View.read_apply, cast_eq]
    unfold G
    congr 1
    · unfold iblk
      rw [View.read_apply, cast_eq]
      refine (congrFun (V_main_arg3 m c) _).trans (congrArg (m _) (funext fun a => Fin.ext ?_))
      match a with
      | ⟨0, _⟩ => show win0_3.index t 0 * 1024 + 1 * (y 0).val = (((cfg0.win 4).blk t).view.emb y 0).val; rw [h0, e0]; omega
      | ⟨1, _⟩ => show win0_3.index t 1 * 512 + 1 * (y 1).val = (((cfg0.win 4).blk t).view.emb y 1).val; rw [h1, e1]; omega
    refine Finset.sum_congr rfl fun k _ => ?_
    rw [hw k, dif_pos hr]
    congr 1
    · unfold iblk
      rw [View.read_apply, cast_eq]
      refine (congrFun (V_main_arg0 m c) _).trans (congrArg (m _) (funext fun a => Fin.ext ?_))
      match a with
      | ⟨0, _⟩ => show win0_0.index t 0 * 1024 + 1 * (y 0).val = (((cfg0.win 4).blk t).view.emb y 0).val; rw [p0 ht, e0]; omega
      | ⟨1, _⟩ => show win0_0.index t 1 * 4096 + 1 * k.val = k.val; rw [p1]; omega
  · have ht' : 32 ≤ t.val := by omega
    have hr : ¬(((cfg0.win 4).blk t).view.emb y 0).val < 8192 := by rw [e0]; omega
    rw [Value.flushed4_B m c t ht ht']
    refine (congrArg (out0_B_4 c (grid0.coords t) (ms0_0 t) (hs0_0 t) (ms0_1 t) (hs0_1 t) (ms0_2 t) (hs0_2 t) (ms0_3 t) (hs0_3 t) (ms0_4 t) (hs0_4 t) (fun h => ht ((hcond0_0 t).mp h)) ((hcond0_1 t).mpr ht') (iblk m c 0 t) (iblk m c 1 t) (iblk m c 2 t) (iblk m c 3 t)) hy).trans ((tileB ..).trans ?_)
    rw [View.read_apply, cast_eq]
    unfold G
    congr 1
    · unfold iblk
      rw [View.read_apply, cast_eq]
      refine (congrFun (V_main_arg3 m c) _).trans (congrArg (m _) (funext fun a => Fin.ext ?_))
      match a with
      | ⟨0, _⟩ => show win0_3.index t 0 * 1024 + 1 * (y 0).val = (((cfg0.win 4).blk t).view.emb y 0).val; rw [h0, e0]; omega
      | ⟨1, _⟩ => show win0_3.index t 1 * 512 + 1 * (y 1).val = (((cfg0.win 4).blk t).view.emb y 1).val; rw [h1, e1]; omega
    refine Finset.sum_congr rfl fun k _ => ?_
    rw [hw k, dif_neg hr]
    congr 1
    · unfold iblk
      rw [View.read_apply, cast_eq]
      refine (congrFun (V_main_arg1 m c) _).trans (congrArg (m _) (funext fun a => Fin.ext ?_))
      match a with
      | ⟨0, _⟩ => show win0_1.index t 0 * 1024 + 1 * (y 0).val = (((cfg0.win 4).blk t).view.emb y 0).val - 8192; rw [s0, e0]; omega
      | ⟨1, _⟩ => show win0_1.index t 1 * 4096 + 1 * k.val = k.val; rw [s1]; omega

/-- Every entry of the result lies in one tile. -/
theorem cover (i : S9216x2048.Idx) : ∃ t : Fin cfg0.N, (cfg0.win 4).flush t = true ∧ i ∈ ((cfg0.win 4).blk t).view.set := by
  have hN : cfg0.N = 36 := N_0
  have h0 : (i 0 : Nat) < 9216 := (i 0).isLt
  have h1 : (i 1 : Nat) < 2048 := (i 1).isLt
  obtain ⟨t, ht⟩ : ∃ t : Fin cfg0.N, t.val = (i 0 : Nat) / 1024 * 4 + (i 1 : Nat) / 512 := ⟨⟨_, by omega⟩, rfl⟩
  obtain ⟨-, -, -, o0, o1, -⟩ := idx t
  refine ⟨t, flush0_4 t, ?_⟩
  show i ∈ ((View.whole main_v1).slice (win0_4.rect t)).set
  rw [View.set_slice_whole, Rect.mem_set_unit]
  intro a
  match a with
  | ⟨0, _⟩ => show win0_4.index t 0 * 1024 ≤ (i 0 : Nat) ∧ (i 0 : Nat) < win0_4.index t 0 * 1024 + 1024
              rw [o0]; omega
  | ⟨1, _⟩ => show win0_4.index t 1 * 512 ≤ (i 1 : Nat) ∧ (i 1 : Nat) < win0_4.index t 1 * 512 + 512
              rw [o1]; omega

/-- The run of the kernel, read: its result is the residual plus the whole product, its arguments are unchanged. -/
theorem run : θ_run defs (onTc (τ := τ) (main (F := Ideal))) ⟨m, fun _ => 0, ρ⟩ fun r => ∀ c : Dev nD,
      r.2.mem ((c : Thread nD τ).loc main_v1) = G (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans ((dats m 0 c).arrAt_eq_of_cover 4 _ (fun t _ => flushed_eq m c t) cover), (h c).2⟩)
    (Value.run_blocks m ρ)

/-- The three programs run and leave their arguments as they were; the third is the reference. -/
theorem frame : Cert.quiescent_Out := fun m ρ _ => Cert.Out.Gen.frame m ρ
theorem frameI : Cert.quiescent_OutIdeal := fun m ρ _ => Cert.OutIdeal.Gen.frame m ρ
theorem frameR : Cert.quiescent_OutRefIdeal := fun m ρ _ =>
  (θ_run Cert.OutRefIdeal.defs _ _).mono
    (fun r h => ⟨fun c => (h c).2, Idealize.ShloMosaic.sem_eq_zero_of_no_sems (by decide) r.2⟩)
    (Cert.OutRefIdeal.Value.run (F := Ideal) m ρ)

/-- Over the extended reals the kernel's result is the reference's. -/
theorem algebraic : Cert.algebraic_OutIdeal_OutRefIdeal := by
  intro m ρ m' ρ' _ hagree
  refine ⟨fun c => G (m ((c : Thread nD τ).loc main_arg0)) (m ((c : Thread nD τ).loc main_arg1)) (m ((c : Thread nD τ).loc main_arg2)) (m ((c : Thread nD τ).loc main_arg3)), run m ρ, ?_⟩
  refine (θ_run Cert.OutRefIdeal.defs _ _).mono (fun r h c => ?_) (Cert.OutRefIdeal.Value.run (F := Ideal) m' ρ')
  refine ⟨(h c).1.trans ?_, (h c).2⟩
  rw [(hagree c).1, (hagree c).2.1, (hagree c).2.2.1, (hagree c).2.2.2]
  show (_ : S9216x2048.Idx → EReal) = _
  funext i
  idx_vars i
  unfold G
  pointwise

end Cert.OutIdeal.Val

end
-- ==== Proof.OutZVal.lean ====
/- The output projection of a mixer, layer 0, whose residual stream arrives as two arrays: the tiled product plus the residual
   writes `h + [y_p; y_s] · W₀`. -/
module

public import proofs.«01_k».proof.Proof.Gen.OutZIdeal.Value
public import proofs.«01_k».proof.Proof.Gen.OutZRefIdeal.Run
public import proofs.«01_k».proof.Defs
public import proofs.«01_k».proof.Proof.Gen.OutZ.Frame
public import Idealize.ShloMosaic.Lib.Pointwise

@[expose] public section

set_option maxRecDepth 16384
set_option maxHeartbeats 1000000

noncomputable section

namespace Cert.OutZIdeal.Val

open Cert.OutZIdeal Cert.OutZIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem z2 : (![0, 0] : Fin 2 → Nat) = fun _ => 0 := funext fun a => by fin_cases a <;> rfl
theorem z3 : (![0, 0, 0] : Fin 3 → Nat) = fun _ => 0 := funext fun a => by fin_cases a <;> rfl

/-- One tile, among the prompt's rows, at an index. -/
theorem tileA (c : Dev nD) (i : grid0.Coords) (a2 : Memref sig .tc .vmem S1024x4096 .bf16) (h2 : a2.IsWhole)
    (a3 : Memref sig .tc .vmem S1024x4096 .bf16) (h3 : a3.IsWhole)
    (a4 : Memref sig .tc .vmem S1x4096x512 .bf16) (h4 : a4.IsWhole)
    (a5 : Memref sig .tc .vmem S1024x512 .f32) (h5 : a5.IsWhole)
    (a6 : Memref sig .tc .vmem S1024x512 .f32) (h6 : a6.IsWhole)
    (a7 : Memref sig .tc .vmem S1024x512 .f32) (h7 : a7.IsWhole)
    (c1 : cond0_0 i) (c2 : ¬cond0_1 i) (xp xs : Vec Ideal S1024x4096 .bf16) (w : Vec Ideal S1x4096x512 .bf16) (hp hs : Vec Ideal S1024x512 .f32) (r : Fin 1024) (j : Fin 512) :
    out0_A_5 (F := Ideal) c i a2 h2 a3 h3 a4 h4 a5 h5 a6 h6 a7 h7 c1 c2 xp xs w hp hs (ix2 r j)
      = hp (ix2 r j) + ∑ k : Fin 4096, (xp (ix2 r k) * w (ix3 0 k j) : EReal) := by
  unfold out0_A_5
  rw [View.read_writes_eq_canon _ _ _ (cover0_A_5 c i a2 h2 a3 h3 a4 h4 a5 h5 a6 h6 a7 h7 c1 c2 xp xs w hp hs)]
  unfold kernelRun0_A
  dsimp only
  rw [View.canon_unit_zero z2]
  simp only [View.readAt_eq_ld, h2.read_unread, h3.read_unread, h4.read_unread, h5.read_unread, h6.read_unread]
  rw [View.ld_unit_zero (S := S1x4096x512) z3, View.ld_unit_zero (S := S1024x4096) z2, View.ld_unit_zero (S := S1024x512) z2]
  pointwise [k0_pay2, k0_pay1]

/-- One tile, among the sample's rows, at an index. -/
theorem tileB (c : Dev nD) (i : grid0.Coords) (a2 : Memref sig .tc .vmem S1024x4096 .bf16) (h2 : a2.IsWhole)
    (a3 : Memref sig .tc .vmem S1024x4096 .bf16) (h3 : a3.IsWhole)
    (a4 : Memref sig .tc .vmem S1x4096x512 .bf16) (h4 : a4.IsWhole)
    (a5 : Memref sig .tc .vmem S1024x512 .f32) (h5 : a5.IsWhole)
    (a6 : Memref sig .tc .vmem S1024x512 .f32) (h6 : a6.IsWhole)
    (a7 : Memref sig .tc .vmem S1024x512 .f32) (h7 : a7.IsWhole)
    (c1 : ¬cond0_0 i) (c2 : cond0_1 i) (xp xs : Vec Ideal S1024x4096 .bf16) (w : Vec Ideal S1x4096x512 .bf16) (hp hs : Vec Ideal S1024x512 .f32) (r : Fin 1024) (j : Fin 512) :
    out0_B_5 (F := Ideal) c i a2 h2 a3 h3 a4 h4 a5 h5 a6 h6 a7 h7 c1 c2 xp xs w hp hs (ix2 r j)
      = hs (ix2 r j) + ∑ k : Fin 4096, (xs (ix2 r k) * w (ix3 0 k j) : EReal) := by
  unfold out0_B_5
  rw [View.read_writes_eq_canon _ _ _ (cover0_B_5 c i a2 h2 a3 h3 a4 h4 a5 h5 a6 h6 a7 h7 c1 c2 xp xs w hp hs)]
  unfold kernelRun0_B
  dsimp only
  rw [View.canon_unit_zero z2]
  simp only [View.readAt_eq_ld, h2.read_unread, h3.read_unread, h4.read_unread, h5.read_unread, h6.read_unread]
  rw [View.ld_unit_zero (S := S1x4096x512) z3, View.ld_unit_zero (S := S1024x4096) z2, View.ld_unit_zero (S := S1024x512) z2]
  pointwise [k0_pay3, k0_pay1]

/-- The residual plus the whole product, the prompt's rows over the sample's. -/
def G (yp : S8192x4096.Idx → EReal) (ys : S1024x4096.Idx → EReal) (w : S2x4096x2048.Idx → EReal) (hp : S8192x2048.Idx → EReal) (hs : S1024x2048.Idx → EReal) :
    S9216x2048.Idx → EReal := fun i => (if hr : (i 0).val < 8192 then hp (ix2 ⟨(i 0).val, hr⟩ (i 1)) else hs (ix2 ⟨(i 0).val - 8192, by have := (i 0).isLt; dsimp at this; omega⟩ (i 1)))
  + ∑ k : Fin 4096, (if hr : (i 0).val < 8192 then yp (ix2 ⟨(i 0).val, hr⟩ k)
      else ys (ix2 ⟨(i 0).val - 8192, by have := (i 0).isLt; dsimp at this; omega⟩ k)) * w (ix3 0 k (i 1))

theorem V_v0 (c : Dev nD) : (V m c main_v0 : S2x4096x2048.Idx → EReal) = m ((c : Thread nD τ).loc main_arg2) := by
  show StableHlo.after hostOps0 _ main_v0 = _
  after_results <;> rfl

/-- The prompt's residual, its first two axes joined. -/
@[irreducible] def hp (c : Dev nD) : S8192x2048.Idx → EReal := shapeCast S8192x2048 (m ((c : Thread nD τ).loc main_arg3)) shapeCasts_S4x2048x2048_S8192x2048

/-- The sample's residual, its first two axes joined. -/
@[irreducible] def hs (c : Dev nD) : S1024x2048.Idx → EReal := shapeCast S1024x2048 (m ((c : Thread nD τ).loc main_arg4)) shapeCasts_S128x8x2048_S1024x2048

theorem V_v1 (c : Dev nD) : (V m c main_v1 : S8192x2048.Idx → EReal) = hp m c := by
  show StableHlo.after hostOps0 _ main_v1 = _
  unfold hp
  after_results <;> rfl

theorem V_v2 (c : Dev nD) : (V m c main_v2 : S1024x2048.Idx → EReal) = hs m c := by
  show StableHlo.after hostOps0 _ main_v2 = _
  unfold hs
  after_results <;> rfl

theorem idx (t : Fin cfg0.N) : win0_2.index t 0 = 0
    ∧ win0_2.index t 1 = 0
    ∧ win0_2.index t 2 = t.val % 4
    ∧ win0_5.index t 0 = t.val / 4
    ∧ win0_5.index t 1 = t.val % 4
    ∧ win0_0.index t 1 = 0
    ∧ win0_1.index t 0 = 0
    ∧ win0_1.index t 1 = 0
    ∧ (t.val < 32 → win0_0.index t 0 = t.val / 4)
    ∧ (t.val < 32 → win0_3.index t 0 = t.val / 4 ∧ win0_3.index t 1 = t.val % 4)
    ∧ (32 ≤ t.val → win0_4.index t 0 = 0 ∧ win0_4.index t 1 = t.val % 4) := by
  revert t; decide +kernel

theorem flushed_eq (c : Dev nD) (t : Fin cfg0.N) :
    (dats m 0 c).flushed 5 t = ((cfg0.win 5).blk t).view.read (Elt Ideal)
      (G (m ((c : Thread nD τ).loc main_arg0)) (m ((c : Thread nD τ).loc main_arg1)) (m ((c : Thread nD τ).loc main_arg2)) (hp m c) (hs m c)) := by
  have hN : t.val < 36 := lt_of_lt_of_eq t.isLt N_0
  obtain ⟨w0, w1, w2, o0, o1, p1, s0, s1, p0, hp', hs'⟩ := idx t
  funext y
  have hy : (y : S1024x512.Idx) = ix2 (y 0) (y 1) := by funext a; fin_cases a <;> rfl
  have hy0 : (y 0).val < 1024 := (y 0).isLt
  have e0 : (((cfg0.win 5).blk t).view.emb y 0).val = t.val / 4 * 1024 + (y 0).val := by
    show win0_5.index t 0 * 1024 + 1 * (y 0).val = _; rw [o0]; omega
  have e1 : (((cfg0.win 5).blk t).view.emb y 1).val = t.val % 4 * 512 + (y 1).val := by
    show win0_5.index t 1 * 512 + 1 * (y 1).val = _; rw [o1]; omega
  have hw (k : Fin 4096) : (iblk m c 2 t : S1x4096x512.Idx → EReal) (ix3 0 k (y 1))
      = m ((c : Thread nD τ).loc main_arg2) (ix3 0 k (((cfg0.win 5).blk t).view.emb y 1)) := by
    unfold iblk
    rw [View.read_apply, cast_eq]
    refine (congrFun (V_v0 m c) _).trans (congrArg (m _) (funext fun a => Fin.ext ?_))
    match a with
    | ⟨0, _⟩ => show win0_2.index t 0 * 1 + 1 * 0 = 0; rw [w0]
    | ⟨1, _⟩ => show win0_2.index t 1 * 4096 + 1 * k.val = k.val; rw [w1]; omega
    | ⟨2, _⟩ => show win0_2.index t 2 * 512 + 1 * (y 1).val = (((cfg0.win 5).blk t).view.emb y 1).val; rw [w2, e1]; omega
  by_cases ht : t.val < 32
  · have ht' : ¬32 ≤ t.val := by omega
    have hr : (((cfg0.win 5).blk t).view.emb y 0).val < 8192 := by rw [e0]; omega
    rw [Value.flushed5_A m c t ht ht']
    refine (congrArg (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr ht) (fun h => ht' ((hcond0_1 t).mp h)) (iblk m c 0 t) (iblk m c 1 t) (iblk m c 2 t) (iblk m c 3 t) (iblk m c 4 t)) hy).trans ((tileA ..).trans ?_)
    rw [View.read_apply, cast_eq]
    unfold G
    rw [dif_pos hr]
    congr 1
    · unfold iblk
      rw [View.read_apply, cast_eq]
      refine (congrFun (V_v1 m c) _).trans (congrArg (hp m c) (funext fun a => Fin.ext ?_))
      match a with
      | ⟨0, _⟩ => show win0_3.index t 0 * 1024 + 1 * (y 0).val = (((cfg0.win 5).blk t).view.emb y 0).val; rw [(hp' ht).1, e0]; omega
      | ⟨1, _⟩ => show win0_3.index t 1 * 512 + 1 * (y 1).val = (((cfg0.win 5).blk t).view.emb y 1).val; rw [(hp' ht).2, e1]; omega
    refine Finset.sum_congr rfl fun k _ => ?_
    rw [hw k, dif_pos hr]
    congr 1
    · unfold iblk
      rw [View.read_apply, cast_eq]
      refine (congrFun (V_main_arg0 m c) _).trans (congrArg (m _) (funext fun a => Fin.ext ?_))
      match a with
      | ⟨0, _⟩ => show win0_0.index t 0 * 1024 + 1 * (y 0).val = (((cfg0.win 5).blk t).view.emb y 0).val; rw [p0 ht, e0]; omega
      | ⟨1, _⟩ => show win0_0.index t 1 * 4096 + 1 * k.val = k.val; rw [p1]; omega
  · have ht' : 32 ≤ t.val := by omega
    have hr : ¬(((cfg0.win 5).blk t).view.emb y 0).val < 8192 := by rw [e0]; omega
    rw [Value.flushed5_B m c t ht ht']
    refine (congrArg (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => ht ((hcond0_0 t).mp h)) ((hcond0_1 t).mpr ht') (iblk m c 0 t) (iblk m c 1 t) (iblk m c 2 t) (iblk m c 3 t) (iblk m c 4 t)) hy).trans ((tileB ..).trans ?_)
    rw [View.read_apply, cast_eq]
    unfold G
    rw [dif_neg hr]
    congr 1
    · unfold iblk
      rw [View.read_apply, cast_eq]
      refine (congrFun (V_v2 m c) _).trans (congrArg (hs m c) (funext fun a => Fin.ext ?_))
      match a with
      | ⟨0, _⟩ => show win0_4.index t 0 * 1024 + 1 * (y 0).val = (((cfg0.win 5).blk t).view.emb y 0).val - 8192; rw [(hs' ht').1, e0]; omega
      | ⟨1, _⟩ => show win0_4.index t 1 * 512 + 1 * (y 1).val = (((cfg0.win 5).blk t).view.emb y 1).val; rw [(hs' ht').2, e1]; omega
    refine Finset.sum_congr rfl fun k _ => ?_
    rw [hw k, dif_neg hr]
    congr 1
    · unfold iblk
      rw [View.read_apply, cast_eq]
      refine (congrFun (V_main_arg1 m c) _).trans (congrArg (m _) (funext fun a => Fin.ext ?_))
      match a with
      | ⟨0, _⟩ => show win0_1.index t 0 * 1024 + 1 * (y 0).val = (((cfg0.win 5).blk t).view.emb y 0).val - 8192; rw [s0, e0]; omega
      | ⟨1, _⟩ => show win0_1.index t 1 * 4096 + 1 * k.val = k.val; rw [s1]; omega

/-- The reference's two products and their join, at an index. -/
theorem ref_eq (x : Vec Ideal S8192x4096 .bf16) (y : Vec Ideal S1024x4096 .bf16) (w : Vec Ideal S2x4096x2048 .f32)
    (HP : Vec Ideal S8192x2048 .f32) (HS : Vec Ideal S1024x2048 .f32) :
    ((concatenate Cert.OutZRefIdeal.S9216x2048 0 [⟨Cert.OutZRefIdeal.S8192x2048, (addf (F := Ideal) HP (Host.dotGeneral (F := Ideal) (φ₁ := .f32) (φ₂ := .f32) Cert.OutZRefIdeal.dot_S8192x4096_S4096x2048_S8192x2048_1_0_0_1_n_n none (extf (F := Ideal) .f32 x Cert.OutZRefIdeal.Gen.bitsLt_bf16_f32) (shapeCast _ (extractStridedSlice Cert.OutZRefIdeal.S1x4096x2048 ![0, 0, 0] w Cert.OutZRefIdeal.Gen.slices_S2x4096x2048_S1x4096x2048_0_0_0) Cert.OutZRefIdeal.Gen.shapeCasts_S1x4096x2048_S4096x2048)))⟩, ⟨Cert.OutZRefIdeal.S1024x2048, (addf (F := Ideal) HS (Host.dotGeneral (F := Ideal) (φ₁ := .f32) (φ₂ := .f32) Cert.OutZRefIdeal.dot_S1024x4096_S4096x2048_S1024x2048_1_0_0_1_n_n none (extf (F := Ideal) .f32 y Cert.OutZRefIdeal.Gen.bitsLt_bf16_f32) (shapeCast _ (extractStridedSlice Cert.OutZRefIdeal.S1x4096x2048 ![0, 0, 0] w Cert.OutZRefIdeal.Gen.slices_S2x4096x2048_S1x4096x2048_0_0_0) Cert.OutZRefIdeal.Gen.shapeCasts_S1x4096x2048_S4096x2048)))⟩] Cert.OutZRefIdeal.Gen.concatenates_S8192x2048_S1024x2048_S9216x2048_d0) : Vec Ideal S9216x2048 .f32)
      = G x y w HP HS := by
  funext i
  idx_vars i
  unfold G
  pointwise
  by_cases h : (i0 : Nat) < 8192
  · simp only [dif_pos h]
  · simp only [dif_neg h]

/-- Every entry of the result lies in one tile. -/
theorem cover (i : S9216x2048.Idx) : ∃ t : Fin cfg0.N, (cfg0.win 5).flush t = true ∧ i ∈ ((cfg0.win 5).blk t).view.set := by
  have hN : cfg0.N = 36 := N_0
  have h0 : (i 0 : Nat) < 9216 := (i 0).isLt
  have h1 : (i 1 : Nat) < 2048 := (i 1).isLt
  obtain ⟨t, ht⟩ : ∃ t : Fin cfg0.N, t.val = (i 0 : Nat) / 1024 * 4 + (i 1 : Nat) / 512 := ⟨⟨_, by omega⟩, rfl⟩
  obtain ⟨-, -, -, o0, o1, -⟩ := idx t
  refine ⟨t, flush0_5 t, ?_⟩
  show i ∈ ((View.whole main_v3).slice (win0_5.rect t)).set
  rw [View.set_slice_whole, Rect.mem_set_unit]
  intro a
  match a with
  | ⟨0, _⟩ => show win0_5.index t 0 * 1024 ≤ (i 0 : Nat) ∧ (i 0 : Nat) < win0_5.index t 0 * 1024 + 1024
              rw [o0]; omega
  | ⟨1, _⟩ => show win0_5.index t 1 * 512 ≤ (i 1 : Nat) ∧ (i 1 : Nat) < win0_5.index t 1 * 512 + 512
              rw [o1]; omega

/-- The run of the kernel, read: its result is the residual plus the whole product, its arguments are unchanged. -/
theorem run : θ_run defs (onTc (τ := τ) (main (F := Ideal))) ⟨m, fun _ => 0, ρ⟩ fun r => ∀ c : Dev nD,
      r.2.mem ((c : Thread nD τ).loc main_v3) = G (m ((c : Thread nD τ).loc main_arg0)) (m ((c : Thread nD τ).loc main_arg1)) (m ((c : Thread nD τ).loc main_arg2)) (hp m c) (hs m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans ((dats m 0 c).arrAt_eq_of_cover 5 _ (fun t _ => flushed_eq m c t) cover), (h c).2⟩)
    (Value.run_blocks m ρ)

/-- The three programs run and leave their arguments as they were; the third is the reference. -/
theorem frame : Cert.quiescent_OutZ := fun m ρ _ => Cert.OutZ.Gen.frame m ρ
theorem frameI : Cert.quiescent_OutZIdeal := fun m ρ _ => Cert.OutZIdeal.Gen.frame m ρ
theorem frameR : Cert.quiescent_OutZRefIdeal := fun m ρ _ =>
  (θ_run Cert.OutZRefIdeal.defs _ _).mono
    (fun r h => ⟨fun c => (h c).2, Idealize.ShloMosaic.sem_eq_zero_of_no_sems (by decide) r.2⟩)
    (Cert.OutZRefIdeal.Value.run (F := Ideal) m ρ)

/-- Over the extended reals the kernel's result is the reference's. -/
theorem algebraic : Cert.algebraic_OutZIdeal_OutZRefIdeal := by
  intro m ρ m' ρ' _ hagree
  refine ⟨fun c => G (m ((c : Thread nD τ).loc main_arg0)) (m ((c : Thread nD τ).loc main_arg1)) (m ((c : Thread nD τ).loc main_arg2)) (hp m c) (hs m c), run m ρ, ?_⟩
  refine (θ_run Cert.OutZRefIdeal.defs _ _).mono (fun r h c => ?_) (Cert.OutZRefIdeal.Value.run (F := Ideal) m' ρ')
  refine ⟨(h c).1.trans ?_, (h c).2⟩
  rw [(hagree c).1, (hagree c).2.1, (hagree c).2.2.1, (hagree c).2.2.2.1, (hagree c).2.2.2.2]
  unfold hp hs; exact ref_eq _ _ _ _ _

end Cert.OutZIdeal.Val

end
-- ==== Proof.NormVal.lean ====
/- The norm before a mixer: each row is scaled by the reciprocal root of its mean square and by the weights. -/
module

public import proofs.«01_k».proof.Proof.Gen.NormIdeal.Value
public import proofs.«01_k».proof.Proof.Gen.NormRefIdeal.Run
public import proofs.«01_k».proof.Defs
public import proofs.«01_k».proof.Proof.Gen.Norm.Frame
public import Idealize.ShloMosaic.Lib.Pointwise

@[expose] public section

set_option maxRecDepth 16384

noncomputable section

namespace Cert.NormIdeal.Val

open Cert.NormIdeal Cert.NormIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem z2 : (![0, 0] : Fin 2 → Nat) = fun _ => 0 := funext fun a => by fin_cases a <;> rfl

/-- One entry of a normalised row `f`, with weight `w`. -/
def entry (f : Fin 2048 → EReal) (w : EReal) (j : Fin 2048) : EReal :=
  f j * Ideal.rsqrt (Ideal.div (∑ k : Fin 2048, f k * f k) (Ideal.ofBits .f32 0x45000000#32) + Ideal.ofBits .f32 0x358637BD#32) * w

theorem tile (x : Vec Ideal S512x2048 .f32) (w : Vec Ideal S1x2048 .f32) (r : Fin 512) (j : Fin 2048) :
    out0_2 (F := Ideal) x w (ix2 r j) = entry (fun k => x (ix2 r k)) (w (ix2 0 j)) j := by
  unfold out0_2
  rw [View.canon_unit_zero z2, View.ld_unit_zero (S := S512x2048) z2, View.ld_unit_zero (S := S1x2048) z2]
  unfold entry
  pointwise [k0_pay1]

/-- The whole normalised array. -/
def G (x : S9216x2048.Idx → EReal) (w : S4x2048.Idx → EReal) : S9216x2048.Idx → EReal :=
  fun i => entry (fun k => x (ix2 (i 0) k)) (w (ix2 1 (i 1))) (i 1)

theorem idx (t : Fin cfg0.N) : win0_0.index t 0 = t.val ∧ win0_0.index t 1 = 0 ∧ win0_1.index t 0 = 0 ∧ win0_1.index t 1 = 0
    ∧ win0_2.index t 0 = t.val ∧ win0_2.index t 1 = 0 := by
  revert t; decide +kernel

/-- The weights the tiles read: row 1 of the norms' weights. -/
theorem V_w (c : Dev nD) (j : Fin 2048) : (V m c main_v2 : S1x2048.Idx → EReal) (ix2 0 j)
    = m ((c : Thread nD τ).loc main_arg1) (ix2 1 j) := by
  have h : (V m c main_v2 : S1x2048.Idx → EReal) = shapeCast S1x2048 (shapeCast S2048 (extractStridedSlice S1x2048 ![1, 0]
      (m ((c : Thread nD τ).loc main_arg1) : S4x2048.Idx → EReal) slices_S4x2048_S1x2048_1_0) shapeCasts_S1x2048_S2048) shapeCasts_S2048_S1x2048 := by
    show StableHlo.after hostOps0 _ main_v2 = _
    after_results <;> rfl
  rw [h]
  pointwise

theorem flushed_eq (c : Dev nD) (t : Fin cfg0.N) :
    (dats m 0 c).flushed 2 t = ((cfg0.win 2).blk t).view.read (Elt Ideal)
      (G (m ((c : Thread nD τ).loc main_arg0)) (m ((c : Thread nD τ).loc main_arg1))) := by
  obtain ⟨h00, h01, h10, h11, h20, h21⟩ := idx t
  rw [Value.flushed2]
  funext y
  have hy : (y : S512x2048.Idx) = ix2 (y 0) (y 1) := by funext a; fin_cases a <;> rfl
  refine (congrArg (out0_2 (iblk m c 0 t) (iblk m c 1 t)) hy).trans ((tile _ _ _ _).trans ?_)
  rw [View.read_apply, cast_eq]
  have e1 : ((cfg0.win 2).blk t).view.emb y 1 = y 1 := by
    apply Fin.ext
    show win0_2.index t 1 * 2048 + 1 * (y 1).val = (y 1).val; rw [h21]; omega
  have hx (k : Fin 2048) : (iblk m c 0 t : S512x2048.Idx → EReal) (ix2 (y 0) k)
      = m ((c : Thread nD τ).loc main_arg0) (ix2 (((cfg0.win 2).blk t).view.emb y 0) k) := by
    unfold iblk
    rw [View.read_apply, cast_eq]
    refine (congrFun (V_main_arg0 m c) _).trans (congrArg (m _) (funext fun a => Fin.ext ?_))
    match a with
    | ⟨0, _⟩ => show win0_0.index t 0 * 512 + 1 * (y 0).val = win0_2.index t 0 * 512 + 1 * (y 0).val; rw [h00, h20]
    | ⟨1, _⟩ => show win0_0.index t 1 * 2048 + 1 * k.val = k.val; rw [h01]; omega
  have hw : (iblk m c 1 t : S1x2048.Idx → EReal) (ix2 0 (y 1)) = m ((c : Thread nD τ).loc main_arg1) (ix2 1 (y 1)) := by
    refine Eq.trans ?_ (V_w m c (y 1))
    unfold iblk
    rw [View.read_apply, cast_eq]
    refine congrArg (V m c main_v2) (funext fun a => Fin.ext ?_)
    match a with
    | ⟨0, _⟩ => show win0_1.index t 0 * 1 + 1 * 0 = 0; rw [h10]
    | ⟨1, _⟩ => show win0_1.index t 1 * 2048 + 1 * (y 1).val = (y 1).val; rw [h11]; omega
  unfold G
  rw [hw, e1]
  exact congrArg (fun f => entry f _ _) (funext hx)

/-- Every entry of the result lies in one tile. -/
theorem cover (i : S9216x2048.Idx) : ∃ t : Fin cfg0.N, (cfg0.win 2).flush t = true ∧ i ∈ ((cfg0.win 2).blk t).view.set := by
  have hN : cfg0.N = 18 := N_0
  have h0 : (i 0 : Nat) < 9216 := (i 0).isLt
  have h1 : (i 1 : Nat) < 2048 := (i 1).isLt
  obtain ⟨t, ht⟩ : ∃ t : Fin cfg0.N, t.val = (i 0 : Nat) / 512 := ⟨⟨_, by omega⟩, rfl⟩
  obtain ⟨-, -, -, -, h20, h21⟩ := idx t
  refine ⟨t, flush0_2 t, ?_⟩
  show i ∈ ((View.whole main_v3).slice (win0_2.rect t)).set
  rw [View.set_slice_whole, Rect.mem_set_unit]
  intro a
  match a with
  | ⟨0, _⟩ => show win0_2.index t 0 * 512 ≤ (i 0 : Nat) ∧ (i 0 : Nat) < win0_2.index t 0 * 512 + 512
              rw [h20]; omega
  | ⟨1, _⟩ => show win0_2.index t 1 * 2048 ≤ (i 1 : Nat) ∧ (i 1 : Nat) < win0_2.index t 1 * 2048 + 2048
              rw [h21]; omega

/-- The run of the kernel, read: its result is the whole normalised array, its arguments are unchanged. -/
theorem run : θ_run defs (onTc (τ := τ) (main (F := Ideal))) ⟨m, fun _ => 0, ρ⟩ fun r => ∀ c : Dev nD,
      r.2.mem ((c : Thread nD τ).loc main_v3) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((dats m 0 c).arrAt_eq_of_cover 2 _ (fun t _ => flushed_eq m c t) cover), (h c).2⟩)
    (Value.run_blocks m ρ)

/-- The three programs run and leave their arguments as they were; the third is the reference. -/
theorem frame : Cert.quiescent_Norm := fun m ρ _ => Cert.Norm.Gen.frame m ρ
theorem frameI : Cert.quiescent_NormIdeal := fun m ρ _ => Cert.NormIdeal.Gen.frame m ρ
theorem frameR : Cert.quiescent_NormRefIdeal := fun m ρ _ =>
  (θ_run Cert.NormRefIdeal.defs _ _).mono
    (fun r h => ⟨fun c => (h c).2, Idealize.ShloMosaic.sem_eq_zero_of_no_sems (by decide) r.2⟩)
    (Cert.NormRefIdeal.Value.run (F := Ideal) m ρ)

/-- Over the extended reals the kernel's result is the reference's. -/
theorem algebraic : Cert.algebraic_NormIdeal_NormRefIdeal := by
  intro m ρ m' ρ' _ hagree
  refine ⟨fun c => G (m ((c : Thread nD τ).loc main_arg0)) (m ((c : Thread nD τ).loc main_arg1)), run m ρ, ?_⟩
  refine (θ_run Cert.NormRefIdeal.defs _ _).mono (fun r h c => ?_) (Cert.NormRefIdeal.Value.run (F := Ideal) m' ρ')
  refine ⟨(h c).1.trans ?_, (h c).2⟩
  rw [(hagree c).1, (hagree c).2]
  show (_ : S9216x2048.Idx → EReal) = _
  funext i
  idx_vars i
  unfold G entry
  pointwise

end Cert.NormIdeal.Val

end
-- ==== Proof.PoolTile.lean ====
/- The pooling mixer of the prompt, one tile at an index: window sums of the rows in reach, their means less the row
   itself, the group's product, scaled and gated. -/
module

public import proofs.«01_k».proof.Proof.Gen.PoolIdeal.Skeleton
public import Idealize.ShloMosaic.Lib.Pointwise

@[expose] public section

set_option maxRecDepth 16384

noncomputable section

namespace Cert.PoolIdeal.Val

open Cert.PoolIdeal Cert.PoolIdeal.Gen Idealize.ShloMosaic Idealize.ShloMosaic.TcCoe Idealize.SL.Sem

/-- The sum of the last `w` rows up to row `n`. -/
def wsum (w : ℕ) (f : ℕ → EReal) (n : ℕ) : EReal := ∑ i ∈ Finset.range w, f (n - i)

theorem wsum_one (f : ℕ → EReal) (n : ℕ) : wsum 1 f n = f n := by simp [wsum]

/-- A window is its later half and its earlier half. -/
theorem wsum_add (v w : ℕ) (f : ℕ → EReal) (n : ℕ) : wsum (v + w) f n = wsum v f n + wsum w f (n - v) := by
  simp [wsum, Finset.sum_range_add, Nat.sub_sub]

/-- The number of rows a window of `w` holds at position `n` of the sequence, as the programs compute it. -/
def cnt (w : BitVec 32) (n : ℕ) : EReal := FloatOps.sitofp (F := Ideal) FTy.f32 (IntOp.minsi (BitVec.ofNat 32 (n + 1)) w)

/-- One entry of a group's product of the row `p`, scaled by `s` and gated by `z`. -/
def mix (p wg : Fin 1024 → EReal) (s z : EReal) : EReal := (∑ k, p k * wg k) * s * (z * Ideal.logistic z)

theorem wrap (n k : ℕ) (h : k ≤ n) (h' : n < 528) : (n + 528 - k) % 528 = n - k := by omega

theorem pos_word (a r : ℕ) :
    IntOp.addi (IntOp.addi (Scalar.muli (BitVec.ofNat 32 a) 512#32) (BitVec.ofNat 32 r)) 1#32 = BitVec.ofNat 32 (a * 512 + r + 1) := by
  show BitVec.ofNat 32 a * BitVec.ofNat 32 512 + BitVec.ofNat 32 r + BitVec.ofNat 32 1 = _
  rw [← BitVec.ofNat_mul, ← BitVec.ofNat_add, ← BitVec.ofNat_add]

section
variable (i : grid0.Coords) (e : Vec Ideal S528x1024 .f32) (E : ℕ → Fin 1024 → EReal)
  (hE : ∀ (n : ℕ) (h : n < 528) (k : Fin 1024), e (ix2 ⟨n, h⟩ k) = E n k) (u z : Vec Ideal S512x1024 .f32)
  (wg : Vec Ideal S1x1x1024x1024 .bf16) (sc : Vec Ideal S1x1x1024 .f32) (r : Fin 512) (j : Fin 1024)
include hE

theorem win2 : k0_pay5 i e u z wg sc (ix2 r j) = mix (fun k => Ideal.div (wsum 2 (E · k) (16 + r)) (cnt 2#32 ((i 2).val * 512 + r)) - u (ix2 r k))
    (fun k => wg (ix4 0 0 k j)) (sc (ix3 0 0 j)) (z (ix2 r j)) := by
  have hr := r.isLt
  pointwise [k0_pay5, k0_pay4]
  simp only [pos_word, hE]
  simp (disch := omega) only [wrap]
  unfold mix cnt
  congr 2
  refine Finset.sum_congr rfl fun k _ => ?_
  congr 3
  simp only [wsum_add 1 1, wsum_one, Nat.sub_sub, Nat.reduceAdd]

theorem win4 : k0_pay6 i e u z wg sc (ix2 r j) = mix (fun k => Ideal.div (wsum 4 (E · k) (16 + r)) (cnt 4#32 ((i 2).val * 512 + r)) - u (ix2 r k))
    (fun k => wg (ix4 0 0 k j)) (sc (ix3 0 0 j)) (z (ix2 r j)) := by
  have hr := r.isLt
  pointwise [k0_pay6, k0_pay4]
  simp only [pos_word, hE]
  simp (disch := omega) only [wrap]
  unfold mix cnt
  congr 2
  refine Finset.sum_congr rfl fun k _ => ?_
  congr 3
  simp only [wsum_add 2 2, wsum_add 1 1, wsum_one, Nat.sub_sub, Nat.reduceAdd]

theorem win8 : k0_pay7 i e u z wg sc (ix2 r j) = mix (fun k => Ideal.div (wsum 8 (E · k) (16 + r)) (cnt 8#32 ((i 2).val * 512 + r)) - u (ix2 r k))
    (fun k => wg (ix4 0 0 k j)) (sc (ix3 0 0 j)) (z (ix2 r j)) := by
  have hr := r.isLt
  pointwise [k0_pay7, k0_pay4]
  simp only [pos_word, hE]
  simp (disch := omega) only [wrap]
  unfold mix cnt
  congr 2
  refine Finset.sum_congr rfl fun k _ => ?_
  congr 3
  simp only [wsum_add 4 4, wsum_add 2 2, wsum_add 1 1, wsum_one, Nat.sub_sub, Nat.reduceAdd]

set_option maxHeartbeats 1000000 in
theorem win16 : k0_pay8 i e u z wg sc (ix2 r j) = mix (fun k => Ideal.div (wsum 16 (E · k) (16 + r)) (cnt 16#32 ((i 2).val * 512 + r)) - u (ix2 r k))
    (fun k => wg (ix4 0 0 k j)) (sc (ix3 0 0 j)) (z (ix2 r j)) := by
  have hr := r.isLt
  pointwise [k0_pay8, k0_pay4]
  simp only [pos_word, hE]
  simp (disch := omega) only [wrap]
  unfold mix cnt
  congr 2
  refine Finset.sum_congr rfl fun k _ => ?_
  congr 3
  simp only [wsum_add 8 8, wsum_add 4 4, wsum_add 2 2, wsum_add 1 1, wsum_one, Nat.sub_sub, Nat.reduceAdd]
end

end Cert.PoolIdeal.Val

end
-- ==== Proof.PoolExt.lean ====
/- The scratch of a tile of the pooling mixer, and the payloads that only move entries. -/
module

public import proofs.«01_k».proof.Proof.PoolTile
public import proofs.«01_k».proof.Proof.Gen.PoolIdeal.Value

@[expose] public section

set_option maxRecDepth 16384

noncomputable section

namespace Cert.PoolIdeal.Val

open Cert.PoolIdeal Cert.PoolIdeal.Gen Idealize.ShloMosaic Idealize.ShloMosaic.TcCoe Idealize.SL.Sem

theorem z2 : (![0, 0] : Fin 2 → Nat) = fun _ => 0 := funext fun a => by fin_cases a <;> rfl
theorem z3 : (![0, 0, 0] : Fin 3 → Nat) = fun _ => 0 := funext fun a => by fin_cases a <;> rfl
theorem z4 : (![0, 0, 0, 0] : Fin 4 → Nat) = fun _ => 0 := funext fun a => by fin_cases a <;> rfl

/-- The scratch of a tile: 16 rows of history, then the tile's 512 rows. -/
def ext (h : Vec Ideal S16x1024 .f32) (u : Vec Ideal S512x1024 .f32) : Vec Ideal S528x1024 .f32 := fun i =>
  if h0 : (i 0).val < 16 then h (ix2 ⟨(i 0).val, h0⟩ (i 1)) else u (ix2 ⟨(i 0).val - 16, by have := (i 0).isLt; dsimp at this; omega⟩ (i 1))

theorem canon_ext (h : Vec Ideal S16x1024 .f32) (u : Vec Ideal S512x1024 .f32) :
    View.canon (Val := Elt Ideal) (s := S528x1024) (e := .f32) [⟨Rect.unit ![16, 0] S512x1024.size inb_S528x1024_S512x1024_16_0, u⟩,
      ⟨Rect.unit ![0, 0] S16x1024.size inb_S528x1024_S16x1024_0_0, h⟩] = ext h u := by
  funext y
  refine View.canon_apply_of_pieces (ext h u) _ ?_ y ?_
  · intro p hp x
    simp only [List.mem_cons, List.not_mem_nil, or_false] at hp
    rcases hp with rfl | rfl
    · show u x = ext h u ((Rect.unit (s := S528x1024) ![16, 0] S512x1024.size inb_S528x1024_S512x1024_16_0).emb x)
      have e0 : ((Rect.unit (s := S528x1024) ![16, 0] S512x1024.size inb_S528x1024_S512x1024_16_0).emb x 0 : ℕ) = 16 + (x 0).val := by
        show 16 + 1 * (x 0).val = _; omega
      have e1 : ((Rect.unit (s := S528x1024) ![16, 0] S512x1024.size inb_S528x1024_S512x1024_16_0).emb x 1 : ℕ) = (x 1).val := by
        show 0 + 1 * (x 1).val = _; omega
      generalize (Rect.unit (s := S528x1024) ![16, 0] S512x1024.size inb_S528x1024_S512x1024_16_0).emb x = q at e0 e1
      unfold ext
      rw [dif_neg (by rw [e0]; omega)]
      refine congrArg u (funext fun a => Fin.ext ?_)
      match a with
      | ⟨0, _⟩ => show (x 0).val = (q 0 : ℕ) - 16; omega
      | ⟨1, _⟩ => exact e1.symm
    · show h x = ext h u ((Rect.unit (s := S528x1024) ![0, 0] S16x1024.size inb_S528x1024_S16x1024_0_0).emb x)
      have e0 : ((Rect.unit (s := S528x1024) ![0, 0] S16x1024.size inb_S528x1024_S16x1024_0_0).emb x 0 : ℕ) = (x 0).val := by
        show 0 + 1 * (x 0).val = _; omega
      have e1 : ((Rect.unit (s := S528x1024) ![0, 0] S16x1024.size inb_S528x1024_S16x1024_0_0).emb x 1 : ℕ) = (x 1).val := by
        show 0 + 1 * (x 1).val = _; omega
      generalize (Rect.unit (s := S528x1024) ![0, 0] S16x1024.size inb_S528x1024_S16x1024_0_0).emb x = q at e0 e1
      have hx : (x 0).val < 16 := (x 0).isLt
      unfold ext
      rw [dif_pos (by rw [e0]; exact hx)]
      refine congrArg h (funext fun a => Fin.ext ?_)
      match a with
      | ⟨0, _⟩ => exact e0.symm
      | ⟨1, _⟩ => exact e1.symm
  · have hy1 : (y 1 : ℕ) < 1024 := (y 1).isLt
    have hy0 : (y 0 : ℕ) < 528 := (y 0).isLt
    by_cases hy : (y 0 : ℕ) < 16
    · refine ⟨_, List.mem_cons_of_mem _ (List.mem_cons_self ..), ?_⟩
      rw [Rect.mem_set_unit]
      intro a
      match a with
      | ⟨0, _⟩ => show 0 ≤ (y 0 : ℕ) ∧ (y 0 : ℕ) < 0 + 16; omega
      | ⟨1, _⟩ => show 0 ≤ (y 1 : ℕ) ∧ (y 1 : ℕ) < 0 + 1024; omega
    · refine ⟨_, List.mem_cons_self .., ?_⟩
      rw [Rect.mem_set_unit]
      intro a
      match a with
      | ⟨0, _⟩ => show 16 ≤ (y 0 : ℕ) ∧ (y 0 : ℕ) < 16 + 512; omega
      | ⟨1, _⟩ => show 0 ≤ (y 1 : ℕ) ∧ (y 1 : ℕ) < 0 + 1024; omega

theorem pay1_eq : k0_pay1 (F := Ideal) = fun _ => (0 : EReal) := by
  funext x
  idx_vars x
  pointwise [k0_pay1]

theorem pay2_eq (v : Vec Ideal S16x1024 .f32) : k0_pay2 v = v := by
  funext x
  idx_vars x
  pointwise [k0_pay2]

theorem pay3_eq (v : Vec Ideal S512x1024 .f32) : k0_pay3 v = v := by
  funext x
  idx_vars x
  pointwise [k0_pay3]

theorem pay9_eq (v : Vec Ideal S15x1024 .f32) (b : Fin 15) (k : Fin 1024) : k0_pay9 v (ix3 0 b k) = v (ix2 b k) := by
  pointwise [k0_pay9]

end Cert.PoolIdeal.Val

end
-- ==== Proof.PoolOut.lean ====
/- What a tile's stores leave in the two results, at an index: cases by window and by place in the sequence. -/
module

public import proofs.«01_k».proof.Proof.PoolExt
public import proofs.«01_k».proof.Proof.Gen.PoolIdeal.Value

@[expose] public section

set_option maxRecDepth 16384

noncomputable section

namespace Cert.PoolIdeal.Val

open Cert.PoolIdeal Cert.PoolIdeal.Gen Idealize.ShloMosaic Idealize.ShloMosaic.TcCoe Idealize.SL.Sem

theorem yA (c : Dev nD) (i : grid0.Coords) (a3 : Memref sig .tc .vmem S512x1024 .f32) (h3 : a3.IsWhole)
    (a4 : Memref sig .tc .vmem S16x1024 .f32) (h4 : a4.IsWhole) (a5 : Memref sig .tc .vmem S512x1024 .f32) (h5 : a5.IsWhole)
    (a6 : Memref sig .tc .vmem S1x1x1024x1024 .bf16) (h6 : a6.IsWhole) (a7 : Memref sig .tc .vmem S1x1x1024 .f32) (h7 : a7.IsWhole)
    (a8 : Memref sig .tc .vmem S512x1024 .bf16) (h8 : a8.IsWhole) (a9 : Memref sig .tc .vmem S1x15x1024 .f32) (h9 : a9.IsWhole)
    (a10 : Memref sig .tc .vmem S528x1024 .f32) (h10 : a10.IsWhole)
    (c0 : cond0_0 i) (c1 : ¬cond0_1 i) (c2 : cond0_2 i) (c3 : ¬cond0_3 i) (c4 : ¬cond0_4 i) (c5 : ¬cond0_5 i) (c6 : ¬cond0_6 i)
    (x0 : Vec Ideal S512x1024 .f32) (x1 : Vec Ideal S16x1024 .f32)
    (x2 : Vec Ideal S512x1024 .f32) (x3 : Vec Ideal S1x1x1024x1024 .bf16) (x4 : Vec Ideal S1x1x1024 .f32) (r : Fin 512) (j : Fin 1024)
    (E : ℕ → Fin 1024 → EReal) (hE : ∀ (n : ℕ) (h : n < 528) (k : Fin 1024), ext (fun _ => 0) x0 (ix2 ⟨n, h⟩ k) = E n k) :
    out0_A_5 (F := Ideal) c i a3 h3 a4 h4 a5 h5 a6 h6 a7 h7 a8 h8 a9 h9 a10 h10 c0 c1 c2 c3 c4 c5 c6 x0 x1 x2 x3 x4 (ix2 r j)
      = mix (fun k => Ideal.div (wsum 2 (E · k) (16 + r)) (cnt 2#32 ((i 2).val * 512 + r)) - x0 (ix2 r k))
        (fun k => x3 (ix4 0 0 k j)) (x4 (ix3 0 0 j)) (x2 (ix2 r j)) := by
  unfold out0_A_5
  rw [View.read_writes_eq_canon _ _ _ (cover0_A_5 c i a3 h3 a4 h4 a5 h5 a6 h6 a7 h7 a8 h8 a9 h9 a10 h10 c0 c1 c2 c3 c4 c5 c6 x0 x1 x2 x3 x4)]
  unfold kernelRun0_A
  dsimp only
  sl_unfold_words
  rw [View.canon_unit_zero z2]
  simp only [View.readAt_eq_ld, h3.read_unread, h4.read_unread, h5.read_unread, h6.read_unread, h7.read_unread]
  rw [View.readCov_eq_canon', View.ld_unit_zero (S := S512x1024) z2, View.ld_unit_zero (S := S512x1024) z2, View.ld_unit_zero (S := S1x1x1024x1024) z4,
    View.ld_unit_zero (S := S1x1x1024) z3, pay3_eq, pay1_eq, canon_ext]
  refine (win2 i _ E ?_ _ _ _ _ r j)
  intro n h k
  refine Eq.trans (congrArg (ext (fun _ => 0) x0) (funext fun a => Fin.ext ?_)) (hE n h k)
  match a with
  | ⟨0, _⟩ => show 0 + 1 * n = n; omega
  | ⟨1, _⟩ => show 0 + 1 * k.val = k.val; omega

theorem yB (c : Dev nD) (i : grid0.Coords) (a3 : Memref sig .tc .vmem S512x1024 .f32) (h3 : a3.IsWhole)
    (a4 : Memref sig .tc .vmem S16x1024 .f32) (h4 : a4.IsWhole) (a5 : Memref sig .tc .vmem S512x1024 .f32) (h5 : a5.IsWhole)
    (a6 : Memref sig .tc .vmem S1x1x1024x1024 .bf16) (h6 : a6.IsWhole) (a7 : Memref sig .tc .vmem S1x1x1024 .f32) (h7 : a7.IsWhole)
    (a8 : Memref sig .tc .vmem S512x1024 .bf16) (h8 : a8.IsWhole) (a9 : Memref sig .tc .vmem S1x15x1024 .f32) (h9 : a9.IsWhole)
    (a10 : Memref sig .tc .vmem S528x1024 .f32) (h10 : a10.IsWhole)
    (c0 : ¬cond0_0 i) (c1 : cond0_1 i) (c2 : cond0_2 i) (c3 : ¬cond0_3 i) (c4 : ¬cond0_4 i) (c5 : ¬cond0_5 i) (c6 : ¬cond0_6 i)
    (x0 : Vec Ideal S512x1024 .f32) (x1 : Vec Ideal S16x1024 .f32)
    (x2 : Vec Ideal S512x1024 .f32) (x3 : Vec Ideal S1x1x1024x1024 .bf16) (x4 : Vec Ideal S1x1x1024 .f32) (r : Fin 512) (j : Fin 1024)
    (E : ℕ → Fin 1024 → EReal) (hE : ∀ (n : ℕ) (h : n < 528) (k : Fin 1024), ext x1 x0 (ix2 ⟨n, h⟩ k) = E n k) :
    out0_B_5 (F := Ideal) c i a3 h3 a4 h4 a5 h5 a6 h6 a7 h7 a8 h8 a9 h9 a10 h10 c0 c1 c2 c3 c4 c5 c6 x0 x1 x2 x3 x4 (ix2 r j)
      = mix (fun k => Ideal.div (wsum 2 (E · k) (16 + r)) (cnt 2#32 ((i 2).val * 512 + r)) - x0 (ix2 r k))
        (fun k => x3 (ix4 0 0 k j)) (x4 (ix3 0 0 j)) (x2 (ix2 r j)) := by
  unfold out0_B_5
  rw [View.read_writes_eq_canon _ _ _ (cover0_B_5 c i a3 h3 a4 h4 a5 h5 a6 h6 a7 h7 a8 h8 a9 h9 a10 h10 c0 c1 c2 c3 c4 c5 c6 x0 x1 x2 x3 x4)]
  unfold kernelRun0_B
  dsimp only
  sl_unfold_words
  rw [View.canon_unit_zero z2]
  simp only [View.readAt_eq_ld, h3.read_unread, h4.read_unread, h5.read_unread, h6.read_unread, h7.read_unread]
  rw [View.readCov_eq_canon', View.ld_unit_zero (S := S512x1024) z2, View.ld_unit_zero (S := S512x1024) z2, View.ld_unit_zero (S := S1x1x1024x1024) z4,
    View.ld_unit_zero (S := S1x1x1024) z3, View.ld_unit_zero (S := S16x1024) z2, pay3_eq, pay2_eq, canon_ext]
  refine (win2 i _ E ?_ _ _ _ _ r j)
  intro n h k
  refine Eq.trans (congrArg (ext x1 x0) (funext fun a => Fin.ext ?_)) (hE n h k)
  match a with
  | ⟨0, _⟩ => show 0 + 1 * n = n; omega
  | ⟨1, _⟩ => show 0 + 1 * k.val = k.val; omega

theorem yC (c : Dev nD) (i : grid0.Coords) (a3 : Memref sig .tc .vmem S512x1024 .f32) (h3 : a3.IsWhole)
    (a4 : Memref sig .tc .vmem S16x1024 .f32) (h4 : a4.IsWhole) (a5 : Memref sig .tc .vmem S512x1024 .f32) (h5 : a5.IsWhole)
    (a6 : Memref sig .tc .vmem S1x1x1024x1024 .bf16) (h6 : a6.IsWhole) (a7 : Memref sig .tc .vmem S1x1x1024 .f32) (h7 : a7.IsWhole)
    (a8 : Memref sig .tc .vmem S512x1024 .bf16) (h8 : a8.IsWhole) (a9 : Memref sig .tc .vmem S1x15x1024 .f32) (h9 : a9.IsWhole)
    (a10 : Memref sig .tc .vmem S528x1024 .f32) (h10 : a10.IsWhole)
    (c0 : ¬cond0_0 i) (c1 : cond0_1 i) (c2 : cond0_2 i) (c3 : ¬cond0_3 i) (c4 : ¬cond0_4 i) (c5 : ¬cond0_5 i) (c6 : cond0_6 i)
    (x0 : Vec Ideal S512x1024 .f32) (x1 : Vec Ideal S16x1024 .f32)
    (x2 : Vec Ideal S512x1024 .f32) (x3 : Vec Ideal S1x1x1024x1024 .bf16) (x4 : Vec Ideal S1x1x1024 .f32) (r : Fin 512) (j : Fin 1024)
    (E : ℕ → Fin 1024 → EReal) (hE : ∀ (n : ℕ) (h : n < 528) (k : Fin 1024), ext x1 x0 (ix2 ⟨n, h⟩ k) = E n k) :
    out0_C_5 (F := Ideal) c i a3 h3 a4 h4 a5 h5 a6 h6 a7 h7 a8 h8 a9 h9 a10 h10 c0 c1 c2 c3 c4 c5 c6 x0 x1 x2 x3 x4 (ix2 r j)
      = mix (fun k => Ideal.div (wsum 2 (E · k) (16 + r)) (cnt 2#32 ((i 2).val * 512 + r)) - x0 (ix2 r k))
        (fun k => x3 (ix4 0 0 k j)) (x4 (ix3 0 0 j)) (x2 (ix2 r j)) := by
  unfold out0_C_5
  rw [View.read_writes_eq_canon _ _ _ (cover0_C_5 c i a3 h3 a4 h4 a5 h5 a6 h6 a7 h7 a8 h8 a9 h9 a10 h10 c0 c1 c2 c3 c4 c5 c6 x0 x1 x2 x3 x4)]
  unfold kernelRun0_C
  dsimp only
  sl_unfold_words
  rw [View.canon_unit_zero z2]
  simp only [View.readAt_eq_ld, h3.read_unread, h4.read_unread, h5.read_unread, h6.read_unread, h7.read_unread]
  rw [View.readCov_eq_canon', View.ld_unit_zero (S := S512x1024) z2, View.ld_unit_zero (S := S512x1024) z2, View.ld_unit_zero (S := S1x1x1024x1024) z4,
    View.ld_unit_zero (S := S1x1x1024) z3, View.ld_unit_zero (S := S16x1024) z2, pay3_eq, pay2_eq, canon_ext]
  refine (win2 i _ E ?_ _ _ _ _ r j)
  intro n h k
  refine Eq.trans (congrArg (ext x1 x0) (funext fun a => Fin.ext ?_)) (hE n h k)
  match a with
  | ⟨0, _⟩ => show 0 + 1 * n = n; omega
  | ⟨1, _⟩ => show 0 + 1 * k.val = k.val; omega

theorem cC (c : Dev nD) (i : grid0.Coords) (a3 : Memref sig .tc .vmem S512x1024 .f32) (h3 : a3.IsWhole)
    (a4 : Memref sig .tc .vmem S16x1024 .f32) (h4 : a4.IsWhole) (a5 : Memref sig .tc .vmem S512x1024 .f32) (h5 : a5.IsWhole)
    (a6 : Memref sig .tc .vmem S1x1x1024x1024 .bf16) (h6 : a6.IsWhole) (a7 : Memref sig .tc .vmem S1x1x1024 .f32) (h7 : a7.IsWhole)
    (a8 : Memref sig .tc .vmem S512x1024 .bf16) (h8 : a8.IsWhole) (a9 : Memref sig .tc .vmem S1x15x1024 .f32) (h9 : a9.IsWhole)
    (a10 : Memref sig .tc .vmem S528x1024 .f32) (h10 : a10.IsWhole)
    (c0 : ¬cond0_0 i) (c1 : cond0_1 i) (c2 : cond0_2 i) (c3 : ¬cond0_3 i) (c4 : ¬cond0_4 i) (c5 : ¬cond0_5 i) (c6 : cond0_6 i)
    (x0 : Vec Ideal S512x1024 .f32) (x1 : Vec Ideal S16x1024 .f32)
    (x2 : Vec Ideal S512x1024 .f32) (x3 : Vec Ideal S1x1x1024x1024 .bf16) (x4 : Vec Ideal S1x1x1024 .f32) (b : Fin 15) (k : Fin 1024) :
    out0_C_6 (F := Ideal) c i a3 h3 a4 h4 a5 h5 a6 h6 a7 h7 a8 h8 a9 h9 a10 h10 c0 c1 c2 c3 c4 c5 c6 x0 x1 x2 x3 x4 (ix3 0 b k) = x0 (ix2 ⟨497 + b.val, by omega⟩ k) := by
  unfold out0_C_6
  rw [View.read_writes_eq_canon _ _ _ (cover0_C_6 c i a3 h3 a4 h4 a5 h5 a6 h6 a7 h7 a8 h8 a9 h9 a10 h10 c0 c1 c2 c3 c4 c5 c6 x0 x1 x2 x3 x4)]
  unfold kernelRun0_C
  dsimp only
  sl_unfold_words
  rw [View.canon_unit_zero z3]
  simp only [View.readAt_eq_ld, h3.read_unread, h4.read_unread]
  rw [View.readCov_eq_canon', View.ld_unit_zero (S := S512x1024) z2, View.ld_unit_zero (S := S16x1024) z2, pay3_eq, pay2_eq, canon_ext]
  refine (pay9_eq _ _ _).trans ?_
  unfold ext
  rw [dif_neg (by show ¬(513 + 1 * b.val < 16); omega)]
  refine congrArg x0 (funext fun a => Fin.ext ?_)
  match a with
  | ⟨0, _⟩ => show 513 + 1 * b.val - 16 = 497 + b.val; omega
  | ⟨1, _⟩ => show 0 + 1 * k.val = k.val; omega

theorem yD (c : Dev nD) (i : grid0.Coords) (a3 : Memref sig .tc .vmem S512x1024 .f32) (h3 : a3.IsWhole)
    (a4 : Memref sig .tc .vmem S16x1024 .f32) (h4 : a4.IsWhole) (a5 : Memref sig .tc .vmem S512x1024 .f32) (h5 : a5.IsWhole)
    (a6 : Memref sig .tc .vmem S1x1x1024x1024 .bf16) (h6 : a6.IsWhole) (a7 : Memref sig .tc .vmem S1x1x1024 .f32) (h7 : a7.IsWhole)
    (a8 : Memref sig .tc .vmem S512x1024 .bf16) (h8 : a8.IsWhole) (a9 : Memref sig .tc .vmem S1x15x1024 .f32) (h9 : a9.IsWhole)
    (a10 : Memref sig .tc .vmem S528x1024 .f32) (h10 : a10.IsWhole)
    (c0 : cond0_0 i) (c1 : ¬cond0_1 i) (c2 : ¬cond0_2 i) (c3 : cond0_3 i) (c4 : ¬cond0_4 i) (c5 : ¬cond0_5 i) (c6 : ¬cond0_6 i)
    (x0 : Vec Ideal S512x1024 .f32) (x1 : Vec Ideal S16x1024 .f32)
    (x2 : Vec Ideal S512x1024 .f32) (x3 : Vec Ideal S1x1x1024x1024 .bf16) (x4 : Vec Ideal S1x1x1024 .f32) (r : Fin 512) (j : Fin 1024)
    (E : ℕ → Fin 1024 → EReal) (hE : ∀ (n : ℕ) (h : n < 528) (k : Fin 1024), ext (fun _ => 0) x0 (ix2 ⟨n, h⟩ k) = E n k) :
    out0_D_5 (F := Ideal) c i a3 h3 a4 h4 a5 h5 a6 h6 a7 h7 a8 h8 a9 h9 a10 h10 c0 c1 c2 c3 c4 c5 c6 x0 x1 x2 x3 x4 (ix2 r j)
      = mix (fun k => Ideal.div (wsum 4 (E · k) (16 + r)) (cnt 4#32 ((i 2).val * 512 + r)) - x0 (ix2 r k))
        (fun k => x3 (ix4 0 0 k j)) (x4 (ix3 0 0 j)) (x2 (ix2 r j)) := by
  unfold out0_D_5
  rw [View.read_writes_eq_canon _ _ _ (cover0_D_5 c i a3 h3 a4 h4 a5 h5 a6 h6 a7 h7 a8 h8 a9 h9 a10 h10 c0 c1 c2 c3 c4 c5 c6 x0 x1 x2 x3 x4)]
  unfold kernelRun0_D
  dsimp only
  sl_unfold_words
  rw [View.canon_unit_zero z2]
  simp only [View.readAt_eq_ld, h3.read_unread, h4.read_unread, h5.read_unread, h6.read_unread, h7.read_unread]
  rw [View.readCov_eq_canon', View.ld_unit_zero (S := S512x1024) z2, View.ld_unit_zero (S := S512x1024) z2, View.ld_unit_zero (S := S1x1x1024x1024) z4,
    View.ld_unit_zero (S := S1x1x1024) z3, pay3_eq, pay1_eq, canon_ext]
  refine (win4 i _ E ?_ _ _ _ _ r j)
  intro n h k
  refine Eq.trans (congrArg (ext (fun _ => 0) x0) (funext fun a => Fin.ext ?_)) (hE n h k)
  match a with
  | ⟨0, _⟩ => show 0 + 1 * n = n; omega
  | ⟨1, _⟩ => show 0 + 1 * k.val = k.val; omega

theorem yE (c : Dev nD) (i : grid0.Coords) (a3 : Memref sig .tc .vmem S512x1024 .f32) (h3 : a3.IsWhole)
    (a4 : Memref sig .tc .vmem S16x1024 .f32) (h4 : a4.IsWhole) (a5 : Memref sig .tc .vmem S512x1024 .f32) (h5 : a5.IsWhole)
    (a6 : Memref sig .tc .vmem S1x1x1024x1024 .bf16) (h6 : a6.IsWhole) (a7 : Memref sig .tc .vmem S1x1x1024 .f32) (h7 : a7.IsWhole)
    (a8 : Memref sig .tc .vmem S512x1024 .bf16) (h8 : a8.IsWhole) (a9 : Memref sig .tc .vmem S1x15x1024 .f32) (h9 : a9.IsWhole)
    (a10 : Memref sig .tc .vmem S528x1024 .f32) (h10 : a10.IsWhole)
    (c0 : ¬cond0_0 i) (c1 : cond0_1 i) (c2 : ¬cond0_2 i) (c3 : cond0_3 i) (c4 : ¬cond0_4 i) (c5 : ¬cond0_5 i) (c6 : ¬cond0_6 i)
    (x0 : Vec Ideal S512x1024 .f32) (x1 : Vec Ideal S16x1024 .f32)
    (x2 : Vec Ideal S512x1024 .f32) (x3 : Vec Ideal S1x1x1024x1024 .bf16) (x4 : Vec Ideal S1x1x1024 .f32) (r : Fin 512) (j : Fin 1024)
    (E : ℕ → Fin 1024 → EReal) (hE : ∀ (n : ℕ) (h : n < 528) (k : Fin 1024), ext x1 x0 (ix2 ⟨n, h⟩ k) = E n k) :
    out0_E_5 (F := Ideal) c i a3 h3 a4 h4 a5 h5 a6 h6 a7 h7 a8 h8 a9 h9 a10 h10 c0 c1 c2 c3 c4 c5 c6 x0 x1 x2 x3 x4 (ix2 r j)
      = mix (fun k => Ideal.div (wsum 4 (E · k) (16 + r)) (cnt 4#32 ((i 2).val * 512 + r)) - x0 (ix2 r k))
        (fun k => x3 (ix4 0 0 k j)) (x4 (ix3 0 0 j)) (x2 (ix2 r j)) := by
  unfold out0_E_5
  rw [View.read_writes_eq_canon _ _ _ (cover0_E_5 c i a3 h3 a4 h4 a5 h5 a6 h6 a7 h7 a8 h8 a9 h9 a10 h10 c0 c1 c2 c3 c4 c5 c6 x0 x1 x2 x3 x4)]
  unfold kernelRun0_E
  dsimp only
  sl_unfold_words
  rw [View.canon_unit_zero z2]
  simp only [View.readAt_eq_ld, h3.read_unread, h4.read_unread, h5.read_unread, h6.read_unread, h7.read_unread]
  rw [View.readCov_eq_canon', View.ld_unit_zero (S := S512x1024) z2, View.ld_unit_zero (S := S512x1024) z2, View.ld_unit_zero (S := S1x1x1024x1024) z4,
    View.ld_unit_zero (S := S1x1x1024) z3, View.ld_unit_zero (S := S16x1024) z2, pay3_eq, pay2_eq, canon_ext]
  refine (win4 i _ E ?_ _ _ _ _ r j)
  intro n h k
  refine Eq.trans (congrArg (ext x1 x0) (funext fun a => Fin.ext ?_)) (hE n h k)
  match a with
  | ⟨0, _⟩ => show 0 + 1 * n = n; omega
  | ⟨1, _⟩ => show 0 + 1 * k.val = k.val; omega

theorem yF (c : Dev nD) (i : grid0.Coords) (a3 : Memref sig .tc .vmem S512x1024 .f32) (h3 : a3.IsWhole)
    (a4 : Memref sig .tc .vmem S16x1024 .f32) (h4 : a4.IsWhole) (a5 : Memref sig .tc .vmem S512x1024 .f32) (h5 : a5.IsWhole)
    (a6 : Memref sig .tc .vmem S1x1x1024x1024 .bf16) (h6 : a6.IsWhole) (a7 : Memref sig .tc .vmem S1x1x1024 .f32) (h7 : a7.IsWhole)
    (a8 : Memref sig .tc .vmem S512x1024 .bf16) (h8 : a8.IsWhole) (a9 : Memref sig .tc .vmem S1x15x1024 .f32) (h9 : a9.IsWhole)
    (a10 : Memref sig .tc .vmem S528x1024 .f32) (h10 : a10.IsWhole)
    (c0 : ¬cond0_0 i) (c1 : cond0_1 i) (c2 : ¬cond0_2 i) (c3 : cond0_3 i) (c4 : ¬cond0_4 i) (c5 : ¬cond0_5 i) (c6 : cond0_6 i)
    (x0 : Vec Ideal S512x1024 .f32) (x1 : Vec Ideal S16x1024 .f32)
    (x2 : Vec Ideal S512x1024 .f32) (x3 : Vec Ideal S1x1x1024x1024 .bf16) (x4 : Vec Ideal S1x1x1024 .f32) (r : Fin 512) (j : Fin 1024)
    (E : ℕ → Fin 1024 → EReal) (hE : ∀ (n : ℕ) (h : n < 528) (k : Fin 1024), ext x1 x0 (ix2 ⟨n, h⟩ k) = E n k) :
    out0_F_5 (F := Ideal) c i a3 h3 a4 h4 a5 h5 a6 h6 a7 h7 a8 h8 a9 h9 a10 h10 c0 c1 c2 c3 c4 c5 c6 x0 x1 x2 x3 x4 (ix2 r j)
      = mix (fun k => Ideal.div (wsum 4 (E · k) (16 + r)) (cnt 4#32 ((i 2).val * 512 + r)) - x0 (ix2 r k))
        (fun k => x3 (ix4 0 0 k j)) (x4 (ix3 0 0 j)) (x2 (ix2 r j)) := by
  unfold out0_F_5
  rw [View.read_writes_eq_canon _ _ _ (cover0_F_5 c i a3 h3 a4 h4 a5 h5 a6 h6 a7 h7 a8 h8 a9 h9 a10 h10 c0 c1 c2 c3 c4 c5 c6 x0 x1 x2 x3 x4)]
  unfold kernelRun0_F
  dsimp only
  sl_unfold_words
  rw [View.canon_unit_zero z2]
  simp only [View.readAt_eq_ld, h3.read_unread, h4.read_unread, h5.read_unread, h6.read_unread, h7.read_unread]
  rw [View.readCov_eq_canon', View.ld_unit_zero (S := S512x1024) z2, View.ld_unit_zero (S := S512x1024) z2, View.ld_unit_zero (S := S1x1x1024x1024) z4,
    View.ld_unit_zero (S := S1x1x1024) z3, View.ld_unit_zero (S := S16x1024) z2, pay3_eq, pay2_eq, canon_ext]
  refine (win4 i _ E ?_ _ _ _ _ r j)
  intro n h k
  refine Eq.trans (congrArg (ext x1 x0) (funext fun a => Fin.ext ?_)) (hE n h k)
  match a with
  | ⟨0, _⟩ => show 0 + 1 * n = n; omega
  | ⟨1, _⟩ => show 0 + 1 * k.val = k.val; omega

theorem cF (c : Dev nD) (i : grid0.Coords) (a3 : Memref sig .tc .vmem S512x1024 .f32) (h3 : a3.IsWhole)
    (a4 : Memref sig .tc .vmem S16x1024 .f32) (h4 : a4.IsWhole) (a5 : Memref sig .tc .vmem S512x1024 .f32) (h5 : a5.IsWhole)
    (a6 : Memref sig .tc .vmem S1x1x1024x1024 .bf16) (h6 : a6.IsWhole) (a7 : Memref sig .tc .vmem S1x1x1024 .f32) (h7 : a7.IsWhole)
    (a8 : Memref sig .tc .vmem S512x1024 .bf16) (h8 : a8.IsWhole) (a9 : Memref sig .tc .vmem S1x15x1024 .f32) (h9 : a9.IsWhole)
    (a10 : Memref sig .tc .vmem S528x1024 .f32) (h10 : a10.IsWhole)
    (c0 : ¬cond0_0 i) (c1 : cond0_1 i) (c2 : ¬cond0_2 i) (c3 : cond0_3 i) (c4 : ¬cond0_4 i) (c5 : ¬cond0_5 i) (c6 : cond0_6 i)
    (x0 : Vec Ideal S512x1024 .f32) (x1 : Vec Ideal S16x1024 .f32)
    (x2 : Vec Ideal S512x1024 .f32) (x3 : Vec Ideal S1x1x1024x1024 .bf16) (x4 : Vec Ideal S1x1x1024 .f32) (b : Fin 15) (k : Fin 1024) :
    out0_F_6 (F := Ideal) c i a3 h3 a4 h4 a5 h5 a6 h6 a7 h7 a8 h8 a9 h9 a10 h10 c0 c1 c2 c3 c4 c5 c6 x0 x1 x2 x3 x4 (ix3 0 b k) = x0 (ix2 ⟨497 + b.val, by omega⟩ k) := by
  unfold out0_F_6
  rw [View.read_writes_eq_canon _ _ _ (cover0_F_6 c i a3 h3 a4 h4 a5 h5 a6 h6 a7 h7 a8 h8 a9 h9 a10 h10 c0 c1 c2 c3 c4 c5 c6 x0 x1 x2 x3 x4)]
  unfold kernelRun0_F
  dsimp only
  sl_unfold_words
  rw [View.canon_unit_zero z3]
  simp only [View.readAt_eq_ld, h3.read_unread, h4.read_unread]
  rw [View.readCov_eq_canon', View.ld_unit_zero (S := S512x1024) z2, View.ld_unit_zero (S := S16x1024) z2, pay3_eq, pay2_eq, canon_ext]
  refine (pay9_eq _ _ _).trans ?_
  unfold ext
  rw [dif_neg (by show ¬(513 + 1 * b.val < 16); omega)]
  refine congrArg x0 (funext fun a => Fin.ext ?_)
  match a with
  | ⟨0, _⟩ => show 513 + 1 * b.val - 16 = 497 + b.val; omega
  | ⟨1, _⟩ => show 0 + 1 * k.val = k.val; omega

theorem yG (c : Dev nD) (i : grid0.Coords) (a3 : Memref sig .tc .vmem S512x1024 .f32) (h3 : a3.IsWhole)
    (a4 : Memref sig .tc .vmem S16x1024 .f32) (h4 : a4.IsWhole) (a5 : Memref sig .tc .vmem S512x1024 .f32) (h5 : a5.IsWhole)
    (a6 : Memref sig .tc .vmem S1x1x1024x1024 .bf16) (h6 : a6.IsWhole) (a7 : Memref sig .tc .vmem S1x1x1024 .f32) (h7 : a7.IsWhole)
    (a8 : Memref sig .tc .vmem S512x1024 .bf16) (h8 : a8.IsWhole) (a9 : Memref sig .tc .vmem S1x15x1024 .f32) (h9 : a9.IsWhole)
    (a10 : Memref sig .tc .vmem S528x1024 .f32) (h10 : a10.IsWhole)
    (c0 : cond0_0 i) (c1 : ¬cond0_1 i) (c2 : ¬cond0_2 i) (c3 : ¬cond0_3 i) (c4 : cond0_4 i) (c5 : ¬cond0_5 i) (c6 : ¬cond0_6 i)
    (x0 : Vec Ideal S512x1024 .f32) (x1 : Vec Ideal S16x1024 .f32)
    (x2 : Vec Ideal S512x1024 .f32) (x3 : Vec Ideal S1x1x1024x1024 .bf16) (x4 : Vec Ideal S1x1x1024 .f32) (r : Fin 512) (j : Fin 1024)
    (E : ℕ → Fin 1024 → EReal) (hE : ∀ (n : ℕ) (h : n < 528) (k : Fin 1024), ext (fun _ => 0) x0 (ix2 ⟨n, h⟩ k) = E n k) :
    out0_G_5 (F := Ideal) c i a3 h3 a4 h4 a5 h5 a6 h6 a7 h7 a8 h8 a9 h9 a10 h10 c0 c1 c2 c3 c4 c5 c6 x0 x1 x2 x3 x4 (ix2 r j)
      = mix (fun k => Ideal.div (wsum 8 (E · k) (16 + r)) (cnt 8#32 ((i 2).val * 512 + r)) - x0 (ix2 r k))
        (fun k => x3 (ix4 0 0 k j)) (x4 (ix3 0 0 j)) (x2 (ix2 r j)) := by
  unfold out0_G_5
  rw [View.read_writes_eq_canon _ _ _ (cover0_G_5 c i a3 h3 a4 h4 a5 h5 a6 h6 a7 h7 a8 h8 a9 h9 a10 h10 c0 c1 c2 c3 c4 c5 c6 x0 x1 x2 x3 x4)]
  unfold kernelRun0_G
  dsimp only
  sl_unfold_words
  rw [View.canon_unit_zero z2]
  simp only [View.readAt_eq_ld, h3.read_unread, h4.read_unread, h5.read_unread, h6.read_unread, h7.read_unread]
  rw [View.readCov_eq_canon', View.ld_unit_zero (S := S512x1024) z2, View.ld_unit_zero (S := S512x1024) z2, View.ld_unit_zero (S := S1x1x1024x1024) z4,
    View.ld_unit_zero (S := S1x1x1024) z3, pay3_eq, pay1_eq, canon_ext]
  refine (win8 i _ E ?_ _ _ _ _ r j)
  intro n h k
  refine Eq.trans (congrArg (ext (fun _ => 0) x0) (funext fun a => Fin.ext ?_)) (hE n h k)
  match a with
  | ⟨0, _⟩ => show 0 + 1 * n = n; omega
  | ⟨1, _⟩ => show 0 + 1 * k.val = k.val; omega

theorem yH (c : Dev nD) (i : grid0.Coords) (a3 : Memref sig .tc .vmem S512x1024 .f32) (h3 : a3.IsWhole)
    (a4 : Memref sig .tc .vmem S16x1024 .f32) (h4 : a4.IsWhole) (a5 : Memref sig .tc .vmem S512x1024 .f32) (h5 : a5.IsWhole)
    (a6 : Memref sig .tc .vmem S1x1x1024x1024 .bf16) (h6 : a6.IsWhole) (a7 : Memref sig .tc .vmem S1x1x1024 .f32) (h7 : a7.IsWhole)
    (a8 : Memref sig .tc .vmem S512x1024 .bf16) (h8 : a8.IsWhole) (a9 : Memref sig .tc .vmem S1x15x1024 .f32) (h9 : a9.IsWhole)
    (a10 : Memref sig .tc .vmem S528x1024 .f32) (h10 : a10.IsWhole)
    (c0 : ¬cond0_0 i) (c1 : cond0_1 i) (c2 : ¬cond0_2 i) (c3 : ¬cond0_3 i) (c4 : cond0_4 i) (c5 : ¬cond0_5 i) (c6 : ¬cond0_6 i)
    (x0 : Vec Ideal S512x1024 .f32) (x1 : Vec Ideal S16x1024 .f32)
    (x2 : Vec Ideal S512x1024 .f32) (x3 : Vec Ideal S1x1x1024x1024 .bf16) (x4 : Vec Ideal S1x1x1024 .f32) (r : Fin 512) (j : Fin 1024)
    (E : ℕ → Fin 1024 → EReal) (hE : ∀ (n : ℕ) (h : n < 528) (k : Fin 1024), ext x1 x0 (ix2 ⟨n, h⟩ k) = E n k) :
    out0_H_5 (F := Ideal) c i a3 h3 a4 h4 a5 h5 a6 h6 a7 h7 a8 h8 a9 h9 a10 h10 c0 c1 c2 c3 c4 c5 c6 x0 x1 x2 x3 x4 (ix2 r j)
      = mix (fun k => Ideal.div (wsum 8 (E · k) (16 + r)) (cnt 8#32 ((i 2).val * 512 + r)) - x0 (ix2 r k))
        (fun k => x3 (ix4 0 0 k j)) (x4 (ix3 0 0 j)) (x2 (ix2 r j)) := by
  unfold out0_H_5
  rw [View.read_writes_eq_canon _ _ _ (cover0_H_5 c i a3 h3 a4 h4 a5 h5 a6 h6 a7 h7 a8 h8 a9 h9 a10 h10 c0 c1 c2 c3 c4 c5 c6 x0 x1 x2 x3 x4)]
  unfold kernelRun0_H
  dsimp only
  sl_unfold_words
  rw [View.canon_unit_zero z2]
  simp only [View.readAt_eq_ld, h3.read_unread, h4.read_unread, h5.read_unread, h6.read_unread, h7.read_unread]
  rw [View.readCov_eq_canon', View.ld_unit_zero (S := S512x1024) z2, View.ld_unit_zero (S := S512x1024) z2, View.ld_unit_zero (S := S1x1x1024x1024) z4,
    View.ld_unit_zero (S := S1x1x1024) z3, View.ld_unit_zero (S := S16x1024) z2, pay3_eq, pay2_eq, canon_ext]
  refine (win8 i _ E ?_ _ _ _ _ r j)
  intro n h k
  refine Eq.trans (congrArg (ext x1 x0) (funext fun a => Fin.ext ?_)) (hE n h k)
  match a with
  | ⟨0, _⟩ => show 0 + 1 * n = n; omega
  | ⟨1, _⟩ => show 0 + 1 * k.val = k.val; omega

theorem yI (c : Dev nD) (i : grid0.Coords) (a3 : Memref sig .tc .vmem S512x1024 .f32) (h3 : a3.IsWhole)
    (a4 : Memref sig .tc .vmem S16x1024 .f32) (h4 : a4.IsWhole) (a5 : Memref sig .tc .vmem S512x1024 .f32) (h5 : a5.IsWhole)
    (a6 : Memref sig .tc .vmem S1x1x1024x1024 .bf16) (h6 : a6.IsWhole) (a7 : Memref sig .tc .vmem S1x1x1024 .f32) (h7 : a7.IsWhole)
    (a8 : Memref sig .tc .vmem S512x1024 .bf16) (h8 : a8.IsWhole) (a9 : Memref sig .tc .vmem S1x15x1024 .f32) (h9 : a9.IsWhole)
    (a10 : Memref sig .tc .vmem S528x1024 .f32) (h10 : a10.IsWhole)
    (c0 : ¬cond0_0 i) (c1 : cond0_1 i) (c2 : ¬cond0_2 i) (c3 : ¬cond0_3 i) (c4 : cond0_4 i) (c5 : ¬cond0_5 i) (c6 : cond0_6 i)
    (x0 : Vec Ideal S512x1024 .f32) (x1 : Vec Ideal S16x1024 .f32)
    (x2 : Vec Ideal S512x1024 .f32) (x3 : Vec Ideal S1x1x1024x1024 .bf16) (x4 : Vec Ideal S1x1x1024 .f32) (r : Fin 512) (j : Fin 1024)
    (E : ℕ → Fin 1024 → EReal) (hE : ∀ (n : ℕ) (h : n < 528) (k : Fin 1024), ext x1 x0 (ix2 ⟨n, h⟩ k) = E n k) :
    out0_I_5 (F := Ideal) c i a3 h3 a4 h4 a5 h5 a6 h6 a7 h7 a8 h8 a9 h9 a10 h10 c0 c1 c2 c3 c4 c5 c6 x0 x1 x2 x3 x4 (ix2 r j)
      = mix (fun k => Ideal.div (wsum 8 (E · k) (16 + r)) (cnt 8#32 ((i 2).val * 512 + r)) - x0 (ix2 r k))
        (fun k => x3 (ix4 0 0 k j)) (x4 (ix3 0 0 j)) (x2 (ix2 r j)) := by
  unfold out0_I_5
  rw [View.read_writes_eq_canon _ _ _ (cover0_I_5 c i a3 h3 a4 h4 a5 h5 a6 h6 a7 h7 a8 h8 a9 h9 a10 h10 c0 c1 c2 c3 c4 c5 c6 x0 x1 x2 x3 x4)]
  unfold kernelRun0_I
  dsimp only
  sl_unfold_words
  rw [View.canon_unit_zero z2]
  simp only [View.readAt_eq_ld, h3.read_unread, h4.read_unread, h5.read_unread, h6.read_unread, h7.read_unread]
  rw [View.readCov_eq_canon', View.ld_unit_zero (S := S512x1024) z2, View.ld_unit_zero (S := S512x1024) z2, View.ld_unit_zero (S := S1x1x1024x1024) z4,
    View.ld_unit_zero (S := S1x1x1024) z3, View.ld_unit_zero (S := S16x1024) z2, pay3_eq, pay2_eq, canon_ext]
  refine (win8 i _ E ?_ _ _ _ _ r j)
  intro n h k
  refine Eq.trans (congrArg (ext x1 x0) (funext fun a => Fin.ext ?_)) (hE n h k)
  match a with
  | ⟨0, _⟩ => show 0 + 1 * n = n; omega
  | ⟨1, _⟩ => show 0 + 1 * k.val = k.val; omega

theorem cI (c : Dev nD) (i : grid0.Coords) (a3 : Memref sig .tc .vmem S512x1024 .f32) (h3 : a3.IsWhole)
    (a4 : Memref sig .tc .vmem S16x1024 .f32) (h4 : a4.IsWhole) (a5 : Memref sig .tc .vmem S512x1024 .f32) (h5 : a5.IsWhole)
    (a6 : Memref sig .tc .vmem S1x1x1024x1024 .bf16) (h6 : a6.IsWhole) (a7 : Memref sig .tc .vmem S1x1x1024 .f32) (h7 : a7.IsWhole)
    (a8 : Memref sig .tc .vmem S512x1024 .bf16) (h8 : a8.IsWhole) (a9 : Memref sig .tc .vmem S1x15x1024 .f32) (h9 : a9.IsWhole)
    (a10 : Memref sig .tc .vmem S528x1024 .f32) (h10 : a10.IsWhole)
    (c0 : ¬cond0_0 i) (c1 : cond0_1 i) (c2 : ¬cond0_2 i) (c3 : ¬cond0_3 i) (c4 : cond0_4 i) (c5 : ¬cond0_5 i) (c6 : cond0_6 i)
    (x0 : Vec Ideal S512x1024 .f32) (x1 : Vec Ideal S16x1024 .f32)
    (x2 : Vec Ideal S512x1024 .f32) (x3 : Vec Ideal S1x1x1024x1024 .bf16) (x4 : Vec Ideal S1x1x1024 .f32) (b : Fin 15) (k : Fin 1024) :
    out0_I_6 (F := Ideal) c i a3 h3 a4 h4 a5 h5 a6 h6 a7 h7 a8 h8 a9 h9 a10 h10 c0 c1 c2 c3 c4 c5 c6 x0 x1 x2 x3 x4 (ix3 0 b k) = x0 (ix2 ⟨497 + b.val, by omega⟩ k) := by
  unfold out0_I_6
  rw [View.read_writes_eq_canon _ _ _ (cover0_I_6 c i a3 h3 a4 h4 a5 h5 a6 h6 a7 h7 a8 h8 a9 h9 a10 h10 c0 c1 c2 c3 c4 c5 c6 x0 x1 x2 x3 x4)]
  unfold kernelRun0_I
  dsimp only
  sl_unfold_words
  rw [View.canon_unit_zero z3]
  simp only [View.readAt_eq_ld, h3.read_unread, h4.read_unread]
  rw [View.readCov_eq_canon', View.ld_unit_zero (S := S512x1024) z2, View.ld_unit_zero (S := S16x1024) z2, pay3_eq, pay2_eq, canon_ext]
  refine (pay9_eq _ _ _).trans ?_
  unfold ext
  rw [dif_neg (by show ¬(513 + 1 * b.val < 16); omega)]
  refine congrArg x0 (funext fun a => Fin.ext ?_)
  match a with
  | ⟨0, _⟩ => show 513 + 1 * b.val - 16 = 497 + b.val; omega
  | ⟨1, _⟩ => show 0 + 1 * k.val = k.val; omega

theorem yJ (c : Dev nD) (i : grid0.Coords) (a3 : Memref sig .tc .vmem S512x1024 .f32) (h3 : a3.IsWhole)
    (a4 : Memref sig .tc .vmem S16x1024 .f32) (h4 : a4.IsWhole) (a5 : Memref sig .tc .vmem S512x1024 .f32) (h5 : a5.IsWhole)
    (a6 : Memref sig .tc .vmem S1x1x1024x1024 .bf16) (h6 : a6.IsWhole) (a7 : Memref sig .tc .vmem S1x1x1024 .f32) (h7 : a7.IsWhole)
    (a8 : Memref sig .tc .vmem S512x1024 .bf16) (h8 : a8.IsWhole) (a9 : Memref sig .tc .vmem S1x15x1024 .f32) (h9 : a9.IsWhole)
    (a10 : Memref sig .tc .vmem S528x1024 .f32) (h10 : a10.IsWhole)
    (c0 : cond0_0 i) (c1 : ¬cond0_1 i) (c2 : ¬cond0_2 i) (c3 : ¬cond0_3 i) (c4 : ¬cond0_4 i) (c5 : cond0_5 i) (c6 : ¬cond0_6 i)
    (x0 : Vec Ideal S512x1024 .f32) (x1 : Vec Ideal S16x1024 .f32)
    (x2 : Vec Ideal S512x1024 .f32) (x3 : Vec Ideal S1x1x1024x1024 .bf16) (x4 : Vec Ideal S1x1x1024 .f32) (r : Fin 512) (j : Fin 1024)
    (E : ℕ → Fin 1024 → EReal) (hE : ∀ (n : ℕ) (h : n < 528) (k : Fin 1024), ext (fun _ => 0) x0 (ix2 ⟨n, h⟩ k) = E n k) :
    out0_J_5 (F := Ideal) c i a3 h3 a4 h4 a5 h5 a6 h6 a7 h7 a8 h8 a9 h9 a10 h10 c0 c1 c2 c3 c4 c5 c6 x0 x1 x2 x3 x4 (ix2 r j)
      = mix (fun k => Ideal.div (wsum 16 (E · k) (16 + r)) (cnt 16#32 ((i 2).val * 512 + r)) - x0 (ix2 r k))
        (fun k => x3 (ix4 0 0 k j)) (x4 (ix3 0 0 j)) (x2 (ix2 r j)) := by
  unfold out0_J_5
  rw [View.read_writes_eq_canon _ _ _ (cover0_J_5 c i a3 h3 a4 h4 a5 h5 a6 h6 a7 h7 a8 h8 a9 h9 a10 h10 c0 c1 c2 c3 c4 c5 c6 x0 x1 x2 x3 x4)]
  unfold kernelRun0_J
  dsimp only
  sl_unfold_words
  rw [View.canon_unit_zero z2]
  simp only [View.readAt_eq_ld, h3.read_unread, h4.read_unread, h5.read_unread, h6.read_unread, h7.read_unread]
  rw [View.readCov_eq_canon', View.ld_unit_zero (S := S512x1024) z2, View.ld_unit_zero (S := S512x1024) z2, View.ld_unit_zero (S := S1x1x1024x1024) z4,
    View.ld_unit_zero (S := S1x1x1024) z3, pay3_eq, pay1_eq, canon_ext]
  refine (win16 i _ E ?_ _ _ _ _ r j)
  intro n h k
  refine Eq.trans (congrArg (ext (fun _ => 0) x0) (funext fun a => Fin.ext ?_)) (hE n h k)
  match a with
  | ⟨0, _⟩ => show 0 + 1 * n = n; omega
  | ⟨1, _⟩ => show 0 + 1 * k.val = k.val; omega

theorem yK (c : Dev nD) (i : grid0.Coords) (a3 : Memref sig .tc .vmem S512x1024 .f32) (h3 : a3.IsWhole)
    (a4 : Memref sig .tc .vmem S16x1024 .f32) (h4 : a4.IsWhole) (a5 : Memref sig .tc .vmem S512x1024 .f32) (h5 : a5.IsWhole)
    (a6 : Memref sig .tc .vmem S1x1x1024x1024 .bf16) (h6 : a6.IsWhole) (a7 : Memref sig .tc .vmem S1x1x1024 .f32) (h7 : a7.IsWhole)
    (a8 : Memref sig .tc .vmem S512x1024 .bf16) (h8 : a8.IsWhole) (a9 : Memref sig .tc .vmem S1x15x1024 .f32) (h9 : a9.IsWhole)
    (a10 : Memref sig .tc .vmem S528x1024 .f32) (h10 : a10.IsWhole)
    (c0 : ¬cond0_0 i) (c1 : cond0_1 i) (c2 : ¬cond0_2 i) (c3 : ¬cond0_3 i) (c4 : ¬cond0_4 i) (c5 : cond0_5 i) (c6 : ¬cond0_6 i)
    (x0 : Vec Ideal S512x1024 .f32) (x1 : Vec Ideal S16x1024 .f32)
    (x2 : Vec Ideal S512x1024 .f32) (x3 : Vec Ideal S1x1x1024x1024 .bf16) (x4 : Vec Ideal S1x1x1024 .f32) (r : Fin 512) (j : Fin 1024)
    (E : ℕ → Fin 1024 → EReal) (hE : ∀ (n : ℕ) (h : n < 528) (k : Fin 1024), ext x1 x0 (ix2 ⟨n, h⟩ k) = E n k) :
    out0_K_5 (F := Ideal) c i a3 h3 a4 h4 a5 h5 a6 h6 a7 h7 a8 h8 a9 h9 a10 h10 c0 c1 c2 c3 c4 c5 c6 x0 x1 x2 x3 x4 (ix2 r j)
      = mix (fun k => Ideal.div (wsum 16 (E · k) (16 + r)) (cnt 16#32 ((i 2).val * 512 + r)) - x0 (ix2 r k))
        (fun k => x3 (ix4 0 0 k j)) (x4 (ix3 0 0 j)) (x2 (ix2 r j)) := by
  unfold out0_K_5
  rw [View.read_writes_eq_canon _ _ _ (cover0_K_5 c i a3 h3 a4 h4 a5 h5 a6 h6 a7 h7 a8 h8 a9 h9 a10 h10 c0 c1 c2 c3 c4 c5 c6 x0 x1 x2 x3 x4)]
  unfold kernelRun0_K
  dsimp only
  sl_unfold_words
  rw [View.canon_unit_zero z2]
  simp only [View.readAt_eq_ld, h3.read_unread, h4.read_unread, h5.read_unread, h6.read_unread, h7.read_unread]
  rw [View.readCov_eq_canon', View.ld_unit_zero (S := S512x1024) z2, View.ld_unit_zero (S := S512x1024) z2, View.ld_unit_zero (S := S1x1x1024x1024) z4,
    View.ld_unit_zero (S := S1x1x1024) z3, View.ld_unit_zero (S := S16x1024) z2, pay3_eq, pay2_eq, canon_ext]
  refine (win16 i _ E ?_ _ _ _ _ r j)
  intro n h k
  refine Eq.trans (congrArg (ext x1 x0) (funext fun a => Fin.ext ?_)) (hE n h k)
  match a with
  | ⟨0, _⟩ => show 0 + 1 * n = n; omega
  | ⟨1, _⟩ => show 0 + 1 * k.val = k.val; omega

theorem yL (c : Dev nD) (i : grid0.Coords) (a3 : Memref sig .tc .vmem S512x1024 .f32) (h3 : a3.IsWhole)
    (a4 : Memref sig .tc .vmem S16x1024 .f32) (h4 : a4.IsWhole) (a5 : Memref sig .tc .vmem S512x1024 .f32) (h5 : a5.IsWhole)
    (a6 : Memref sig .tc .vmem S1x1x1024x1024 .bf16) (h6 : a6.IsWhole) (a7 : Memref sig .tc .vmem S1x1x1024 .f32) (h7 : a7.IsWhole)
    (a8 : Memref sig .tc .vmem S512x1024 .bf16) (h8 : a8.IsWhole) (a9 : Memref sig .tc .vmem S1x15x1024 .f32) (h9 : a9.IsWhole)
    (a10 : Memref sig .tc .vmem S528x1024 .f32) (h10 : a10.IsWhole)
    (c0 : ¬cond0_0 i) (c1 : cond0_1 i) (c2 : ¬cond0_2 i) (c3 : ¬cond0_3 i) (c4 : ¬cond0_4 i) (c5 : cond0_5 i) (c6 : cond0_6 i)
    (x0 : Vec Ideal S512x1024 .f32) (x1 : Vec Ideal S16x1024 .f32)
    (x2 : Vec Ideal S512x1024 .f32) (x3 : Vec Ideal S1x1x1024x1024 .bf16) (x4 : Vec Ideal S1x1x1024 .f32) (r : Fin 512) (j : Fin 1024)
    (E : ℕ → Fin 1024 → EReal) (hE : ∀ (n : ℕ) (h : n < 528) (k : Fin 1024), ext x1 x0 (ix2 ⟨n, h⟩ k) = E n k) :
    out0_L_5 (F := Ideal) c i a3 h3 a4 h4 a5 h5 a6 h6 a7 h7 a8 h8 a9 h9 a10 h10 c0 c1 c2 c3 c4 c5 c6 x0 x1 x2 x3 x4 (ix2 r j)
      = mix (fun k => Ideal.div (wsum 16 (E · k) (16 + r)) (cnt 16#32 ((i 2).val * 512 + r)) - x0 (ix2 r k))
        (fun k => x3 (ix4 0 0 k j)) (x4 (ix3 0 0 j)) (x2 (ix2 r j)) := by
  unfold out0_L_5
  rw [View.read_writes_eq_canon _ _ _ (cover0_L_5 c i a3 h3 a4 h4 a5 h5 a6 h6 a7 h7 a8 h8 a9 h9 a10 h10 c0 c1 c2 c3 c4 c5 c6 x0 x1 x2 x3 x4)]
  unfold kernelRun0_L
  dsimp only
  sl_unfold_words
  rw [View.canon_unit_zero z2]
  simp only [View.readAt_eq_ld, h3.read_unread, h4.read_unread, h5.read_unread, h6.read_unread, h7.read_unread]
  rw [View.readCov_eq_canon', View.ld_unit_zero (S := S512x1024) z2, View.ld_unit_zero (S := S512x1024) z2, View.ld_unit_zero (S := S1x1x1024x1024) z4,
    View.ld_unit_zero (S := S1x1x1024) z3, View.ld_unit_zero (S := S16x1024) z2, pay3_eq, pay2_eq, canon_ext]
  refine (win16 i _ E ?_ _ _ _ _ r j)
  intro n h k
  refine Eq.trans (congrArg (ext x1 x0) (funext fun a => Fin.ext ?_)) (hE n h k)
  match a with
  | ⟨0, _⟩ => show 0 + 1 * n = n; omega
  | ⟨1, _⟩ => show 0 + 1 * k.val = k.val; omega

theorem cL (c : Dev nD) (i : grid0.Coords) (a3 : Memref sig .tc .vmem S512x1024 .f32) (h3 : a3.IsWhole)
    (a4 : Memref sig .tc .vmem S16x1024 .f32) (h4 : a4.IsWhole) (a5 : Memref sig .tc .vmem S512x1024 .f32) (h5 : a5.IsWhole)
    (a6 : Memref sig .tc .vmem S1x1x1024x1024 .bf16) (h6 : a6.IsWhole) (a7 : Memref sig .tc .vmem S1x1x1024 .f32) (h7 : a7.IsWhole)
    (a8 : Memref sig .tc .vmem S512x1024 .bf16) (h8 : a8.IsWhole) (a9 : Memref sig .tc .vmem S1x15x1024 .f32) (h9 : a9.IsWhole)
    (a10 : Memref sig .tc .vmem S528x1024 .f32) (h10 : a10.IsWhole)
    (c0 : ¬cond0_0 i) (c1 : cond0_1 i) (c2 : ¬cond0_2 i) (c3 : ¬cond0_3 i) (c4 : ¬cond0_4 i) (c5 : cond0_5 i) (c6 : cond0_6 i)
    (x0 : Vec Ideal S512x1024 .f32) (x1 : Vec Ideal S16x1024 .f32)
    (x2 : Vec Ideal S512x1024 .f32) (x3 : Vec Ideal S1x1x1024x1024 .bf16) (x4 : Vec Ideal S1x1x1024 .f32) (b : Fin 15) (k : Fin 1024) :
    out0_L_6 (F := Ideal) c i a3 h3 a4 h4 a5 h5 a6 h6 a7 h7 a8 h8 a9 h9 a10 h10 c0 c1 c2 c3 c4 c5 c6 x0 x1 x2 x3 x4 (ix3 0 b k) = x0 (ix2 ⟨497 + b.val, by omega⟩ k) := by
  unfold out0_L_6
  rw [View.read_writes_eq_canon _ _ _ (cover0_L_6 c i a3 h3 a4 h4 a5 h5 a6 h6 a7 h7 a8 h8 a9 h9 a10 h10 c0 c1 c2 c3 c4 c5 c6 x0 x1 x2 x3 x4)]
  unfold kernelRun0_L
  dsimp only
  sl_unfold_words
  rw [View.canon_unit_zero z3]
  simp only [View.readAt_eq_ld, h3.read_unread, h4.read_unread]
  rw [View.readCov_eq_canon', View.ld_unit_zero (S := S512x1024) z2, View.ld_unit_zero (S := S16x1024) z2, pay3_eq, pay2_eq, canon_ext]
  refine (pay9_eq _ _ _).trans ?_
  unfold ext
  rw [dif_neg (by show ¬(513 + 1 * b.val < 16); omega)]
  refine congrArg x0 (funext fun a => Fin.ext ?_)
  match a with
  | ⟨0, _⟩ => show 513 + 1 * b.val - 16 = 497 + b.val; omega
  | ⟨1, _⟩ => show 0 + 1 * k.val = k.val; omega

end Cert.PoolIdeal.Val

end
-- ==== Proof.PoolWin.lean ====
/- A sum over a sliding window of rows, read at an index. -/
module

public import Idealize.ShloMosaic.Lib.Pointwise

@[expose] public section

noncomputable section

namespace Cert.PoolIdeal.Win

open Idealize.ShloMosaic

theorem foldl_sum {ι : Type} (g : ι → EReal) (l : List ι) (a : EReal) : l.foldl (fun r n => r + g n) a = a + (l.map g).sum := by
  induction l generalizing a with
  | nil => simp
  | cons x l ih => rw [List.foldl_cons, ih, List.map_cons, List.sum_cons, add_assoc]

/-- The window sum at `(b, s, c)` of an array whose row `q` at `(b, ·, c)` is `f q`: the sum of the `w` rows from `s` on. -/
theorem window {B N T C w : ℕ} (hN : T + w ≤ N + 1) (x : (⟨3, ![B, N, C]⟩ : Shape).Idx → EReal) (v : (⟨0, ![]⟩ : Shape).Idx → EReal) (hv : ∀ i, v i = 0)
    (h : (⟨3, ![B, N, C]⟩ : Shape).ReduceWindows (![1, w, 1] : Fin 3 → Nat) ![1, 1, 1] ![0, 0, 0] ![0, 0, 0] (⟨3, ![B, T, C]⟩ : Shape))
    (hu : 0 < (⟨0, ![]⟩ : Shape).numel) (b : Fin B) (s : Fin T) (c : Fin C) (f : ℕ → EReal) (hf : ∀ (q : ℕ) (hq : q < N), x (ix3 b ⟨q, hq⟩ c) = f q) :
    Host.reduceWindowAdd (F := Ideal) (φ := .f32) ![1, w, 1] ![1, 1, 1] ![0, 0, 0] ![0, 0, 0] x v h hu (ix3 b s c)
      = ∑ i ∈ Finset.range w, f (s.val + i) := by
  let W : Shape := ⟨3, ![1, w, 1]⟩
  show Host.reduceWindow (· + ·) ![1, w, 1] ![1, 1, 1] ![0, 0, 0] ![0, 0, 0] x (fun _ : (⟨0, ![]⟩ : Shape).Idx => v (Shape.Idx.first hu)) h hu (ix3 b s c) = _
  unfold Host.reduceWindow
  dsimp only
  refine (List.foldl_ext _ (fun r n => r + (fun p : W.Idx => f (s.val + (p 1).val)) (W.rowMajor.symm n)) _ (fun r n _ => ?_)).trans ?_
  · refine congrArg (r + ·) ?_
    have p0 : (W.rowMajor.symm n 0).val < 1 := (W.rowMajor.symm n 0).isLt
    have p1 : (W.rowMajor.symm n 1).val < w := (W.rowMajor.symm n 1).isLt
    have p2 : (W.rowMajor.symm n 2).val < 1 := (W.rowMajor.symm n 2).isLt
    have hs := s.isLt
    have hb := b.isLt
    have hc := c.isLt
    rw [dif_pos]
    · refine (congrArg x (funext fun a => Fin.ext ?_)).trans (hf (s.val + (W.rowMajor.symm n 1).val) (by omega))
      match a with
      | ⟨0, _⟩ => show b.val * 1 + (W.rowMajor.symm n 0).val - 0 = b.val; omega
      | ⟨1, _⟩ => show s.val * 1 + (W.rowMajor.symm n 1).val - 0 = s.val + (W.rowMajor.symm n 1).val; omega
      | ⟨2, _⟩ => show c.val * 1 + (W.rowMajor.symm n 2).val - 0 = c.val; omega
    · intro a
      match a with
      | ⟨0, _⟩ => show 0 ≤ b.val * 1 + (W.rowMajor.symm n 0).val ∧ b.val * 1 + (W.rowMajor.symm n 0).val - 0 < B; omega
      | ⟨1, _⟩ => show 0 ≤ s.val * 1 + (W.rowMajor.symm n 1).val ∧ s.val * 1 + (W.rowMajor.symm n 1).val - 0 < N; omega
      | ⟨2, _⟩ => show 0 ≤ c.val * 1 + (W.rowMajor.symm n 2).val ∧ c.val * 1 + (W.rowMajor.symm n 2).val - 0 < C; omega
  rw [hv, foldl_sum, zero_add, ← List.ofFn_eq_map, List.sum_ofFn,
    Equiv.sum_comp W.rowMajor.symm (fun p : W.Idx => f (s.val + (p 1).val))]
  refine (sum_idx3 (fun p => f (s.val + (p 1).val))).trans ?_
  simp only [Finset.univ_unique, Finset.sum_singleton, ix3_1]
  exact Fin.sum_univ_eq_sum_range (fun i => f (s.val + i)) w

end Cert.PoolIdeal.Win

end
-- ==== Proof.PoolRef.lean ====
/- The pooling mixer of the prompt as the reference writes it, read at an index. -/
module

public import proofs.«01_k».proof.Proof.PoolTile
public import proofs.«01_k».proof.Proof.PoolWin
public import proofs.«01_k».proof.Proof.Gen.PoolRefIdeal.Run
public import Idealize.ShloMosaic.Lib.Pointwise

@[expose] public section

set_option maxRecDepth 16384

noncomputable section

namespace Cert.PoolRefIdeal.Val

open Cert.PoolRefIdeal Cert.PoolRefIdeal.Gen Idealize.ShloMosaic Idealize.ShloMosaic.TcCoe Idealize.SL.Sem
open Cert.PoolIdeal.Val (wsum cnt mix)

/-- Row `q` of sequence `b` behind 15 rows of zeros, at column `c`, of the rows `U`. -/
def X (U : ℕ → ℕ → EReal) (b c q : ℕ) : EReal := if q < 15 then 0 else U (b * 2048 + q - 15) c

/-- One group's mean less the row: window `w`, sequence `b`, position `s`, column `c`. -/
def pool (U : ℕ → ℕ → EReal) (w b s c : ℕ) : EReal :=
  Ideal.div (wsum w (X U b c) (s + 15)) (cnt (BitVec.ofNat 32 w) s) - U (b * 2048 + s) c

/-- The rows behind 15 rows of zeros, as the reference joins them. -/
def XP (u : S4x2048x4096.Idx → EReal) : S4x2063x4096.Idx → EReal :=
  concatenate S4x2063x4096 1 [⟨S4x15x4096, (broadcastInDim S4x15x4096 ![] bcast_S_S4x15x4096 (constant (F := Ideal) S_ .f32 0x00000000#32))⟩, ⟨S4x2048x4096, u⟩] concatenates_S4x15x4096_S4x2048x4096_S4x2063x4096_d1

/-- A window written from its first row is the window written from its last. -/
theorem wsum_reflect (w a n : ℕ) (h : n + 1 = a + w) (f : ℕ → EReal) : ∑ i ∈ Finset.range w, f (a + i) = wsum w f n := by
  unfold wsum
  rw [← Finset.sum_range_reflect]
  refine Finset.sum_congr rfl fun i hi => congrArg f ?_
  have := Finset.mem_range.mp hi
  omega

theorem zero_word (s : ℕ) : IntOp.addi (IntOp.addi 0#32 (BitVec.ofNat 32 s)) 1#32 = BitVec.ofNat 32 (s + 1) := by
  show 0#32 + BitVec.ofNat 32 s + BitVec.ofNat 32 1 = _
  rw [BitVec.zero_add, ← BitVec.ofNat_add]

section
variable (u : S4x2048x4096.Idx → EReal) (U : ℕ → ℕ → EReal)
  (hu : ∀ (b : Fin 4) (s : Fin 2048) (c : Fin 4096), u (ix3 b s c) = U (b.val * 2048 + s.val) c.val)
include hu

theorem XP_at (b : Fin 4) (q : ℕ) (hq : q < 2063) (c : Fin 4096) : XP u (ix3 b ⟨q, hq⟩ c) = X U b.val c.val q := by
  unfold XP X
  by_cases h : q < 15
  · pointwise
    simp only [h, dite_true, if_true]
  · pointwise
    simp only [h, dite_false, if_false, hu]
    congr 1
    omega

/-- The means of the group with window 2. -/
def grp2 (u : S4x2048x4096.Idx → EReal) : S4x2048x1024.Idx → EReal :=
  (Host.divf (F := Ideal) (φ := .f32) (Host.reduceWindowAdd ![1, 2, 1] ![1, 1, 1] ![0, 0, 0] ![0, 0, 0] (extractStridedSlice S4x2049x1024 ![0, 14, 0] (extractStridedSlice S4x2063x1024 ![0, 0, 0] (XP u) slices_S4x2063x4096_S4x2063x1024_0_0_0) slices_S4x2063x1024_S4x2049x1024_0_14_0) (broadcastInDim S_ ![] bcast_S_S_ (constant (F := Ideal) S_ .f32 0x00000000#32)) reduceWindows_S4x2049x1024_S4x2048x1024_w1s1p0_0_w2s1p0_0_w1s1p0_0 h_S_) (broadcastInDim S4x2048x1024 ![0, 1, 2] bcast_S1x2048x1_S4x2048x1024_0_1_2 (broadcastInDim S1x2048x1 ![1] bcast_S2048_S1x2048x1_1 (sitofp .f32 (minsi (addi (addi (broadcastInDim S2048 ![] bcast_S_S2048 (constantI S_ 32 0#32)) (iotaInDim S2048 32 0)) (broadcastInDim S2048 ![] bcast_S_S2048 (constantI S_ 32 1#32))) (broadcastInDim S2048 ![] bcast_S_S2048 (constantI S_ 32 2#32)))))))

theorem grp2_at (b : Fin 4) (s : Fin 2048) (j : Fin 1024) :
    grp2 u (ix3 b s j) = Ideal.div (wsum 2 (X U b.val (0 + j.val)) (s.val + 15)) (cnt 2#32 s.val) := by
  have hs := s.isLt
  have hj := j.isLt
  unfold grp2
  refine congrArg₂ Ideal.div ((Cert.PoolIdeal.Win.window (by omega) _ _ ?_ _ _ b s j (fun q => X U b.val (0 + j.val) (14 + q)) ?_).trans ?_) ?_
  · intro i; pointwise
  · intro q hq
    refine Eq.trans ?_ (XP_at u U hu b (14 + q) (by omega) ⟨0 + j.val, by omega⟩)
    pointwise
  · simp only [← Nat.add_assoc]
    rw [← wsum_reflect 2 (14 + s.val) (s.val + 15) (by omega)]
  · unfold cnt
    pointwise
    rw [zero_word]

/-- The means of the group with window 4. -/
def grp4 (u : S4x2048x4096.Idx → EReal) : S4x2048x1024.Idx → EReal :=
  (Host.divf (F := Ideal) (φ := .f32) (Host.reduceWindowAdd ![1, 4, 1] ![1, 1, 1] ![0, 0, 0] ![0, 0, 0] (extractStridedSlice S4x2051x1024 ![0, 12, 0] (extractStridedSlice S4x2063x1024 ![0, 0, 1024] (XP u) slices_S4x2063x4096_S4x2063x1024_0_0_1024) slices_S4x2063x1024_S4x2051x1024_0_12_0) (broadcastInDim S_ ![] bcast_S_S_ (constant (F := Ideal) S_ .f32 0x00000000#32)) reduceWindows_S4x2051x1024_S4x2048x1024_w1s1p0_0_w4s1p0_0_w1s1p0_0 h_S_) (broadcastInDim S4x2048x1024 ![0, 1, 2] bcast_S1x2048x1_S4x2048x1024_0_1_2 (broadcastInDim S1x2048x1 ![1] bcast_S2048_S1x2048x1_1 (sitofp .f32 (minsi (addi (addi (broadcastInDim S2048 ![] bcast_S_S2048 (constantI S_ 32 0#32)) (iotaInDim S2048 32 0)) (broadcastInDim S2048 ![] bcast_S_S2048 (constantI S_ 32 1#32))) (broadcastInDim S2048 ![] bcast_S_S2048 (constantI S_ 32 4#32)))))))

theorem grp4_at (b : Fin 4) (s : Fin 2048) (j : Fin 1024) :
    grp4 u (ix3 b s j) = Ideal.div (wsum 4 (X U b.val (1024 + j.val)) (s.val + 15)) (cnt 4#32 s.val) := by
  have hs := s.isLt
  have hj := j.isLt
  unfold grp4
  refine congrArg₂ Ideal.div ((Cert.PoolIdeal.Win.window (by omega) _ _ ?_ _ _ b s j (fun q => X U b.val (1024 + j.val) (12 + q)) ?_).trans ?_) ?_
  · intro i; pointwise
  · intro q hq
    refine Eq.trans ?_ (XP_at u U hu b (12 + q) (by omega) ⟨1024 + j.val, by omega⟩)
    pointwise
  · simp only [← Nat.add_assoc]
    rw [← wsum_reflect 4 (12 + s.val) (s.val + 15) (by omega)]
  · unfold cnt
    pointwise
    rw [zero_word]

/-- The means of the group with window 8. -/
def grp8 (u : S4x2048x4096.Idx → EReal) : S4x2048x1024.Idx → EReal :=
  (Host.divf (F := Ideal) (φ := .f32) (Host.reduceWindowAdd ![1, 8, 1] ![1, 1, 1] ![0, 0, 0] ![0, 0, 0] (extractStridedSlice S4x2055x1024 ![0, 8, 0] (extractStridedSlice S4x2063x1024 ![0, 0, 2048] (XP u) slices_S4x2063x4096_S4x2063x1024_0_0_2048) slices_S4x2063x1024_S4x2055x1024_0_8_0) (broadcastInDim S_ ![] bcast_S_S_ (constant (F := Ideal) S_ .f32 0x00000000#32)) reduceWindows_S4x2055x1024_S4x2048x1024_w1s1p0_0_w8s1p0_0_w1s1p0_0 h_S_) (broadcastInDim S4x2048x1024 ![0, 1, 2] bcast_S1x2048x1_S4x2048x1024_0_1_2 (broadcastInDim S1x2048x1 ![1] bcast_S2048_S1x2048x1_1 (sitofp .f32 (minsi (addi (addi (broadcastInDim S2048 ![] bcast_S_S2048 (constantI S_ 32 0#32)) (iotaInDim S2048 32 0)) (broadcastInDim S2048 ![] bcast_S_S2048 (constantI S_ 32 1#32))) (broadcastInDim S2048 ![] bcast_S_S2048 (constantI S_ 32 8#32)))))))

theorem grp8_at (b : Fin 4) (s : Fin 2048) (j : Fin 1024) :
    grp8 u (ix3 b s j) = Ideal.div (wsum 8 (X U b.val (2048 + j.val)) (s.val + 15)) (cnt 8#32 s.val) := by
  have hs := s.isLt
  have hj := j.isLt
  unfold grp8
  refine congrArg₂ Ideal.div ((Cert.PoolIdeal.Win.window (by omega) _ _ ?_ _ _ b s j (fun q => X U b.val (2048 + j.val) (8 + q)) ?_).trans ?_) ?_
  · intro i; pointwise
  · intro q hq
    refine Eq.trans ?_ (XP_at u U hu b (8 + q) (by omega) ⟨2048 + j.val, by omega⟩)
    pointwise
  · simp only [← Nat.add_assoc]
    rw [← wsum_reflect 8 (8 + s.val) (s.val + 15) (by omega)]
  · unfold cnt
    pointwise
    rw [zero_word]

/-- The means of the group with window 16. -/
def grp16 (u : S4x2048x4096.Idx → EReal) : S4x2048x1024.Idx → EReal :=
  (Host.divf (F := Ideal) (φ := .f32) (Host.reduceWindowAdd ![1, 16, 1] ![1, 1, 1] ![0, 0, 0] ![0, 0, 0] (extractStridedSlice S4x2063x1024 ![0, 0, 3072] (XP u) slices_S4x2063x4096_S4x2063x1024_0_0_3072) (broadcastInDim S_ ![] bcast_S_S_ (constant (F := Ideal) S_ .f32 0x00000000#32)) reduceWindows_S4x2063x1024_S4x2048x1024_w1s1p0_0_w16s1p0_0_w1s1p0_0 h_S_) (broadcastInDim S4x2048x1024 ![0, 1, 2] bcast_S1x2048x1_S4x2048x1024_0_1_2 (broadcastInDim S1x2048x1 ![1] bcast_S2048_S1x2048x1_1 (sitofp .f32 (minsi (addi (addi (broadcastInDim S2048 ![] bcast_S_S2048 (constantI S_ 32 0#32)) (iotaInDim S2048 32 0)) (broadcastInDim S2048 ![] bcast_S_S2048 (constantI S_ 32 1#32))) (broadcastInDim S2048 ![] bcast_S_S2048 (constantI S_ 32 16#32)))))))

theorem grp16_at (b : Fin 4) (s : Fin 2048) (j : Fin 1024) :
    grp16 u (ix3 b s j) = Ideal.div (wsum 16 (X U b.val (3072 + j.val)) (s.val + 15)) (cnt 16#32 s.val) := by
  have hs := s.isLt
  have hj := j.isLt
  unfold grp16
  refine congrArg₂ Ideal.div ((Cert.PoolIdeal.Win.window (by omega) _ _ ?_ _ _ b s j (fun q => X U b.val (3072 + j.val) (0 + q)) ?_).trans ?_) ?_
  · intro i; pointwise
  · intro q hq
    refine Eq.trans ?_ (XP_at u U hu b (0 + q) (by omega) ⟨3072 + j.val, by omega⟩)
    pointwise
  · simp only [← Nat.add_assoc]
    rw [← wsum_reflect 16 (0 + s.val) (s.val + 15) (by omega)]
  · unfold cnt
    pointwise
    rw [zero_word]

/-- The means less the rows, all groups side by side. -/
def pooled (u : S4x2048x4096.Idx → EReal) : S4x2048x4096.Idx → EReal :=
  subf (F := Ideal) (φ := .f32) (concatenate S4x2048x4096 2 [⟨S4x2048x1024, grp2 u⟩, ⟨S4x2048x1024, grp4 u⟩, ⟨S4x2048x1024, grp8 u⟩, ⟨S4x2048x1024, grp16 u⟩] concatenates_S4x2048x1024_S4x2048x1024_S4x2048x1024_S4x2048x1024_S4x2048x4096_d2) (extractStridedSlice S4x2048x4096 ![0, 15, 0] (XP u) slices_S4x2063x4096_S4x2048x4096_0_15_0)

theorem pooled_at (b : Fin 4) (s : Fin 2048) (c : Fin 4096) :
    pooled u (ix3 b s c) = pool U (2 ^ (c.val / 1024 + 1)) b.val s.val c.val := by
  have hs := s.isLt
  have hc := c.isLt
  have hx : extractStridedSlice S4x2048x4096 ![0, 15, 0] (XP u) slices_S4x2063x4096_S4x2048x4096_0_15_0 (ix3 b s c) = U (b.val * 2048 + s.val) c.val := by
    refine Eq.trans ?_ ((XP_at u U hu b (15 + s.val) (by omega) c).trans ?_)
    · pointwise
    · unfold X
      rw [if_neg (by omega)]
      congr 1
      omega
  unfold pooled pool
  refine congrArg₂ (fun x y : EReal => x - y) ?_ hx
  obtain h | h | h | h : c.val / 1024 = 0 ∨ c.val / 1024 = 1 ∨ c.val / 1024 = 2 ∨ c.val / 1024 = 3 := by omega
  · rw [h]
    refine Eq.trans ?_ ((grp2_at u U hu b s ⟨c.val, by omega⟩).trans ?_)
    · pointwise
      rw [dif_pos (by omega)]
    · simp
  · rw [h]
    refine Eq.trans ?_ ((grp4_at u U hu b s ⟨c.val - 1024, by omega⟩).trans ?_)
    · pointwise
      rw [dif_neg (by omega), dif_pos (by omega)]
    · rw [show 1024 + (c.val - 1024) = c.val by omega]; rfl
  · rw [h]
    refine Eq.trans ?_ ((grp8_at u U hu b s ⟨c.val - 2048, by omega⟩).trans ?_)
    · pointwise
      rw [dif_neg (by omega), dif_neg (by omega), dif_pos (by omega)]
      congr 2
    · rw [show 2048 + (c.val - 2048) = c.val by omega]; rfl
  · rw [h]
    refine Eq.trans ?_ ((grp16_at u U hu b s ⟨c.val - 3072, by omega⟩).trans ?_)
    · pointwise
      rw [dif_neg (by omega), dif_neg (by omega), dif_neg (by omega)]
      congr 2
    · rw [show 3072 + (c.val - 3072) = c.val by omega]; rfl

end

/-- The group product, the scale and the gate, at an index. -/
theorem outer_at (P : S4x2048x4096.Idx → EReal) (proj : S9216x8192.Idx → EReal) (wg : S2x4x1024x1024.Idx → EReal) (sc : S2x4096.Idx → EReal)
    (p : Fin 8192) (c : Fin 4096) :
    ((truncf (F := Ideal) .bf16 (shapeCast _ (mulf (F := Ideal) (φ := .f32) (mulf (F := Ideal) (φ := .f32) (shapeCast _ (transpose S4x2048x4x1024 [2, 3, 0, 1] (Host.dotGeneral (F := Ideal) (φ₁ := .f32) (φ₂ := .f32) dot_S4x1024x1024_S4x2048x4x1024_S4x1024x4x2048_1_3_2_01_0_2 none (shapeCast _ (extractStridedSlice S1x4x1024x1024 ![1, 0, 0, 0] wg slices_S2x4x1024x1024_S1x4x1024x1024_1_0_0_0) shapeCasts_S1x4x1024x1024_S4x1024x1024) (shapeCast _ P shapeCasts_S4x2048x4096_S4x2048x4x1024)) transposes_S4x1024x4x2048_S4x2048x4x1024_2_3_0_1) shapeCasts_S4x2048x4x1024_S4x2048x4096) (broadcastInDim S4x2048x4096 ![0, 1, 2] bcast_S1x1x4096_S4x2048x4096_0_1_2 (broadcastInDim S1x1x4096 ![2] bcast_S4096_S1x1x4096_2 (shapeCast _ (extractStridedSlice S1x4096 ![1, 0] sc slices_S2x4096_S1x4096_1_0) shapeCasts_S1x4096_S4096)))) (mulf (F := Ideal) (φ := .f32) (shapeCast _ (extractStridedSlice S8192x4096 ![0, 4096] proj slices_S9216x8192_S8192x4096_0_4096) shapeCasts_S8192x4096_S4x2048x4096) (Host.divf (F := Ideal) (broadcastInDim S4x2048x4096 ![] bcast_S_S4x2048x4096 (constant (F := Ideal) S_ .f32 0x3F800000#32)) (addf (broadcastInDim S4x2048x4096 ![] bcast_S_S4x2048x4096 (constant (F := Ideal) S_ .f32 0x3F800000#32)) (Host.exp (F := Ideal) (φ := .f32) (Host.negf (F := Ideal) (φ := .f32) (shapeCast _ (extractStridedSlice S8192x4096 ![0, 4096] proj slices_S9216x8192_S8192x4096_0_4096) shapeCasts_S8192x4096_S4x2048x4096))))))) shapeCasts_S4x2048x4096_S8192x4096) bitsLt_bf16_f32) : S8192x4096.Idx → EReal) (ix2 p c)
      = mix (fun k => P (ix3 ⟨p.val / 2048, by omega⟩ ⟨p.val % 2048, by omega⟩ ⟨c.val / 1024 * 1024 + k.val, by omega⟩))
        (fun k => wg (ix4 1 ⟨c.val / 1024, by omega⟩ k ⟨c.val % 1024, by omega⟩)) (sc (ix2 1 c)) (proj (ix2 ⟨p.val, by omega⟩ ⟨4096 + c.val, by omega⟩)) := by
  have hp := p.isLt
  have hc := c.isLt
  unfold mix Ideal.logistic
  pointwise
  refine congrArg (fun x : EReal => x * _ * _) (Finset.sum_congr rfl fun k _ => mul_comm _ _)

end Cert.PoolRefIdeal.Val

end
-- ==== Proof.PoolVal.lean ====
/- The pooling mixer of the prompt: the tiles' results make up the whole arrays the reference computes. -/
module

public import proofs.«01_k».proof.Proof.PoolOut
public import proofs.«01_k».proof.Proof.PoolRef
public import proofs.«01_k».proof.Proof.Gen.PoolIdeal.Value
public import proofs.«01_k».proof.Proof.Gen.PoolRefIdeal.Run
public import proofs.«01_k».proof.Defs
public import proofs.«01_k».proof.Proof.Gen.Pool.Frame
public import Idealize.ShloMosaic.Lib.Pointwise

@[expose] public section

set_option maxRecDepth 16384
set_option maxHeartbeats 1000000

noncomputable section

namespace Cert.PoolIdeal.Val

open Cert.PoolIdeal Cert.PoolIdeal.Gen Idealize.ShloMosaic Idealize.ShloMosaic.TcCoe Idealize.SL.Sem
open Idealize.ShloMosaic.Pipeline (Dat)
open Cert.PoolRefIdeal.Val (X)

variable (m : (ℓ : Loc nD τ sig) → Buf (Elt Ideal) ℓ) (ρ : Dev nD → PrngReg)

/-- Entry `(p, c)` of the projection, by numbers. -/
def U (u : S9216x8192.Idx → EReal) (p c : ℕ) : EReal := if h : p < 9216 ∧ c < 8192 then u (ix2 ⟨p, h.1⟩ ⟨c, h.2⟩) else 0

theorem U_at (u : S9216x8192.Idx → EReal) (i : S9216x8192.Idx) (p c : ℕ) (hp : (i 0).val = p) (hc : (i 1).val = c) : u i = U u p c := by
  subst hp hc
  have h0 : (i 0 : ℕ) < 9216 := (i 0).isLt
  have h1 : (i 1 : ℕ) < 8192 := (i 1).isLt
  unfold U
  rw [dif_pos ⟨h0, h1⟩]
  exact congrArg u (funext fun a => by match a with | ⟨0, _⟩ => rfl | ⟨1, _⟩ => rfl)

/-- The mixer's result at row `p` and column `c`. -/
def Gy (u : S9216x8192.Idx → EReal) (wg : S2x4x1024x1024.Idx → EReal) (sc : S2x4096.Idx → EReal) : S8192x4096.Idx → EReal := fun i =>
  mix (fun k => Cert.PoolRefIdeal.Val.pool (U u) (2 ^ ((i 1).val / 1024 + 1)) ((i 0).val / 2048) ((i 0).val % 2048) ((i 1).val / 1024 * 1024 + k.val))
    (fun k => wg (ix4 1 ⟨(i 1).val / 1024, by have := (i 1).isLt; dsimp at this; omega⟩ k ⟨(i 1).val % 1024, by omega⟩)) (sc (ix2 1 (i 1))) (U u (i 0).val (4096 + (i 1).val))

/-- The cache: the last 15 rows of every sequence. -/
def Gc (u : S9216x8192.Idx → EReal) : S4x15x4096.Idx → EReal := fun i => U u ((i 0).val * 2048 + 2033 + (i 1).val) (i 2).val

/-- The group weights the tiles read are the argument's. -/
theorem V_wg (c : Dev nD) : (V m c main_v0 : S2x4x1024x1024.Idx → EReal) = m ((c : Thread nD τ).loc main_arg1) := by
  show StableHlo.after hostOps0 _ main_v0 = _
  after_results <;> rfl

theorem sc_row (x : S2x4096.Idx → EReal) (j : Fin 4096) : (shapeCast S2x1x4096 x shapeCasts_S2x4096_S2x1x4096 : S2x1x4096.Idx → EReal) (ix3 1 0 j) = x (ix2 1 j) := by
  pointwise

theorem V_sc (c : Dev nD) (j : Fin 4096) : (V m c main_v1 : S2x1x4096.Idx → EReal) (ix3 1 0 j) = m ((c : Thread nD τ).loc main_arg2) (ix2 1 j) := by
  have h : (V m c main_v1 : S2x1x4096.Idx → EReal) = shapeCast S2x1x4096 (m ((c : Thread nD τ).loc main_arg2)) shapeCasts_S2x4096_S2x1x4096 := by
    show StableHlo.after hostOps0 _ main_v1 = _
    after_results <;> rfl
  rw [h]
  exact sc_row _ j

theorem idx (t : Fin cfg0.N) : (grid0.coords t 2).val = t.val % 4
    ∧ (win0_0.index t 0 = t.val / 4 % 4 * 4 + t.val % 4 ∧ win0_0.index t 1 = t.val / 16)
    ∧ (t.val % 4 ≠ 0 → win0_1.index t 0 = (t.val / 4 % 4 * 4 + t.val % 4) * 32 - 1 ∧ win0_1.index t 1 = t.val / 16)
    ∧ (win0_2.index t 0 = t.val / 4 % 4 * 4 + t.val % 4 ∧ win0_2.index t 1 = 4 + t.val / 16)
    ∧ (win0_3.index t 0 = 1 ∧ win0_3.index t 1 = t.val / 16 ∧ win0_3.index t 2 = 0 ∧ win0_3.index t 3 = 0)
    ∧ (win0_4.index t 0 = 1 ∧ win0_4.index t 1 = 0 ∧ win0_4.index t 2 = t.val / 16)
    ∧ (win0_5.index t 0 = t.val / 4 % 4 * 4 + t.val % 4 ∧ win0_5.index t 1 = t.val / 16)
    ∧ (win0_6.index t 0 = t.val / 4 % 4 ∧ win0_6.index t 1 = 0 ∧ win0_6.index t 2 = t.val / 16) := by
  revert t; decide +kernel

/-- The rows of a tile, by their numbers. -/
theorem u_at (c : Dev nD) (t : Fin cfg0.N) (r : Fin 512) (k : Fin 1024) : (iblk m c 0 t : S512x1024.Idx → EReal) (ix2 r k)
    = U (m ((c : Thread nD τ).loc main_arg0)) (t.val / 4 % 4 * 2048 + t.val % 4 * 512 + r.val) (t.val / 16 * 1024 + k.val) := by
  obtain ⟨-, ⟨h0, h1⟩, -⟩ := idx t
  unfold iblk
  rw [View.read_apply, cast_eq]
  refine (congrFun (V_main_arg0 m c) _).trans (U_at _ _ _ _ ?_ ?_)
  · show win0_0.index t 0 * 512 + 1 * r.val = _; rw [h0]; omega
  · show win0_0.index t 1 * 1024 + 1 * k.val = _; rw [h1]; omega

/-- The 16 rows before a tile that is not the first of its sequence. -/
theorem prev_at (c : Dev nD) (t : Fin cfg0.N) (ht : t.val % 4 ≠ 0) (r : Fin 16) (k : Fin 1024) : (iblk m c 1 t : S16x1024.Idx → EReal) (ix2 r k)
    = U (m ((c : Thread nD τ).loc main_arg0)) (t.val / 4 % 4 * 2048 + t.val % 4 * 512 + r.val - 16) (t.val / 16 * 1024 + k.val) := by
  obtain ⟨-, -, h, -⟩ := idx t
  obtain ⟨h0, h1⟩ := h ht
  unfold iblk
  rw [View.read_apply, cast_eq]
  refine (congrFun (V_main_arg0 m c) _).trans (U_at _ _ _ _ ?_ ?_)
  · show win0_1.index t 0 * 16 + 1 * r.val = _; rw [h0]; omega
  · show win0_1.index t 1 * 1024 + 1 * k.val = _; rw [h1]; omega

/-- The scratch of tile `t`: 16 rows before it, zeros before the sequence begins, and its own. -/
def E (u : S9216x8192.Idx → EReal) (t q : ℕ) (k : Fin 1024) : EReal := X (U u) (t / 4 % 4) (t / 16 * 1024 + k.val) (t % 4 * 512 + q - 1)

theorem ext_first (c : Dev nD) (t : Fin cfg0.N) (ht : t.val % 4 = 0) (n : ℕ) (h : n < 528) (k : Fin 1024) :
    ext (fun _ => 0) (iblk m c 0 t) (ix2 ⟨n, h⟩ k) = E (m ((c : Thread nD τ).loc main_arg0)) t.val n k := by
  unfold ext E X
  by_cases hn : n < 16
  · exact (dif_pos hn).trans (if_pos (by omega)).symm
  · refine (dif_neg hn).trans (((u_at m c t ⟨n - 16, by omega⟩ k).trans (congrArg (U _ · _) ?_)).trans (if_neg (by omega)).symm)
    dsimp only; omega

theorem ext_later (c : Dev nD) (t : Fin cfg0.N) (ht : t.val % 4 ≠ 0) (n : ℕ) (h : n < 528) (k : Fin 1024) :
    ext (iblk m c 1 t) (iblk m c 0 t) (ix2 ⟨n, h⟩ k) = E (m ((c : Thread nD τ).loc main_arg0)) t.val n k := by
  unfold ext E X
  by_cases hn : n < 16
  · refine (dif_pos hn).trans (((prev_at m c t ht ⟨n, hn⟩ k).trans (congrArg (U _ · _) ?_)).trans (if_neg (by omega)).symm)
    dsimp only; omega
  · refine (dif_neg hn).trans (((u_at m c t ⟨n - 16, by omega⟩ k).trans (congrArg (U _ · _) ?_)).trans (if_neg (by omega)).symm)
    dsimp only; omega

/-- What a tile computes is its part of the whole result. -/
theorem tile_eq (c : Dev nD) (t : Fin cfg0.N) (w : ℕ) (hw : w = 2 ^ (t.val / 16 + 1)) (hw' : w ≤ 16) (r : Fin 512) (j : Fin 1024) (i : S8192x4096.Idx)
    (e0 : (i 0).val = (t.val / 4 % 4 * 4 + t.val % 4) * 512 + r.val) (e1 : (i 1).val = t.val / 16 * 1024 + j.val) :
    mix (fun k => Ideal.div (wsum w (E (m ((c : Thread nD τ).loc main_arg0)) t.val · k) (16 + r.val)) (cnt (BitVec.ofNat 32 w) ((grid0.coords t 2).val * 512 + r.val))
        - (iblk m c 0 t : S512x1024.Idx → EReal) (ix2 r k))
      (fun k => (iblk m c 3 t : S1x1x1024x1024.Idx → EReal) (ix4 0 0 k j)) ((iblk m c 4 t : S1x1x1024.Idx → EReal) (ix3 0 0 j)) ((iblk m c 2 t : S512x1024.Idx → EReal) (ix2 r j))
      = Gy (m ((c : Thread nD τ).loc main_arg0)) (m ((c : Thread nD τ).loc main_arg1)) (m ((c : Thread nD τ).loc main_arg2)) i := by
  have hN : t.val < 64 := lt_of_lt_of_eq t.isLt N_0
  have hr := r.isLt
  have hj := j.isLt
  obtain ⟨hc, -, -, ⟨z0, z1⟩, ⟨w0, w1, w2, w3⟩, ⟨s0, s1, s2⟩, -, -⟩ := idx t
  have hg : (i 1).val / 1024 = t.val / 16 := by omega
  have hb : (i 0).val / 2048 = t.val / 4 % 4 := by omega
  have hs : (i 0).val % 2048 = t.val % 4 * 512 + r.val := by omega
  have hz : (iblk m c 2 t : S512x1024.Idx → EReal) (ix2 r j) = U (m ((c : Thread nD τ).loc main_arg0)) (i 0).val (4096 + (i 1).val) := by
    unfold iblk
    rw [View.read_apply, cast_eq]
    refine (congrFun (V_main_arg0 m c) _).trans (U_at _ _ _ _ ?_ ?_)
    · show win0_2.index t 0 * 512 + 1 * r.val = _; rw [z0, e0]; omega
    · show win0_2.index t 1 * 1024 + 1 * j.val = _; rw [z1, e1]; omega
  have hsc : (iblk m c 4 t : S1x1x1024.Idx → EReal) (ix3 0 0 j) = m ((c : Thread nD τ).loc main_arg2) (ix2 1 (i 1)) := by
    refine Eq.trans ?_ (V_sc m c (i 1))
    unfold iblk
    rw [View.read_apply, cast_eq]
    refine congrArg (V m c main_v1) (funext fun a => Fin.ext ?_)
    match a with
    | ⟨0, _⟩ => show win0_4.index t 0 * 1 + 1 * 0 = 1; rw [s0]
    | ⟨1, _⟩ => show win0_4.index t 1 * 1 + 1 * 0 = 0; rw [s1]
    | ⟨2, _⟩ => show win0_4.index t 2 * 1024 + 1 * j.val = (i 1).val; rw [s2, e1]; omega
  have hwg (k : Fin 1024) : (iblk m c 3 t : S1x1x1024x1024.Idx → EReal) (ix4 0 0 k j)
      = m ((c : Thread nD τ).loc main_arg1) (ix4 1 ⟨(i 1).val / 1024, by omega⟩ k ⟨(i 1).val % 1024, by omega⟩) := by
    unfold iblk
    rw [View.read_apply, cast_eq]
    refine (congrFun (V_wg m c) _).trans (congrArg (m _) (funext fun a => Fin.ext ?_))
    match a with
    | ⟨0, _⟩ => show win0_3.index t 0 * 1 + 1 * 0 = 1; rw [w0]
    | ⟨1, _⟩ => show win0_3.index t 1 * 1 + 1 * 0 = (i 1).val / 1024; rw [w1, hg]; omega
    | ⟨2, _⟩ => show win0_3.index t 2 * 1024 + 1 * k.val = k.val; rw [w2]; omega
    | ⟨3, _⟩ => show win0_3.index t 3 * 1024 + 1 * j.val = (i 1).val % 1024; rw [w3, e1]; omega
  unfold Gy
  rw [hz, hsc]
  refine congrArg₂ (fun f g => mix f g _ _) (funext fun k => ?_) (funext hwg)
  rw [u_at, hg, hb, hs, hc, ← hw]
  unfold Cert.PoolRefIdeal.Val.pool
  refine congrArg₂ (fun x y : EReal => x - y) (congrArg (Ideal.div · _) ?_) (congrArg (U _ · _) (by omega))
  unfold wsum E
  refine Finset.sum_congr rfl fun q hq => congrArg (X _ _ _) ?_
  have := Finset.mem_range.mp hq
  omega

theorem flushed5_eq (c : Dev nD) (t : Fin cfg0.N) :
    (dats m 0 c).flushed 5 t = ((cfg0.win 5).blk t).view.read (Elt Ideal)
      (Gy (m ((c : Thread nD τ).loc main_arg0)) (m ((c : Thread nD τ).loc main_arg1)) (m ((c : Thread nD τ).loc main_arg2))) := by
  have hN : t.val < 64 := lt_of_lt_of_eq t.isLt N_0
  obtain ⟨-, -, -, -, -, -, ⟨o0, o1⟩, -⟩ := idx t
  funext y
  have hy : (y : S512x1024.Idx) = ix2 (y 0) (y 1) := by funext a; fin_cases a <;> rfl
  have cut (v : Vec Ideal S512x1024 .bf16) : (cfg0.win 5).cut (grid0.coords t) v y = v (ix2 (y 0) (y 1)) := congrArg v hy
  have e0 : (((cfg0.win 5).blk t).view.emb y 0).val = (t.val / 4 % 4 * 4 + t.val % 4) * 512 + (y 0).val := by
    show win0_5.index t 0 * 512 + 1 * (y 0).val = _; rw [o0]; omega
  have e1 : (((cfg0.win 5).blk t).view.emb y 1).val = t.val / 16 * 1024 + (y 1).val := by
    show win0_5.index t 1 * 1024 + 1 * (y 1).val = _; rw [o1]; omega
  rw [View.read_apply, cast_eq]
  have first := ext_first m c t
  have later := ext_later m c t
  obtain hg | hg | hg | hg : t.val / 16 = 0 ∨ t.val / 16 = 1 ∨ t.val / 16 = 2 ∨ t.val / 16 = 3 := by omega
  · have hw : 2 = 2 ^ (t.val / 16 + 1) := by rw [hg]; norm_num
    have fin := tile_eq m c t 2 hw (by norm_num) (y 0) (y 1) _ e0 e1
    obtain hs | hs | hs : t.val % 4 = 0 ∨ (t.val % 4 ≠ 0 ∧ t.val % 4 ≠ 3) ∨ t.val % 4 = 3 := by omega
    · rw [Value.flushed5_A m c t (by omega) (by omega) (by omega) (by omega) (by omega) (by omega) (by omega)]
      exact (cut _).trans ((yA (E := E (m ((c : Thread nD τ).loc main_arg0)) t.val) (hE := (first hs)) ..).trans fin)
    · rw [Value.flushed5_B m c t (by omega) (by omega) (by omega) (by omega) (by omega) (by omega) (by omega)]
      exact (cut _).trans ((yB (E := E (m ((c : Thread nD τ).loc main_arg0)) t.val) (hE := (later hs.1)) ..).trans fin)
    · rw [Value.flushed5_C m c t (by omega) (by omega) (by omega) (by omega) (by omega) (by omega) (by omega)]
      exact (cut _).trans ((yC (E := E (m ((c : Thread nD τ).loc main_arg0)) t.val) (hE := (later (by omega))) ..).trans fin)
  · have hw : 4 = 2 ^ (t.val / 16 + 1) := by rw [hg]; norm_num
    have fin := tile_eq m c t 4 hw (by norm_num) (y 0) (y 1) _ e0 e1
    obtain hs | hs | hs : t.val % 4 = 0 ∨ (t.val % 4 ≠ 0 ∧ t.val % 4 ≠ 3) ∨ t.val % 4 = 3 := by omega
    · rw [Value.flushed5_D m c t (by omega) (by omega) (by omega) (by omega) (by omega) (by omega) (by omega)]
      exact (cut _).trans ((yD (E := E (m ((c : Thread nD τ).loc main_arg0)) t.val) (hE := (first hs)) ..).trans fin)
    · rw [Value.flushed5_E m c t (by omega) (by omega) (by omega) (by omega) (by omega) (by omega) (by omega)]
      exact (cut _).trans ((yE (E := E (m ((c : Thread nD τ).loc main_arg0)) t.val) (hE := (later hs.1)) ..).trans fin)
    · rw [Value.flushed5_F m c t (by omega) (by omega) (by omega) (by omega) (by omega) (by omega) (by omega)]
      exact (cut _).trans ((yF (E := E (m ((c : Thread nD τ).loc main_arg0)) t.val) (hE := (later (by omega))) ..).trans fin)
  · have hw : 8 = 2 ^ (t.val / 16 + 1) := by rw [hg]; norm_num
    have fin := tile_eq m c t 8 hw (by norm_num) (y 0) (y 1) _ e0 e1
    obtain hs | hs | hs : t.val % 4 = 0 ∨ (t.val % 4 ≠ 0 ∧ t.val % 4 ≠ 3) ∨ t.val % 4 = 3 := by omega
    · rw [Value.flushed5_G m c t (by omega) (by omega) (by omega) (by omega) (by omega) (by omega) (by omega)]
      exact (cut _).trans ((yG (E := E (m ((c : Thread nD τ).loc main_arg0)) t.val) (hE := (first hs)) ..).trans fin)
    · rw [Value.flushed5_H m c t (by omega) (by omega) (by omega) (by omega) (by omega) (by omega) (by omega)]
      exact (cut _).trans ((yH (E := E (m ((c : Thread nD τ).loc main_arg0)) t.val) (hE := (later hs.1)) ..).trans fin)
    · rw [Value.flushed5_I m c t (by omega) (by omega) (by omega) (by omega) (by omega) (by omega) (by omega)]
      exact (cut _).trans ((yI (E := E (m ((c : Thread nD τ).loc main_arg0)) t.val) (hE := (later (by omega))) ..).trans fin)
  · have hw : 16 = 2 ^ (t.val / 16 + 1) := by rw [hg]; norm_num
    have fin := tile_eq m c t 16 hw (by norm_num) (y 0) (y 1) _ e0 e1
    obtain hs | hs | hs : t.val % 4 = 0 ∨ (t.val % 4 ≠ 0 ∧ t.val % 4 ≠ 3) ∨ t.val % 4 = 3 := by omega
    · rw [Value.flushed5_J m c t (by omega) (by omega) (by omega) (by omega) (by omega) (by omega) (by omega)]
      exact (cut _).trans ((yJ (E := E (m ((c : Thread nD τ).loc main_arg0)) t.val) (hE := (first hs)) ..).trans fin)
    · rw [Value.flushed5_K m c t (by omega) (by omega) (by omega) (by omega) (by omega) (by omega) (by omega)]
      exact (cut _).trans ((yK (E := E (m ((c : Thread nD τ).loc main_arg0)) t.val) (hE := (later hs.1)) ..).trans fin)
    · rw [Value.flushed5_L m c t (by omega) (by omega) (by omega) (by omega) (by omega) (by omega) (by omega)]
      exact (cut _).trans ((yL (E := E (m ((c : Thread nD τ).loc main_arg0)) t.val) (hE := (later (by omega))) ..).trans fin)

theorem flushed6_eq (c : Dev nD) (t : Fin cfg0.N) (hs : t.val % 4 = 3) :
    (dats m 0 c).flushed 6 t = ((cfg0.win 6).blk t).view.read (Elt Ideal) (Gc (m ((c : Thread nD τ).loc main_arg0))) := by
  have hN : t.val < 64 := lt_of_lt_of_eq t.isLt N_0
  obtain ⟨-, -, -, -, -, -, -, ⟨o0, o1, o2⟩⟩ := idx t
  funext y
  have hy0 : (y 0).val < 1 := (y 0).isLt
  have hy1 : (y 1).val < 15 := (y 1).isLt
  have hy : (y : S1x15x1024.Idx) = ix3 0 (y 1) (y 2) := by
    funext a
    match a with
    | ⟨0, _⟩ => exact Fin.ext (by show (y 0).val = 0; omega)
    | ⟨1, _⟩ => rfl
    | ⟨2, _⟩ => rfl
  have cut (v : Vec Ideal S1x15x1024 .f32) : (cfg0.win 6).cut (grid0.coords t) v y = v (ix3 0 (y 1) (y 2)) := congrArg v hy
  have e0 : (((cfg0.win 6).blk t).view.emb y 0).val = t.val / 4 % 4 := by
    show win0_6.index t 0 * 1 + 1 * (y 0).val = _; rw [o0]; omega
  have e1 : (((cfg0.win 6).blk t).view.emb y 1).val = (y 1).val := by
    show win0_6.index t 1 * 15 + 1 * (y 1).val = _; rw [o1]; omega
  have e2 : (((cfg0.win 6).blk t).view.emb y 2).val = t.val / 16 * 1024 + (y 2).val := by
    show win0_6.index t 2 * 1024 + 1 * (y 2).val = _; rw [o2]; omega
  rw [View.read_apply, cast_eq]
  have fin : (iblk m c 0 t : S512x1024.Idx → EReal) (ix2 ⟨497 + (y 1).val, by omega⟩ (y 2)) = Gc (m ((c : Thread nD τ).loc main_arg0)) (((cfg0.win 6).blk t).view.emb y) := by
    refine (u_at m c t ⟨497 + (y 1).val, by omega⟩ (y 2)).trans ?_
    unfold Gc
    rw [e0, e1, e2]
    refine congrArg (U _ · _) ?_
    dsimp only; omega
  obtain hg | hg | hg | hg : t.val / 16 = 0 ∨ t.val / 16 = 1 ∨ t.val / 16 = 2 ∨ t.val / 16 = 3 := by omega
  · rw [Value.flushed6_C m c t (by omega) (by omega) (by omega) (by omega) (by omega) (by omega) (by omega)]
    exact (cut _).trans ((cC ..).trans fin)
  · rw [Value.flushed6_F m c t (by omega) (by omega) (by omega) (by omega) (by omega) (by omega) (by omega)]
    exact (cut _).trans ((cF ..).trans fin)
  · rw [Value.flushed6_I m c t (by omega) (by omega) (by omega) (by omega) (by omega) (by omega) (by omega)]
    exact (cut _).trans ((cI ..).trans fin)
  · rw [Value.flushed6_L m c t (by omega) (by omega) (by omega) (by omega) (by omega) (by omega) (by omega)]
    exact (cut _).trans ((cL ..).trans fin)

/-- Every entry of the two results lies in one tile. -/
theorem cover5 (i : S8192x4096.Idx) : ∃ t : Fin cfg0.N, (cfg0.win 5).flush t = true ∧ i ∈ ((cfg0.win 5).blk t).view.set := by
  have hN : cfg0.N = 64 := N_0
  have h0 : (i 0 : Nat) < 8192 := (i 0).isLt
  have h1 : (i 1 : Nat) < 4096 := (i 1).isLt
  obtain ⟨t, ht⟩ : ∃ t : Fin cfg0.N, t.val = (i 1 : Nat) / 1024 * 16 + (i 0 : Nat) / 512 := ⟨⟨_, by omega⟩, rfl⟩
  obtain ⟨-, -, -, -, -, -, ⟨o0, o1⟩, -⟩ := idx t
  refine ⟨t, flush0_5 t, ?_⟩
  show i ∈ ((View.whole main_v2_0).slice (win0_5.rect t)).set
  rw [View.set_slice_whole, Rect.mem_set_unit]
  intro a
  match a with
  | ⟨0, _⟩ => show win0_5.index t 0 * 512 ≤ (i 0 : Nat) ∧ (i 0 : Nat) < win0_5.index t 0 * 512 + 512
              rw [o0]; omega
  | ⟨1, _⟩ => show win0_5.index t 1 * 1024 ≤ (i 1 : Nat) ∧ (i 1 : Nat) < win0_5.index t 1 * 1024 + 1024
              rw [o1]; omega

theorem cover6 (i : S4x15x4096.Idx) : ∃ t : Fin cfg0.N, (cfg0.win 6).flush t = true ∧ i ∈ ((cfg0.win 6).blk t).view.set := by
  have hN : cfg0.N = 64 := N_0
  have h0 : (i 0 : Nat) < 4 := (i 0).isLt
  have h1 : (i 1 : Nat) < 15 := (i 1).isLt
  have h2 : (i 2 : Nat) < 4096 := (i 2).isLt
  obtain ⟨t, ht⟩ : ∃ t : Fin cfg0.N, t.val = (i 2 : Nat) / 1024 * 16 + (i 0 : Nat) * 4 + 3 := ⟨⟨_, by omega⟩, rfl⟩
  obtain ⟨-, -, -, -, -, -, -, ⟨o0, o1, o2⟩⟩ := idx t
  refine ⟨t, (flush0_6 t).mpr (by omega), ?_⟩
  show i ∈ ((View.whole main_v2_1).slice (win0_6.rect t)).set
  rw [View.set_slice_whole, Rect.mem_set_unit]
  intro a
  match a with
  | ⟨0, _⟩ => show win0_6.index t 0 * 1 ≤ (i 0 : Nat) ∧ (i 0 : Nat) < win0_6.index t 0 * 1 + 1
              rw [o0]; omega
  | ⟨1, _⟩ => show win0_6.index t 1 * 15 ≤ (i 1 : Nat) ∧ (i 1 : Nat) < win0_6.index t 1 * 15 + 15
              rw [o1]; omega
  | ⟨2, _⟩ => show win0_6.index t 2 * 1024 ≤ (i 2 : Nat) ∧ (i 2 : Nat) < win0_6.index t 2 * 1024 + 1024
              rw [o2]; omega

/-- The run of the kernel, read: its two results are the mixed rows and the cache, its arguments are unchanged. -/
theorem run : θ_run defs (onTc (τ := τ) (main (F := Ideal))) ⟨m, fun _ => 0, ρ⟩ fun r => ∀ c : Dev nD,
      r.2.mem ((c : Thread nD τ).loc main_v2_0) = Gy (m ((c : Thread nD τ).loc main_arg0)) (m ((c : Thread nD τ).loc main_arg1)) (m ((c : Thread nD τ).loc main_arg2))
      ∧ r.2.mem ((c : Thread nD τ).loc main_v2_1) = Gc (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans ((dats m 0 c).arrAt_eq_of_cover 5 _ (fun t _ => flushed5_eq m c t) cover5),
      (h c).2.1.trans ((dats m 0 c).arrAt_eq_of_cover 6 _ (fun t ht => flushed6_eq m c t ((flush0_6 t).mp ht)) cover6), (h c).2.2⟩)
    (Value.run_blocks m ρ)

/-- The three programs run and leave their arguments as they were; the third is the reference. -/
theorem frame : Cert.quiescent_Pool := fun m ρ _ => Cert.Pool.Gen.frame m ρ
theorem frameI : Cert.quiescent_PoolIdeal := fun m ρ _ => Cert.PoolIdeal.Gen.frame m ρ
theorem frameR : Cert.quiescent_PoolRefIdeal := fun m ρ _ =>
  (θ_run Cert.PoolRefIdeal.defs _ _).mono
    (fun r h => ⟨fun c => (h c).2.2, Idealize.ShloMosaic.sem_eq_zero_of_no_sems (by decide) r.2⟩)
    (Cert.PoolRefIdeal.Value.run (F := Ideal) m ρ)

/-- The reference's rows, by their numbers. -/
theorem rows (u : S9216x8192.Idx → EReal) (b : Fin 4) (s : Fin 2048) (c : Fin 4096) :
    (shapeCast Cert.PoolRefIdeal.S4x2048x4096 (extractStridedSlice S8192x4096 ![0, 0] u Cert.PoolRefIdeal.Gen.slices_S9216x8192_S8192x4096_0_0) Cert.PoolRefIdeal.Gen.shapeCasts_S8192x4096_S4x2048x4096 : _ → EReal) (ix3 b s c)
      = U u (b.val * 2048 + s.val) c.val := by
  have hb := b.isLt
  have hs := s.isLt
  refine Eq.trans ?_ (U_at u (ix2 ⟨b.val * 2048 + s.val, by omega⟩ ⟨c.val, by omega⟩) _ _ rfl rfl)
  pointwise

/-- Over the extended reals the kernel's results are the reference's. -/
theorem algebraic : Cert.algebraic_PoolIdeal_PoolRefIdeal := by
  intro m ρ m' ρ' _ hagree
  refine ⟨fun c => Gy (m ((c : Thread nD τ).loc main_arg0)) (m ((c : Thread nD τ).loc main_arg1)) (m ((c : Thread nD τ).loc main_arg2)),
    fun c => Gc (m ((c : Thread nD τ).loc main_arg0)), run m ρ, ?_⟩
  refine (θ_run Cert.PoolRefIdeal.defs _ _).mono (fun r h c => ?_) (Cert.PoolRefIdeal.Value.run (F := Ideal) m' ρ')
  refine ⟨(h c).1.trans ?_, (h c).2.1.trans ?_, (h c).2.2⟩
  · unfold Cert.PoolRefIdeal.Value.res_main_v80
    rw [(hagree c).1, (hagree c).2.1, (hagree c).2.2]
    show (_ : S8192x4096.Idx → EReal) = _
    funext i
    have h0 : (i 0 : ℕ) < 8192 := (i 0).isLt
    have h1 : (i 1 : ℕ) < 4096 := (i 1).isLt
    have hi : i = ix2 (i 0) (i 1) := by funext a; fin_cases a <;> rfl
    refine (congrArg _ hi).trans ((Cert.PoolRefIdeal.Val.outer_at (Cert.PoolRefIdeal.Val.pooled _) _ _ _ (i 0) (i 1)).trans ?_)
    refine congrArg₂ (fun f z => mix f _ _ z) (funext fun k => ?_) (U_at (m ((c : Thread nD τ).loc main_arg0)) _ _ _ rfl rfl)
    have hk := k.isLt
    refine (Cert.PoolRefIdeal.Val.pooled_at _ (U (m ((c : Thread nD τ).loc main_arg0))) (rows _) _ _ _).trans ?_
    dsimp only
    rw [show ((i 1).val / 1024 * 1024 + k.val) / 1024 = (i 1).val / 1024 by omega]
  · rw [(hagree c).1]
    show (_ : S4x15x4096.Idx → EReal) = _
    funext i
    have h0 : (i 0 : ℕ) < 4 := (i 0).isLt
    have h1 : (i 1 : ℕ) < 15 := (i 1).isLt
    have hx := Cert.PoolRefIdeal.Val.XP_at _ _ (rows (m ((c : Thread nD τ).loc main_arg0))) (i 0) (2048 + (i 1).val) (by omega) (i 2)
    refine Eq.trans ?_ (hx.trans ?_)
    · refine congrArg (Cert.PoolRefIdeal.Val.XP _) (funext fun a => Fin.ext ?_)
      match a with
      | ⟨0, _⟩ => show 0 + (i 0).val = (i 0).val; omega
      | ⟨1, _⟩ => rfl
      | ⟨2, _⟩ => show 0 + (i 2).val = (i 2).val; omega
    · unfold Gc X
      rw [if_neg (by omega)]
      refine congrArg (U _ · _) ?_
      omega

end Cert.PoolIdeal.Val

end
-- ==== Proof.PoolSTile.lean ====
/- The pooling mixer of the sample, one tile at an index: window sums of the rows in reach, their means less the row
   itself, the group's product, scaled and gated. -/
module

public import proofs.«01_k».proof.Proof.Gen.PoolSIdeal.Skeleton
public import proofs.«01_k».proof.Proof.PoolTile
public import Idealize.ShloMosaic.Lib.Pointwise

@[expose] public section

set_option maxRecDepth 16384

noncomputable section

namespace Cert.PoolSIdeal.Val

open Cert.PoolSIdeal Cert.PoolSIdeal.Gen Idealize.ShloMosaic Idealize.ShloMosaic.TcCoe Idealize.SL.Sem
open Cert.PoolIdeal.Val (wsum wsum_one wsum_add cnt mix)

theorem wrap (n k : ℕ) (h : k ≤ n) (h' : n < 24) : (n + 24 - k) % 24 = n - k := by omega

theorem pos_word (s : ℕ) : IntOp.addi (IntOp.addi 16384#32 (BitVec.ofNat 32 s)) 1#32 = BitVec.ofNat 32 (16384 + s + 1) := by
  show BitVec.ofNat 32 16384 + BitVec.ofNat 32 s + BitVec.ofNat 32 1 = _
  rw [← BitVec.ofNat_add, ← BitVec.ofNat_add]

section
variable (e : Vec Ideal S16x24x1024 .f32) (E : ℕ → ℕ → Fin 1024 → EReal)
  (hE : ∀ (b : Fin 16) (n : ℕ) (h : n < 24) (k : Fin 1024), e (ix3 b ⟨n, h⟩ k) = E b.val n k) (u : Vec Ideal S16x8x1024 .f32) (z : Vec Ideal S128x1024 .f32)
  (wg : Vec Ideal S1x1x1024x1024 .bf16) (sc : Vec Ideal S1x1x1024 .f32) (r : Fin 128) (j : Fin 1024)
include hE

theorem win2 : k0_pay22 u e z wg sc (ix2 r j) = mix (fun k => Ideal.div (wsum 2 (E (r / 8) · k) (16 + r % 8)) (cnt 2#32 (16384 + r % 8)) - u (ix3 ⟨r.val / 8, by omega⟩ ⟨r.val % 8, by omega⟩ k))
    (fun k => wg (ix4 0 0 k j)) (sc (ix3 0 0 j)) (z (ix2 r j)) := by
  have hr := r.isLt
  have hs : r.val % 8 < 8 := by omega
  pointwise [k0_pay22, k0_pay21]
  simp only [pos_word, hE]
  simp (disch := omega) only [wrap]
  unfold mix cnt
  congr 2
  refine Finset.sum_congr rfl fun k _ => ?_
  congr 3
  simp only [wsum_add 1 1, wsum_one, Nat.sub_sub, Nat.reduceAdd]

set_option maxHeartbeats 1000000 in
theorem win4 : k0_pay23 u e z wg sc (ix2 r j) = mix (fun k => Ideal.div (wsum 4 (E (r / 8) · k) (16 + r % 8)) (cnt 4#32 (16384 + r % 8)) - u (ix3 ⟨r.val / 8, by omega⟩ ⟨r.val % 8, by omega⟩ k))
    (fun k => wg (ix4 0 0 k j)) (sc (ix3 0 0 j)) (z (ix2 r j)) := by
  have hr := r.isLt
  have hs : r.val % 8 < 8 := by omega
  pointwise [k0_pay23, k0_pay21]
  simp only [pos_word, hE]
  simp (disch := omega) only [wrap]
  unfold mix cnt
  congr 2
  refine Finset.sum_congr rfl fun k _ => ?_
  congr 3
  simp only [wsum_add 2 2, wsum_add 1 1, wsum_one, Nat.sub_sub, Nat.reduceAdd]

set_option maxHeartbeats 1000000 in
theorem win8 : k0_pay24 u e z wg sc (ix2 r j) = mix (fun k => Ideal.div (wsum 8 (E (r / 8) · k) (16 + r % 8)) (cnt 8#32 (16384 + r % 8)) - u (ix3 ⟨r.val / 8, by omega⟩ ⟨r.val % 8, by omega⟩ k))
    (fun k => wg (ix4 0 0 k j)) (sc (ix3 0 0 j)) (z (ix2 r j)) := by
  have hr := r.isLt
  have hs : r.val % 8 < 8 := by omega
  pointwise [k0_pay24, k0_pay21]
  simp only [pos_word, hE]
  simp (disch := omega) only [wrap]
  unfold mix cnt
  congr 2
  refine Finset.sum_congr rfl fun k _ => ?_
  congr 3
  simp only [wsum_add 4 4, wsum_add 2 2, wsum_add 1 1, wsum_one, Nat.sub_sub, Nat.reduceAdd]

set_option maxHeartbeats 1000000 in
theorem win16 : k0_pay25 k0_pay21 u e z wg sc (ix2 r j) = mix (fun k => Ideal.div (wsum 16 (E (r / 8) · k) (16 + r % 8)) (cnt 16#32 (16384 + r % 8)) - u (ix3 ⟨r.val / 8, by omega⟩ ⟨r.val % 8, by omega⟩ k))
    (fun k => wg (ix4 0 0 k j)) (sc (ix3 0 0 j)) (z (ix2 r j)) := by
  have hr := r.isLt
  have hs : r.val % 8 < 8 := by omega
  pointwise [k0_pay25, k0_pay21]
  simp only [pos_word, hE]
  simp (disch := omega) only [wrap]
  unfold mix cnt
  congr 2
  refine Finset.sum_congr rfl fun k _ => ?_
  congr 3
  simp only [wsum_add 8 8, wsum_add 4 4, wsum_add 2 2, wsum_add 1 1, wsum_one, Nat.sub_sub, Nat.reduceAdd]
end

end Cert.PoolSIdeal.Val

end
-- ==== Proof.PoolSExt.lean ====
/- The scratch of a tile of the sample's pooling mixer: for every sequence a spare row, the 15 cached rows and the 8 new ones. -/
module

public import proofs.«01_k».proof.Proof.PoolSTile
public import proofs.«01_k».proof.Proof.Gen.PoolSIdeal.Value
public import Idealize.ShloMosaic.Lib.Pipeline.ReadBack

@[expose] public section

set_option maxRecDepth 16384
set_option maxHeartbeats 1000000

noncomputable section

namespace Cert.PoolSIdeal.Val

open Cert.PoolSIdeal Cert.PoolSIdeal.Gen Idealize.ShloMosaic Idealize.ShloMosaic.TcCoe Idealize.SL.Sem
open Cert.PoolIdeal.Val (wsum wsum_one wsum_add cnt mix)

theorem z2 : (![0, 0] : Fin 2 → Nat) = fun _ => 0 := funext fun a => by fin_cases a <;> rfl
theorem z3 : (![0, 0, 0] : Fin 3 → Nat) = fun _ => 0 := funext fun a => by fin_cases a <;> rfl
theorem z4 : (![0, 0, 0, 0] : Fin 4 → Nat) = fun _ => 0 := funext fun a => by fin_cases a <;> rfl

/-- Row `n` of sequence `b` of the scratch: the cached rows, then the new ones. -/
def E (x0 : Vec Ideal S128x1024 .f32) (x1 : Vec Ideal S1x15x16x1024 .f32) (b n : ℕ) (k : Fin 1024) : EReal :=
  if h : n < 16 ∧ b < 16 then x1 (ix4 0 ⟨n - 1, by omega⟩ ⟨b, h.2⟩ k)
  else if h : b * 8 + n - 16 < 128 then x0 (ix2 ⟨b * 8 + n - 16, h⟩ k) else 0

/-- The scratch as a whole. -/
def ext (x0 : Vec Ideal S128x1024 .f32) (x1 : Vec Ideal S1x15x16x1024 .f32) : Vec Ideal S16x24x1024 .f32 := fun y => E x0 x1 (y 0).val (y 1).val (y 2)

section
variable (x0 : Vec Ideal S128x1024 .f32) (x1 : Vec Ideal S1x15x16x1024 .f32)

theorem pay4_at (v : Vec Ideal S1x1x16x1024 .f32) (b : Fin 16) (k : Fin 1024) : k0_pay4 v (ix3 b 0 k) = v (ix4 0 0 b k) := by
  pointwise [k0_pay4]

theorem pay20_at (v : Vec Ideal S128x1024 .f32) (b : Fin 16) (s : Fin 8) (k : Fin 1024) : k0_pay20 v (ix3 b s k) = v (ix2 ⟨b.val * 8 + s.val, by omega⟩ k) := by
  pointwise [k0_pay20]

theorem pay26_at (v : Vec Ideal S16x1x1024 .f32) (b : Fin 16) (k : Fin 1024) : k0_pay26 v (ix4 0 0 b k) = v (ix3 b 0 k) := by
  pointwise [k0_pay26]

/-- A cached row, as stored. -/
theorem cached (t : ℕ) (ht : t < 15) (inb : ∀ a, (![0, t, 0, 0] : Fin 4 → ℕ) a + S1x1x16x1024.size a ≤ S1x15x16x1024.size a)
    (inb' : ∀ a, (![0, t + 1, 0] : Fin 3 → ℕ) a + S16x1x1024.size a ≤ S16x24x1024.size a) (x : S16x1x1024.Idx) :
    k0_pay4 (View.ld x1 (Rect.unit (s := S1x15x16x1024) ![0, t, 0, 0] S1x1x16x1024.size inb)) x
      = ext x0 x1 ((Rect.unit (s := S16x24x1024) ![0, t + 1, 0] S16x1x1024.size inb').emb x) := by
  have hx1 : (x 1 : ℕ) < 1 := (x 1).isLt
  have hx0 : (x 0 : ℕ) < 16 := (x 0).isLt
  have hx : x = ix3 (x 0) 0 (x 2) := by
    funext a
    match a with
    | ⟨0, _⟩ => rfl
    | ⟨1, _⟩ => exact Fin.ext (by show (x 1 : ℕ) = 0; omega)
    | ⟨2, _⟩ => rfl
  refine (congrArg _ hx).trans ((pay4_at _ _ _).trans ?_)
  unfold ext
  have e0 : ((Rect.unit (s := S16x24x1024) ![0, t + 1, 0] S16x1x1024.size inb').emb x 0 : ℕ) = (x 0).val := by show 0 + 1 * (x 0).val = _; omega
  have e1 : ((Rect.unit (s := S16x24x1024) ![0, t + 1, 0] S16x1x1024.size inb').emb x 1 : ℕ) = t + 1 := by show t + 1 + 1 * (x 1).val = _; omega
  have e2 : ((Rect.unit (s := S16x24x1024) ![0, t + 1, 0] S16x1x1024.size inb').emb x 2 : ℕ) = (x 2).val := by show 0 + 1 * (x 2).val = _; omega
  generalize (Rect.unit (s := S16x24x1024) ![0, t + 1, 0] S16x1x1024.size inb').emb x = q at e0 e1 e2
  unfold E
  refine Eq.trans ?_ (dif_pos (show (q 1 : ℕ) < 16 ∧ (q 0 : ℕ) < 16 by omega)).symm
  refine congrArg x1 (funext fun a => Fin.ext ?_)
  match a with
  | ⟨0, _⟩ => rfl
  | ⟨1, _⟩ => show t + 1 * 0 = (q 1 : ℕ) - 1; omega
  | ⟨2, _⟩ => show 0 + 1 * (x 0).val = (q 0 : ℕ); omega
  | ⟨3, _⟩ => show 0 + 1 * (x 2).val = (q 2 : ℕ); omega

/-- The new rows, as stored. -/
theorem fresh (inb' : ∀ a, (![0, 16, 0] : Fin 3 → ℕ) a + S16x8x1024.size a ≤ S16x24x1024.size a) (x : S16x8x1024.Idx) :
    k0_pay20 x0 x = ext x0 x1 ((Rect.unit (s := S16x24x1024) ![0, 16, 0] S16x8x1024.size inb').emb x) := by
  have hx1 : (x 1 : ℕ) < 8 := (x 1).isLt
  have hx0 : (x 0 : ℕ) < 16 := (x 0).isLt
  have hx : x = ix3 (x 0) (x 1) (x 2) := by funext a; fin_cases a <;> rfl
  refine (congrArg _ hx).trans ((pay20_at _ _ _ _).trans ?_)
  unfold ext
  have e0 : ((Rect.unit (s := S16x24x1024) ![0, 16, 0] S16x8x1024.size inb').emb x 0 : ℕ) = (x 0).val := by show 0 + 1 * (x 0).val = _; omega
  have e1 : ((Rect.unit (s := S16x24x1024) ![0, 16, 0] S16x8x1024.size inb').emb x 1 : ℕ) = 16 + (x 1).val := by show 16 + 1 * (x 1).val = _; omega
  have e2 : ((Rect.unit (s := S16x24x1024) ![0, 16, 0] S16x8x1024.size inb').emb x 2 : ℕ) = (x 2).val := by show 0 + 1 * (x 2).val = _; omega
  generalize (Rect.unit (s := S16x24x1024) ![0, 16, 0] S16x8x1024.size inb').emb x = q at e0 e1 e2
  unfold E
  refine Eq.trans ?_ ((dif_neg (show ¬((q 1 : ℕ) < 16 ∧ (q 0 : ℕ) < 16) by omega)).trans (dif_pos (show (q 0 : ℕ) * 8 + (q 1 : ℕ) - 16 < 128 by omega))).symm
  refine congrArg x0 (funext fun a => Fin.ext ?_)
  match a with
  | ⟨0, _⟩ => show (x 0).val * 8 + (x 1).val = (q 0 : ℕ) * 8 + (q 1 : ℕ) - 16; omega
  | ⟨1, _⟩ => exact e2.symm

/-- The stores of a tile into its scratch, the last first. -/
def stores : List (View.Piece (Elt Ideal) S16x24x1024 .f32) :=
  [⟨Rect.unit ![0, 16, 0] S16x8x1024.size inb_S16x24x1024_S16x8x1024_0_16_0, k0_pay20 x0⟩,
   ⟨Rect.unit ![0, 15, 0] S16x1x1024.size inb_S16x24x1024_S16x1x1024_0_15_0, k0_pay19 (View.ld x1 (Rect.unit ![0, 14, 0, 0] S1x1x16x1024.size inb_S1x15x16x1024_S1x1x16x1024_0_14_0_0))⟩,
   ⟨Rect.unit ![0, 14, 0] S16x1x1024.size inb_S16x24x1024_S16x1x1024_0_14_0, k0_pay18 (View.ld x1 (Rect.unit ![0, 13, 0, 0] S1x1x16x1024.size inb_S1x15x16x1024_S1x1x16x1024_0_13_0_0))⟩,
   ⟨Rect.unit ![0, 13, 0] S16x1x1024.size inb_S16x24x1024_S16x1x1024_0_13_0, k0_pay17 (View.ld x1 (Rect.unit ![0, 12, 0, 0] S1x1x16x1024.size inb_S1x15x16x1024_S1x1x16x1024_0_12_0_0))⟩,
   ⟨Rect.unit ![0, 12, 0] S16x1x1024.size inb_S16x24x1024_S16x1x1024_0_12_0, k0_pay16 (View.ld x1 (Rect.unit ![0, 11, 0, 0] S1x1x16x1024.size inb_S1x15x16x1024_S1x1x16x1024_0_11_0_0))⟩,
   ⟨Rect.unit ![0, 11, 0] S16x1x1024.size inb_S16x24x1024_S16x1x1024_0_11_0, k0_pay15 (View.ld x1 (Rect.unit ![0, 10, 0, 0] S1x1x16x1024.size inb_S1x15x16x1024_S1x1x16x1024_0_10_0_0))⟩,
   ⟨Rect.unit ![0, 10, 0] S16x1x1024.size inb_S16x24x1024_S16x1x1024_0_10_0, k0_pay14 (View.ld x1 (Rect.unit ![0, 9, 0, 0] S1x1x16x1024.size inb_S1x15x16x1024_S1x1x16x1024_0_9_0_0))⟩,
   ⟨Rect.unit ![0, 9, 0] S16x1x1024.size inb_S16x24x1024_S16x1x1024_0_9_0, k0_pay13 (View.ld x1 (Rect.unit ![0, 8, 0, 0] S1x1x16x1024.size inb_S1x15x16x1024_S1x1x16x1024_0_8_0_0))⟩,
   ⟨Rect.unit ![0, 8, 0] S16x1x1024.size inb_S16x24x1024_S16x1x1024_0_8_0, k0_pay12 (View.ld x1 (Rect.unit ![0, 7, 0, 0] S1x1x16x1024.size inb_S1x15x16x1024_S1x1x16x1024_0_7_0_0))⟩,
   ⟨Rect.unit ![0, 7, 0] S16x1x1024.size inb_S16x24x1024_S16x1x1024_0_7_0, k0_pay11 (View.ld x1 (Rect.unit ![0, 6, 0, 0] S1x1x16x1024.size inb_S1x15x16x1024_S1x1x16x1024_0_6_0_0))⟩,
   ⟨Rect.unit ![0, 6, 0] S16x1x1024.size inb_S16x24x1024_S16x1x1024_0_6_0, k0_pay10 (View.ld x1 (Rect.unit ![0, 5, 0, 0] S1x1x16x1024.size inb_S1x15x16x1024_S1x1x16x1024_0_5_0_0))⟩,
   ⟨Rect.unit ![0, 5, 0] S16x1x1024.size inb_S16x24x1024_S16x1x1024_0_5_0, k0_pay9 (View.ld x1 (Rect.unit ![0, 4, 0, 0] S1x1x16x1024.size inb_S1x15x16x1024_S1x1x16x1024_0_4_0_0))⟩,
   ⟨Rect.unit ![0, 4, 0] S16x1x1024.size inb_S16x24x1024_S16x1x1024_0_4_0, k0_pay8 (k0_pay7 (View.ld x1 (Rect.unit ![0, 3, 0, 0] S1x1x16x1024.size inb_S1x15x16x1024_S1x1x16x1024_0_3_0_0)))⟩,
   ⟨Rect.unit ![0, 3, 0] S16x1x1024.size inb_S16x24x1024_S16x1x1024_0_3_0, k0_pay6 (View.ld x1 (Rect.unit ![0, 2, 0, 0] S1x1x16x1024.size inb_S1x15x16x1024_S1x1x16x1024_0_2_0_0))⟩,
   ⟨Rect.unit ![0, 2, 0] S16x1x1024.size inb_S16x24x1024_S16x1x1024_0_2_0, k0_pay5 (View.ld x1 (Rect.unit ![0, 1, 0, 0] S1x1x16x1024.size inb_S1x15x16x1024_S1x1x16x1024_0_1_0_0))⟩,
   ⟨Rect.unit ![0, 1, 0] S16x1x1024.size inb_S16x24x1024_S16x1x1024_0_1_0, k0_pay4 (View.ld x1 (Rect.unit ![0, 0, 0, 0] S1x1x16x1024.size inb_S1x15x16x1024_S1x1x16x1024_0_0_0_0))⟩]

theorem stores_of : View.PiecesOf (ext x0 x1) (stores x0 x1) :=
  ⟨fun x => fresh x0 x1 inb_S16x24x1024_S16x8x1024_0_16_0 x, fun x => cached x0 x1 14 (by norm_num) inb_S1x15x16x1024_S1x1x16x1024_0_14_0_0 inb_S16x24x1024_S16x1x1024_0_15_0 x, fun x => cached x0 x1 13 (by norm_num) inb_S1x15x16x1024_S1x1x16x1024_0_13_0_0 inb_S16x24x1024_S16x1x1024_0_14_0 x, fun x => cached x0 x1 12 (by norm_num) inb_S1x15x16x1024_S1x1x16x1024_0_12_0_0 inb_S16x24x1024_S16x1x1024_0_13_0 x, fun x => cached x0 x1 11 (by norm_num) inb_S1x15x16x1024_S1x1x16x1024_0_11_0_0 inb_S16x24x1024_S16x1x1024_0_12_0 x, fun x => cached x0 x1 10 (by norm_num) inb_S1x15x16x1024_S1x1x16x1024_0_10_0_0 inb_S16x24x1024_S16x1x1024_0_11_0 x, fun x => cached x0 x1 9 (by norm_num) inb_S1x15x16x1024_S1x1x16x1024_0_9_0_0 inb_S16x24x1024_S16x1x1024_0_10_0 x, fun x => cached x0 x1 8 (by norm_num) inb_S1x15x16x1024_S1x1x16x1024_0_8_0_0 inb_S16x24x1024_S16x1x1024_0_9_0 x, fun x => cached x0 x1 7 (by norm_num) inb_S1x15x16x1024_S1x1x16x1024_0_7_0_0 inb_S16x24x1024_S16x1x1024_0_8_0 x, fun x => cached x0 x1 6 (by norm_num) inb_S1x15x16x1024_S1x1x16x1024_0_6_0_0 inb_S16x24x1024_S16x1x1024_0_7_0 x, fun x => cached x0 x1 5 (by norm_num) inb_S1x15x16x1024_S1x1x16x1024_0_5_0_0 inb_S16x24x1024_S16x1x1024_0_6_0 x, fun x => cached x0 x1 4 (by norm_num) inb_S1x15x16x1024_S1x1x16x1024_0_4_0_0 inb_S16x24x1024_S16x1x1024_0_5_0 x, fun x => cached x0 x1 3 (by norm_num) inb_S1x15x16x1024_S1x1x16x1024_0_3_0_0 inb_S16x24x1024_S16x1x1024_0_4_0 x, fun x => cached x0 x1 2 (by norm_num) inb_S1x15x16x1024_S1x1x16x1024_0_2_0_0 inb_S16x24x1024_S16x1x1024_0_3_0 x, fun x => cached x0 x1 1 (by norm_num) inb_S1x15x16x1024_S1x1x16x1024_0_1_0_0 inb_S16x24x1024_S16x1x1024_0_2_0 x, fun x => cached x0 x1 0 (by norm_num) inb_S1x15x16x1024_S1x1x16x1024_0_0_0_0 inb_S16x24x1024_S16x1x1024_0_1_0 x, trivial⟩

/-- The scratch holds the cached and the new rows from row 1 on, whatever was stored before. -/
theorem canon_ext (L : List (View.Piece (Elt Ideal) S16x24x1024 .f32)) (b : Fin 16) (n : ℕ) (h : n < 24) (hn : 1 ≤ n) (k : Fin 1024) :
    View.canon (stores x0 x1 ++ L) (ix3 b ⟨n, h⟩ k) = E x0 x1 b.val n k := by
  refine View.canon_append_of_piecesOf (ext x0 x1) L _ (stores_of x0 x1) (ix3 b ⟨n, h⟩ k) ?_
  have hb := b.isLt
  have hk := k.isLt
  by_cases hq : 16 ≤ n
  · refine ⟨_, List.mem_cons_self .., ?_⟩
    rw [Rect.mem_set_unit]
    intro a
    match a with
    | ⟨0, _⟩ => show 0 ≤ b.val ∧ b.val < 0 + 16; omega
    | ⟨1, _⟩ => show 16 ≤ n ∧ n < 16 + 8; omega
    | ⟨2, _⟩ => show 0 ≤ k.val ∧ k.val < 0 + 1024; omega
  · have row (t : ℕ) (ht : n = t) (inb' : ∀ a, (![0, t, 0] : Fin 3 → ℕ) a + S16x1x1024.size a ≤ S16x24x1024.size a) :
        (ix3 b ⟨n, h⟩ k : S16x24x1024.Idx) ∈ (Rect.unit (s := S16x24x1024) ![0, t, 0] S16x1x1024.size inb').set := by
      rw [Rect.mem_set_unit]
      intro a
      match a with
      | ⟨0, _⟩ => show 0 ≤ b.val ∧ b.val < 0 + 16; omega
      | ⟨1, _⟩ => show t ≤ n ∧ n < t + 1; omega
      | ⟨2, _⟩ => show 0 ≤ k.val ∧ k.val < 0 + 1024; omega
    obtain h | h | h | h | h | h | h | h | h | h | h | h | h | h | h : n = 15 ∨ n = 14 ∨ n = 13 ∨ n = 12 ∨ n = 11 ∨ n = 10 ∨ n = 9 ∨ n = 8 ∨ n = 7 ∨ n = 6 ∨ n = 5 ∨ n = 4 ∨ n = 3 ∨ n = 2 ∨ n = 1 := by omega
    · exact ⟨_, (List.mem_cons_of_mem _ (List.mem_cons_self ..)), row 15 h inb_S16x24x1024_S16x1x1024_0_15_0⟩
    · exact ⟨_, (List.mem_cons_of_mem _ (List.mem_cons_of_mem _ (List.mem_cons_self ..))), row 14 h inb_S16x24x1024_S16x1x1024_0_14_0⟩
    · exact ⟨_, (List.mem_cons_of_mem _ (List.mem_cons_of_mem _ (List.mem_cons_of_mem _ (List.mem_cons_self ..)))), row 13 h inb_S16x24x1024_S16x1x1024_0_13_0⟩
    · exact ⟨_, (List.mem_cons_of_mem _ (List.mem_cons_of_mem _ (List.mem_cons_of_mem _ (List.mem_cons_of_mem _ (List.mem_cons_self ..))))), row 12 h inb_S16x24x1024_S16x1x1024_0_12_0⟩
    · exact ⟨_, (List.mem_cons_of_mem _ (List.mem_cons_of_mem _ (List.mem_cons_of_mem _ (List.mem_cons_of_mem _ (List.mem_cons_of_mem _ (List.mem_cons_self ..)))))), row 11 h inb_S16x24x1024_S16x1x1024_0_11_0⟩
    · exact ⟨_, (List.mem_cons_of_mem _ (List.mem_cons_of_mem _ (List.mem_cons_of_mem _ (List.mem_cons_of_mem _ (List.mem_cons_of_mem _ (List.mem_cons_of_mem _ (List.mem_cons_self ..))))))), row 10 h inb_S16x24x1024_S16x1x1024_0_10_0⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_self ..)))))))), row 9 h inb_S16x24x1024_S16x1x1024_0_9_0⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))), row 8 h inb_S16x24x1024_S16x1x1024_0_8_0⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))), row 7 h inb_S16x24x1024_S16x1x1024_0_7_0⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))), row 6 h inb_S16x24x1024_S16x1x1024_0_6_0⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))), row 5 h inb_S16x24x1024_S16x1x1024_0_5_0⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))))), row 4 h inb_S16x24x1024_S16x1x1024_0_4_0⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))))), row 3 h inb_S16x24x1024_S16x1x1024_0_3_0⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))))))), row 2 h inb_S16x24x1024_S16x1x1024_0_2_0⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))))))), row 1 h inb_S16x24x1024_S16x1x1024_0_1_0⟩

end

/-- A window of at most 16 rows that ends in a new row does not reach row 0. -/
theorem wsum_pos (w s : ℕ) (hw : w ≤ 16) (f g : ℕ → EReal) (h : ∀ n, 1 ≤ n → f n = g n) : wsum w f (16 + s) = wsum w g (16 + s) := by
  unfold wsum
  refine Finset.sum_congr rfl fun i hi => h _ ?_
  have := Finset.mem_range.mp hi
  omega

end Cert.PoolSIdeal.Val

end
-- ==== Proof.PoolSOut.lean ====
/- What a tile's stores leave in the sample's two results, at an index: one case for each window. -/
module

public import proofs.«01_k».proof.Proof.PoolSExt
public import proofs.«01_k».proof.Proof.Gen.PoolSIdeal.Value

@[expose] public section

set_option maxRecDepth 16384
set_option maxHeartbeats 1000000

noncomputable section

namespace Cert.PoolSIdeal.Val

open Cert.PoolSIdeal Cert.PoolSIdeal.Gen Idealize.ShloMosaic Idealize.ShloMosaic.TcCoe Idealize.SL.Sem
open Cert.PoolIdeal.Val (wsum wsum_one wsum_add cnt mix)

theorem win_congr (w : ℕ) (hw : w ≤ 16) (x0 : Vec Ideal S128x1024 .f32) (x1 : Vec Ideal S1x15x16x1024 .f32) (F : ℕ → ℕ → Fin 1024 → EReal)
    (hF : ∀ b n k, 1 ≤ n → n < 24 → b < 16 → F b n k = E x0 x1 b n k) (s b : ℕ) (hs : s < 8) (hb : b < 16) (k : Fin 1024) :
    wsum w (F b · k) (16 + s) = wsum w (E x0 x1 b · k) (16 + s) := by
  unfold wsum
  refine Finset.sum_congr rfl fun i hi => ?_
  have := Finset.mem_range.mp hi
  exact hF _ _ _ (by omega) (by omega) hb

/-- Row `n` of an array that is the scratch from row 1 on. -/
def rowsOf (e : Vec Ideal S16x24x1024 .f32) (b n : ℕ) (k : Fin 1024) : EReal := if h : b < 16 ∧ n < 24 then e (ix3 ⟨b, h.1⟩ ⟨n, h.2⟩ k) else 0

theorem rowsOf_at (e : Vec Ideal S16x24x1024 .f32) (b : Fin 16) (n : ℕ) (h : n < 24) (k : Fin 1024) : e (ix3 b ⟨n, h⟩ k) = rowsOf e b.val n k := by
  unfold rowsOf
  rw [dif_pos ⟨b.isLt, h⟩]

/-- The last 15 rows of every sequence, by place in the tile's cache. -/
def cacheOf (x0 : Vec Ideal S128x1024 .f32) (x1 : Vec Ideal S1x15x16x1024 .f32) : Vec Ideal S1x15x16x1024 .f32 := fun y =>
  E x0 x1 (y 2).val (9 + (y 1).val) (y 3)

/-- One stored row of the cache. -/
theorem kept (x0 : Vec Ideal S128x1024 .f32) (x1 : Vec Ideal S1x15x16x1024 .f32) (e : Vec Ideal S16x24x1024 .f32)
    (he : ∀ (b : Fin 16) (n : ℕ) (h : n < 24), 1 ≤ n → ∀ k, e (ix3 b ⟨n, h⟩ k) = E x0 x1 b.val n k) (t : ℕ) (ht : t < 15)
    (inb : ∀ a, (![0, 9 + t, 0] : Fin 3 → ℕ) a + S16x1x1024.size a ≤ S16x24x1024.size a)
    (inb' : ∀ a, (![0, t, 0, 0] : Fin 4 → ℕ) a + S1x1x16x1024.size a ≤ S1x15x16x1024.size a) (x : S1x1x16x1024.Idx) :
    k0_pay26 (fun y => e ((Rect.unit (s := S16x24x1024) ![0, 9 + t, 0] S16x1x1024.size inb).toLoadRect.idx y)) x
      = cacheOf x0 x1 ((Rect.unit (s := S1x15x16x1024) ![0, t, 0, 0] S1x1x16x1024.size inb').emb x) := by
  have hx0 : (x 0 : ℕ) < 1 := (x 0).isLt
  have hx1 : (x 1 : ℕ) < 1 := (x 1).isLt
  have hx2 : (x 2 : ℕ) < 16 := (x 2).isLt
  have hx : x = ix4 0 0 (x 2) (x 3) := by
    funext a
    match a with
    | ⟨0, _⟩ => exact Fin.ext (by show (x 0 : ℕ) = 0; omega)
    | ⟨1, _⟩ => exact Fin.ext (by show (x 1 : ℕ) = 0; omega)
    | ⟨2, _⟩ => rfl
    | ⟨3, _⟩ => rfl
  refine (congrArg _ hx).trans ((pay26_at _ _ _).trans ?_)
  refine (Eq.trans (congrArg e (funext fun a => Fin.ext ?_)) (he (x 2) (9 + t) (by omega) (by omega) (x 3))).trans ?_
  · match a with
    | ⟨0, _⟩ => show 0 + 1 * (x 2).val = (x 2).val; omega
    | ⟨1, _⟩ => show 9 + t + 1 * 0 = 9 + t; omega
    | ⟨2, _⟩ => show 0 + 1 * (x 3).val = (x 3).val; omega
  · unfold cacheOf
    have e1 : ((Rect.unit (s := S1x15x16x1024) ![0, t, 0, 0] S1x1x16x1024.size inb').emb x 1 : ℕ) = t := by show t + 1 * (x 1).val = _; omega
    have e2 : ((Rect.unit (s := S1x15x16x1024) ![0, t, 0, 0] S1x1x16x1024.size inb').emb x 2 : ℕ) = (x 2).val := by show 0 + 1 * (x 2).val = _; omega
    have e3 : (Rect.unit (s := S1x15x16x1024) ![0, t, 0, 0] S1x1x16x1024.size inb').emb x 3 = x 3 := Fin.ext (by show 0 + 1 * (x 3).val = _; omega)
    rw [e1, e2, e3]

theorem yA (c : Dev nD) (i : grid0.Coords) (a2 : Memref sig .tc .vmem S128x1024 .f32) (h2 : a2.IsWhole)
    (a3 : Memref sig .tc .vmem S1x15x16x1024 .f32) (h3 : a3.IsWhole) (a4 : Memref sig .tc .vmem S128x1024 .f32) (h4 : a4.IsWhole)
    (a5 : Memref sig .tc .vmem S1x1x1024x1024 .bf16) (h5 : a5.IsWhole) (a6 : Memref sig .tc .vmem S1x1x1024 .f32) (h6 : a6.IsWhole)
    (a8 : Memref sig .tc .vmem S128x1024 .bf16) (h8 : a8.IsWhole) (a9 : Memref sig .tc .vmem S1x15x16x1024 .f32) (h9 : a9.IsWhole)
    (a10 : Memref sig .tc .vmem S16x24x1024 .f32) (h10 : a10.IsWhole)
    (c0 : cond0_0 i) (c1 : ¬cond0_1 i) (c2 : ¬cond0_2 i) (c3 : ¬cond0_3 i)
    (x0 : Vec Ideal S128x1024 .f32) (x1 : Vec Ideal S1x15x16x1024 .f32)
    (x2 : Vec Ideal S128x1024 .f32) (x3 : Vec Ideal S1x1x1024x1024 .bf16) (x4 : Vec Ideal S1x1x1024 .f32) (r : Fin 128) (j : Fin 1024) :
    out0_A_5 (F := Ideal) c i a2 h2 a3 h3 a4 h4 a5 h5 a6 h6 a8 h8 a9 h9 a10 h10 c0 c1 c2 c3 x0 x1 x2 x3 x4 (ix2 r j)
      = mix (fun k => Ideal.div (wsum 2 (E x0 x1 (r.val / 8) · k) (16 + r.val % 8)) (cnt 2#32 (16384 + r.val % 8)) - x0 (ix2 r k))
        (fun k => x3 (ix4 0 0 k j)) (x4 (ix3 0 0 j)) (x2 (ix2 r j)) := by
  have hr := r.isLt
  unfold out0_A_5
  rw [View.read_writes_eq_canon _ _ _ (cover0_A_5 c i a2 h2 a3 h3 a4 h4 a5 h5 a6 h6 a8 h8 a9 h9 a10 h10 c0 c1 c2 c3 x0 x1 x2 x3 x4)]
  unfold kernelRun0_A
  dsimp only
  sl_unfold_words
  rw [View.canon_unit_zero z2]
  simp only [View.readAt_eq_ld, h2.read_unread, h3.read_unread, h4.read_unread, h5.read_unread, h6.read_unread, View.readCov_eq_canon']
  rw [View.ld_unit_zero (S := S128x1024) z2, View.ld_unit_zero (S := S128x1024) z2, View.ld_unit_zero (S := S1x1x1024x1024) z4,
    View.ld_unit_zero (S := S1x1x1024) z3]
  refine (win2 _ (rowsOf _) (rowsOf_at _) _ _ _ _ r j).trans ?_
  refine congrArg (fun f => mix f _ _ _) (funext fun k => ?_)
  refine congrArg₂ (fun x y : EReal => x - y) (congrArg (Ideal.div · _) (win_congr 2 (by norm_num) x0 x1 _ ?_ _ _ (by omega) (by omega) k)) ?_
  · intro b n k hn hn' hb
    refine (dif_pos ⟨hb, hn'⟩).trans (Eq.trans (congrArg (View.canon _) (funext fun a => Fin.ext ?_)) (canon_ext x0 x1 [_] ⟨b, hb⟩ n hn' hn k))
    match a with
    | ⟨0, _⟩ => show 0 + 1 * b = b; omega
    | ⟨1, _⟩ => show 0 + 1 * n = n; omega
    | ⟨2, _⟩ => show 0 + 1 * k.val = k.val; omega
  · refine Eq.trans (congrArg (View.canon _) (funext fun a => Fin.ext ?_)) ((canon_ext x0 x1 [_] ⟨r.val / 8, by omega⟩ (16 + r.val % 8) (by omega) (by omega) k).trans ?_)
    · match a with
      | ⟨0, _⟩ => show 0 + 1 * (r.val / 8) = r.val / 8; omega
      | ⟨1, _⟩ => show 16 + 1 * (r.val % 8) = 16 + r.val % 8; omega
      | ⟨2, _⟩ => show 0 + 1 * k.val = k.val; omega
    · unfold E
      refine (dif_neg (by omega)).trans ((dif_pos (show r.val / 8 * 8 + (16 + r.val % 8) - 16 < 128 by omega)).trans (congrArg x0 (funext fun a => Fin.ext ?_)))
      match a with
      | ⟨0, _⟩ => show r.val / 8 * 8 + (16 + r.val % 8) - 16 = r.val; omega
      | ⟨1, _⟩ => rfl

theorem yB (c : Dev nD) (i : grid0.Coords) (a2 : Memref sig .tc .vmem S128x1024 .f32) (h2 : a2.IsWhole)
    (a3 : Memref sig .tc .vmem S1x15x16x1024 .f32) (h3 : a3.IsWhole) (a4 : Memref sig .tc .vmem S128x1024 .f32) (h4 : a4.IsWhole)
    (a5 : Memref sig .tc .vmem S1x1x1024x1024 .bf16) (h5 : a5.IsWhole) (a6 : Memref sig .tc .vmem S1x1x1024 .f32) (h6 : a6.IsWhole)
    (a8 : Memref sig .tc .vmem S128x1024 .bf16) (h8 : a8.IsWhole) (a9 : Memref sig .tc .vmem S1x15x16x1024 .f32) (h9 : a9.IsWhole)
    (a10 : Memref sig .tc .vmem S16x24x1024 .f32) (h10 : a10.IsWhole)
    (c0 : ¬cond0_0 i) (c1 : cond0_1 i) (c2 : ¬cond0_2 i) (c3 : ¬cond0_3 i)
    (x0 : Vec Ideal S128x1024 .f32) (x1 : Vec Ideal S1x15x16x1024 .f32)
    (x2 : Vec Ideal S128x1024 .f32) (x3 : Vec Ideal S1x1x1024x1024 .bf16) (x4 : Vec Ideal S1x1x1024 .f32) (r : Fin 128) (j : Fin 1024) :
    out0_B_5 (F := Ideal) c i a2 h2 a3 h3 a4 h4 a5 h5 a6 h6 a8 h8 a9 h9 a10 h10 c0 c1 c2 c3 x0 x1 x2 x3 x4 (ix2 r j)
      = mix (fun k => Ideal.div (wsum 4 (E x0 x1 (r.val / 8) · k) (16 + r.val % 8)) (cnt 4#32 (16384 + r.val % 8)) - x0 (ix2 r k))
        (fun k => x3 (ix4 0 0 k j)) (x4 (ix3 0 0 j)) (x2 (ix2 r j)) := by
  have hr := r.isLt
  unfold out0_B_5
  rw [View.read_writes_eq_canon _ _ _ (cover0_B_5 c i a2 h2 a3 h3 a4 h4 a5 h5 a6 h6 a8 h8 a9 h9 a10 h10 c0 c1 c2 c3 x0 x1 x2 x3 x4)]
  unfold kernelRun0_B
  dsimp only
  sl_unfold_words
  rw [View.canon_unit_zero z2]
  simp only [View.readAt_eq_ld, h2.read_unread, h3.read_unread, h4.read_unread, h5.read_unread, h6.read_unread, View.readCov_eq_canon']
  rw [View.ld_unit_zero (S := S128x1024) z2, View.ld_unit_zero (S := S128x1024) z2, View.ld_unit_zero (S := S1x1x1024x1024) z4,
    View.ld_unit_zero (S := S1x1x1024) z3]
  refine (win4 _ (rowsOf _) (rowsOf_at _) _ _ _ _ r j).trans ?_
  refine congrArg (fun f => mix f _ _ _) (funext fun k => ?_)
  refine congrArg₂ (fun x y : EReal => x - y) (congrArg (Ideal.div · _) (win_congr 4 (by norm_num) x0 x1 _ ?_ _ _ (by omega) (by omega) k)) ?_
  · intro b n k hn hn' hb
    refine (dif_pos ⟨hb, hn'⟩).trans (Eq.trans (congrArg (View.canon _) (funext fun a => Fin.ext ?_)) (canon_ext x0 x1 [_] ⟨b, hb⟩ n hn' hn k))
    match a with
    | ⟨0, _⟩ => show 0 + 1 * b = b; omega
    | ⟨1, _⟩ => show 0 + 1 * n = n; omega
    | ⟨2, _⟩ => show 0 + 1 * k.val = k.val; omega
  · refine Eq.trans (congrArg (View.canon _) (funext fun a => Fin.ext ?_)) ((canon_ext x0 x1 [_] ⟨r.val / 8, by omega⟩ (16 + r.val % 8) (by omega) (by omega) k).trans ?_)
    · match a with
      | ⟨0, _⟩ => show 0 + 1 * (r.val / 8) = r.val / 8; omega
      | ⟨1, _⟩ => show 16 + 1 * (r.val % 8) = 16 + r.val % 8; omega
      | ⟨2, _⟩ => show 0 + 1 * k.val = k.val; omega
    · unfold E
      refine (dif_neg (by omega)).trans ((dif_pos (show r.val / 8 * 8 + (16 + r.val % 8) - 16 < 128 by omega)).trans (congrArg x0 (funext fun a => Fin.ext ?_)))
      match a with
      | ⟨0, _⟩ => show r.val / 8 * 8 + (16 + r.val % 8) - 16 = r.val; omega
      | ⟨1, _⟩ => rfl

theorem yC (c : Dev nD) (i : grid0.Coords) (a2 : Memref sig .tc .vmem S128x1024 .f32) (h2 : a2.IsWhole)
    (a3 : Memref sig .tc .vmem S1x15x16x1024 .f32) (h3 : a3.IsWhole) (a4 : Memref sig .tc .vmem S128x1024 .f32) (h4 : a4.IsWhole)
    (a5 : Memref sig .tc .vmem S1x1x1024x1024 .bf16) (h5 : a5.IsWhole) (a6 : Memref sig .tc .vmem S1x1x1024 .f32) (h6 : a6.IsWhole)
    (a8 : Memref sig .tc .vmem S128x1024 .bf16) (h8 : a8.IsWhole) (a9 : Memref sig .tc .vmem S1x15x16x1024 .f32) (h9 : a9.IsWhole)
    (a10 : Memref sig .tc .vmem S16x24x1024 .f32) (h10 : a10.IsWhole)
    (c0 : ¬cond0_0 i) (c1 : ¬cond0_1 i) (c2 : cond0_2 i) (c3 : ¬cond0_3 i)
    (x0 : Vec Ideal S128x1024 .f32) (x1 : Vec Ideal S1x15x16x1024 .f32)
    (x2 : Vec Ideal S128x1024 .f32) (x3 : Vec Ideal S1x1x1024x1024 .bf16) (x4 : Vec Ideal S1x1x1024 .f32) (r : Fin 128) (j : Fin 1024) :
    out0_C_5 (F := Ideal) c i a2 h2 a3 h3 a4 h4 a5 h5 a6 h6 a8 h8 a9 h9 a10 h10 c0 c1 c2 c3 x0 x1 x2 x3 x4 (ix2 r j)
      = mix (fun k => Ideal.div (wsum 8 (E x0 x1 (r.val / 8) · k) (16 + r.val % 8)) (cnt 8#32 (16384 + r.val % 8)) - x0 (ix2 r k))
        (fun k => x3 (ix4 0 0 k j)) (x4 (ix3 0 0 j)) (x2 (ix2 r j)) := by
  have hr := r.isLt
  unfold out0_C_5
  rw [View.read_writes_eq_canon _ _ _ (cover0_C_5 c i a2 h2 a3 h3 a4 h4 a5 h5 a6 h6 a8 h8 a9 h9 a10 h10 c0 c1 c2 c3 x0 x1 x2 x3 x4)]
  unfold kernelRun0_C
  dsimp only
  sl_unfold_words
  rw [View.canon_unit_zero z2]
  simp only [View.readAt_eq_ld, h2.read_unread, h3.read_unread, h4.read_unread, h5.read_unread, h6.read_unread, View.readCov_eq_canon']
  rw [View.ld_unit_zero (S := S128x1024) z2, View.ld_unit_zero (S := S128x1024) z2, View.ld_unit_zero (S := S1x1x1024x1024) z4,
    View.ld_unit_zero (S := S1x1x1024) z3]
  refine (win8 _ (rowsOf _) (rowsOf_at _) _ _ _ _ r j).trans ?_
  refine congrArg (fun f => mix f _ _ _) (funext fun k => ?_)
  refine congrArg₂ (fun x y : EReal => x - y) (congrArg (Ideal.div · _) (win_congr 8 (by norm_num) x0 x1 _ ?_ _ _ (by omega) (by omega) k)) ?_
  · intro b n k hn hn' hb
    refine (dif_pos ⟨hb, hn'⟩).trans (Eq.trans (congrArg (View.canon _) (funext fun a => Fin.ext ?_)) (canon_ext x0 x1 [_] ⟨b, hb⟩ n hn' hn k))
    match a with
    | ⟨0, _⟩ => show 0 + 1 * b = b; omega
    | ⟨1, _⟩ => show 0 + 1 * n = n; omega
    | ⟨2, _⟩ => show 0 + 1 * k.val = k.val; omega
  · refine Eq.trans (congrArg (View.canon _) (funext fun a => Fin.ext ?_)) ((canon_ext x0 x1 [_] ⟨r.val / 8, by omega⟩ (16 + r.val % 8) (by omega) (by omega) k).trans ?_)
    · match a with
      | ⟨0, _⟩ => show 0 + 1 * (r.val / 8) = r.val / 8; omega
      | ⟨1, _⟩ => show 16 + 1 * (r.val % 8) = 16 + r.val % 8; omega
      | ⟨2, _⟩ => show 0 + 1 * k.val = k.val; omega
    · unfold E
      refine (dif_neg (by omega)).trans ((dif_pos (show r.val / 8 * 8 + (16 + r.val % 8) - 16 < 128 by omega)).trans (congrArg x0 (funext fun a => Fin.ext ?_)))
      match a with
      | ⟨0, _⟩ => show r.val / 8 * 8 + (16 + r.val % 8) - 16 = r.val; omega
      | ⟨1, _⟩ => rfl

theorem yD (c : Dev nD) (i : grid0.Coords) (a2 : Memref sig .tc .vmem S128x1024 .f32) (h2 : a2.IsWhole)
    (a3 : Memref sig .tc .vmem S1x15x16x1024 .f32) (h3 : a3.IsWhole) (a4 : Memref sig .tc .vmem S128x1024 .f32) (h4 : a4.IsWhole)
    (a5 : Memref sig .tc .vmem S1x1x1024x1024 .bf16) (h5 : a5.IsWhole) (a6 : Memref sig .tc .vmem S1x1x1024 .f32) (h6 : a6.IsWhole)
    (a8 : Memref sig .tc .vmem S128x1024 .bf16) (h8 : a8.IsWhole) (a9 : Memref sig .tc .vmem S1x15x16x1024 .f32) (h9 : a9.IsWhole)
    (a10 : Memref sig .tc .vmem S16x24x1024 .f32) (h10 : a10.IsWhole)
    (c0 : ¬cond0_0 i) (c1 : ¬cond0_1 i) (c2 : ¬cond0_2 i) (c3 : cond0_3 i)
    (x0 : Vec Ideal S128x1024 .f32) (x1 : Vec Ideal S1x15x16x1024 .f32)
    (x2 : Vec Ideal S128x1024 .f32) (x3 : Vec Ideal S1x1x1024x1024 .bf16) (x4 : Vec Ideal S1x1x1024 .f32) (r : Fin 128) (j : Fin 1024) :
    out0_D_5 (F := Ideal) c i a2 h2 a3 h3 a4 h4 a5 h5 a6 h6 a8 h8 a9 h9 a10 h10 c0 c1 c2 c3 x0 x1 x2 x3 x4 (ix2 r j)
      = mix (fun k => Ideal.div (wsum 16 (E x0 x1 (r.val / 8) · k) (16 + r.val % 8)) (cnt 16#32 (16384 + r.val % 8)) - x0 (ix2 r k))
        (fun k => x3 (ix4 0 0 k j)) (x4 (ix3 0 0 j)) (x2 (ix2 r j)) := by
  have hr := r.isLt
  unfold out0_D_5
  rw [View.read_writes_eq_canon _ _ _ (cover0_D_5 c i a2 h2 a3 h3 a4 h4 a5 h5 a6 h6 a8 h8 a9 h9 a10 h10 c0 c1 c2 c3 x0 x1 x2 x3 x4)]
  unfold kernelRun0_D
  dsimp only
  sl_unfold_words
  rw [View.canon_unit_zero z2]
  simp only [View.readAt_eq_ld, h2.read_unread, h3.read_unread, h4.read_unread, h5.read_unread, h6.read_unread, View.readCov_eq_canon']
  rw [View.ld_unit_zero (S := S128x1024) z2, View.ld_unit_zero (S := S128x1024) z2, View.ld_unit_zero (S := S1x1x1024x1024) z4,
    View.ld_unit_zero (S := S1x1x1024) z3]
  refine (win16 _ (rowsOf _) (rowsOf_at _) _ _ _ _ r j).trans ?_
  refine congrArg (fun f => mix f _ _ _) (funext fun k => ?_)
  refine congrArg₂ (fun x y : EReal => x - y) (congrArg (Ideal.div · _) (win_congr 16 (by norm_num) x0 x1 _ ?_ _ _ (by omega) (by omega) k)) ?_
  · intro b n k hn hn' hb
    refine (dif_pos ⟨hb, hn'⟩).trans (Eq.trans (congrArg (View.canon _) (funext fun a => Fin.ext ?_)) (canon_ext x0 x1 [_] ⟨b, hb⟩ n hn' hn k))
    match a with
    | ⟨0, _⟩ => show 0 + 1 * b = b; omega
    | ⟨1, _⟩ => show 0 + 1 * n = n; omega
    | ⟨2, _⟩ => show 0 + 1 * k.val = k.val; omega
  · refine Eq.trans (congrArg (View.canon _) (funext fun a => Fin.ext ?_)) ((canon_ext x0 x1 [_] ⟨r.val / 8, by omega⟩ (16 + r.val % 8) (by omega) (by omega) k).trans ?_)
    · match a with
      | ⟨0, _⟩ => show 0 + 1 * (r.val / 8) = r.val / 8; omega
      | ⟨1, _⟩ => show 16 + 1 * (r.val % 8) = 16 + r.val % 8; omega
      | ⟨2, _⟩ => show 0 + 1 * k.val = k.val; omega
    · unfold E
      refine (dif_neg (by omega)).trans ((dif_pos (show r.val / 8 * 8 + (16 + r.val % 8) - 16 < 128 by omega)).trans (congrArg x0 (funext fun a => Fin.ext ?_)))
      match a with
      | ⟨0, _⟩ => show r.val / 8 * 8 + (16 + r.val % 8) - 16 = r.val; omega
      | ⟨1, _⟩ => rfl

theorem cA (c : Dev nD) (i : grid0.Coords) (a2 : Memref sig .tc .vmem S128x1024 .f32) (h2 : a2.IsWhole)
    (a3 : Memref sig .tc .vmem S1x15x16x1024 .f32) (h3 : a3.IsWhole) (a4 : Memref sig .tc .vmem S128x1024 .f32) (h4 : a4.IsWhole)
    (a5 : Memref sig .tc .vmem S1x1x1024x1024 .bf16) (h5 : a5.IsWhole) (a6 : Memref sig .tc .vmem S1x1x1024 .f32) (h6 : a6.IsWhole)
    (a8 : Memref sig .tc .vmem S128x1024 .bf16) (h8 : a8.IsWhole) (a9 : Memref sig .tc .vmem S1x15x16x1024 .f32) (h9 : a9.IsWhole)
    (a10 : Memref sig .tc .vmem S16x24x1024 .f32) (h10 : a10.IsWhole)
    (c0 : cond0_0 i) (c1 : ¬cond0_1 i) (c2 : ¬cond0_2 i) (c3 : ¬cond0_3 i)
    (x0 : Vec Ideal S128x1024 .f32) (x1 : Vec Ideal S1x15x16x1024 .f32)
    (x2 : Vec Ideal S128x1024 .f32) (x3 : Vec Ideal S1x1x1024x1024 .bf16) (x4 : Vec Ideal S1x1x1024 .f32) :
    out0_A_6 (F := Ideal) c i a2 h2 a3 h3 a4 h4 a5 h5 a6 h6 a8 h8 a9 h9 a10 h10 c0 c1 c2 c3 x0 x1 x2 x3 x4 = cacheOf x0 x1 := by
  have cover := cover0_A_6 (F := Ideal) c i a2 h2 a3 h3 a4 h4 a5 h5 a6 h6 a8 h8 a9 h9 a10 h10 c0 c1 c2 c3 x0 x1 x2 x3 x4
  unfold out0_A_6
  rw [View.read_writes_eq_canon _ _ _ cover]
  funext y
  refine View.canon_apply_of_pieces (cacheOf x0 x1) _ (View.PiecesOf.mem ?_) y (cover y)
  unfold kernelRun0_A
  dsimp only
  sl_unfold_words
  simp only [View.readAt_eq_ld, h2.read_unread, h3.read_unread, View.readCov_eq_canon']
  rw [View.ld_unit_zero (S := S128x1024) z2]
  generalize hL : View.canon (Val := Elt Ideal) (s := S16x24x1024) (e := .f32) _ = e
  have he : ∀ (b : Fin 16) (n : ℕ) (h : n < 24), 1 ≤ n → ∀ k, e (ix3 b ⟨n, h⟩ k) = E x0 x1 b.val n k := fun b n h hn k =>
    (congrFun hL.symm _).trans (canon_ext x0 x1 [_] b n h hn k)
  exact ⟨fun x => kept x0 x1 e he 14 (by norm_num) inb_S16x24x1024_S16x1x1024_0_23_0 inb_S1x15x16x1024_S1x1x16x1024_0_14_0_0 x, fun x => kept x0 x1 e he 13 (by norm_num) inb_S16x24x1024_S16x1x1024_0_22_0 inb_S1x15x16x1024_S1x1x16x1024_0_13_0_0 x, fun x => kept x0 x1 e he 12 (by norm_num) inb_S16x24x1024_S16x1x1024_0_21_0 inb_S1x15x16x1024_S1x1x16x1024_0_12_0_0 x, fun x => kept x0 x1 e he 11 (by norm_num) inb_S16x24x1024_S16x1x1024_0_20_0 inb_S1x15x16x1024_S1x1x16x1024_0_11_0_0 x, fun x => kept x0 x1 e he 10 (by norm_num) inb_S16x24x1024_S16x1x1024_0_19_0 inb_S1x15x16x1024_S1x1x16x1024_0_10_0_0 x, fun x => kept x0 x1 e he 9 (by norm_num) inb_S16x24x1024_S16x1x1024_0_18_0 inb_S1x15x16x1024_S1x1x16x1024_0_9_0_0 x, fun x => kept x0 x1 e he 8 (by norm_num) inb_S16x24x1024_S16x1x1024_0_17_0 inb_S1x15x16x1024_S1x1x16x1024_0_8_0_0 x, fun x => kept x0 x1 e he 7 (by norm_num) inb_S16x24x1024_S16x1x1024_0_16_0 inb_S1x15x16x1024_S1x1x16x1024_0_7_0_0 x, fun x => kept x0 x1 e he 6 (by norm_num) inb_S16x24x1024_S16x1x1024_0_15_0 inb_S1x15x16x1024_S1x1x16x1024_0_6_0_0 x, fun x => kept x0 x1 e he 5 (by norm_num) inb_S16x24x1024_S16x1x1024_0_14_0 inb_S1x15x16x1024_S1x1x16x1024_0_5_0_0 x, fun x => kept x0 x1 e he 4 (by norm_num) inb_S16x24x1024_S16x1x1024_0_13_0 inb_S1x15x16x1024_S1x1x16x1024_0_4_0_0 x, fun x => kept x0 x1 e he 3 (by norm_num) inb_S16x24x1024_S16x1x1024_0_12_0 inb_S1x15x16x1024_S1x1x16x1024_0_3_0_0 x, fun x => kept x0 x1 e he 2 (by norm_num) inb_S16x24x1024_S16x1x1024_0_11_0 inb_S1x15x16x1024_S1x1x16x1024_0_2_0_0 x, fun x => kept x0 x1 e he 1 (by norm_num) inb_S16x24x1024_S16x1x1024_0_10_0 inb_S1x15x16x1024_S1x1x16x1024_0_1_0_0 x, fun x => kept x0 x1 e he 0 (by norm_num) inb_S16x24x1024_S16x1x1024_0_9_0 inb_S1x15x16x1024_S1x1x16x1024_0_0_0_0 x, trivial⟩

theorem cB (c : Dev nD) (i : grid0.Coords) (a2 : Memref sig .tc .vmem S128x1024 .f32) (h2 : a2.IsWhole)
    (a3 : Memref sig .tc .vmem S1x15x16x1024 .f32) (h3 : a3.IsWhole) (a4 : Memref sig .tc .vmem S128x1024 .f32) (h4 : a4.IsWhole)
    (a5 : Memref sig .tc .vmem S1x1x1024x1024 .bf16) (h5 : a5.IsWhole) (a6 : Memref sig .tc .vmem S1x1x1024 .f32) (h6 : a6.IsWhole)
    (a8 : Memref sig .tc .vmem S128x1024 .bf16) (h8 : a8.IsWhole) (a9 : Memref sig .tc .vmem S1x15x16x1024 .f32) (h9 : a9.IsWhole)
    (a10 : Memref sig .tc .vmem S16x24x1024 .f32) (h10 : a10.IsWhole)
    (c0 : ¬cond0_0 i) (c1 : cond0_1 i) (c2 : ¬cond0_2 i) (c3 : ¬cond0_3 i)
    (x0 : Vec Ideal S128x1024 .f32) (x1 : Vec Ideal S1x15x16x1024 .f32)
    (x2 : Vec Ideal S128x1024 .f32) (x3 : Vec Ideal S1x1x1024x1024 .bf16) (x4 : Vec Ideal S1x1x1024 .f32) :
    out0_B_6 (F := Ideal) c i a2 h2 a3 h3 a4 h4 a5 h5 a6 h6 a8 h8 a9 h9 a10 h10 c0 c1 c2 c3 x0 x1 x2 x3 x4 = cacheOf x0 x1 := by
  have cover := cover0_B_6 (F := Ideal) c i a2 h2 a3 h3 a4 h4 a5 h5 a6 h6 a8 h8 a9 h9 a10 h10 c0 c1 c2 c3 x0 x1 x2 x3 x4
  unfold out0_B_6
  rw [View.read_writes_eq_canon _ _ _ cover]
  funext y
  refine View.canon_apply_of_pieces (cacheOf x0 x1) _ (View.PiecesOf.mem ?_) y (cover y)
  unfold kernelRun0_B
  dsimp only
  sl_unfold_words
  simp only [View.readAt_eq_ld, h2.read_unread, h3.read_unread, View.readCov_eq_canon']
  rw [View.ld_unit_zero (S := S128x1024) z2]
  generalize hL : View.canon (Val := Elt Ideal) (s := S16x24x1024) (e := .f32) _ = e
  have he : ∀ (b : Fin 16) (n : ℕ) (h : n < 24), 1 ≤ n → ∀ k, e (ix3 b ⟨n, h⟩ k) = E x0 x1 b.val n k := fun b n h hn k =>
    (congrFun hL.symm _).trans (canon_ext x0 x1 [_] b n h hn k)
  exact ⟨fun x => kept x0 x1 e he 14 (by norm_num) inb_S16x24x1024_S16x1x1024_0_23_0 inb_S1x15x16x1024_S1x1x16x1024_0_14_0_0 x, fun x => kept x0 x1 e he 13 (by norm_num) inb_S16x24x1024_S16x1x1024_0_22_0 inb_S1x15x16x1024_S1x1x16x1024_0_13_0_0 x, fun x => kept x0 x1 e he 12 (by norm_num) inb_S16x24x1024_S16x1x1024_0_21_0 inb_S1x15x16x1024_S1x1x16x1024_0_12_0_0 x, fun x => kept x0 x1 e he 11 (by norm_num) inb_S16x24x1024_S16x1x1024_0_20_0 inb_S1x15x16x1024_S1x1x16x1024_0_11_0_0 x, fun x => kept x0 x1 e he 10 (by norm_num) inb_S16x24x1024_S16x1x1024_0_19_0 inb_S1x15x16x1024_S1x1x16x1024_0_10_0_0 x, fun x => kept x0 x1 e he 9 (by norm_num) inb_S16x24x1024_S16x1x1024_0_18_0 inb_S1x15x16x1024_S1x1x16x1024_0_9_0_0 x, fun x => kept x0 x1 e he 8 (by norm_num) inb_S16x24x1024_S16x1x1024_0_17_0 inb_S1x15x16x1024_S1x1x16x1024_0_8_0_0 x, fun x => kept x0 x1 e he 7 (by norm_num) inb_S16x24x1024_S16x1x1024_0_16_0 inb_S1x15x16x1024_S1x1x16x1024_0_7_0_0 x, fun x => kept x0 x1 e he 6 (by norm_num) inb_S16x24x1024_S16x1x1024_0_15_0 inb_S1x15x16x1024_S1x1x16x1024_0_6_0_0 x, fun x => kept x0 x1 e he 5 (by norm_num) inb_S16x24x1024_S16x1x1024_0_14_0 inb_S1x15x16x1024_S1x1x16x1024_0_5_0_0 x, fun x => kept x0 x1 e he 4 (by norm_num) inb_S16x24x1024_S16x1x1024_0_13_0 inb_S1x15x16x1024_S1x1x16x1024_0_4_0_0 x, fun x => kept x0 x1 e he 3 (by norm_num) inb_S16x24x1024_S16x1x1024_0_12_0 inb_S1x15x16x1024_S1x1x16x1024_0_3_0_0 x, fun x => kept x0 x1 e he 2 (by norm_num) inb_S16x24x1024_S16x1x1024_0_11_0 inb_S1x15x16x1024_S1x1x16x1024_0_2_0_0 x, fun x => kept x0 x1 e he 1 (by norm_num) inb_S16x24x1024_S16x1x1024_0_10_0 inb_S1x15x16x1024_S1x1x16x1024_0_1_0_0 x, fun x => kept x0 x1 e he 0 (by norm_num) inb_S16x24x1024_S16x1x1024_0_9_0 inb_S1x15x16x1024_S1x1x16x1024_0_0_0_0 x, trivial⟩

theorem cC (c : Dev nD) (i : grid0.Coords) (a2 : Memref sig .tc .vmem S128x1024 .f32) (h2 : a2.IsWhole)
    (a3 : Memref sig .tc .vmem S1x15x16x1024 .f32) (h3 : a3.IsWhole) (a4 : Memref sig .tc .vmem S128x1024 .f32) (h4 : a4.IsWhole)
    (a5 : Memref sig .tc .vmem S1x1x1024x1024 .bf16) (h5 : a5.IsWhole) (a6 : Memref sig .tc .vmem S1x1x1024 .f32) (h6 : a6.IsWhole)
    (a8 : Memref sig .tc .vmem S128x1024 .bf16) (h8 : a8.IsWhole) (a9 : Memref sig .tc .vmem S1x15x16x1024 .f32) (h9 : a9.IsWhole)
    (a10 : Memref sig .tc .vmem S16x24x1024 .f32) (h10 : a10.IsWhole)
    (c0 : ¬cond0_0 i) (c1 : ¬cond0_1 i) (c2 : cond0_2 i) (c3 : ¬cond0_3 i)
    (x0 : Vec Ideal S128x1024 .f32) (x1 : Vec Ideal S1x15x16x1024 .f32)
    (x2 : Vec Ideal S128x1024 .f32) (x3 : Vec Ideal S1x1x1024x1024 .bf16) (x4 : Vec Ideal S1x1x1024 .f32) :
    out0_C_6 (F := Ideal) c i a2 h2 a3 h3 a4 h4 a5 h5 a6 h6 a8 h8 a9 h9 a10 h10 c0 c1 c2 c3 x0 x1 x2 x3 x4 = cacheOf x0 x1 := by
  have cover := cover0_C_6 (F := Ideal) c i a2 h2 a3 h3 a4 h4 a5 h5 a6 h6 a8 h8 a9 h9 a10 h10 c0 c1 c2 c3 x0 x1 x2 x3 x4
  unfold out0_C_6
  rw [View.read_writes_eq_canon _ _ _ cover]
  funext y
  refine View.canon_apply_of_pieces (cacheOf x0 x1) _ (View.PiecesOf.mem ?_) y (cover y)
  unfold kernelRun0_C
  dsimp only
  sl_unfold_words
  simp only [View.readAt_eq_ld, h2.read_unread, h3.read_unread, View.readCov_eq_canon']
  rw [View.ld_unit_zero (S := S128x1024) z2]
  generalize hL : View.canon (Val := Elt Ideal) (s := S16x24x1024) (e := .f32) _ = e
  have he : ∀ (b : Fin 16) (n : ℕ) (h : n < 24), 1 ≤ n → ∀ k, e (ix3 b ⟨n, h⟩ k) = E x0 x1 b.val n k := fun b n h hn k =>
    (congrFun hL.symm _).trans (canon_ext x0 x1 [_] b n h hn k)
  exact ⟨fun x => kept x0 x1 e he 14 (by norm_num) inb_S16x24x1024_S16x1x1024_0_23_0 inb_S1x15x16x1024_S1x1x16x1024_0_14_0_0 x, fun x => kept x0 x1 e he 13 (by norm_num) inb_S16x24x1024_S16x1x1024_0_22_0 inb_S1x15x16x1024_S1x1x16x1024_0_13_0_0 x, fun x => kept x0 x1 e he 12 (by norm_num) inb_S16x24x1024_S16x1x1024_0_21_0 inb_S1x15x16x1024_S1x1x16x1024_0_12_0_0 x, fun x => kept x0 x1 e he 11 (by norm_num) inb_S16x24x1024_S16x1x1024_0_20_0 inb_S1x15x16x1024_S1x1x16x1024_0_11_0_0 x, fun x => kept x0 x1 e he 10 (by norm_num) inb_S16x24x1024_S16x1x1024_0_19_0 inb_S1x15x16x1024_S1x1x16x1024_0_10_0_0 x, fun x => kept x0 x1 e he 9 (by norm_num) inb_S16x24x1024_S16x1x1024_0_18_0 inb_S1x15x16x1024_S1x1x16x1024_0_9_0_0 x, fun x => kept x0 x1 e he 8 (by norm_num) inb_S16x24x1024_S16x1x1024_0_17_0 inb_S1x15x16x1024_S1x1x16x1024_0_8_0_0 x, fun x => kept x0 x1 e he 7 (by norm_num) inb_S16x24x1024_S16x1x1024_0_16_0 inb_S1x15x16x1024_S1x1x16x1024_0_7_0_0 x, fun x => kept x0 x1 e he 6 (by norm_num) inb_S16x24x1024_S16x1x1024_0_15_0 inb_S1x15x16x1024_S1x1x16x1024_0_6_0_0 x, fun x => kept x0 x1 e he 5 (by norm_num) inb_S16x24x1024_S16x1x1024_0_14_0 inb_S1x15x16x1024_S1x1x16x1024_0_5_0_0 x, fun x => kept x0 x1 e he 4 (by norm_num) inb_S16x24x1024_S16x1x1024_0_13_0 inb_S1x15x16x1024_S1x1x16x1024_0_4_0_0 x, fun x => kept x0 x1 e he 3 (by norm_num) inb_S16x24x1024_S16x1x1024_0_12_0 inb_S1x15x16x1024_S1x1x16x1024_0_3_0_0 x, fun x => kept x0 x1 e he 2 (by norm_num) inb_S16x24x1024_S16x1x1024_0_11_0 inb_S1x15x16x1024_S1x1x16x1024_0_2_0_0 x, fun x => kept x0 x1 e he 1 (by norm_num) inb_S16x24x1024_S16x1x1024_0_10_0 inb_S1x15x16x1024_S1x1x16x1024_0_1_0_0 x, fun x => kept x0 x1 e he 0 (by norm_num) inb_S16x24x1024_S16x1x1024_0_9_0 inb_S1x15x16x1024_S1x1x16x1024_0_0_0_0 x, trivial⟩

theorem cD (c : Dev nD) (i : grid0.Coords) (a2 : Memref sig .tc .vmem S128x1024 .f32) (h2 : a2.IsWhole)
    (a3 : Memref sig .tc .vmem S1x15x16x1024 .f32) (h3 : a3.IsWhole) (a4 : Memref sig .tc .vmem S128x1024 .f32) (h4 : a4.IsWhole)
    (a5 : Memref sig .tc .vmem S1x1x1024x1024 .bf16) (h5 : a5.IsWhole) (a6 : Memref sig .tc .vmem S1x1x1024 .f32) (h6 : a6.IsWhole)
    (a8 : Memref sig .tc .vmem S128x1024 .bf16) (h8 : a8.IsWhole) (a9 : Memref sig .tc .vmem S1x15x16x1024 .f32) (h9 : a9.IsWhole)
    (a10 : Memref sig .tc .vmem S16x24x1024 .f32) (h10 : a10.IsWhole)
    (c0 : ¬cond0_0 i) (c1 : ¬cond0_1 i) (c2 : ¬cond0_2 i) (c3 : cond0_3 i)
    (x0 : Vec Ideal S128x1024 .f32) (x1 : Vec Ideal S1x15x16x1024 .f32)
    (x2 : Vec Ideal S128x1024 .f32) (x3 : Vec Ideal S1x1x1024x1024 .bf16) (x4 : Vec Ideal S1x1x1024 .f32) :
    out0_D_6 (F := Ideal) c i a2 h2 a3 h3 a4 h4 a5 h5 a6 h6 a8 h8 a9 h9 a10 h10 c0 c1 c2 c3 x0 x1 x2 x3 x4 = cacheOf x0 x1 := by
  have cover := cover0_D_6 (F := Ideal) c i a2 h2 a3 h3 a4 h4 a5 h5 a6 h6 a8 h8 a9 h9 a10 h10 c0 c1 c2 c3 x0 x1 x2 x3 x4
  unfold out0_D_6
  rw [View.read_writes_eq_canon _ _ _ cover]
  funext y
  refine View.canon_apply_of_pieces (cacheOf x0 x1) _ (View.PiecesOf.mem ?_) y (cover y)
  unfold kernelRun0_D
  dsimp only
  sl_unfold_words
  simp only [View.readAt_eq_ld, h2.read_unread, h3.read_unread, View.readCov_eq_canon']
  rw [View.ld_unit_zero (S := S128x1024) z2]
  generalize hL : View.canon (Val := Elt Ideal) (s := S16x24x1024) (e := .f32) _ = e
  have he : ∀ (b : Fin 16) (n : ℕ) (h : n < 24), 1 ≤ n → ∀ k, e (ix3 b ⟨n, h⟩ k) = E x0 x1 b.val n k := fun b n h hn k =>
    (congrFun hL.symm _).trans (canon_ext x0 x1 [_] b n h hn k)
  exact ⟨fun x => kept x0 x1 e he 14 (by norm_num) inb_S16x24x1024_S16x1x1024_0_23_0 inb_S1x15x16x1024_S1x1x16x1024_0_14_0_0 x, fun x => kept x0 x1 e he 13 (by norm_num) inb_S16x24x1024_S16x1x1024_0_22_0 inb_S1x15x16x1024_S1x1x16x1024_0_13_0_0 x, fun x => kept x0 x1 e he 12 (by norm_num) inb_S16x24x1024_S16x1x1024_0_21_0 inb_S1x15x16x1024_S1x1x16x1024_0_12_0_0 x, fun x => kept x0 x1 e he 11 (by norm_num) inb_S16x24x1024_S16x1x1024_0_20_0 inb_S1x15x16x1024_S1x1x16x1024_0_11_0_0 x, fun x => kept x0 x1 e he 10 (by norm_num) inb_S16x24x1024_S16x1x1024_0_19_0 inb_S1x15x16x1024_S1x1x16x1024_0_10_0_0 x, fun x => kept x0 x1 e he 9 (by norm_num) inb_S16x24x1024_S16x1x1024_0_18_0 inb_S1x15x16x1024_S1x1x16x1024_0_9_0_0 x, fun x => kept x0 x1 e he 8 (by norm_num) inb_S16x24x1024_S16x1x1024_0_17_0 inb_S1x15x16x1024_S1x1x16x1024_0_8_0_0 x, fun x => kept x0 x1 e he 7 (by norm_num) inb_S16x24x1024_S16x1x1024_0_16_0 inb_S1x15x16x1024_S1x1x16x1024_0_7_0_0 x, fun x => kept x0 x1 e he 6 (by norm_num) inb_S16x24x1024_S16x1x1024_0_15_0 inb_S1x15x16x1024_S1x1x16x1024_0_6_0_0 x, fun x => kept x0 x1 e he 5 (by norm_num) inb_S16x24x1024_S16x1x1024_0_14_0 inb_S1x15x16x1024_S1x1x16x1024_0_5_0_0 x, fun x => kept x0 x1 e he 4 (by norm_num) inb_S16x24x1024_S16x1x1024_0_13_0 inb_S1x15x16x1024_S1x1x16x1024_0_4_0_0 x, fun x => kept x0 x1 e he 3 (by norm_num) inb_S16x24x1024_S16x1x1024_0_12_0 inb_S1x15x16x1024_S1x1x16x1024_0_3_0_0 x, fun x => kept x0 x1 e he 2 (by norm_num) inb_S16x24x1024_S16x1x1024_0_11_0 inb_S1x15x16x1024_S1x1x16x1024_0_2_0_0 x, fun x => kept x0 x1 e he 1 (by norm_num) inb_S16x24x1024_S16x1x1024_0_10_0 inb_S1x15x16x1024_S1x1x16x1024_0_1_0_0 x, fun x => kept x0 x1 e he 0 (by norm_num) inb_S16x24x1024_S16x1x1024_0_9_0 inb_S1x15x16x1024_S1x1x16x1024_0_0_0_0 x, trivial⟩

end Cert.PoolSIdeal.Val

end
-- ==== Proof.PoolSRef.lean ====
/- The pooling mixer of the sample as the reference writes it, read at an index. -/
module

public import proofs.«01_k».proof.Proof.PoolTile
public import proofs.«01_k».proof.Proof.PoolRef
public import proofs.«01_k».proof.Proof.PoolWin
public import proofs.«01_k».proof.Proof.Gen.PoolSRefIdeal.Run
public import Idealize.ShloMosaic.Lib.Pointwise

@[expose] public section

set_option maxRecDepth 16384

noncomputable section

namespace Cert.PoolSRefIdeal.Val

open Cert.PoolSRefIdeal Cert.PoolSRefIdeal.Gen Idealize.ShloMosaic Idealize.ShloMosaic.TcCoe Idealize.SL.Sem
open Cert.PoolIdeal.Val (wsum cnt mix)
open Cert.PoolRefIdeal.Val (wsum_reflect)

/-- Row `q` of sequence `b` at column `c`: the 15 cached rows `C`, then the sequence's own rows `U`. -/
def X (C : ℕ → ℕ → ℕ → EReal) (U : ℕ → ℕ → EReal) (b c q : ℕ) : EReal := if q < 15 then C b q c else U (b * 8 + q - 15) c

/-- One group's mean less the row: window `w`, sequence `b`, position `s` behind the 16384 of the prompt, column `c`. -/
def pool (C : ℕ → ℕ → ℕ → EReal) (U : ℕ → ℕ → EReal) (w b s c : ℕ) : EReal :=
  Ideal.div (wsum w (X C U b c) (s + 15)) (cnt (BitVec.ofNat 32 w) (16384 + s)) - U (b * 8 + s) c

/-- The cached rows and the new ones, as the reference joins them. -/
def XP (v : S128x15x4096.Idx → EReal) (u : S128x8x4096.Idx → EReal) : S128x23x4096.Idx → EReal :=
  concatenate S128x23x4096 1 [⟨S128x15x4096, v⟩, ⟨S128x8x4096, u⟩] concatenates_S128x15x4096_S128x8x4096_S128x23x4096_d1

theorem pos_word (s : ℕ) : IntOp.addi (IntOp.addi 16384#32 (BitVec.ofNat 32 s)) 1#32 = BitVec.ofNat 32 (16384 + s + 1) := by
  show BitVec.ofNat 32 16384 + BitVec.ofNat 32 s + BitVec.ofNat 32 1 = _
  rw [← BitVec.ofNat_add, ← BitVec.ofNat_add]

section
variable (v : S128x15x4096.Idx → EReal) (u : S128x8x4096.Idx → EReal) (C : ℕ → ℕ → ℕ → EReal) (U : ℕ → ℕ → EReal)
  (hv : ∀ (b : Fin 128) (q : Fin 15) (c : Fin 4096), v (ix3 b q c) = C b.val q.val c.val)
  (hu : ∀ (b : Fin 128) (s : Fin 8) (c : Fin 4096), u (ix3 b s c) = U (b.val * 8 + s.val) c.val)
include hv hu

theorem XP_at (b : Fin 128) (q : ℕ) (hq : q < 23) (c : Fin 4096) : XP v u (ix3 b ⟨q, hq⟩ c) = X C U b.val c.val q := by
  unfold XP X
  by_cases h : q < 15
  · pointwise
    simp only [h, dite_true, if_true, hv]
  · pointwise
    simp only [h, dite_false, if_false, hu]
    congr 1
    omega

/-- The means of the group with window 2. -/
def grp2 (v : S128x15x4096.Idx → EReal) (u : S128x8x4096.Idx → EReal) : S128x8x1024.Idx → EReal :=
  (Host.divf (F := Ideal) (φ := .f32) (Host.reduceWindowAdd ![1, 2, 1] ![1, 1, 1] ![0, 0, 0] ![0, 0, 0] (extractStridedSlice S128x9x1024 ![0, 14, 0] (extractStridedSlice S128x23x1024 ![0, 0, 0] (XP v u) slices_S128x23x4096_S128x23x1024_0_0_0) slices_S128x23x1024_S128x9x1024_0_14_0) (broadcastInDim S_ ![] bcast_S_S_ (constant (F := Ideal) S_ .f32 0x00000000#32)) reduceWindows_S128x9x1024_S128x8x1024_w1s1p0_0_w2s1p0_0_w1s1p0_0 h_S_) (broadcastInDim S128x8x1024 ![0, 1, 2] bcast_S1x8x1_S128x8x1024_0_1_2 (broadcastInDim S1x8x1 ![1] bcast_S8_S1x8x1_1 (sitofp .f32 (minsi (addi (addi (broadcastInDim S8 ![] bcast_S_S8 (constantI S_ 32 16384#32)) (iotaInDim S8 32 0)) (broadcastInDim S8 ![] bcast_S_S8 (constantI S_ 32 1#32))) (broadcastInDim S8 ![] bcast_S_S8 (constantI S_ 32 2#32)))))))

theorem grp2_at (b : Fin 128) (s : Fin 8) (j : Fin 1024) :
    grp2 v u (ix3 b s j) = Ideal.div (wsum 2 (X C U b.val (0 + j.val)) (s.val + 15)) (cnt 2#32 (16384 + s.val)) := by
  have hs := s.isLt
  have hj := j.isLt
  unfold grp2
  refine congrArg₂ Ideal.div ((Cert.PoolIdeal.Win.window (by omega) _ _ ?_ _ _ b s j (fun q => X C U b.val (0 + j.val) (14 + q)) ?_).trans ?_) ?_
  · intro i; pointwise
  · intro q hq
    refine Eq.trans ?_ (XP_at v u C U hv hu b (14 + q) (by omega) ⟨0 + j.val, by omega⟩)
    pointwise
  · simp only [← Nat.add_assoc]
    rw [← wsum_reflect 2 (14 + s.val) (s.val + 15) (by omega)]
  · unfold cnt
    pointwise
    rw [pos_word]

/-- The means of the group with window 4. -/
def grp4 (v : S128x15x4096.Idx → EReal) (u : S128x8x4096.Idx → EReal) : S128x8x1024.Idx → EReal :=
  (Host.divf (F := Ideal) (φ := .f32) (Host.reduceWindowAdd ![1, 4, 1] ![1, 1, 1] ![0, 0, 0] ![0, 0, 0] (extractStridedSlice S128x11x1024 ![0, 12, 0] (extractStridedSlice S128x23x1024 ![0, 0, 1024] (XP v u) slices_S128x23x4096_S128x23x1024_0_0_1024) slices_S128x23x1024_S128x11x1024_0_12_0) (broadcastInDim S_ ![] bcast_S_S_ (constant (F := Ideal) S_ .f32 0x00000000#32)) reduceWindows_S128x11x1024_S128x8x1024_w1s1p0_0_w4s1p0_0_w1s1p0_0 h_S_) (broadcastInDim S128x8x1024 ![0, 1, 2] bcast_S1x8x1_S128x8x1024_0_1_2 (broadcastInDim S1x8x1 ![1] bcast_S8_S1x8x1_1 (sitofp .f32 (minsi (addi (addi (broadcastInDim S8 ![] bcast_S_S8 (constantI S_ 32 16384#32)) (iotaInDim S8 32 0)) (broadcastInDim S8 ![] bcast_S_S8 (constantI S_ 32 1#32))) (broadcastInDim S8 ![] bcast_S_S8 (constantI S_ 32 4#32)))))))

theorem grp4_at (b : Fin 128) (s : Fin 8) (j : Fin 1024) :
    grp4 v u (ix3 b s j) = Ideal.div (wsum 4 (X C U b.val (1024 + j.val)) (s.val + 15)) (cnt 4#32 (16384 + s.val)) := by
  have hs := s.isLt
  have hj := j.isLt
  unfold grp4
  refine congrArg₂ Ideal.div ((Cert.PoolIdeal.Win.window (by omega) _ _ ?_ _ _ b s j (fun q => X C U b.val (1024 + j.val) (12 + q)) ?_).trans ?_) ?_
  · intro i; pointwise
  · intro q hq
    refine Eq.trans ?_ (XP_at v u C U hv hu b (12 + q) (by omega) ⟨1024 + j.val, by omega⟩)
    pointwise
  · simp only [← Nat.add_assoc]
    rw [← wsum_reflect 4 (12 + s.val) (s.val + 15) (by omega)]
  · unfold cnt
    pointwise
    rw [pos_word]

/-- The means of the group with window 8. -/
def grp8 (v : S128x15x4096.Idx → EReal) (u : S128x8x4096.Idx → EReal) : S128x8x1024.Idx → EReal :=
  (Host.divf (F := Ideal) (φ := .f32) (Host.reduceWindowAdd ![1, 8, 1] ![1, 1, 1] ![0, 0, 0] ![0, 0, 0] (extractStridedSlice S128x15x1024 ![0, 8, 0] (extractStridedSlice S128x23x1024 ![0, 0, 2048] (XP v u) slices_S128x23x4096_S128x23x1024_0_0_2048) slices_S128x23x1024_S128x15x1024_0_8_0) (broadcastInDim S_ ![] bcast_S_S_ (constant (F := Ideal) S_ .f32 0x00000000#32)) reduceWindows_S128x15x1024_S128x8x1024_w1s1p0_0_w8s1p0_0_w1s1p0_0 h_S_) (broadcastInDim S128x8x1024 ![0, 1, 2] bcast_S1x8x1_S128x8x1024_0_1_2 (broadcastInDim S1x8x1 ![1] bcast_S8_S1x8x1_1 (sitofp .f32 (minsi (addi (addi (broadcastInDim S8 ![] bcast_S_S8 (constantI S_ 32 16384#32)) (iotaInDim S8 32 0)) (broadcastInDim S8 ![] bcast_S_S8 (constantI S_ 32 1#32))) (broadcastInDim S8 ![] bcast_S_S8 (constantI S_ 32 8#32)))))))

theorem grp8_at (b : Fin 128) (s : Fin 8) (j : Fin 1024) :
    grp8 v u (ix3 b s j) = Ideal.div (wsum 8 (X C U b.val (2048 + j.val)) (s.val + 15)) (cnt 8#32 (16384 + s.val)) := by
  have hs := s.isLt
  have hj := j.isLt
  unfold grp8
  refine congrArg₂ Ideal.div ((Cert.PoolIdeal.Win.window (by omega) _ _ ?_ _ _ b s j (fun q => X C U b.val (2048 + j.val) (8 + q)) ?_).trans ?_) ?_
  · intro i; pointwise
  · intro q hq
    refine Eq.trans ?_ (XP_at v u C U hv hu b (8 + q) (by omega) ⟨2048 + j.val, by omega⟩)
    pointwise
  · simp only [← Nat.add_assoc]
    rw [← wsum_reflect 8 (8 + s.val) (s.val + 15) (by omega)]
  · unfold cnt
    pointwise
    rw [pos_word]

/-- The means of the group with window 16. -/
def grp16 (v : S128x15x4096.Idx → EReal) (u : S128x8x4096.Idx → EReal) : S128x8x1024.Idx → EReal :=
  (Host.divf (F := Ideal) (φ := .f32) (Host.reduceWindowAdd ![1, 16, 1] ![1, 1, 1] ![0, 0, 0] ![0, 0, 0] (extractStridedSlice S128x23x1024 ![0, 0, 3072] (XP v u) slices_S128x23x4096_S128x23x1024_0_0_3072) (broadcastInDim S_ ![] bcast_S_S_ (constant (F := Ideal) S_ .f32 0x00000000#32)) reduceWindows_S128x23x1024_S128x8x1024_w1s1p0_0_w16s1p0_0_w1s1p0_0 h_S_) (broadcastInDim S128x8x1024 ![0, 1, 2] bcast_S1x8x1_S128x8x1024_0_1_2 (broadcastInDim S1x8x1 ![1] bcast_S8_S1x8x1_1 (sitofp .f32 (minsi (addi (addi (broadcastInDim S8 ![] bcast_S_S8 (constantI S_ 32 16384#32)) (iotaInDim S8 32 0)) (broadcastInDim S8 ![] bcast_S_S8 (constantI S_ 32 1#32))) (broadcastInDim S8 ![] bcast_S_S8 (constantI S_ 32 16#32)))))))

theorem grp16_at (b : Fin 128) (s : Fin 8) (j : Fin 1024) :
    grp16 v u (ix3 b s j) = Ideal.div (wsum 16 (X C U b.val (3072 + j.val)) (s.val + 15)) (cnt 16#32 (16384 + s.val)) := by
  have hs := s.isLt
  have hj := j.isLt
  unfold grp16
  refine congrArg₂ Ideal.div ((Cert.PoolIdeal.Win.window (by omega) _ _ ?_ _ _ b s j (fun q => X C U b.val (3072 + j.val) (0 + q)) ?_).trans ?_) ?_
  · intro i; pointwise
  · intro q hq
    refine Eq.trans ?_ (XP_at v u C U hv hu b (0 + q) (by omega) ⟨3072 + j.val, by omega⟩)
    pointwise
  · simp only [← Nat.add_assoc]
    rw [← wsum_reflect 16 (0 + s.val) (s.val + 15) (by omega)]
  · unfold cnt
    pointwise
    rw [pos_word]

/-- The means less the rows, all groups side by side. -/
def pooled (v : S128x15x4096.Idx → EReal) (u : S128x8x4096.Idx → EReal) : S128x8x4096.Idx → EReal :=
  subf (F := Ideal) (φ := .f32) (concatenate S128x8x4096 2 [⟨S128x8x1024, grp2 v u⟩, ⟨S128x8x1024, grp4 v u⟩, ⟨S128x8x1024, grp8 v u⟩, ⟨S128x8x1024, grp16 v u⟩] concatenates_S128x8x1024_S128x8x1024_S128x8x1024_S128x8x1024_S128x8x4096_d2) (extractStridedSlice S128x8x4096 ![0, 15, 0] (XP v u) slices_S128x23x4096_S128x8x4096_0_15_0)

theorem pooled_at (b : Fin 128) (s : Fin 8) (c : Fin 4096) :
    pooled v u (ix3 b s c) = pool C U (2 ^ (c.val / 1024 + 1)) b.val s.val c.val := by
  have hs := s.isLt
  have hc := c.isLt
  have hx : extractStridedSlice S128x8x4096 ![0, 15, 0] (XP v u) slices_S128x23x4096_S128x8x4096_0_15_0 (ix3 b s c) = U (b.val * 8 + s.val) c.val := by
    refine Eq.trans ?_ ((XP_at v u C U hv hu b (15 + s.val) (by omega) c).trans ?_)
    · pointwise
    · unfold X
      rw [if_neg (by omega)]
      congr 1
      omega
  unfold pooled pool
  refine congrArg₂ (fun x y : EReal => x - y) ?_ hx
  obtain h | h | h | h : c.val / 1024 = 0 ∨ c.val / 1024 = 1 ∨ c.val / 1024 = 2 ∨ c.val / 1024 = 3 := by omega
  · rw [h]
    refine Eq.trans ?_ ((grp2_at v u C U hv hu b s ⟨c.val, by omega⟩).trans ?_)
    · pointwise
      rw [dif_pos (by omega)]
    · simp
  · rw [h]
    refine Eq.trans ?_ ((grp4_at v u C U hv hu b s ⟨c.val - 1024, by omega⟩).trans ?_)
    · pointwise
      rw [dif_neg (by omega), dif_pos (by omega)]
    · rw [show 1024 + (c.val - 1024) = c.val by omega]; rfl
  · rw [h]
    refine Eq.trans ?_ ((grp8_at v u C U hv hu b s ⟨c.val - 2048, by omega⟩).trans ?_)
    · pointwise
      rw [dif_neg (by omega), dif_neg (by omega), dif_pos (by omega)]
      congr 2
    · rw [show 2048 + (c.val - 2048) = c.val by omega]; rfl
  · rw [h]
    refine Eq.trans ?_ ((grp16_at v u C U hv hu b s ⟨c.val - 3072, by omega⟩).trans ?_)
    · pointwise
      rw [dif_neg (by omega), dif_neg (by omega), dif_neg (by omega)]
      congr 2
    · rw [show 3072 + (c.val - 3072) = c.val by omega]; rfl

/-- Layer 0's cache as it was, and behind it the last 15 rows of every sequence. -/
def lasts (prev : S2x15x128x4096.Idx → EReal) (v : S128x15x4096.Idx → EReal) (u : S128x8x4096.Idx → EReal) : S2x15x128x4096.Idx → EReal :=
  concatenate S2x15x128x4096 0 [⟨S1x15x128x4096, (broadcastInDim S1x15x128x4096 ![1, 2, 3] bcast_S15x128x4096_S1x15x128x4096_1_2_3 (shapeCast _ (extractStridedSlice S1x15x128x4096 ![0, 0, 0, 0] prev slices_S2x15x128x4096_S1x15x128x4096_0_0_0_0) shapeCasts_S1x15x128x4096_S15x128x4096))⟩, ⟨S1x15x128x4096, (broadcastInDim S1x15x128x4096 ![1, 2, 3] bcast_S15x128x4096_S1x15x128x4096_1_2_3 (transpose S15x128x4096 [1, 0, 2] (extractStridedSlice S128x15x4096 ![0, 8, 0] (XP v u) slices_S128x23x4096_S128x15x4096_0_8_0) transposes_S128x15x4096_S15x128x4096_1_0_2))⟩] concatenates_S1x15x128x4096_S1x15x128x4096_S2x15x128x4096_d0

theorem lasts_at (prev : S2x15x128x4096.Idx → EReal) (l : Fin 2) (q : Fin 15) (b : Fin 128) (c : Fin 4096) :
    lasts prev v u (ix4 l q b c) = if l.val < 1 then prev (ix4 l q b c) else X C U b.val c.val (8 + q.val) := by
  have hq := q.isLt
  have hl := l.isLt
  unfold lasts
  by_cases h : l.val < 1
  · rw [if_pos h]
    pointwise
    rw [dif_pos h]
    congr 2
    omega
  · rw [if_neg h, ← XP_at v u C U hv hu b (8 + q.val) (by omega) c]
    pointwise
    rw [dif_neg h]

end

/-- The group product, the scale and the gate, at an index. -/
theorem outer_at (P : S128x8x4096.Idx → EReal) (proj : S9216x8192.Idx → EReal) (wg : S2x4x1024x1024.Idx → EReal) (sc : S2x4096.Idx → EReal)
    (p : Fin 1024) (c : Fin 4096) :
    ((truncf (F := Ideal) .bf16 (shapeCast _ (mulf (F := Ideal) (φ := .f32) (mulf (F := Ideal) (φ := .f32) (shapeCast _ (transpose S128x8x4x1024 [2, 3, 0, 1] (Host.dotGeneral (F := Ideal) (φ₁ := .f32) (φ₂ := .f32) dot_S4x1024x1024_S128x8x4x1024_S4x1024x128x8_1_3_2_01_0_2 none (shapeCast _ (extractStridedSlice S1x4x1024x1024 ![1, 0, 0, 0] wg slices_S2x4x1024x1024_S1x4x1024x1024_1_0_0_0) shapeCasts_S1x4x1024x1024_S4x1024x1024) (shapeCast _ P shapeCasts_S128x8x4096_S128x8x4x1024)) transposes_S4x1024x128x8_S128x8x4x1024_2_3_0_1) shapeCasts_S128x8x4x1024_S128x8x4096) (broadcastInDim S128x8x4096 ![0, 1, 2] bcast_S1x1x4096_S128x8x4096_0_1_2 (broadcastInDim S1x1x4096 ![2] bcast_S4096_S1x1x4096_2 (shapeCast _ (extractStridedSlice S1x4096 ![1, 0] sc slices_S2x4096_S1x4096_1_0) shapeCasts_S1x4096_S4096)))) (mulf (F := Ideal) (φ := .f32) (shapeCast _ (extractStridedSlice S1024x4096 ![8192, 4096] proj slices_S9216x8192_S1024x4096_8192_4096) shapeCasts_S1024x4096_S128x8x4096) (Host.divf (F := Ideal) (broadcastInDim S128x8x4096 ![] bcast_S_S128x8x4096 (constant (F := Ideal) S_ .f32 0x3F800000#32)) (addf (broadcastInDim S128x8x4096 ![] bcast_S_S128x8x4096 (constant (F := Ideal) S_ .f32 0x3F800000#32)) (Host.exp (F := Ideal) (φ := .f32) (Host.negf (F := Ideal) (φ := .f32) (shapeCast _ (extractStridedSlice S1024x4096 ![8192, 4096] proj slices_S9216x8192_S1024x4096_8192_4096) shapeCasts_S1024x4096_S128x8x4096))))))) shapeCasts_S128x8x4096_S1024x4096) bitsLt_bf16_f32) : S1024x4096.Idx → EReal) (ix2 p c)
      = mix (fun k => P (ix3 ⟨p.val / 8, by omega⟩ ⟨p.val % 8, by omega⟩ ⟨c.val / 1024 * 1024 + k.val, by omega⟩))
        (fun k => wg (ix4 1 ⟨c.val / 1024, by omega⟩ k ⟨c.val % 1024, by omega⟩)) (sc (ix2 1 c)) (proj (ix2 ⟨8192 + p.val, by omega⟩ ⟨4096 + c.val, by omega⟩)) := by
  have hp := p.isLt
  have hc := c.isLt
  unfold mix Ideal.logistic
  pointwise
  refine congrArg (fun x : EReal => x * _ * _) (Finset.sum_congr rfl fun k _ => mul_comm _ _)

end Cert.PoolSRefIdeal.Val

end
-- ==== Proof.PoolSVal.lean ====
/- The pooling mixer of the sample: the tiles' results make up the whole arrays the reference computes. -/
module

public import proofs.«01_k».proof.Proof.PoolSOut
public import proofs.«01_k».proof.Proof.PoolSRef
public import proofs.«01_k».proof.Proof.Gen.PoolSIdeal.Value
public import proofs.«01_k».proof.Proof.Gen.PoolSRefIdeal.Run
public import proofs.«01_k».proof.Defs
public import proofs.«01_k».proof.Proof.Gen.PoolS.Frame
public import Idealize.ShloMosaic.Lib.Pointwise

@[expose] public section

set_option maxRecDepth 16384
set_option maxHeartbeats 1000000

noncomputable section

namespace Cert.PoolSIdeal.Val

open Cert.PoolSIdeal Cert.PoolSIdeal.Gen Idealize.ShloMosaic Idealize.ShloMosaic.TcCoe Idealize.SL.Sem
open Idealize.ShloMosaic.Pipeline (Dat)
open Cert.PoolSRefIdeal.Val (X)
open Cert.PoolIdeal.Val (wsum cnt mix)

variable (m : (ℓ : Loc nD τ sig) → Buf (Elt Ideal) ℓ) (ρ : Dev nD → PrngReg)

/-- Entry `(p, c)` of the sample's rows of the projection, by numbers. -/
def U (u : S9216x8192.Idx → EReal) (p c : ℕ) : EReal := if h : 8192 + p < 9216 ∧ c < 8192 then u (ix2 ⟨8192 + p, h.1⟩ ⟨c, h.2⟩) else 0

theorem U_at (u : S9216x8192.Idx → EReal) (i : S9216x8192.Idx) (p c : ℕ) (hp : (i 0).val = 8192 + p) (hc : (i 1).val = c) : u i = U u p c := by
  subst hc
  have h0 : (i 0 : ℕ) < 9216 := (i 0).isLt
  have h1 : (i 1 : ℕ) < 8192 := (i 1).isLt
  unfold U
  rw [dif_pos ⟨hp ▸ h0, h1⟩]
  exact congrArg u (funext fun a => by match a with | ⟨0, _⟩ => exact Fin.ext hp | ⟨1, _⟩ => rfl)

/-- Entry `(q, c)` of sequence `b`'s cached rows, by numbers. -/
def C (x : S2x128x15x4096.Idx → EReal) (b q c : ℕ) : EReal :=
  if h : b < 128 ∧ q < 15 ∧ c < 4096 then x (ix4 1 ⟨b, h.1⟩ ⟨q, h.2.1⟩ ⟨c, h.2.2⟩) else 0

theorem C_at (x : S2x128x15x4096.Idx → EReal) (b : Fin 128) (q : Fin 15) (c : Fin 4096) : x (ix4 1 b q c) = C x b.val q.val c.val := by
  unfold C
  rw [dif_pos ⟨b.isLt, q.isLt, c.isLt⟩]

/-- The mixer's result at row `p` and column `c`. -/
def Gy (u : S9216x8192.Idx → EReal) (x : S2x128x15x4096.Idx → EReal) (wg : S2x4x1024x1024.Idx → EReal) (sc : S2x4096.Idx → EReal) : S1024x4096.Idx → EReal := fun i =>
  mix (fun k => Cert.PoolSRefIdeal.Val.pool (C x) (U u) (2 ^ ((i 1).val / 1024 + 1)) ((i 0).val / 8) ((i 0).val % 8) ((i 1).val / 1024 * 1024 + k.val))
    (fun k => wg (ix4 1 ⟨(i 1).val / 1024, by have := (i 1).isLt; dsimp at this; omega⟩ k ⟨(i 1).val % 1024, by omega⟩)) (sc (ix2 1 (i 1))) (U u (i 0).val (4096 + (i 1).val))

/-- The cache: layer 0's as it was, then the last 15 rows of every sequence. -/
def Gc (u : S9216x8192.Idx → EReal) (x : S2x128x15x4096.Idx → EReal) (prev : S2x15x128x4096.Idx → EReal) : S2x15x128x4096.Idx → EReal := fun i =>
  if (i 0).val < 1 then prev i else X (C x) (U u) (i 2).val (i 3).val (8 + (i 1).val)

/-- The group weights the tiles read are the argument's. -/
theorem V_wg (c : Dev nD) : (V m c main_v0 : S2x4x1024x1024.Idx → EReal) = m ((c : Thread nD τ).loc main_arg3) := by
  show StableHlo.after hostOps0 _ main_v0 = _
  after_results <;> rfl

/-- The cache result starts out as the caches before. -/
theorem V_prev (c : Dev nD) : (V m c main_v3_1 : S2x15x128x4096.Idx → EReal) = m ((c : Thread nD τ).loc main_arg2) := by
  show StableHlo.after hostOps0 _ main_v3_1 = _
  after_results <;> rfl

theorem sc_row (x : S2x4096.Idx → EReal) (j : Fin 4096) : (shapeCast S2x1x4096 x shapeCasts_S2x4096_S2x1x4096 : S2x1x4096.Idx → EReal) (ix3 1 0 j) = x (ix2 1 j) := by
  pointwise

theorem V_sc (c : Dev nD) (j : Fin 4096) : (V m c main_v1 : S2x1x4096.Idx → EReal) (ix3 1 0 j) = m ((c : Thread nD τ).loc main_arg4) (ix2 1 j) := by
  have h : (V m c main_v1 : S2x1x4096.Idx → EReal) = shapeCast S2x1x4096 (m ((c : Thread nD τ).loc main_arg4)) shapeCasts_S2x4096_S2x1x4096 := by
    show StableHlo.after hostOps0 _ main_v1 = _
    after_results <;> rfl
  rw [h]
  exact sc_row _ j

theorem swapped (x : S2x128x15x4096.Idx → EReal) (b : Fin 128) (q : Fin 15) (j : Fin 4096) :
    transpose S2x15x128x4096 [0, 2, 1, 3] x transposes_S2x128x15x4096_S2x15x128x4096_0_2_1_3 (ix4 1 q b j) = x (ix4 1 b q j) := by
  pointwise

theorem V_c (c : Dev nD) (b : Fin 128) (q : Fin 15) (j : Fin 4096) :
    (V m c main_v2 : S2x15x128x4096.Idx → EReal) (ix4 1 q b j) = C (m ((c : Thread nD τ).loc main_arg1)) b.val q.val j.val := by
  have h : (V m c main_v2 : S2x15x128x4096.Idx → EReal) = transpose S2x15x128x4096 [0, 2, 1, 3] (m ((c : Thread nD τ).loc main_arg1)) transposes_S2x128x15x4096_S2x15x128x4096_0_2_1_3 := by
    show StableHlo.after hostOps0 _ main_v2 = _
    after_results <;> rfl
  rw [h]
  exact (swapped _ b q j).trans (C_at _ b q j)

theorem idx (t : Fin cfg0.N) : (win0_0.index t 0 = 64 + t.val % 8 ∧ win0_0.index t 1 = t.val / 8)
    ∧ (win0_1.index t 0 = 1 ∧ win0_1.index t 1 = 0 ∧ win0_1.index t 2 = t.val % 8 ∧ win0_1.index t 3 = t.val / 8)
    ∧ (win0_2.index t 0 = 64 + t.val % 8 ∧ win0_2.index t 1 = 4 + t.val / 8)
    ∧ (win0_3.index t 0 = 1 ∧ win0_3.index t 1 = t.val / 8 ∧ win0_3.index t 2 = 0 ∧ win0_3.index t 3 = 0)
    ∧ (win0_4.index t 0 = 1 ∧ win0_4.index t 1 = 0 ∧ win0_4.index t 2 = t.val / 8)
    ∧ (win0_5.index t 0 = t.val % 8 ∧ win0_5.index t 1 = t.val / 8)
    ∧ (win0_6.index t 0 = 1 ∧ win0_6.index t 1 = 0 ∧ win0_6.index t 2 = t.val % 8 ∧ win0_6.index t 3 = t.val / 8) := by
  revert t; decide +kernel

/-- The rows of a tile, by their numbers. -/
theorem u_at (c : Dev nD) (t : Fin cfg0.N) (r : Fin 128) (k : Fin 1024) : (iblk m c 0 t : S128x1024.Idx → EReal) (ix2 r k)
    = U (m ((c : Thread nD τ).loc main_arg0)) (t.val % 8 * 128 + r.val) (t.val / 8 * 1024 + k.val) := by
  obtain ⟨⟨h0, h1⟩, -⟩ := idx t
  unfold iblk
  rw [View.read_apply, cast_eq]
  refine (congrFun (V_main_arg0 m c) _).trans (U_at _ _ _ _ ?_ ?_)
  · show win0_0.index t 0 * 128 + 1 * r.val = _; rw [h0]; omega
  · show win0_0.index t 1 * 1024 + 1 * k.val = _; rw [h1]; omega

/-- The cached rows of a tile, by their numbers. -/
theorem c_at (c : Dev nD) (t : Fin cfg0.N) (q : Fin 15) (b : Fin 16) (k : Fin 1024) : (iblk m c 1 t : S1x15x16x1024.Idx → EReal) (ix4 0 q b k)
    = C (m ((c : Thread nD τ).loc main_arg1)) (t.val % 8 * 16 + b.val) q.val (t.val / 8 * 1024 + k.val) := by
  have hN : t.val < 32 := lt_of_lt_of_eq t.isLt N_0
  have hb := b.isLt
  have hk := k.isLt
  obtain ⟨-, ⟨h0, h1, h2, h3⟩, -⟩ := idx t
  refine Eq.trans ?_ (V_c m c ⟨t.val % 8 * 16 + b.val, by omega⟩ q ⟨t.val / 8 * 1024 + k.val, by omega⟩)
  unfold iblk
  rw [View.read_apply, cast_eq]
  refine congrArg (V m c main_v2) (funext fun a => Fin.ext ?_)
  match a with
  | ⟨0, _⟩ => show win0_1.index t 0 * 1 + 1 * 0 = 1; rw [h0]
  | ⟨1, _⟩ => show win0_1.index t 1 * 15 + 1 * q.val = q.val; rw [h1]; omega
  | ⟨2, _⟩ => show win0_1.index t 2 * 16 + 1 * b.val = t.val % 8 * 16 + b.val; rw [h2]; omega
  | ⟨3, _⟩ => show win0_1.index t 3 * 1024 + 1 * k.val = t.val / 8 * 1024 + k.val; rw [h3]; omega

/-- The scratch of tile `t`, from row 1 on: the 15 cached rows of each of its sequences, then the sequence's own. -/
theorem E_eq (c : Dev nD) (t : Fin cfg0.N) (b n : ℕ) (k : Fin 1024) (hb : b < 16) (hn : 1 ≤ n) (hn' : n < 24) :
    E (iblk m c 0 t) (iblk m c 1 t) b n k
      = X (C (m ((c : Thread nD τ).loc main_arg1))) (U (m ((c : Thread nD τ).loc main_arg0))) (t.val % 8 * 16 + b) (t.val / 8 * 1024 + k.val) (n - 1) := by
  unfold E X
  by_cases h : n < 16
  · exact (dif_pos ⟨h, hb⟩).trans ((c_at m c t ⟨n - 1, by omega⟩ ⟨b, hb⟩ k).trans (if_pos (by omega)).symm)
  · refine (dif_neg (by omega)).trans ((dif_pos (show b * 8 + n - 16 < 128 by omega)).trans ((u_at m c t ⟨b * 8 + n - 16, by omega⟩ k).trans
      ((congrArg (U _ · _) ?_).trans (if_neg (by omega)).symm)))
    dsimp only; omega

/-- What a tile computes is its part of the whole result. -/
theorem tile_eq (c : Dev nD) (t : Fin cfg0.N) (w : ℕ) (hw : w = 2 ^ (t.val / 8 + 1)) (hw' : w ≤ 16) (r : Fin 128) (j : Fin 1024) (i : S1024x4096.Idx)
    (e0 : (i 0).val = t.val % 8 * 128 + r.val) (e1 : (i 1).val = t.val / 8 * 1024 + j.val) :
    mix (fun k => Ideal.div (wsum w (E (iblk m c 0 t) (iblk m c 1 t) (r.val / 8) · k) (16 + r.val % 8)) (cnt (BitVec.ofNat 32 w) (16384 + r.val % 8))
        - (iblk m c 0 t : S128x1024.Idx → EReal) (ix2 r k))
      (fun k => (iblk m c 3 t : S1x1x1024x1024.Idx → EReal) (ix4 0 0 k j)) ((iblk m c 4 t : S1x1x1024.Idx → EReal) (ix3 0 0 j)) ((iblk m c 2 t : S128x1024.Idx → EReal) (ix2 r j))
      = Gy (m ((c : Thread nD τ).loc main_arg0)) (m ((c : Thread nD τ).loc main_arg1)) (m ((c : Thread nD τ).loc main_arg3)) (m ((c : Thread nD τ).loc main_arg4)) i := by
  have hN : t.val < 32 := lt_of_lt_of_eq t.isLt N_0
  have hr := r.isLt
  have hj := j.isLt
  obtain ⟨-, -, ⟨z0, z1⟩, ⟨w0, w1, w2, w3⟩, ⟨s0, s1, s2⟩, -, -⟩ := idx t
  have hg : (i 1).val / 1024 = t.val / 8 := by omega
  have hb : (i 0).val / 8 = t.val % 8 * 16 + r.val / 8 := by omega
  have hs : (i 0).val % 8 = r.val % 8 := by omega
  have hz : (iblk m c 2 t : S128x1024.Idx → EReal) (ix2 r j) = U (m ((c : Thread nD τ).loc main_arg0)) (i 0).val (4096 + (i 1).val) := by
    unfold iblk
    rw [View.read_apply, cast_eq]
    refine (congrFun (V_main_arg0 m c) _).trans (U_at _ _ _ _ ?_ ?_)
    · show win0_2.index t 0 * 128 + 1 * r.val = _; rw [z0, e0]; omega
    · show win0_2.index t 1 * 1024 + 1 * j.val = _; rw [z1, e1]; omega
  have hsc : (iblk m c 4 t : S1x1x1024.Idx → EReal) (ix3 0 0 j) = m ((c : Thread nD τ).loc main_arg4) (ix2 1 (i 1)) := by
    refine Eq.trans ?_ (V_sc m c (i 1))
    unfold iblk
    rw [View.read_apply, cast_eq]
    refine congrArg (V m c main_v1) (funext fun a => Fin.ext ?_)
    match a with
    | ⟨0, _⟩ => show win0_4.index t 0 * 1 + 1 * 0 = 1; rw [s0]
    | ⟨1, _⟩ => show win0_4.index t 1 * 1 + 1 * 0 = 0; rw [s1]
    | ⟨2, _⟩ => show win0_4.index t 2 * 1024 + 1 * j.val = (i 1).val; rw [s2, e1]; omega
  have hwg (k : Fin 1024) : (iblk m c 3 t : S1x1x1024x1024.Idx → EReal) (ix4 0 0 k j)
      = m ((c : Thread nD τ).loc main_arg3) (ix4 1 ⟨(i 1).val / 1024, by omega⟩ k ⟨(i 1).val % 1024, by omega⟩) := by
    unfold iblk
    rw [View.read_apply, cast_eq]
    refine (congrFun (V_wg m c) _).trans (congrArg (m _) (funext fun a => Fin.ext ?_))
    match a with
    | ⟨0, _⟩ => show win0_3.index t 0 * 1 + 1 * 0 = 1; rw [w0]
    | ⟨1, _⟩ => show win0_3.index t 1 * 1 + 1 * 0 = (i 1).val / 1024; rw [w1, hg]; omega
    | ⟨2, _⟩ => show win0_3.index t 2 * 1024 + 1 * k.val = k.val; rw [w2]; omega
    | ⟨3, _⟩ => show win0_3.index t 3 * 1024 + 1 * j.val = (i 1).val % 1024; rw [w3, e1]; omega
  unfold Gy
  rw [hz, hsc]
  refine congrArg₂ (fun f g => mix f g _ _) (funext fun k => ?_) (funext hwg)
  rw [u_at, hg, hb, hs, ← hw]
  unfold Cert.PoolSRefIdeal.Val.pool
  refine congrArg₂ (fun x y : EReal => x - y) (congrArg (Ideal.div · _) ?_) (congrArg (U _ · _) (by omega))
  unfold wsum
  refine Finset.sum_congr rfl fun q hq => ?_
  have := Finset.mem_range.mp hq
  refine (E_eq m c t _ _ k (by omega) (by omega) (by omega)).trans (congrArg (X _ _ _ _) (by omega))

theorem flushed5_eq (c : Dev nD) (t : Fin cfg0.N) :
    (dats m 0 c).flushed 5 t = ((cfg0.win 5).blk t).view.read (Elt Ideal) (Gy (m ((c : Thread nD τ).loc main_arg0)) (m ((c : Thread nD τ).loc main_arg1)) (m ((c : Thread nD τ).loc main_arg3)) (m ((c : Thread nD τ).loc main_arg4))) := by
  have hN : t.val < 32 := lt_of_lt_of_eq t.isLt N_0
  obtain ⟨-, -, -, -, -, ⟨o0, o1⟩, -⟩ := idx t
  funext y
  have hy : (y : S128x1024.Idx) = ix2 (y 0) (y 1) := by funext a; fin_cases a <;> rfl
  have cut (v : Vec Ideal S128x1024 .bf16) : (cfg0.win 5).cut (grid0.coords t) v y = v (ix2 (y 0) (y 1)) := congrArg v hy
  have e0 : (((cfg0.win 5).blk t).view.emb y 0).val = t.val % 8 * 128 + (y 0).val := by
    show win0_5.index t 0 * 128 + 1 * (y 0).val = _; rw [o0]; omega
  have e1 : (((cfg0.win 5).blk t).view.emb y 1).val = t.val / 8 * 1024 + (y 1).val := by
    show win0_5.index t 1 * 1024 + 1 * (y 1).val = _; rw [o1]; omega
  rw [View.read_apply, cast_eq]
  obtain hg | hg | hg | hg : t.val / 8 = 0 ∨ t.val / 8 = 1 ∨ t.val / 8 = 2 ∨ t.val / 8 = 3 := by omega
  · have hw : 2 = 2 ^ (t.val / 8 + 1) := by rw [hg]; norm_num
    have fin := tile_eq m c t 2 hw (by norm_num) (y 0) (y 1) _ e0 e1
    rw [Value.flushed5_A m c t (by omega) (by omega) (by omega) (by omega)]
    exact (cut _).trans ((yA ..).trans fin)
  · have hw : 4 = 2 ^ (t.val / 8 + 1) := by rw [hg]; norm_num
    have fin := tile_eq m c t 4 hw (by norm_num) (y 0) (y 1) _ e0 e1
    rw [Value.flushed5_B m c t (by omega) (by omega) (by omega) (by omega)]
    exact (cut _).trans ((yB ..).trans fin)
  · have hw : 8 = 2 ^ (t.val / 8 + 1) := by rw [hg]; norm_num
    have fin := tile_eq m c t 8 hw (by norm_num) (y 0) (y 1) _ e0 e1
    rw [Value.flushed5_C m c t (by omega) (by omega) (by omega) (by omega)]
    exact (cut _).trans ((yC ..).trans fin)
  · have hw : 16 = 2 ^ (t.val / 8 + 1) := by rw [hg]; norm_num
    have fin := tile_eq m c t 16 hw (by norm_num) (y 0) (y 1) _ e0 e1
    rw [Value.flushed5_D m c t (by omega) (by omega) (by omega) (by omega)]
    exact (cut _).trans ((yD ..).trans fin)

theorem flushed6_eq (c : Dev nD) (t : Fin cfg0.N) :
    (dats m 0 c).flushed 6 t = ((cfg0.win 6).blk t).view.read (Elt Ideal) (Gc (m ((c : Thread nD τ).loc main_arg0)) (m ((c : Thread nD τ).loc main_arg1)) (m ((c : Thread nD τ).loc main_arg2))) := by
  have hN : t.val < 32 := lt_of_lt_of_eq t.isLt N_0
  obtain ⟨-, -, -, -, -, -, ⟨o0, o1, o2, o3⟩⟩ := idx t
  funext y
  have hy0 : (y 0).val < 1 := (y 0).isLt
  have hy1 : (y 1).val < 15 := (y 1).isLt
  have hy2 : (y 2).val < 16 := (y 2).isLt
  have hy : (y : S1x15x16x1024.Idx) = ix4 0 (y 1) (y 2) (y 3) := by
    funext a
    match a with
    | ⟨0, _⟩ => exact Fin.ext (by show (y 0).val = 0; omega)
    | ⟨1, _⟩ => rfl
    | ⟨2, _⟩ => rfl
    | ⟨3, _⟩ => rfl
  have cut (v : Vec Ideal S1x15x16x1024 .f32) : (cfg0.win 6).cut (grid0.coords t) v y = v (ix4 0 (y 1) (y 2) (y 3)) := congrArg v hy
  have e0 : (((cfg0.win 6).blk t).view.emb y 0).val = 1 := by
    show win0_6.index t 0 * 1 + 1 * (y 0).val = _; rw [o0]; omega
  have e1 : (((cfg0.win 6).blk t).view.emb y 1).val = (y 1).val := by
    show win0_6.index t 1 * 15 + 1 * (y 1).val = _; rw [o1]; omega
  have e2 : (((cfg0.win 6).blk t).view.emb y 2).val = t.val % 8 * 16 + (y 2).val := by
    show win0_6.index t 2 * 16 + 1 * (y 2).val = _; rw [o2]; omega
  have e3 : (((cfg0.win 6).blk t).view.emb y 3).val = t.val / 8 * 1024 + (y 3).val := by
    show win0_6.index t 3 * 1024 + 1 * (y 3).val = _; rw [o3]; omega
  rw [View.read_apply, cast_eq]
  have fin : cacheOf (iblk m c 0 t) (iblk m c 1 t) (ix4 0 (y 1) (y 2) (y 3)) = Gc (m ((c : Thread nD τ).loc main_arg0)) (m ((c : Thread nD τ).loc main_arg1)) (m ((c : Thread nD τ).loc main_arg2)) (((cfg0.win 6).blk t).view.emb y) := by
    refine (E_eq m c t (y 2).val (9 + (y 1).val) (y 3) hy2 (by omega) (by omega)).trans ?_
    unfold Gc
    rw [e0, e1, e2, e3, if_neg (by omega)]
    exact congrArg (X _ _ _ _) (by omega)
  obtain hg | hg | hg | hg : t.val / 8 = 0 ∨ t.val / 8 = 1 ∨ t.val / 8 = 2 ∨ t.val / 8 = 3 := by omega
  · rw [Value.flushed6_A m c t (by omega) (by omega) (by omega) (by omega)]
    exact (cut _).trans ((congrFun (cA ..) _).trans fin)
  · rw [Value.flushed6_B m c t (by omega) (by omega) (by omega) (by omega)]
    exact (cut _).trans ((congrFun (cB ..) _).trans fin)
  · rw [Value.flushed6_C m c t (by omega) (by omega) (by omega) (by omega)]
    exact (cut _).trans ((congrFun (cC ..) _).trans fin)
  · rw [Value.flushed6_D m c t (by omega) (by omega) (by omega) (by omega)]
    exact (cut _).trans ((congrFun (cD ..) _).trans fin)

/-- Every entry of the mixed rows lies in one tile. -/
theorem cover5 (i : S1024x4096.Idx) : ∃ t : Fin cfg0.N, (cfg0.win 5).flush t = true ∧ i ∈ ((cfg0.win 5).blk t).view.set := by
  have hN : cfg0.N = 32 := N_0
  have h0 : (i 0 : Nat) < 1024 := (i 0).isLt
  have h1 : (i 1 : Nat) < 4096 := (i 1).isLt
  obtain ⟨t, ht⟩ : ∃ t : Fin cfg0.N, t.val = (i 1 : Nat) / 1024 * 8 + (i 0 : Nat) / 128 := ⟨⟨_, by omega⟩, rfl⟩
  obtain ⟨-, -, -, -, -, ⟨o0, o1⟩, -⟩ := idx t
  refine ⟨t, flush0_5 t, ?_⟩
  show i ∈ ((View.whole main_v3_0).slice (win0_5.rect t)).set
  rw [View.set_slice_whole, Rect.mem_set_unit]
  intro a
  match a with
  | ⟨0, _⟩ => show win0_5.index t 0 * 128 ≤ (i 0 : Nat) ∧ (i 0 : Nat) < win0_5.index t 0 * 128 + 128
              rw [o0]; omega
  | ⟨1, _⟩ => show win0_5.index t 1 * 1024 ≤ (i 1 : Nat) ∧ (i 1 : Nat) < win0_5.index t 1 * 1024 + 1024
              rw [o1]; omega

/-- Every entry of layer 1's cache lies in one tile, and none of layer 0's lies in any. -/
theorem mem6 (t : Fin cfg0.N) (i : S2x15x128x4096.Idx) :
    i ∈ ((cfg0.win 6).blk t).view.set ↔ (i 0).val = 1 ∧ (i 2).val / 16 = t.val % 8 ∧ (i 3).val / 1024 = t.val / 8 := by
  have h0 : (i 0 : Nat) < 2 := (i 0).isLt
  have h1 : (i 1 : Nat) < 15 := (i 1).isLt
  obtain ⟨-, -, -, -, -, -, ⟨o0, o1, o2, o3⟩⟩ := idx t
  show i ∈ ((View.whole main_v3_1).slice (win0_6.rect t)).set ↔ _
  rw [View.set_slice_whole, Rect.mem_set_unit]
  constructor
  · intro h
    have a0 : win0_6.index t 0 * 1 ≤ (i 0 : Nat) ∧ (i 0 : Nat) < win0_6.index t 0 * 1 + 1 := h 0
    have a2 : win0_6.index t 2 * 16 ≤ (i 2 : Nat) ∧ (i 2 : Nat) < win0_6.index t 2 * 16 + 16 := h 2
    have a3 : win0_6.index t 3 * 1024 ≤ (i 3 : Nat) ∧ (i 3 : Nat) < win0_6.index t 3 * 1024 + 1024 := h 3
    rw [o0] at a0; rw [o2] at a2; rw [o3] at a3
    omega
  · intro h a
    match a with
    | ⟨0, _⟩ => show win0_6.index t 0 * 1 ≤ (i 0 : Nat) ∧ (i 0 : Nat) < win0_6.index t 0 * 1 + 1
                rw [o0]; omega
    | ⟨1, _⟩ => show win0_6.index t 1 * 15 ≤ (i 1 : Nat) ∧ (i 1 : Nat) < win0_6.index t 1 * 15 + 15
                rw [o1]; omega
    | ⟨2, _⟩ => show win0_6.index t 2 * 16 ≤ (i 2 : Nat) ∧ (i 2 : Nat) < win0_6.index t 2 * 16 + 16
                rw [o2]; omega
    | ⟨3, _⟩ => show win0_6.index t 3 * 1024 ≤ (i 3 : Nat) ∧ (i 3 : Nat) < win0_6.index t 3 * 1024 + 1024
                rw [o3]; omega

/-- The cache result, whole. -/
theorem cache_eq (c : Dev nD) : (dats m 0 c).arrAt 6 cfg0.N = Gc (m ((c : Thread nD τ).loc main_arg0)) (m ((c : Thread nD τ).loc main_arg1)) (m ((c : Thread nD τ).loc main_arg2)) := by
  have hN : cfg0.N = 32 := N_0
  funext i
  have h0 : (i 0 : Nat) < 2 := (i 0).isLt
  have h2 : (i 2 : Nat) < 128 := (i 2).isLt
  have h3 : (i 3 : Nat) < 4096 := (i 3).isLt
  by_cases hl : (i 0).val < 1
  · refine (Value.entry6 m c i fun t _ hm => ?_).trans ((congrFun (V_prev m c) i).trans (if_pos hl).symm)
    have := ((mem6 t i).mp hm).1
    omega
  · obtain ⟨t, ht⟩ : ∃ t : Fin cfg0.N, t.val = (i 3 : Nat) / 1024 * 8 + (i 2 : Nat) / 16 := ⟨⟨_, by omega⟩, rfl⟩
    obtain ⟨y, hy⟩ := View.exists_emb_of_mem_set _ ((mem6 t i).mpr ⟨by omega, by omega, by omega⟩)
    have h := congrFun ((Value.blocks6 m c t (flush0_6 t)).trans (flushed6_eq m c t)) y
    rw [View.read_apply, View.read_apply, cast_eq, cast_eq, hy] at h
    exact h

/-- The run of the kernel, read: its two results are the mixed rows and the cache, its arguments are unchanged. -/
theorem run : θ_run defs (onTc (τ := τ) (main (F := Ideal))) ⟨m, fun _ => 0, ρ⟩ fun r => ∀ c : Dev nD,
      r.2.mem ((c : Thread nD τ).loc main_v3_0) = Gy (m ((c : Thread nD τ).loc main_arg0)) (m ((c : Thread nD τ).loc main_arg1)) (m ((c : Thread nD τ).loc main_arg3)) (m ((c : Thread nD τ).loc main_arg4))
      ∧ r.2.mem ((c : Thread nD τ).loc main_v3_1) = Gc (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans ((dats m 0 c).arrAt_eq_of_cover 5 _ (fun t _ => flushed5_eq m c t) cover5),
      (h c).2.1.trans (cache_eq m c), (h c).2.2⟩)
    (Value.run_blocks m ρ)

/-- The three programs run and leave their arguments as they were; the third is the reference. -/
theorem frame : Cert.quiescent_PoolS := fun m ρ _ => Cert.PoolS.Gen.frame m ρ
theorem frameI : Cert.quiescent_PoolSIdeal := fun m ρ _ => Cert.PoolSIdeal.Gen.frame m ρ
theorem frameR : Cert.quiescent_PoolSRefIdeal := fun m ρ _ =>
  (θ_run Cert.PoolSRefIdeal.defs _ _).mono
    (fun r h => ⟨fun c => (h c).2.2, Idealize.ShloMosaic.sem_eq_zero_of_no_sems (by decide) r.2⟩)
    (Cert.PoolSRefIdeal.Value.run (F := Ideal) m ρ)

/-- The reference's rows and cached rows, by their numbers. -/
theorem rows (u : S9216x8192.Idx → EReal) (b : Fin 128) (s : Fin 8) (c : Fin 4096) :
    (shapeCast Cert.PoolSRefIdeal.S128x8x4096 (extractStridedSlice Cert.PoolSRefIdeal.S1024x4096 ![8192, 0] u Cert.PoolSRefIdeal.Gen.slices_S9216x8192_S1024x4096_8192_0) Cert.PoolSRefIdeal.Gen.shapeCasts_S1024x4096_S128x8x4096 : _ → EReal) (ix3 b s c)
      = U u (b.val * 8 + s.val) c.val := by
  have hb := b.isLt
  have hs := s.isLt
  refine Eq.trans ?_ (U_at u (ix2 ⟨8192 + (b.val * 8 + s.val), by omega⟩ ⟨c.val, by omega⟩) _ _ rfl rfl)
  pointwise

theorem olds (x : S2x128x15x4096.Idx → EReal) (b : Fin 128) (q : Fin 15) (c : Fin 4096) :
    (shapeCast Cert.PoolSRefIdeal.S128x15x4096 (extractStridedSlice Cert.PoolSRefIdeal.S1x128x15x4096 ![1, 0, 0, 0] x Cert.PoolSRefIdeal.Gen.slices_S2x128x15x4096_S1x128x15x4096_1_0_0_0) Cert.PoolSRefIdeal.Gen.shapeCasts_S1x128x15x4096_S128x15x4096 : _ → EReal) (ix3 b q c)
      = C x b.val q.val c.val := by
  refine Eq.trans ?_ (C_at x b q c)
  pointwise

/-- Over the extended reals the kernel's results are the reference's. -/
theorem algebraic : Cert.algebraic_PoolSIdeal_PoolSRefIdeal := by
  intro m ρ m' ρ' _ hagree
  refine ⟨fun c => Gy (m ((c : Thread nD τ).loc main_arg0)) (m ((c : Thread nD τ).loc main_arg1)) (m ((c : Thread nD τ).loc main_arg3)) (m ((c : Thread nD τ).loc main_arg4)), fun c => Gc (m ((c : Thread nD τ).loc main_arg0)) (m ((c : Thread nD τ).loc main_arg1)) (m ((c : Thread nD τ).loc main_arg2)), run m ρ, ?_⟩
  refine (θ_run Cert.PoolSRefIdeal.defs _ _).mono (fun r h c => ?_) (Cert.PoolSRefIdeal.Value.run (F := Ideal) m' ρ')
  obtain ⟨a0, a1, a2, a3, a4⟩ := hagree c
  refine ⟨(h c).1.trans ?_, (h c).2.1.trans ?_, (h c).2.2⟩
  · unfold Cert.PoolSRefIdeal.Value.res_main_v81
    rw [a0, a1, a3, a4]
    show (_ : S1024x4096.Idx → EReal) = _
    funext i
    have h0 : (i 0 : ℕ) < 1024 := (i 0).isLt
    have h1 : (i 1 : ℕ) < 4096 := (i 1).isLt
    have hi : i = ix2 (i 0) (i 1) := by funext a; fin_cases a <;> rfl
    refine (congrArg _ hi).trans ((Cert.PoolSRefIdeal.Val.outer_at (Cert.PoolSRefIdeal.Val.pooled _ _) _ _ _ (i 0) (i 1)).trans ?_)
    refine congrArg₂ (fun f z => mix f _ _ z) (funext fun k => ?_) (U_at (m ((c : Thread nD τ).loc main_arg0)) _ _ _ rfl rfl)
    have hk := k.isLt
    refine (Cert.PoolSRefIdeal.Val.pooled_at _ _ (C (m ((c : Thread nD τ).loc main_arg1))) (U (m ((c : Thread nD τ).loc main_arg0))) (olds _) (rows _) _ _ _).trans ?_
    dsimp only
    rw [show ((i 1).val / 1024 * 1024 + k.val) / 1024 = (i 1).val / 1024 by omega]
  · rw [a0, a1, a2]
    show (_ : S2x15x128x4096.Idx → EReal) = _
    funext i
    have hi : i = ix4 (i 0) (i 1) (i 2) (i 3) := by funext a; fin_cases a <;> rfl
    refine (congrArg _ hi).trans ((Cert.PoolSRefIdeal.Val.lasts_at _ _ (C (m ((c : Thread nD τ).loc main_arg1))) (U (m ((c : Thread nD τ).loc main_arg0))) (olds _) (rows _) (m ((c : Thread nD τ).loc main_arg2)) (i 0) (i 1) (i 2) (i 3)).trans ?_)
    exact congrArg (fun p => ite ((i 0).val < 1) (m ((c : Thread nD τ).loc main_arg2) p) _) hi.symm

end Cert.PoolSIdeal.Val

end
-- ==== Proof.NormPVal.lean ====
/- The last norm, over the prompt's rows: each row is scaled by the reciprocal root of its mean square and by the weights. -/
module

public import proofs.«01_k».proof.Proof.Gen.NormPIdeal.Value
public import proofs.«01_k».proof.Proof.Gen.NormPRefIdeal.Run
public import proofs.«01_k».proof.Defs
public import proofs.«01_k».proof.Proof.Gen.NormP.Frame
public import Idealize.ShloMosaic.Lib.Pointwise

@[expose] public section

set_option maxRecDepth 16384

noncomputable section

namespace Cert.NormPIdeal.Val

open Cert.NormPIdeal Cert.NormPIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem z2 : (![0, 0] : Fin 2 → Nat) = fun _ => 0 := funext fun a => by fin_cases a <;> rfl

/-- One entry of a normalised row `f`, with weight `w`. -/
def entry (f : Fin 2048 → EReal) (w : EReal) (j : Fin 2048) : EReal :=
  f j * Ideal.rsqrt (Ideal.div (∑ k : Fin 2048, f k * f k) (Ideal.ofBits .f32 0x45000000#32) + Ideal.ofBits .f32 0x358637BD#32) * w

theorem tile (x : Vec Ideal S512x2048 .f32) (w : Vec Ideal S1x2048 .f32) (r : Fin 512) (j : Fin 2048) :
    out0_2 (F := Ideal) x w (ix2 r j) = entry (fun k => x (ix2 r k)) (w (ix2 0 j)) j := by
  unfold out0_2
  rw [View.canon_unit_zero z2, View.ld_unit_zero (S := S512x2048) z2, View.ld_unit_zero (S := S1x2048) z2]
  unfold entry
  pointwise [k0_pay1]

/-- The whole normalised array. -/
def G (x : S9216x2048.Idx → EReal) (w : S2048.Idx → EReal) : S8192x2048.Idx → EReal :=
  fun i => entry (fun k => x (ix2 ⟨0 + (i 0).val, by have := (i 0).isLt; dsimp at this; omega⟩ k)) (w (ix1 (i 1))) (i 1)

theorem idx (t : Fin cfg0.N) : win0_0.index t 0 = 0 + t.val ∧ win0_0.index t 1 = 0 ∧ win0_1.index t 0 = 0 ∧ win0_1.index t 1 = 0
    ∧ win0_2.index t 0 = t.val ∧ win0_2.index t 1 = 0 := by
  revert t; decide +kernel

/-- The weights the tiles read. -/
theorem V_w (c : Dev nD) (j : Fin 2048) : (V m c main_v0 : S1x2048.Idx → EReal) (ix2 0 j)
    = m ((c : Thread nD τ).loc main_arg1) (ix1 j) := by
  have h : (V m c main_v0 : S1x2048.Idx → EReal) = shapeCast S1x2048 (m ((c : Thread nD τ).loc main_arg1)) shapeCasts_S2048_S1x2048 := by
    show StableHlo.after hostOps0 _ main_v0 = _
    after_results <;> rfl
  rw [h]
  pointwise

theorem flushed_eq (c : Dev nD) (t : Fin cfg0.N) :
    (dats m 0 c).flushed 2 t = ((cfg0.win 2).blk t).view.read (Elt Ideal)
      (G (m ((c : Thread nD τ).loc main_arg0)) (m ((c : Thread nD τ).loc main_arg1))) := by
  obtain ⟨h00, h01, h10, h11, h20, h21⟩ := idx t
  rw [Value.flushed2]
  funext y
  have hy : (y : S512x2048.Idx) = ix2 (y 0) (y 1) := by funext a; fin_cases a <;> rfl
  refine (congrArg (out0_2 (iblk m c 0 t) (iblk m c 1 t)) hy).trans ((tile _ _ _ _).trans ?_)
  rw [View.read_apply, cast_eq]
  have e1 : ((cfg0.win 2).blk t).view.emb y 1 = y 1 := by
    apply Fin.ext
    show win0_2.index t 1 * 2048 + 1 * (y 1).val = (y 1).val; rw [h21]; omega
  have hx (k : Fin 2048) : (iblk m c 0 t : S512x2048.Idx → EReal) (ix2 (y 0) k)
      = m ((c : Thread nD τ).loc main_arg0) (ix2 ⟨0 + (((cfg0.win 2).blk t).view.emb y 0).val, by have : (((cfg0.win 2).blk t).view.emb y 0).val < 8192 := (((cfg0.win 2).blk t).view.emb y 0).isLt; omega⟩ k) := by
    unfold iblk
    rw [View.read_apply, cast_eq]
    refine (congrFun (V_main_arg0 m c) _).trans (congrArg (m _) (funext fun a => Fin.ext ?_))
    match a with
    | ⟨0, _⟩ => show win0_0.index t 0 * 512 + 1 * (y 0).val = 0 + (win0_2.index t 0 * 512 + 1 * (y 0).val); rw [h00, h20]; omega
    | ⟨1, _⟩ => show win0_0.index t 1 * 2048 + 1 * k.val = k.val; rw [h01]; omega
  have hw : (iblk m c 1 t : S1x2048.Idx → EReal) (ix2 0 (y 1)) = m ((c : Thread nD τ).loc main_arg1) (ix1 (y 1)) := by
    refine Eq.trans ?_ (V_w m c (y 1))
    unfold iblk
    rw [View.read_apply, cast_eq]
    refine congrArg (V m c main_v0) (funext fun a => Fin.ext ?_)
    match a with
    | ⟨0, _⟩ => show win0_1.index t 0 * 1 + 1 * 0 = 0; rw [h10]
    | ⟨1, _⟩ => show win0_1.index t 1 * 2048 + 1 * (y 1).val = (y 1).val; rw [h11]; omega
  unfold G
  rw [hw, e1]
  exact congrArg (fun f => entry f _ _) (funext hx)

/-- Every entry of the result lies in one tile. -/
theorem cover (i : S8192x2048.Idx) : ∃ t : Fin cfg0.N, (cfg0.win 2).flush t = true ∧ i ∈ ((cfg0.win 2).blk t).view.set := by
  have hN : cfg0.N = 16 := N_0
  have h0 : (i 0 : Nat) < 8192 := (i 0).isLt
  have h1 : (i 1 : Nat) < 2048 := (i 1).isLt
  obtain ⟨t, ht⟩ : ∃ t : Fin cfg0.N, t.val = (i 0 : Nat) / 512 := ⟨⟨_, by omega⟩, rfl⟩
  obtain ⟨-, -, -, -, h20, h21⟩ := idx t
  refine ⟨t, flush0_2 t, ?_⟩
  show i ∈ ((View.whole main_v1).slice (win0_2.rect t)).set
  rw [View.set_slice_whole, Rect.mem_set_unit]
  intro a
  match a with
  | ⟨0, _⟩ => show win0_2.index t 0 * 512 ≤ (i 0 : Nat) ∧ (i 0 : Nat) < win0_2.index t 0 * 512 + 512
              rw [h20]; omega
  | ⟨1, _⟩ => show win0_2.index t 1 * 2048 ≤ (i 1 : Nat) ∧ (i 1 : Nat) < win0_2.index t 1 * 2048 + 2048
              rw [h21]; omega

/-- The run of the kernel, read: its result is the whole normalised array, its arguments are unchanged. -/
theorem run : θ_run defs (onTc (τ := τ) (main (F := Ideal))) ⟨m, fun _ => 0, ρ⟩ fun r => ∀ c : Dev nD,
      r.2.mem ((c : Thread nD τ).loc main_v1) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((dats m 0 c).arrAt_eq_of_cover 2 _ (fun t _ => flushed_eq m c t) cover), (h c).2⟩)
    (Value.run_blocks m ρ)

/-- The three programs run and leave their arguments as they were; the third is the reference. -/
theorem frame : Cert.quiescent_NormP := fun m ρ _ => Cert.NormP.Gen.frame m ρ
theorem frameI : Cert.quiescent_NormPIdeal := fun m ρ _ => Cert.NormPIdeal.Gen.frame m ρ
theorem frameR : Cert.quiescent_NormPRefIdeal := fun m ρ _ =>
  (θ_run Cert.NormPRefIdeal.defs _ _).mono
    (fun r h => ⟨fun c => (h c).2, Idealize.ShloMosaic.sem_eq_zero_of_no_sems (by decide) r.2⟩)
    (Cert.NormPRefIdeal.Value.run (F := Ideal) m ρ)

/-- Over the extended reals the kernel's result is the reference's. -/
theorem algebraic : Cert.algebraic_NormPIdeal_NormPRefIdeal := by
  intro m ρ m' ρ' _ hagree
  refine ⟨fun c => G (m ((c : Thread nD τ).loc main_arg0)) (m ((c : Thread nD τ).loc main_arg1)), run m ρ, ?_⟩
  refine (θ_run Cert.NormPRefIdeal.defs _ _).mono (fun r h c => ?_) (Cert.NormPRefIdeal.Value.run (F := Ideal) m' ρ')
  refine ⟨(h c).1.trans ?_, (h c).2⟩
  rw [(hagree c).1, (hagree c).2]
  show (_ : S8192x2048.Idx → EReal) = _
  funext i
  idx_vars i
  unfold G entry
  pointwise

end Cert.NormPIdeal.Val

end
-- ==== Proof.NormSVal.lean ====
/- The last norm, over the sample's rows: each row is scaled by the reciprocal root of its mean square and by the weights. -/
module

public import proofs.«01_k».proof.Proof.Gen.NormSIdeal.Value
public import proofs.«01_k».proof.Proof.Gen.NormSRefIdeal.Run
public import proofs.«01_k».proof.Defs
public import proofs.«01_k».proof.Proof.Gen.NormS.Frame
public import Idealize.ShloMosaic.Lib.Pointwise

@[expose] public section

set_option maxRecDepth 16384

noncomputable section

namespace Cert.NormSIdeal.Val

open Cert.NormSIdeal Cert.NormSIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem z2 : (![0, 0] : Fin 2 → Nat) = fun _ => 0 := funext fun a => by fin_cases a <;> rfl

/-- One entry of a normalised row `f`, with weight `w`. -/
def entry (f : Fin 2048 → EReal) (w : EReal) (j : Fin 2048) : EReal :=
  f j * Ideal.rsqrt (Ideal.div (∑ k : Fin 2048, f k * f k) (Ideal.ofBits .f32 0x45000000#32) + Ideal.ofBits .f32 0x358637BD#32) * w

theorem tile (x : Vec Ideal S512x2048 .f32) (w : Vec Ideal S1x2048 .f32) (r : Fin 512) (j : Fin 2048) :
    out0_2 (F := Ideal) x w (ix2 r j) = entry (fun k => x (ix2 r k)) (w (ix2 0 j)) j := by
  unfold out0_2
  rw [View.canon_unit_zero z2, View.ld_unit_zero (S := S512x2048) z2, View.ld_unit_zero (S := S1x2048) z2]
  unfold entry
  pointwise [k0_pay1]

/-- The whole normalised array. -/
def G (x : S9216x2048.Idx → EReal) (w : S2048.Idx → EReal) : S1024x2048.Idx → EReal :=
  fun i => entry (fun k => x (ix2 ⟨8192 + (i 0).val, by have := (i 0).isLt; dsimp at this; omega⟩ k)) (w (ix1 (i 1))) (i 1)

theorem idx (t : Fin cfg0.N) : win0_0.index t 0 = 16 + t.val ∧ win0_0.index t 1 = 0 ∧ win0_1.index t 0 = 0 ∧ win0_1.index t 1 = 0
    ∧ win0_2.index t 0 = t.val ∧ win0_2.index t 1 = 0 := by
  revert t; decide +kernel

/-- The weights the tiles read. -/
theorem V_w (c : Dev nD) (j : Fin 2048) : (V m c main_v0 : S1x2048.Idx → EReal) (ix2 0 j)
    = m ((c : Thread nD τ).loc main_arg1) (ix1 j) := by
  have h : (V m c main_v0 : S1x2048.Idx → EReal) = shapeCast S1x2048 (m ((c : Thread nD τ).loc main_arg1)) shapeCasts_S2048_S1x2048 := by
    show StableHlo.after hostOps0 _ main_v0 = _
    after_results <;> rfl
  rw [h]
  pointwise

theorem flushed_eq (c : Dev nD) (t : Fin cfg0.N) :
    (dats m 0 c).flushed 2 t = ((cfg0.win 2).blk t).view.read (Elt Ideal)
      (G (m ((c : Thread nD τ).loc main_arg0)) (m ((c : Thread nD τ).loc main_arg1))) := by
  obtain ⟨h00, h01, h10, h11, h20, h21⟩ := idx t
  rw [Value.flushed2]
  funext y
  have hy : (y : S512x2048.Idx) = ix2 (y 0) (y 1) := by funext a; fin_cases a <;> rfl
  refine (congrArg (out0_2 (iblk m c 0 t) (iblk m c 1 t)) hy).trans ((tile _ _ _ _).trans ?_)
  rw [View.read_apply, cast_eq]
  have e1 : ((cfg0.win 2).blk t).view.emb y 1 = y 1 := by
    apply Fin.ext
    show win0_2.index t 1 * 2048 + 1 * (y 1).val = (y 1).val; rw [h21]; omega
  have hx (k : Fin 2048) : (iblk m c 0 t : S512x2048.Idx → EReal) (ix2 (y 0) k)
      = m ((c : Thread nD τ).loc main_arg0) (ix2 ⟨8192 + (((cfg0.win 2).blk t).view.emb y 0).val, by have : (((cfg0.win 2).blk t).view.emb y 0).val < 1024 := (((cfg0.win 2).blk t).view.emb y 0).isLt; omega⟩ k) := by
    unfold iblk
    rw [View.read_apply, cast_eq]
    refine (congrFun (V_main_arg0 m c) _).trans (congrArg (m _) (funext fun a => Fin.ext ?_))
    match a with
    | ⟨0, _⟩ => show win0_0.index t 0 * 512 + 1 * (y 0).val = 8192 + (win0_2.index t 0 * 512 + 1 * (y 0).val); rw [h00, h20]; omega
    | ⟨1, _⟩ => show win0_0.index t 1 * 2048 + 1 * k.val = k.val; rw [h01]; omega
  have hw : (iblk m c 1 t : S1x2048.Idx → EReal) (ix2 0 (y 1)) = m ((c : Thread nD τ).loc main_arg1) (ix1 (y 1)) := by
    refine Eq.trans ?_ (V_w m c (y 1))
    unfold iblk
    rw [View.read_apply, cast_eq]
    refine congrArg (V m c main_v0) (funext fun a => Fin.ext ?_)
    match a with
    | ⟨0, _⟩ => show win0_1.index t 0 * 1 + 1 * 0 = 0; rw [h10]
    | ⟨1, _⟩ => show win0_1.index t 1 * 2048 + 1 * (y 1).val = (y 1).val; rw [h11]; omega
  unfold G
  rw [hw, e1]
  exact congrArg (fun f => entry f _ _) (funext hx)

/-- Every entry of the result lies in one tile. -/
theorem cover (i : S1024x2048.Idx) : ∃ t : Fin cfg0.N, (cfg0.win 2).flush t = true ∧ i ∈ ((cfg0.win 2).blk t).view.set := by
  have hN : cfg0.N = 2 := N_0
  have h0 : (i 0 : Nat) < 1024 := (i 0).isLt
  have h1 : (i 1 : Nat) < 2048 := (i 1).isLt
  obtain ⟨t, ht⟩ : ∃ t : Fin cfg0.N, t.val = (i 0 : Nat) / 512 := ⟨⟨_, by omega⟩, rfl⟩
  obtain ⟨-, -, -, -, h20, h21⟩ := idx t
  refine ⟨t, flush0_2 t, ?_⟩
  show i ∈ ((View.whole main_v1).slice (win0_2.rect t)).set
  rw [View.set_slice_whole, Rect.mem_set_unit]
  intro a
  match a with
  | ⟨0, _⟩ => show win0_2.index t 0 * 512 ≤ (i 0 : Nat) ∧ (i 0 : Nat) < win0_2.index t 0 * 512 + 512
              rw [h20]; omega
  | ⟨1, _⟩ => show win0_2.index t 1 * 2048 ≤ (i 1 : Nat) ∧ (i 1 : Nat) < win0_2.index t 1 * 2048 + 2048
              rw [h21]; omega

/-- The run of the kernel, read: its result is the whole normalised array, its arguments are unchanged. -/
theorem run : θ_run defs (onTc (τ := τ) (main (F := Ideal))) ⟨m, fun _ => 0, ρ⟩ fun r => ∀ c : Dev nD,
      r.2.mem ((c : Thread nD τ).loc main_v1) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((dats m 0 c).arrAt_eq_of_cover 2 _ (fun t _ => flushed_eq m c t) cover), (h c).2⟩)
    (Value.run_blocks m ρ)

/-- The three programs run and leave their arguments as they were; the third is the reference. -/
theorem frame : Cert.quiescent_NormS := fun m ρ _ => Cert.NormS.Gen.frame m ρ
theorem frameI : Cert.quiescent_NormSIdeal := fun m ρ _ => Cert.NormSIdeal.Gen.frame m ρ
theorem frameR : Cert.quiescent_NormSRefIdeal := fun m ρ _ =>
  (θ_run Cert.NormSRefIdeal.defs _ _).mono
    (fun r h => ⟨fun c => (h c).2, Idealize.ShloMosaic.sem_eq_zero_of_no_sems (by decide) r.2⟩)
    (Cert.NormSRefIdeal.Value.run (F := Ideal) m ρ)

/-- Over the extended reals the kernel's result is the reference's. -/
theorem algebraic : Cert.algebraic_NormSIdeal_NormSRefIdeal := by
  intro m ρ m' ρ' _ hagree
  refine ⟨fun c => G (m ((c : Thread nD τ).loc main_arg0)) (m ((c : Thread nD τ).loc main_arg1)), run m ρ, ?_⟩
  refine (θ_run Cert.NormSRefIdeal.defs _ _).mono (fun r h c => ?_) (Cert.NormSRefIdeal.Value.run (F := Ideal) m' ρ')
  refine ⟨(h c).1.trans ?_, (h c).2⟩
  rw [(hagree c).1, (hagree c).2]
  show (_ : S1024x2048.Idx → EReal) = _
  funext i
  idx_vars i
  unfold G entry
  pointwise

end Cert.NormSIdeal.Val

end
-- ==== Proof.NormZVal.lean ====
/- The first norm of the step: each row of the two inputs, joined, is scaled by the reciprocal root of its mean square and by the
   weights. -/
module

public import proofs.«01_k».proof.Proof.Gen.NormZIdeal.Value
public import proofs.«01_k».proof.Proof.Gen.NormZRefIdeal.Run
public import proofs.«01_k».proof.Defs
public import proofs.«01_k».proof.Proof.Gen.NormZ.Frame
public import Idealize.ShloMosaic.Lib.Pointwise

@[expose] public section

set_option maxRecDepth 16384
set_option maxHeartbeats 1000000

noncomputable section

namespace Cert.NormZIdeal.Val

open Cert.NormZIdeal Cert.NormZIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem z2 : (![0, 0] : Fin 2 → Nat) = fun _ => 0 := funext fun a => by fin_cases a <;> rfl

/-- One entry of a normalised row `f`, with weight `w`. -/
def entry (f : Fin 2048 → EReal) (w : EReal) (j : Fin 2048) : EReal :=
  f j * Ideal.rsqrt (Ideal.div (∑ k : Fin 2048, f k * f k) (Ideal.ofBits .f32 0x45000000#32) + Ideal.ofBits .f32 0x358637BD#32) * w

/-- One tile, among the prompt's rows, at an index. -/
theorem tileA (c : Dev nD) (i : grid0.Coords) (a1 : Memref sig .tc .vmem S512x2048 .f32) (h1 : a1.IsWhole)
    (a2 : Memref sig .tc .vmem S512x2048 .f32) (h2 : a2.IsWhole) (a3 : Memref sig .tc .vmem S1x2048 .f32) (h3 : a3.IsWhole)
    (a4 : Memref sig .tc .vmem S512x2048 .bf16) (h4 : a4.IsWhole) (c1 : cond0_0 i) (c2 : ¬cond0_1 i)
    (xp xs : Vec Ideal S512x2048 .f32) (w : Vec Ideal S1x2048 .f32) (r : Fin 512) (j : Fin 2048) :
    out0_A_3 (F := Ideal) c i a1 h1 a2 h2 a3 h3 a4 h4 c1 c2 xp xs w (ix2 r j) = entry (fun k => xp (ix2 r k)) (w (ix2 0 j)) j := by
  unfold out0_A_3
  rw [View.read_writes_eq_canon _ _ _ (cover0_A_3 c i a1 h1 a2 h2 a3 h3 a4 h4 c1 c2 xp xs w)]
  unfold kernelRun0_A
  dsimp only
  rw [View.canon_unit_zero z2]
  simp only [View.readAt_eq_ld, h1.read_unread, h2.read_unread, h3.read_unread]
  rw [View.ld_unit_zero (S := S512x2048) z2, View.ld_unit_zero (S := S1x2048) z2]
  unfold entry
  pointwise [k0_pay1]

/-- One tile, among the sample's rows, at an index. -/
theorem tileB (c : Dev nD) (i : grid0.Coords) (a1 : Memref sig .tc .vmem S512x2048 .f32) (h1 : a1.IsWhole)
    (a2 : Memref sig .tc .vmem S512x2048 .f32) (h2 : a2.IsWhole) (a3 : Memref sig .tc .vmem S1x2048 .f32) (h3 : a3.IsWhole)
    (a4 : Memref sig .tc .vmem S512x2048 .bf16) (h4 : a4.IsWhole) (c1 : ¬cond0_0 i) (c2 : cond0_1 i)
    (xp xs : Vec Ideal S512x2048 .f32) (w : Vec Ideal S1x2048 .f32) (r : Fin 512) (j : Fin 2048) :
    out0_B_3 (F := Ideal) c i a1 h1 a2 h2 a3 h3 a4 h4 c1 c2 xp xs w (ix2 r j) = entry (fun k => xs (ix2 r k)) (w (ix2 0 j)) j := by
  unfold out0_B_3
  rw [View.read_writes_eq_canon _ _ _ (cover0_B_3 c i a1 h1 a2 h2 a3 h3 a4 h4 c1 c2 xp xs w)]
  unfold kernelRun0_B
  dsimp only
  rw [View.canon_unit_zero z2]
  simp only [View.readAt_eq_ld, h1.read_unread, h2.read_unread, h3.read_unread]
  rw [View.ld_unit_zero (S := S512x2048) z2, View.ld_unit_zero (S := S1x2048) z2]
  unfold entry
  pointwise [k0_pay2]

/-- Entry `(p, k)` of the two inputs joined. -/
def row (hp : S8192x2048.Idx → EReal) (hs : S1024x2048.Idx → EReal) (p : Fin 9216) (k : Fin 2048) : EReal :=
  if hr : p.val < 8192 then hp (ix2 ⟨p.val, hr⟩ k) else hs (ix2 ⟨p.val - 8192, by omega⟩ k)

/-- The whole normalised array. -/
def G (hp : S8192x2048.Idx → EReal) (hs : S1024x2048.Idx → EReal) (w : S4x2048.Idx → EReal) : S9216x2048.Idx → EReal :=
  fun i => entry (row hp hs (i 0)) (w (ix2 0 (i 1))) (i 1)

/-- The prompt's input, its first two axes joined. -/
@[irreducible] def hp (c : Dev nD) : S8192x2048.Idx → EReal := shapeCast S8192x2048 (m ((c : Thread nD τ).loc main_arg0)) shapeCasts_S4x2048x2048_S8192x2048

/-- The sample's input, its first two axes joined. -/
@[irreducible] def hs (c : Dev nD) : S1024x2048.Idx → EReal := shapeCast S1024x2048 (m ((c : Thread nD τ).loc main_arg1)) shapeCasts_S128x8x2048_S1024x2048

theorem V_v0 (c : Dev nD) : (V m c main_v0 : S8192x2048.Idx → EReal) = hp m c := by
  show StableHlo.after hostOps0 _ main_v0 = _
  unfold hp
  after_results <;> rfl

theorem V_v1 (c : Dev nD) : (V m c main_v1 : S1024x2048.Idx → EReal) = hs m c := by
  show StableHlo.after hostOps0 _ main_v1 = _
  unfold hs
  after_results <;> rfl

/-- The weights the tiles read: row 0 of the norms' weights. -/
theorem V_w (c : Dev nD) (j : Fin 2048) : (V m c main_v4 : S1x2048.Idx → EReal) (ix2 0 j)
    = m ((c : Thread nD τ).loc main_arg2) (ix2 0 j) := by
  have h : (V m c main_v4 : S1x2048.Idx → EReal) = shapeCast S1x2048 (shapeCast S2048 (extractStridedSlice S1x2048 ![0, 0]
      (m ((c : Thread nD τ).loc main_arg2) : S4x2048.Idx → EReal) slices_S4x2048_S1x2048_0_0) shapeCasts_S1x2048_S2048) shapeCasts_S2048_S1x2048 := by
    show StableHlo.after hostOps0 _ main_v4 = _
    after_results <;> rfl
  rw [h]
  pointwise

theorem idx (t : Fin cfg0.N) : win0_2.index t 0 = 0 ∧ win0_2.index t 1 = 0
    ∧ win0_3.index t 0 = t.val ∧ win0_3.index t 1 = 0
    ∧ (t.val < 16 → win0_0.index t 0 = t.val ∧ win0_0.index t 1 = 0)
    ∧ (16 ≤ t.val → win0_1.index t 0 = t.val - 16 ∧ win0_1.index t 1 = 0) := by
  revert t; decide +kernel

theorem flushed_eq (c : Dev nD) (t : Fin cfg0.N) :
    (dats m 0 c).flushed 3 t = ((cfg0.win 3).blk t).view.read (Elt Ideal)
      (G (hp m c) (hs m c) (m ((c : Thread nD τ).loc main_arg2))) := by
  obtain ⟨w0, w1, o0, o1, hp', hs'⟩ := idx t
  funext y
  have hy : (y : S512x2048.Idx) = ix2 (y 0) (y 1) := by funext a; fin_cases a <;> rfl
  have hy0 : (y 0).val < 512 := (y 0).isLt
  have e0 : (((cfg0.win 3).blk t).view.emb y 0).val = t.val * 512 + (y 0).val := by
    show win0_3.index t 0 * 512 + 1 * (y 0).val = _; rw [o0]; omega
  have e1 : ((cfg0.win 3).blk t).view.emb y 1 = y 1 := by
    apply Fin.ext
    show win0_3.index t 1 * 2048 + 1 * (y 1).val = (y 1).val; rw [o1]; omega
  have hw : (iblk m c 2 t : S1x2048.Idx → EReal) (ix2 0 (y 1)) = m ((c : Thread nD τ).loc main_arg2) (ix2 0 (y 1)) := by
    refine Eq.trans ?_ (V_w m c (y 1))
    unfold iblk
    rw [View.read_apply, cast_eq]
    refine congrArg (V m c main_v4) (funext fun a => Fin.ext ?_)
    match a with
    | ⟨0, _⟩ => show win0_2.index t 0 * 1 + 1 * 0 = 0; rw [w0]
    | ⟨1, _⟩ => show win0_2.index t 1 * 2048 + 1 * (y 1).val = (y 1).val; rw [w1]; omega
  by_cases ht : t.val < 16
  · have ht' : ¬16 ≤ t.val := by omega
    have hr : (((cfg0.win 3).blk t).view.emb y 0).val < 8192 := by rw [e0]; omega
    rw [Value.flushed3_A m c t ht ht']
    refine (congrArg (out0_A_3 c (grid0.coords t) (ms0_0 t) (hs0_0 t) (ms0_1 t) (hs0_1 t) (ms0_2 t) (hs0_2 t) (ms0_3 t) (hs0_3 t) ((hcond0_0 t).mpr ht) (fun h => ht' ((hcond0_1 t).mp h)) (iblk m c 0 t) (iblk m c 1 t) (iblk m c 2 t)) hy).trans ((tileA ..).trans ?_)
    rw [View.read_apply, cast_eq]
    unfold G
    rw [hw, e1]
    refine congrArg (fun f => entry f _ _) (funext fun k => ?_)
    unfold row
    rw [dif_pos hr]
    unfold iblk
    rw [View.read_apply, cast_eq]
    refine (congrFun (V_v0 m c) _).trans (congrArg (hp m c) (funext fun a => Fin.ext ?_))
    match a with
    | ⟨0, _⟩ => show win0_0.index t 0 * 512 + 1 * (y 0).val = (((cfg0.win 3).blk t).view.emb y 0).val; rw [(hp' ht).1, e0]; omega
    | ⟨1, _⟩ => show win0_0.index t 1 * 2048 + 1 * k.val = k.val; rw [(hp' ht).2]; omega
  · have ht' : 16 ≤ t.val := by omega
    have hr : ¬(((cfg0.win 3).blk t).view.emb y 0).val < 8192 := by rw [e0]; omega
    rw [Value.flushed3_B m c t ht ht']
    refine (congrArg (out0_B_3 c (grid0.coords t) (ms0_0 t) (hs0_0 t) (ms0_1 t) (hs0_1 t) (ms0_2 t) (hs0_2 t) (ms0_3 t) (hs0_3 t) (fun h => ht ((hcond0_0 t).mp h)) ((hcond0_1 t).mpr ht') (iblk m c 0 t) (iblk m c 1 t) (iblk m c 2 t)) hy).trans ((tileB ..).trans ?_)
    rw [View.read_apply, cast_eq]
    unfold G
    rw [hw, e1]
    refine congrArg (fun f => entry f _ _) (funext fun k => ?_)
    unfold row
    rw [dif_neg hr]
    unfold iblk
    rw [View.read_apply, cast_eq]
    refine (congrFun (V_v1 m c) _).trans (congrArg (hs m c) (funext fun a => Fin.ext ?_))
    match a with
    | ⟨0, _⟩ => show win0_1.index t 0 * 512 + 1 * (y 0).val = (((cfg0.win 3).blk t).view.emb y 0).val - 8192; rw [(hs' ht').1, e0]; omega
    | ⟨1, _⟩ => show win0_1.index t 1 * 2048 + 1 * k.val = k.val; rw [(hs' ht').2]; omega

/-- Every entry of the result lies in one tile. -/
theorem cover (i : S9216x2048.Idx) : ∃ t : Fin cfg0.N, (cfg0.win 3).flush t = true ∧ i ∈ ((cfg0.win 3).blk t).view.set := by
  have hN : cfg0.N = 18 := N_0
  have h0 : (i 0 : Nat) < 9216 := (i 0).isLt
  have h1 : (i 1 : Nat) < 2048 := (i 1).isLt
  obtain ⟨t, ht⟩ : ∃ t : Fin cfg0.N, t.val = (i 0 : Nat) / 512 := ⟨⟨_, by omega⟩, rfl⟩
  obtain ⟨-, -, o0, o1, -⟩ := idx t
  refine ⟨t, flush0_3 t, ?_⟩
  show i ∈ ((View.whole main_v5).slice (win0_3.rect t)).set
  rw [View.set_slice_whole, Rect.mem_set_unit]
  intro a
  match a with
  | ⟨0, _⟩ => show win0_3.index t 0 * 512 ≤ (i 0 : Nat) ∧ (i 0 : Nat) < win0_3.index t 0 * 512 + 512
              rw [o0]; omega
  | ⟨1, _⟩ => show win0_3.index t 1 * 2048 ≤ (i 1 : Nat) ∧ (i 1 : Nat) < win0_3.index t 1 * 2048 + 2048
              rw [o1]; omega

/-- The run of the kernel, read: its result is the whole normalised array, its arguments are unchanged. -/
theorem run : θ_run defs (onTc (τ := τ) (main (F := Ideal))) ⟨m, fun _ => 0, ρ⟩ fun r => ∀ c : Dev nD,
      r.2.mem ((c : Thread nD τ).loc main_v5) = G (hp m c) (hs m c) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans ((dats m 0 c).arrAt_eq_of_cover 3 _ (fun t _ => flushed_eq m c t) cover), (h c).2⟩)
    (Value.run_blocks m ρ)

/-- The three programs run and leave their arguments as they were; the third is the reference. -/
theorem frame : Cert.quiescent_NormZ := fun m ρ _ => Cert.NormZ.Gen.frame m ρ
theorem frameI : Cert.quiescent_NormZIdeal := fun m ρ _ => Cert.NormZIdeal.Gen.frame m ρ
theorem frameR : Cert.quiescent_NormZRefIdeal := fun m ρ _ =>
  (θ_run Cert.NormZRefIdeal.defs _ _).mono
    (fun r h => ⟨fun c => (h c).2, Idealize.ShloMosaic.sem_eq_zero_of_no_sems (by decide) r.2⟩)
    (Cert.NormZRefIdeal.Value.run (F := Ideal) m ρ)

/-- The reference's result, at an index. -/
theorem ref_eq (HP : Vec Ideal S8192x2048 .f32) (HS : Vec Ideal S1024x2048 .f32) (w : Vec Ideal S4x2048 .f32) :
    ((truncf (F := Ideal) .bf16 (mulf (F := Ideal) (mulf (F := Ideal) (concatenate Cert.NormZRefIdeal.S9216x2048 0 [⟨Cert.NormZRefIdeal.S8192x2048, HP⟩, ⟨Cert.NormZRefIdeal.S1024x2048, HS⟩] Cert.NormZRefIdeal.Gen.concatenates_S8192x2048_S1024x2048_S9216x2048_d0) (broadcastInDim Cert.NormZRefIdeal.S9216x2048 ![0, 1] Cert.NormZRefIdeal.Gen.bcast_S9216x1_S9216x2048_0_1 (Host.rsqrt (addf (Host.divf (broadcastInDim Cert.NormZRefIdeal.S9216x1 ![0] Cert.NormZRefIdeal.Gen.bcast_S9216_S9216x1_0 (Host.reduceAdd (mulf (concatenate Cert.NormZRefIdeal.S9216x2048 0 [⟨Cert.NormZRefIdeal.S8192x2048, HP⟩, ⟨Cert.NormZRefIdeal.S1024x2048, HS⟩] Cert.NormZRefIdeal.Gen.concatenates_S8192x2048_S1024x2048_S9216x2048_d0) (concatenate Cert.NormZRefIdeal.S9216x2048 0 [⟨Cert.NormZRefIdeal.S8192x2048, HP⟩, ⟨Cert.NormZRefIdeal.S1024x2048, HS⟩] Cert.NormZRefIdeal.Gen.concatenates_S8192x2048_S1024x2048_S9216x2048_d0)) (constant Cert.NormZRefIdeal.S_ .f32 0x00000000#32) Cert.NormZRefIdeal.Gen.reducesTo_S9216x2048_S9216_d1 Cert.NormZRefIdeal.Gen.h_S_)) (broadcastInDim Cert.NormZRefIdeal.S9216x1 ![] Cert.NormZRefIdeal.Gen.bcast_S_S9216x1 (constant Cert.NormZRefIdeal.S_ .f32 0x45000000#32))) (broadcastInDim Cert.NormZRefIdeal.S9216x1 ![] Cert.NormZRefIdeal.Gen.bcast_S_S9216x1 (constant Cert.NormZRefIdeal.S_ .f32 0x358637BD#32)))))) (broadcastInDim Cert.NormZRefIdeal.S9216x2048 ![0, 1] Cert.NormZRefIdeal.Gen.bcast_S1x2048_S9216x2048_0_1 (broadcastInDim Cert.NormZRefIdeal.S1x2048 ![1] Cert.NormZRefIdeal.Gen.bcast_S2048_S1x2048_1 (shapeCast _ (extractStridedSlice Cert.NormZRefIdeal.S1x2048 ![0, 0] w Cert.NormZRefIdeal.Gen.slices_S4x2048_S1x2048_0_0) Cert.NormZRefIdeal.Gen.shapeCasts_S1x2048_S2048)))) Cert.NormZRefIdeal.Gen.bitsLt_bf16_f32) : S9216x2048.Idx → EReal) = G HP HS w := by
  funext i
  idx_vars i
  unfold G entry row
  pointwise

/-- Over the extended reals the kernel's result is the reference's. -/
theorem algebraic : Cert.algebraic_NormZIdeal_NormZRefIdeal := by
  intro m ρ m' ρ' _ hagree
  refine ⟨fun c => G (hp m c) (hs m c) (m ((c : Thread nD τ).loc main_arg2)), run m ρ, ?_⟩
  refine (θ_run Cert.NormZRefIdeal.defs _ _).mono (fun r h c => ?_) (Cert.NormZRefIdeal.Value.run (F := Ideal) m' ρ')
  refine ⟨(h c).1.trans ?_, (h c).2⟩
  rw [(hagree c).1, (hagree c).2.1, (hagree c).2.2]
  unfold hp hs
  exact ref_eq _ _ _

end Cert.NormZIdeal.Val

end
-- ==== Proof.DeltaOut.lean ====
/- What the last tile of a sequence leaves in the three cache results, at an index: its last three rows. -/
module

public import proofs.«01_k».proof.Proof.Gen.DeltaIdeal.Value
public import Idealize.ShloMosaic.Lib.Pointwise

@[expose] public section

set_option maxRecDepth 16384
set_option maxHeartbeats 1000000

noncomputable section

namespace Cert.DeltaIdeal.Val

open Cert.DeltaIdeal Cert.DeltaIdeal.Gen Idealize.ShloMosaic Idealize.ShloMosaic.TcCoe Idealize.SL.Sem

theorem z2 : (![0, 0] : Fin 2 → Nat) = fun _ => 0 := funext fun a => by fin_cases a <;> rfl

theorem z3 : (![0, 0, 0] : Fin 3 → Nat) = fun _ => 0 := funext fun a => by fin_cases a <;> rfl

/-- A row of the scratch that the tile's own rows were just stored in. -/
theorem row1024 (L : List (View.Piece (Elt Ideal) S264x1024 .f32)) (v : Vec Ideal S256x1024 .f32)
    (inb : ∀ a, (![8, 0] : Fin 2 → ℕ) a + S256x1024.size a ≤ S264x1024.size a) (y : S264x1024.Idx) (r : Fin 256) (k : Fin 1024)
    (h0 : (y 0).val = 8 + r.val) (h1 : (y 1).val = k.val) :
    View.canon (⟨Rect.unit (s := S264x1024) ![8, 0] S256x1024.size inb, v⟩ :: L) y = v (ix2 r k) := by
  have hy : y = (Rect.unit (s := S264x1024) ![8, 0] S256x1024.size inb).emb (ix2 r k) := by
    funext a
    match a with
    | ⟨0, _⟩ => exact Fin.ext (h0.trans (show 8 + r.val = 8 + 1 * r.val by omega))
    | ⟨1, _⟩ => exact Fin.ext (h1.trans (show k.val = 0 + 1 * k.val by omega))
  rw [hy]
  exact View.canon_cons_emb ..

/-- A row of the scratch that the tile's own rows were just stored in. -/
theorem row2048 (L : List (View.Piece (Elt Ideal) S264x2048 .f32)) (v : Vec Ideal S256x2048 .f32)
    (inb : ∀ a, (![8, 0] : Fin 2 → ℕ) a + S256x2048.size a ≤ S264x2048.size a) (y : S264x2048.Idx) (r : Fin 256) (k : Fin 2048)
    (h0 : (y 0).val = 8 + r.val) (h1 : (y 1).val = k.val) :
    View.canon (⟨Rect.unit (s := S264x2048) ![8, 0] S256x2048.size inb, v⟩ :: L) y = v (ix2 r k) := by
  have hy : y = (Rect.unit (s := S264x2048) ![8, 0] S256x2048.size inb).emb (ix2 r k) := by
    funext a
    match a with
    | ⟨0, _⟩ => exact Fin.ext (h0.trans (show 8 + r.val = 8 + 1 * r.val by omega))
    | ⟨1, _⟩ => exact Fin.ext (h1.trans (show k.val = 0 + 1 * k.val by omega))
  rw [hy]
  exact View.canon_cons_emb ..

theorem pay7_at (v : Vec Ideal S256x1024 .f32) (r : Fin 256) (k : Fin 1024) : k0_pay7 v (ix2 r k) = v (ix2 r k) := by
  pointwise [k0_pay7]

theorem pay34_at (v : Vec Ideal S3x1024 .f32) (t : Fin 3) (k : Fin 1024) : k0_pay34 v (ix3 0 t k) = v (ix2 t k) := by
  pointwise [k0_pay34]

theorem pay8_at (v : Vec Ideal S256x1024 .f32) (r : Fin 256) (k : Fin 1024) : k0_pay8 v (ix2 r k) = v (ix2 r k) := by
  pointwise [k0_pay8]

theorem pay35_at (v : Vec Ideal S3x1024 .f32) (t : Fin 3) (k : Fin 1024) : k0_pay35 v (ix3 0 t k) = v (ix2 t k) := by
  pointwise [k0_pay35]

theorem pay9_at (v : Vec Ideal S256x2048 .f32) (r : Fin 256) (k : Fin 2048) : k0_pay9 v (ix2 r k) = v (ix2 r k) := by
  pointwise [k0_pay9]

theorem pay36_at (v : Vec Ideal S3x2048 .f32) (t : Fin 3) (k : Fin 2048) : k0_pay36 v (ix3 0 t k) = v (ix2 t k) := by
  pointwise [k0_pay36]

/-- Window 12 after a tile that is not a sequence's first: the last three rows of its block. -/
theorem out12 (c : Dev nD) (i : grid0.Coords) (arg3 : Memref sig .tc .vmem S256x1024 .f32) (harg3 : arg3.IsWhole) (arg4 : Memref sig .tc .vmem S256x1024 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x128 .f32) (harg7 : arg7.IsWhole) (arg8 : Memref sig .tc .vmem S1x1x64x128 .f32) (harg8 : arg8.IsWhole) (arg9 : Memref sig .tc .vmem S1x4x1024 .f32) (harg9 : arg9.IsWhole) (arg10 : Memref sig .tc .vmem S1x4x1024 .f32) (harg10 : arg10.IsWhole) (arg11 : Memref sig .tc .vmem S1x4x2048 .f32) (harg11 : arg11.IsWhole) (arg12 : Memref sig .tc .vmem S1x1x128 .f32) (harg12 : arg12.IsWhole) (arg13 : Memref sig .tc .vmem S256x2048 .bf16) (harg13 : arg13.IsWhole) (arg14 : Memref sig .tc .vmem S1x16x128x128 .f32) (harg14 : arg14.IsWhole) (arg15 : Memref sig .tc .vmem S1x3x1024 .f32) (harg15 : arg15.IsWhole) (arg16 : Memref sig .tc .vmem S1x3x1024 .f32) (harg16 : arg16.IsWhole) (arg17 : Memref sig .tc .vmem S1x3x2048 .f32) (harg17 : arg17.IsWhole) (arg18 : Memref sig .tc .vmem S264x1024 .f32) (harg18 : arg18.IsWhole) (arg19 : Memref sig .tc .vmem S264x1024 .f32) (harg19 : arg19.IsWhole) (arg20 : Memref sig .tc .vmem S264x2048 .f32) (harg20 : arg20.IsWhole) (arg21 : Memref sig .tc .vmem S256x1024 .bf16) (harg21 : arg21.IsWhole) (arg22 : Memref sig .tc .vmem S256x1024 .bf16) (harg22 : arg22.IsWhole) (arg23 : Memref sig .tc .vmem S256x2048 .f32) (harg23 : arg23.IsWhole) (arg24 : Memref sig .tc .vmem S256x128 .f32) (harg24 : arg24.IsWhole) (arg25 : Memref sig .tc .vmem S4x4x64x256 .bf16) (harg25 : arg25.IsWhole) (arg26 : Memref sig .tc .vmem S4x4x64x256 .bf16) (harg26 : arg26.IsWhole) (hc0 : ¬cond0_0 i)
    (x0 : Vec Ideal S256x1024 .f32) (x1 : Vec Ideal S256x1024 .f32) (x2 : Vec Ideal S256x2048 .f32) (x3 : Vec Ideal S256x2048 .f32) (x4 : Vec Ideal S256x128 .f32) (x5 : Vec Ideal S1x1x64x128 .f32) (x6 : Vec Ideal S1x4x1024 .f32) (x7 : Vec Ideal S1x4x1024 .f32) (x8 : Vec Ideal S1x4x2048 .f32) (x9 : Vec Ideal S1x1x128 .f32) (xo11 : Vec Ideal S1x16x128x128 .f32) (xs0 : Vec Ideal S264x1024 .f32) (xs1 : Vec Ideal S264x1024 .f32) (xs2 : Vec Ideal S264x2048 .f32)
    (t : Fin 3) (k : Fin 1024) :
    out0_B_12 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 xo11 xs0 xs1 xs2 (ix3 0 t k) = x0 (ix2 ⟨253 + t.val, by omega⟩ k) := by
  unfold out0_B_12
  rw [View.read_writes_eq_canon _ _ _ (cover0_B_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 xo11 xs0 xs1 xs2)]
  unfold kernelRun0_B
  dsimp only
  sl_unfold_words
  rw [View.canon_unit_zero z3]
  simp only [View.readAt_eq_ld, harg3.read_unread, View.readCov_eq_canon']
  rw [View.ld_unit_zero (S := S256x1024) z2]
  generalize hL : View.canon (Val := Elt Ideal) (s := S264x1024) (e := .f32) _ = e
  change k0_pay34 (F := Ideal) (fun j => e ((Rect.unit (s := S264x1024) ![261, 0] S3x1024.size inb_S264x1024_S3x1024_261_0).toLoadRect.idx j)) (ix3 0 t k) = _
  rw [pay34_at]
  refine (congrFun hL.symm _).trans ?_
  refine (row1024 [] (k0_pay7 x0) _ _ ⟨253 + t.val, by omega⟩ k ?_ ?_).trans (pay7_at _ _ _)
  · show 261 + 1 * t.val = 8 + (253 + t.val); omega
  · show 0 + 1 * k.val = k.val; omega

/-- Window 13 after a tile that is not a sequence's first: the last three rows of its block. -/
theorem out13 (c : Dev nD) (i : grid0.Coords) (arg3 : Memref sig .tc .vmem S256x1024 .f32) (harg3 : arg3.IsWhole) (arg4 : Memref sig .tc .vmem S256x1024 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x128 .f32) (harg7 : arg7.IsWhole) (arg8 : Memref sig .tc .vmem S1x1x64x128 .f32) (harg8 : arg8.IsWhole) (arg9 : Memref sig .tc .vmem S1x4x1024 .f32) (harg9 : arg9.IsWhole) (arg10 : Memref sig .tc .vmem S1x4x1024 .f32) (harg10 : arg10.IsWhole) (arg11 : Memref sig .tc .vmem S1x4x2048 .f32) (harg11 : arg11.IsWhole) (arg12 : Memref sig .tc .vmem S1x1x128 .f32) (harg12 : arg12.IsWhole) (arg13 : Memref sig .tc .vmem S256x2048 .bf16) (harg13 : arg13.IsWhole) (arg14 : Memref sig .tc .vmem S1x16x128x128 .f32) (harg14 : arg14.IsWhole) (arg15 : Memref sig .tc .vmem S1x3x1024 .f32) (harg15 : arg15.IsWhole) (arg16 : Memref sig .tc .vmem S1x3x1024 .f32) (harg16 : arg16.IsWhole) (arg17 : Memref sig .tc .vmem S1x3x2048 .f32) (harg17 : arg17.IsWhole) (arg18 : Memref sig .tc .vmem S264x1024 .f32) (harg18 : arg18.IsWhole) (arg19 : Memref sig .tc .vmem S264x1024 .f32) (harg19 : arg19.IsWhole) (arg20 : Memref sig .tc .vmem S264x2048 .f32) (harg20 : arg20.IsWhole) (arg21 : Memref sig .tc .vmem S256x1024 .bf16) (harg21 : arg21.IsWhole) (arg22 : Memref sig .tc .vmem S256x1024 .bf16) (harg22 : arg22.IsWhole) (arg23 : Memref sig .tc .vmem S256x2048 .f32) (harg23 : arg23.IsWhole) (arg24 : Memref sig .tc .vmem S256x128 .f32) (harg24 : arg24.IsWhole) (arg25 : Memref sig .tc .vmem S4x4x64x256 .bf16) (harg25 : arg25.IsWhole) (arg26 : Memref sig .tc .vmem S4x4x64x256 .bf16) (harg26 : arg26.IsWhole) (hc0 : ¬cond0_0 i)
    (x0 : Vec Ideal S256x1024 .f32) (x1 : Vec Ideal S256x1024 .f32) (x2 : Vec Ideal S256x2048 .f32) (x3 : Vec Ideal S256x2048 .f32) (x4 : Vec Ideal S256x128 .f32) (x5 : Vec Ideal S1x1x64x128 .f32) (x6 : Vec Ideal S1x4x1024 .f32) (x7 : Vec Ideal S1x4x1024 .f32) (x8 : Vec Ideal S1x4x2048 .f32) (x9 : Vec Ideal S1x1x128 .f32) (xo11 : Vec Ideal S1x16x128x128 .f32) (xs0 : Vec Ideal S264x1024 .f32) (xs1 : Vec Ideal S264x1024 .f32) (xs2 : Vec Ideal S264x2048 .f32)
    (t : Fin 3) (k : Fin 1024) :
    out0_B_13 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 xo11 xs0 xs1 xs2 (ix3 0 t k) = x1 (ix2 ⟨253 + t.val, by omega⟩ k) := by
  unfold out0_B_13
  rw [View.read_writes_eq_canon _ _ _ (cover0_B_13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 xo11 xs0 xs1 xs2)]
  unfold kernelRun0_B
  dsimp only
  sl_unfold_words
  rw [View.canon_unit_zero z3]
  simp only [View.readAt_eq_ld, harg4.read_unread, View.readCov_eq_canon']
  rw [View.ld_unit_zero (S := S256x1024) z2]
  generalize hL : View.canon (Val := Elt Ideal) (s := S264x1024) (e := .f32) _ = e
  change k0_pay35 (F := Ideal) (fun j => e ((Rect.unit (s := S264x1024) ![261, 0] S3x1024.size inb_S264x1024_S3x1024_261_0).toLoadRect.idx j)) (ix3 0 t k) = _
  rw [pay35_at]
  refine (congrFun hL.symm _).trans ?_
  refine (row1024 [] (k0_pay8 x1) _ _ ⟨253 + t.val, by omega⟩ k ?_ ?_).trans (pay8_at _ _ _)
  · show 261 + 1 * t.val = 8 + (253 + t.val); omega
  · show 0 + 1 * k.val = k.val; omega

/-- Window 14 after a tile that is not a sequence's first: the last three rows of its block. -/
theorem out14 (c : Dev nD) (i : grid0.Coords) (arg3 : Memref sig .tc .vmem S256x1024 .f32) (harg3 : arg3.IsWhole) (arg4 : Memref sig .tc .vmem S256x1024 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x128 .f32) (harg7 : arg7.IsWhole) (arg8 : Memref sig .tc .vmem S1x1x64x128 .f32) (harg8 : arg8.IsWhole) (arg9 : Memref sig .tc .vmem S1x4x1024 .f32) (harg9 : arg9.IsWhole) (arg10 : Memref sig .tc .vmem S1x4x1024 .f32) (harg10 : arg10.IsWhole) (arg11 : Memref sig .tc .vmem S1x4x2048 .f32) (harg11 : arg11.IsWhole) (arg12 : Memref sig .tc .vmem S1x1x128 .f32) (harg12 : arg12.IsWhole) (arg13 : Memref sig .tc .vmem S256x2048 .bf16) (harg13 : arg13.IsWhole) (arg14 : Memref sig .tc .vmem S1x16x128x128 .f32) (harg14 : arg14.IsWhole) (arg15 : Memref sig .tc .vmem S1x3x1024 .f32) (harg15 : arg15.IsWhole) (arg16 : Memref sig .tc .vmem S1x3x1024 .f32) (harg16 : arg16.IsWhole) (arg17 : Memref sig .tc .vmem S1x3x2048 .f32) (harg17 : arg17.IsWhole) (arg18 : Memref sig .tc .vmem S264x1024 .f32) (harg18 : arg18.IsWhole) (arg19 : Memref sig .tc .vmem S264x1024 .f32) (harg19 : arg19.IsWhole) (arg20 : Memref sig .tc .vmem S264x2048 .f32) (harg20 : arg20.IsWhole) (arg21 : Memref sig .tc .vmem S256x1024 .bf16) (harg21 : arg21.IsWhole) (arg22 : Memref sig .tc .vmem S256x1024 .bf16) (harg22 : arg22.IsWhole) (arg23 : Memref sig .tc .vmem S256x2048 .f32) (harg23 : arg23.IsWhole) (arg24 : Memref sig .tc .vmem S256x128 .f32) (harg24 : arg24.IsWhole) (arg25 : Memref sig .tc .vmem S4x4x64x256 .bf16) (harg25 : arg25.IsWhole) (arg26 : Memref sig .tc .vmem S4x4x64x256 .bf16) (harg26 : arg26.IsWhole) (hc0 : ¬cond0_0 i)
    (x0 : Vec Ideal S256x1024 .f32) (x1 : Vec Ideal S256x1024 .f32) (x2 : Vec Ideal S256x2048 .f32) (x3 : Vec Ideal S256x2048 .f32) (x4 : Vec Ideal S256x128 .f32) (x5 : Vec Ideal S1x1x64x128 .f32) (x6 : Vec Ideal S1x4x1024 .f32) (x7 : Vec Ideal S1x4x1024 .f32) (x8 : Vec Ideal S1x4x2048 .f32) (x9 : Vec Ideal S1x1x128 .f32) (xo11 : Vec Ideal S1x16x128x128 .f32) (xs0 : Vec Ideal S264x1024 .f32) (xs1 : Vec Ideal S264x1024 .f32) (xs2 : Vec Ideal S264x2048 .f32)
    (t : Fin 3) (k : Fin 2048) :
    out0_B_14 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 xo11 xs0 xs1 xs2 (ix3 0 t k) = x2 (ix2 ⟨253 + t.val, by omega⟩ k) := by
  unfold out0_B_14
  rw [View.read_writes_eq_canon _ _ _ (cover0_B_14 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 xo11 xs0 xs1 xs2)]
  unfold kernelRun0_B
  dsimp only
  sl_unfold_words
  rw [View.canon_unit_zero z3]
  simp only [View.readAt_eq_ld, harg5.read_unread, View.readCov_eq_canon']
  rw [View.ld_unit_zero (S := S256x2048) z2]
  generalize hL : View.canon (Val := Elt Ideal) (s := S264x2048) (e := .f32) _ = e
  change k0_pay36 (F := Ideal) (fun j => e ((Rect.unit (s := S264x2048) ![261, 0] S3x2048.size inb_S264x2048_S3x2048_261_0).toLoadRect.idx j)) (ix3 0 t k) = _
  rw [pay36_at]
  refine (congrFun hL.symm _).trans ?_
  refine (row2048 [] (k0_pay9 x2) _ _ ⟨253 + t.val, by omega⟩ k ?_ ?_).trans (pay9_at _ _ _)
  · show 261 + 1 * t.val = 8 + (253 + t.val); omega
  · show 0 + 1 * k.val = k.val; omega

end Cert.DeltaIdeal.Val

end
-- ==== Proof.DeltaVal.lean ====
/- The delta mixer of the prompt: the three parts of the convolution's cache make up what the reference computes. -/
module

public import proofs.«01_k».proof.Proof.DeltaOut
public import proofs.«01_k».proof.Proof.Gen.DeltaRefIdeal.Run
public import proofs.«01_k».proof.Defs
public import proofs.«01_k».proof.Proof.Gen.Delta.Frame
public import Idealize.ShloMosaic.Lib.Pointwise

@[expose] public section

set_option maxRecDepth 16384
set_option maxHeartbeats 1000000

noncomputable section

namespace Cert.DeltaIdeal.Val

open Cert.DeltaIdeal Cert.DeltaIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Entry `(p, c)` of the projection, by numbers. -/
def U (u : S9216x12288.Idx → EReal) (p c : ℕ) : EReal := if h : p < 9216 ∧ c < 12288 then u (ix2 ⟨p, h.1⟩ ⟨c, h.2⟩) else 0

theorem U_at (u : S9216x12288.Idx → EReal) (i : S9216x12288.Idx) (p c : ℕ) (hp : (i 0).val = p) (hc : (i 1).val = c) : u i = U u p c := by
  subst hp
  subst hc
  have h0 : (i 0 : ℕ) < 9216 := (i 0).isLt
  have h1 : (i 1 : ℕ) < 12288 := (i 1).isLt
  unfold U
  rw [dif_pos ⟨h0, h1⟩]
  exact congrArg u (funext fun a => by match a with | ⟨0, _⟩ => rfl | ⟨1, _⟩ => rfl)

/-- The last three rows of every sequence, in the columns that begin at `o`. -/
def G (o W : ℕ) (u : S9216x12288.Idx → EReal) : Shape.Idx ⟨3, ![4, 3, W]⟩ → EReal := fun i =>
  U u ((i 0).val * 2048 + 2045 + (i 1).val) (o + (i 2).val)

theorem idx (t : Fin cfg0.N) : (win0_0.index t 0 = t.val / 16 * 8 + t.val % 8 ∧ win0_0.index t 1 = t.val / 8 % 2)
    ∧ (win0_1.index t 0 = t.val / 16 * 8 + t.val % 8 ∧ win0_1.index t 1 = 2 + t.val / 8 % 2)
    ∧ (win0_2.index t 0 = t.val / 16 * 8 + t.val % 8 ∧ win0_2.index t 1 = 2 + t.val / 8 % 2)
    ∧ (win0_12.index t 0 = t.val / 16 ∧ win0_12.index t 1 = 0 ∧ win0_12.index t 2 = t.val / 8 % 2)
    ∧ (win0_13.index t 0 = t.val / 16 ∧ win0_13.index t 1 = 0 ∧ win0_13.index t 2 = t.val / 8 % 2)
    ∧ (win0_14.index t 0 = t.val / 16 ∧ win0_14.index t 1 = 0 ∧ win0_14.index t 2 = t.val / 8 % 2) := by
  revert t; decide +kernel

theorem flushed12_eq (c : Dev nD) (t : Fin cfg0.N) (hf : t.val % 8 = 7) :
    (dats m 0 c).flushed 12 t = ((cfg0.win 12).blk t).view.read (Elt Ideal) (G 0 2048 (m ((c : Thread nD τ).loc main_arg0))) := by
  have hN : t.val < 64 := lt_of_lt_of_eq t.isLt N_0
  obtain ⟨⟨a0, a1⟩, -, -, ⟨o0, o1, o2⟩, -, -⟩ := idx t
  funext y
  have hy0 : (y 0).val < 1 := (y 0).isLt
  have hy1 : (y 1).val < 3 := (y 1).isLt
  have hy2 : (y 2).val < 1024 := (y 2).isLt
  have hy : (y : S1x3x1024.Idx) = ix3 0 (y 1) (y 2) := by
    funext a
    match a with
    | ⟨0, _⟩ => exact Fin.ext (by show (y 0).val = 0; omega)
    | ⟨1, _⟩ => rfl
    | ⟨2, _⟩ => rfl
  have cut (v : Vec Ideal S1x3x1024 .f32) : (cfg0.win 12).cut (grid0.coords t) v y = v (ix3 0 (y 1) (y 2)) := congrArg v hy
  have e0 : (((cfg0.win 12).blk t).view.emb y 0).val = t.val / 16 := by
    show win0_12.index t 0 * 1 + 1 * (y 0).val = _; rw [o0]; omega
  have e1 : (((cfg0.win 12).blk t).view.emb y 1).val = (y 1).val := by
    show win0_12.index t 1 * 3 + 1 * (y 1).val = _; rw [o1]; omega
  have e2 : (((cfg0.win 12).blk t).view.emb y 2).val = t.val / 8 % 2 * 1024 + (y 2).val := by
    show win0_12.index t 2 * 1024 + 1 * (y 2).val = _; rw [o2]; omega
  rw [View.read_apply, cast_eq, Value.flushed12_B m c t (by omega)]
  refine (cut _).trans ((out12 ..).trans ?_)
  unfold iblk G
  rw [View.read_apply, cast_eq, e0, e1, e2]
  refine (congrFun (V_main_arg0 m c) _).trans (U_at _ _ _ _ ?_ ?_)
  · show win0_0.index t 0 * 256 + 1 * (253 + (y 1).val) = _; rw [a0]; omega
  · show win0_0.index t 1 * 1024 + 1 * (y 2).val = _; rw [a1]; omega

/-- Every entry lies in the block of some sequence's last tile. -/
theorem cover12 (i : S4x3x2048.Idx) : ∃ t : Fin cfg0.N, (cfg0.win 12).flush t = true ∧ i ∈ ((cfg0.win 12).blk t).view.set := by
  have hN : cfg0.N = 64 := N_0
  have h0 : (i 0 : Nat) < 4 := (i 0).isLt
  have h1 : (i 1 : Nat) < 3 := (i 1).isLt
  have h2 : (i 2 : Nat) < 2048 := (i 2).isLt
  obtain ⟨t, ht⟩ : ∃ t : Fin cfg0.N, t.val = (i 0 : Nat) * 16 + (i 2 : Nat) / 1024 * 8 + 7 := ⟨⟨_, by omega⟩, rfl⟩
  obtain ⟨-, -, -, ⟨o0, o1, o2⟩, -, -⟩ := idx t
  refine ⟨t, (flush0_12 t).mpr (by omega), ?_⟩
  show i ∈ ((View.whole main_v6_2).slice (win0_12.rect t)).set
  rw [View.set_slice_whole, Rect.mem_set_unit]
  intro a
  match a with
  | ⟨0, _⟩ => show win0_12.index t 0 * 1 ≤ (i 0 : Nat) ∧ (i 0 : Nat) < win0_12.index t 0 * 1 + 1
              rw [o0]; omega
  | ⟨1, _⟩ => show win0_12.index t 1 * 3 ≤ (i 1 : Nat) ∧ (i 1 : Nat) < win0_12.index t 1 * 3 + 3
              rw [o1]; omega
  | ⟨2, _⟩ => show win0_12.index t 2 * 1024 ≤ (i 2 : Nat) ∧ (i 2 : Nat) < win0_12.index t 2 * 1024 + 1024
              rw [o2]; omega

theorem flushed13_eq (c : Dev nD) (t : Fin cfg0.N) (hf : t.val % 8 = 7) :
    (dats m 0 c).flushed 13 t = ((cfg0.win 13).blk t).view.read (Elt Ideal) (G 2048 2048 (m ((c : Thread nD τ).loc main_arg0))) := by
  have hN : t.val < 64 := lt_of_lt_of_eq t.isLt N_0
  obtain ⟨-, ⟨a0, a1⟩, -, -, ⟨o0, o1, o2⟩, -⟩ := idx t
  funext y
  have hy0 : (y 0).val < 1 := (y 0).isLt
  have hy1 : (y 1).val < 3 := (y 1).isLt
  have hy2 : (y 2).val < 1024 := (y 2).isLt
  have hy : (y : S1x3x1024.Idx) = ix3 0 (y 1) (y 2) := by
    funext a
    match a with
    | ⟨0, _⟩ => exact Fin.ext (by show (y 0).val = 0; omega)
    | ⟨1, _⟩ => rfl
    | ⟨2, _⟩ => rfl
  have cut (v : Vec Ideal S1x3x1024 .f32) : (cfg0.win 13).cut (grid0.coords t) v y = v (ix3 0 (y 1) (y 2)) := congrArg v hy
  have e0 : (((cfg0.win 13).blk t).view.emb y 0).val = t.val / 16 := by
    show win0_13.index t 0 * 1 + 1 * (y 0).val = _; rw [o0]; omega
  have e1 : (((cfg0.win 13).blk t).view.emb y 1).val = (y 1).val := by
    show win0_13.index t 1 * 3 + 1 * (y 1).val = _; rw [o1]; omega
  have e2 : (((cfg0.win 13).blk t).view.emb y 2).val = t.val / 8 % 2 * 1024 + (y 2).val := by
    show win0_13.index t 2 * 1024 + 1 * (y 2).val = _; rw [o2]; omega
  rw [View.read_apply, cast_eq, Value.flushed13_B m c t (by omega)]
  refine (cut _).trans ((out13 ..).trans ?_)
  unfold iblk G
  rw [View.read_apply, cast_eq, e0, e1, e2]
  refine (congrFun (V_main_arg0 m c) _).trans (U_at _ _ _ _ ?_ ?_)
  · show win0_1.index t 0 * 256 + 1 * (253 + (y 1).val) = _; rw [a0]; omega
  · show win0_1.index t 1 * 1024 + 1 * (y 2).val = _; rw [a1]; omega

/-- Every entry lies in the block of some sequence's last tile. -/
theorem cover13 (i : S4x3x2048.Idx) : ∃ t : Fin cfg0.N, (cfg0.win 13).flush t = true ∧ i ∈ ((cfg0.win 13).blk t).view.set := by
  have hN : cfg0.N = 64 := N_0
  have h0 : (i 0 : Nat) < 4 := (i 0).isLt
  have h1 : (i 1 : Nat) < 3 := (i 1).isLt
  have h2 : (i 2 : Nat) < 2048 := (i 2).isLt
  obtain ⟨t, ht⟩ : ∃ t : Fin cfg0.N, t.val = (i 0 : Nat) * 16 + (i 2 : Nat) / 1024 * 8 + 7 := ⟨⟨_, by omega⟩, rfl⟩
  obtain ⟨-, -, -, -, ⟨o0, o1, o2⟩, -⟩ := idx t
  refine ⟨t, (flush0_13 t).mpr (by omega), ?_⟩
  show i ∈ ((View.whole main_v6_3).slice (win0_13.rect t)).set
  rw [View.set_slice_whole, Rect.mem_set_unit]
  intro a
  match a with
  | ⟨0, _⟩ => show win0_13.index t 0 * 1 ≤ (i 0 : Nat) ∧ (i 0 : Nat) < win0_13.index t 0 * 1 + 1
              rw [o0]; omega
  | ⟨1, _⟩ => show win0_13.index t 1 * 3 ≤ (i 1 : Nat) ∧ (i 1 : Nat) < win0_13.index t 1 * 3 + 3
              rw [o1]; omega
  | ⟨2, _⟩ => show win0_13.index t 2 * 1024 ≤ (i 2 : Nat) ∧ (i 2 : Nat) < win0_13.index t 2 * 1024 + 1024
              rw [o2]; omega

theorem flushed14_eq (c : Dev nD) (t : Fin cfg0.N) (hf : t.val % 8 = 7) :
    (dats m 0 c).flushed 14 t = ((cfg0.win 14).blk t).view.read (Elt Ideal) (G 4096 4096 (m ((c : Thread nD τ).loc main_arg0))) := by
  have hN : t.val < 64 := lt_of_lt_of_eq t.isLt N_0
  obtain ⟨-, -, ⟨a0, a1⟩, -, -, ⟨o0, o1, o2⟩⟩ := idx t
  funext y
  have hy0 : (y 0).val < 1 := (y 0).isLt
  have hy1 : (y 1).val < 3 := (y 1).isLt
  have hy2 : (y 2).val < 2048 := (y 2).isLt
  have hy : (y : S1x3x2048.Idx) = ix3 0 (y 1) (y 2) := by
    funext a
    match a with
    | ⟨0, _⟩ => exact Fin.ext (by show (y 0).val = 0; omega)
    | ⟨1, _⟩ => rfl
    | ⟨2, _⟩ => rfl
  have cut (v : Vec Ideal S1x3x2048 .f32) : (cfg0.win 14).cut (grid0.coords t) v y = v (ix3 0 (y 1) (y 2)) := congrArg v hy
  have e0 : (((cfg0.win 14).blk t).view.emb y 0).val = t.val / 16 := by
    show win0_14.index t 0 * 1 + 1 * (y 0).val = _; rw [o0]; omega
  have e1 : (((cfg0.win 14).blk t).view.emb y 1).val = (y 1).val := by
    show win0_14.index t 1 * 3 + 1 * (y 1).val = _; rw [o1]; omega
  have e2 : (((cfg0.win 14).blk t).view.emb y 2).val = t.val / 8 % 2 * 2048 + (y 2).val := by
    show win0_14.index t 2 * 2048 + 1 * (y 2).val = _; rw [o2]; omega
  rw [View.read_apply, cast_eq, Value.flushed14_B m c t (by omega)]
  refine (cut _).trans ((out14 ..).trans ?_)
  unfold iblk G
  rw [View.read_apply, cast_eq, e0, e1, e2]
  refine (congrFun (V_main_arg0 m c) _).trans (U_at _ _ _ _ ?_ ?_)
  · show win0_2.index t 0 * 256 + 1 * (253 + (y 1).val) = _; rw [a0]; omega
  · show win0_2.index t 1 * 2048 + 1 * (y 2).val = _; rw [a1]; omega

/-- Every entry lies in the block of some sequence's last tile. -/
theorem cover14 (i : S4x3x4096.Idx) : ∃ t : Fin cfg0.N, (cfg0.win 14).flush t = true ∧ i ∈ ((cfg0.win 14).blk t).view.set := by
  have hN : cfg0.N = 64 := N_0
  have h0 : (i 0 : Nat) < 4 := (i 0).isLt
  have h1 : (i 1 : Nat) < 3 := (i 1).isLt
  have h2 : (i 2 : Nat) < 4096 := (i 2).isLt
  obtain ⟨t, ht⟩ : ∃ t : Fin cfg0.N, t.val = (i 0 : Nat) * 16 + (i 2 : Nat) / 2048 * 8 + 7 := ⟨⟨_, by omega⟩, rfl⟩
  obtain ⟨-, -, -, -, -, ⟨o0, o1, o2⟩⟩ := idx t
  refine ⟨t, (flush0_14 t).mpr (by omega), ?_⟩
  show i ∈ ((View.whole main_v6_4).slice (win0_14.rect t)).set
  rw [View.set_slice_whole, Rect.mem_set_unit]
  intro a
  match a with
  | ⟨0, _⟩ => show win0_14.index t 0 * 1 ≤ (i 0 : Nat) ∧ (i 0 : Nat) < win0_14.index t 0 * 1 + 1
              rw [o0]; omega
  | ⟨1, _⟩ => show win0_14.index t 1 * 3 ≤ (i 1 : Nat) ∧ (i 1 : Nat) < win0_14.index t 1 * 3 + 3
              rw [o1]; omega
  | ⟨2, _⟩ => show win0_14.index t 2 * 2048 ≤ (i 2 : Nat) ∧ (i 2 : Nat) < win0_14.index t 2 * 2048 + 2048
              rw [o2]; omega

/-- The run of the kernel, read: the three parts of the cache, its arguments unchanged. -/
theorem run : θ_run defs (onTc (τ := τ) (main (F := Ideal))) ⟨m, fun _ => 0, ρ⟩ fun r => ∀ c : Dev nD,
      r.2.mem ((c : Thread nD τ).loc main_v6_2) = G 0 2048 (m ((c : Thread nD τ).loc main_arg0))
      ∧ r.2.mem ((c : Thread nD τ).loc main_v6_3) = G 2048 2048 (m ((c : Thread nD τ).loc main_arg0))
      ∧ r.2.mem ((c : Thread nD τ).loc main_v6_4) = G 4096 4096 (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).2.2.1.trans ((dats m 0 c).arrAt_eq_of_cover 12 _ (fun t hf => flushed12_eq m c t ((flush0_12 t).mp hf)) cover12),
      (h c).2.2.2.1.trans ((dats m 0 c).arrAt_eq_of_cover 13 _ (fun t hf => flushed13_eq m c t ((flush0_13 t).mp hf)) cover13),
      (h c).2.2.2.2.1.trans ((dats m 0 c).arrAt_eq_of_cover 14 _ (fun t hf => flushed14_eq m c t ((flush0_14 t).mp hf)) cover14), (h c).2.2.2.2.2⟩)
    (Value.run_blocks m ρ)

/-- The three programs run and leave their arguments as they were; the third is the reference. -/
theorem frame : Cert.quiescent_Delta := fun m ρ _ => Cert.Delta.Gen.frame m ρ
theorem frameI : Cert.quiescent_DeltaIdeal := fun m ρ _ => Cert.DeltaIdeal.Gen.frame m ρ
theorem frameR : Cert.quiescent_DeltaRefIdeal := fun m ρ _ =>
  (θ_run Cert.DeltaRefIdeal.defs _ _).mono
    (fun r h => ⟨fun c => (h c).2.2.2, Idealize.ShloMosaic.sem_eq_zero_of_no_sems (by decide) r.2⟩)
    (Cert.DeltaRefIdeal.Value.run (F := Ideal) m ρ)

/-- The reference's last rows. -/
def lasts (u : S9216x12288.Idx → EReal) : Cert.DeltaRefIdeal.S4x3x8192.Idx → EReal :=
  extractStridedSlice Cert.DeltaRefIdeal.S4x3x8192 ![0, 2048, 0] (concatenate Cert.DeltaRefIdeal.S4x2051x8192 1 [⟨Cert.DeltaRefIdeal.S4x3x8192, (broadcastInDim Cert.DeltaRefIdeal.S4x3x8192 ![] Cert.DeltaRefIdeal.Gen.bcast_S_S4x3x8192 (constant (F := Ideal) Cert.DeltaRefIdeal.S_ .f32 0x00000000#32))⟩, ⟨Cert.DeltaRefIdeal.S4x2048x8192, (shapeCast _ (extractStridedSlice Cert.DeltaRefIdeal.S8192x8192 ![0, 0] u Cert.DeltaRefIdeal.Gen.slices_S9216x12288_S8192x8192_0_0) Cert.DeltaRefIdeal.Gen.shapeCasts_S8192x8192_S4x2048x8192)⟩] Cert.DeltaRefIdeal.Gen.concatenates_S4x3x8192_S4x2048x8192_S4x2051x8192_d1) Cert.DeltaRefIdeal.Gen.slices_S4x2051x8192_S4x3x8192_0_2048_0

theorem rows (u : S9216x12288.Idx → EReal) (b : Fin 4) (s : Fin 2048) (c : Fin 8192) :
    (shapeCast Cert.DeltaRefIdeal.S4x2048x8192 (extractStridedSlice Cert.DeltaRefIdeal.S8192x8192 ![0, 0] u Cert.DeltaRefIdeal.Gen.slices_S9216x12288_S8192x8192_0_0) Cert.DeltaRefIdeal.Gen.shapeCasts_S8192x8192_S4x2048x8192 : _ → EReal) (ix3 b s c)
      = U u (b.val * 2048 + s.val) c.val := by
  have hb := b.isLt
  have hs := s.isLt
  refine Eq.trans ?_ (U_at u (ix2 ⟨b.val * 2048 + s.val, by omega⟩ ⟨c.val, by omega⟩) _ _ rfl rfl)
  pointwise

theorem lasts_at (u : S9216x12288.Idx → EReal) (b : Fin 4) (t : Fin 3) (c : Fin 8192) :
    lasts u (ix3 b t c) = U u (b.val * 2048 + 2045 + t.val) c.val := by
  have ht := t.isLt
  unfold lasts
  refine Eq.trans ?_ ((rows u b ⟨2045 + t.val, by omega⟩ c).trans (congrArg (U u · _) (by dsimp only; omega)))
  generalize (shapeCast Cert.DeltaRefIdeal.S4x2048x8192 (extractStridedSlice Cert.DeltaRefIdeal.S8192x8192 ![0, 0] u Cert.DeltaRefIdeal.Gen.slices_S9216x12288_S8192x8192_0_0) Cert.DeltaRefIdeal.Gen.shapeCasts_S8192x8192_S4x2048x8192 : _ → EReal) = v
  pointwise
  rw [dif_neg (by omega)]
  congr 2
  exact Fin.ext (show 2048 + t.val - 3 = 2045 + t.val by omega)

theorem part12 (u : S9216x12288.Idx → EReal) :
    (extractStridedSlice Cert.DeltaRefIdeal.S4x3x2048 ![0, 0, 0] (lasts u) Cert.DeltaRefIdeal.Gen.slices_S4x3x8192_S4x3x2048_0_0_0 : S4x3x2048.Idx → EReal) = G 0 2048 u := by
  funext i
  have h2 : (i 2 : ℕ) < 2048 := (i 2).isLt
  have hi : i = ix3 (i 0) (i 1) (i 2) := by funext a; fin_cases a <;> rfl
  refine (congrArg _ hi).trans (Eq.trans ?_ (lasts_at u (i 0) (i 1) ⟨0 + (i 2).val, by omega⟩))
  generalize lasts u = v
  pointwise

theorem part13 (u : S9216x12288.Idx → EReal) :
    (extractStridedSlice Cert.DeltaRefIdeal.S4x3x2048 ![0, 0, 2048] (lasts u) Cert.DeltaRefIdeal.Gen.slices_S4x3x8192_S4x3x2048_0_0_2048 : S4x3x2048.Idx → EReal) = G 2048 2048 u := by
  funext i
  have h2 : (i 2 : ℕ) < 2048 := (i 2).isLt
  have hi : i = ix3 (i 0) (i 1) (i 2) := by funext a; fin_cases a <;> rfl
  refine (congrArg _ hi).trans (Eq.trans ?_ (lasts_at u (i 0) (i 1) ⟨2048 + (i 2).val, by omega⟩))
  generalize lasts u = v
  pointwise

theorem part14 (u : S9216x12288.Idx → EReal) :
    (extractStridedSlice Cert.DeltaRefIdeal.S4x3x4096 ![0, 0, 4096] (lasts u) Cert.DeltaRefIdeal.Gen.slices_S4x3x8192_S4x3x4096_0_0_4096 : S4x3x4096.Idx → EReal) = G 4096 4096 u := by
  funext i
  have h2 : (i 2 : ℕ) < 4096 := (i 2).isLt
  have hi : i = ix3 (i 0) (i 1) (i 2) := by funext a; fin_cases a <;> rfl
  refine (congrArg _ hi).trans (Eq.trans ?_ (lasts_at u (i 0) (i 1) ⟨4096 + (i 2).val, by omega⟩))
  generalize lasts u = v
  pointwise

/-- Over the extended reals the kernel's results are the reference's. -/
theorem algebraic : Cert.algebraic_DeltaIdeal_DeltaRefIdeal := by
  intro m ρ m' ρ' _ hagree
  refine ⟨fun c => G 0 2048 (m ((c : Thread nD τ).loc main_arg0)), fun c => G 2048 2048 (m ((c : Thread nD τ).loc main_arg0)), fun c => G 4096 4096 (m ((c : Thread nD τ).loc main_arg0)), run m ρ, ?_⟩
  refine (θ_run Cert.DeltaRefIdeal.defs _ _).mono (fun r h c => ?_) (Cert.DeltaRefIdeal.Value.run (F := Ideal) m' ρ')
  obtain ⟨a0, -, -, -⟩ := hagree c
  refine ⟨(h c).1.trans ?_, (h c).2.1.trans ?_, (h c).2.2.1.trans ?_, (h c).2.2.2⟩
  · rw [a0]; exact part12 _
  · rw [a0]; exact part13 _
  · rw [a0]; exact part14 _

end Cert.DeltaIdeal.Val

end
-- ==== Proof.DeltaSOut.lean ====
/- What a tile's stores leave in the sample's three cache results, at an index: the last three rows of every sequence. -/
module

public import proofs.«01_k».proof.Proof.Gen.DeltaSIdeal.Value
public import Idealize.ShloMosaic.Lib.Pointwise
public import Idealize.ShloMosaic.Lib.Pipeline.ReadBack

@[expose] public section

set_option maxRecDepth 16384
set_option maxHeartbeats 1000000

noncomputable section

namespace Cert.DeltaSIdeal.Val

open Cert.DeltaSIdeal Cert.DeltaSIdeal.Gen Idealize.ShloMosaic Idealize.ShloMosaic.TcCoe Idealize.SL.Sem

theorem z2 : (![0, 0] : Fin 2 → Nat) = fun _ => 0 := funext fun a => by fin_cases a <;> rfl

/-- The last three rows of every sequence of a tile, by place in the tile's cache. -/
def cacheOf1024 (x : Vec Ideal S64x1024 .f32) : Vec Ideal S3x8x1024 .f32 := fun y =>
  x (ix2 ⟨(y 1).val * 8 + 5 + (y 0).val, by have h0 : (y 0).val < 3 := (y 0).isLt; have h1 : (y 1).val < 8 := (y 1).isLt; omega⟩ (y 2))

/-- A tile's own rows in the scratch, over what was stored before them. -/
theorem own1024 (x : Vec Ideal S64x1024 .f32) (w : Vec Ideal S8x8x1024 .f32) (hw : ∀ (b r : Fin 8) (k : Fin 1024), w (ix3 b r k) = x (ix2 ⟨b.val * 8 + r.val, by omega⟩ k))
    (L : List (View.Piece (Elt Ideal) S8x16x1024 .f32))
    (inb0 : ∀ a, (![0, 8, 0] : Fin 3 → ℕ) a + S8x8x1024.size a ≤ S8x16x1024.size a) (b r : Fin 8) (k : Fin 1024) :
    View.canon (⟨Rect.unit (s := S8x16x1024) ![0, 8, 0] S8x8x1024.size inb0, w⟩ :: L) (ix3 b ⟨8 + r.val, by omega⟩ k) = x (ix2 ⟨b.val * 8 + r.val, by omega⟩ k) := by
  have he : (ix3 b ⟨8 + r.val, by omega⟩ k : S8x16x1024.Idx) = (Rect.unit (s := S8x16x1024) ![0, 8, 0] S8x8x1024.size inb0).emb (ix3 b r k) := by
    funext a
    match a with
    | ⟨0, _⟩ => exact Fin.ext (show b.val = 0 + 1 * b.val by omega)
    | ⟨1, _⟩ => exact Fin.ext (show 8 + r.val = 8 + 1 * r.val by omega)
    | ⟨2, _⟩ => exact Fin.ext (show k.val = 0 + 1 * k.val by omega)
  exact (congrArg (View.canon _) he).trans ((View.canon_cons_emb ..).trans (hw _ _ _))

/-- One stored row of the cache: a row of the scratch. -/
theorem kept1024 (x : Vec Ideal S64x1024 .f32) (e : Vec Ideal S8x16x1024 .f32)
    (he : ∀ (b r : Fin 8) (k : Fin 1024), e (ix3 b ⟨8 + r.val, by omega⟩ k) = x (ix2 ⟨b.val * 8 + r.val, by omega⟩ k))
    (P : Vec Ideal S8x1x1024 .f32 → FVec Ideal S1x8x1024 .f32) (hP : ∀ v (b : Fin 8) (k : Fin 1024), P v (ix3 0 b k) = v (ix3 b 0 k))
    (t : ℕ) (ht : t < 3) (q : ℕ) (hq : q = 13 + t)
    (inb : ∀ a, (![0, q, 0] : Fin 3 → ℕ) a + S8x1x1024.size a ≤ S8x16x1024.size a)
    (inb' : ∀ a, (![t, 0, 0] : Fin 3 → ℕ) a + S1x8x1024.size a ≤ S3x8x1024.size a) (y : S1x8x1024.Idx) :
    P (fun z => e ((Rect.unit (s := S8x16x1024) ![0, q, 0] S8x1x1024.size inb).toLoadRect.idx z)) y
      = cacheOf1024 x ((Rect.unit (s := S3x8x1024) ![t, 0, 0] S1x8x1024.size inb').emb y) := by
  subst hq
  have h0 : (y 0 : ℕ) < 1 := (y 0).isLt
  have h1 : (y 1 : ℕ) < 8 := (y 1).isLt
  have hy : y = ix3 0 (y 1) (y 2) := by
    funext a
    match a with
    | ⟨0, _⟩ => exact Fin.ext (by show (y 0 : ℕ) = 0; omega)
    | ⟨1, _⟩ => rfl
    | ⟨2, _⟩ => rfl
  refine (congrArg _ hy).trans ((hP _ _ _).trans ?_)
  have hz : (Rect.unit (s := S8x16x1024) ![0, 13 + t, 0] S8x1x1024.size inb).toLoadRect.idx (ix3 (y 1) 0 (y 2))
      = ix3 (y 1) ⟨8 + (5 + t), by omega⟩ (y 2) := by
    funext a
    match a with
    | ⟨0, _⟩ => exact Fin.ext (show 0 + 1 * (y 1).val = (y 1).val by omega)
    | ⟨1, _⟩ => exact Fin.ext (show 13 + t + 1 * 0 = 8 + (5 + t) by omega)
    | ⟨2, _⟩ => exact Fin.ext (show 0 + 1 * (y 2).val = (y 2).val by omega)
  refine (congrArg e hz).trans ((he (y 1) ⟨5 + t, by omega⟩ (y 2)).trans (congrArg x (funext fun a => Fin.ext ?_)))
  match a with
  | ⟨0, _⟩ => show (y 1).val * 8 + (5 + t) = (0 + 1 * (y 1).val) * 8 + 5 + (t + 1 * (y 0).val); omega
  | ⟨1, _⟩ => show (y 2).val = 0 + 1 * (y 2).val; omega

/-- The last three rows of every sequence of a tile, by place in the tile's cache. -/
def cacheOf2048 (x : Vec Ideal S64x2048 .f32) : Vec Ideal S3x8x2048 .f32 := fun y =>
  x (ix2 ⟨(y 1).val * 8 + 5 + (y 0).val, by have h0 : (y 0).val < 3 := (y 0).isLt; have h1 : (y 1).val < 8 := (y 1).isLt; omega⟩ (y 2))

/-- A tile's own rows in the scratch, over what was stored before them. -/
theorem own2048 (x : Vec Ideal S64x2048 .f32) (w : Vec Ideal S8x8x2048 .f32) (hw : ∀ (b r : Fin 8) (k : Fin 2048), w (ix3 b r k) = x (ix2 ⟨b.val * 8 + r.val, by omega⟩ k))
    (L : List (View.Piece (Elt Ideal) S8x16x2048 .f32))
    (inb0 : ∀ a, (![0, 8, 0] : Fin 3 → ℕ) a + S8x8x2048.size a ≤ S8x16x2048.size a) (b r : Fin 8) (k : Fin 2048) :
    View.canon (⟨Rect.unit (s := S8x16x2048) ![0, 8, 0] S8x8x2048.size inb0, w⟩ :: L) (ix3 b ⟨8 + r.val, by omega⟩ k) = x (ix2 ⟨b.val * 8 + r.val, by omega⟩ k) := by
  have he : (ix3 b ⟨8 + r.val, by omega⟩ k : S8x16x2048.Idx) = (Rect.unit (s := S8x16x2048) ![0, 8, 0] S8x8x2048.size inb0).emb (ix3 b r k) := by
    funext a
    match a with
    | ⟨0, _⟩ => exact Fin.ext (show b.val = 0 + 1 * b.val by omega)
    | ⟨1, _⟩ => exact Fin.ext (show 8 + r.val = 8 + 1 * r.val by omega)
    | ⟨2, _⟩ => exact Fin.ext (show k.val = 0 + 1 * k.val by omega)
  exact (congrArg (View.canon _) he).trans ((View.canon_cons_emb ..).trans (hw _ _ _))

/-- One stored row of the cache: a row of the scratch. -/
theorem kept2048 (x : Vec Ideal S64x2048 .f32) (e : Vec Ideal S8x16x2048 .f32)
    (he : ∀ (b r : Fin 8) (k : Fin 2048), e (ix3 b ⟨8 + r.val, by omega⟩ k) = x (ix2 ⟨b.val * 8 + r.val, by omega⟩ k))
    (P : Vec Ideal S8x1x2048 .f32 → FVec Ideal S1x8x2048 .f32) (hP : ∀ v (b : Fin 8) (k : Fin 2048), P v (ix3 0 b k) = v (ix3 b 0 k))
    (t : ℕ) (ht : t < 3) (q : ℕ) (hq : q = 13 + t)
    (inb : ∀ a, (![0, q, 0] : Fin 3 → ℕ) a + S8x1x2048.size a ≤ S8x16x2048.size a)
    (inb' : ∀ a, (![t, 0, 0] : Fin 3 → ℕ) a + S1x8x2048.size a ≤ S3x8x2048.size a) (y : S1x8x2048.Idx) :
    P (fun z => e ((Rect.unit (s := S8x16x2048) ![0, q, 0] S8x1x2048.size inb).toLoadRect.idx z)) y
      = cacheOf2048 x ((Rect.unit (s := S3x8x2048) ![t, 0, 0] S1x8x2048.size inb').emb y) := by
  subst hq
  have h0 : (y 0 : ℕ) < 1 := (y 0).isLt
  have h1 : (y 1 : ℕ) < 8 := (y 1).isLt
  have hy : y = ix3 0 (y 1) (y 2) := by
    funext a
    match a with
    | ⟨0, _⟩ => exact Fin.ext (by show (y 0 : ℕ) = 0; omega)
    | ⟨1, _⟩ => rfl
    | ⟨2, _⟩ => rfl
  refine (congrArg _ hy).trans ((hP _ _ _).trans ?_)
  have hz : (Rect.unit (s := S8x16x2048) ![0, 13 + t, 0] S8x1x2048.size inb).toLoadRect.idx (ix3 (y 1) 0 (y 2))
      = ix3 (y 1) ⟨8 + (5 + t), by omega⟩ (y 2) := by
    funext a
    match a with
    | ⟨0, _⟩ => exact Fin.ext (show 0 + 1 * (y 1).val = (y 1).val by omega)
    | ⟨1, _⟩ => exact Fin.ext (show 13 + t + 1 * 0 = 8 + (5 + t) by omega)
    | ⟨2, _⟩ => exact Fin.ext (show 0 + 1 * (y 2).val = (y 2).val by omega)
  refine (congrArg e hz).trans ((he (y 1) ⟨5 + t, by omega⟩ (y 2)).trans (congrArg x (funext fun a => Fin.ext ?_)))
  match a with
  | ⟨0, _⟩ => show (y 1).val * 8 + (5 + t) = (0 + 1 * (y 1).val) * 8 + 5 + (t + 1 * (y 0).val); omega
  | ⟨1, _⟩ => show (y 2).val = 0 + 1 * (y 2).val; omega

theorem pay5_at (v : Vec Ideal S64x1024 .f32) (b r : Fin 8) (k : Fin 1024) : k0_pay5 v (ix3 b r k) = v (ix2 ⟨b.val * 8 + r.val, by omega⟩ k) := by
  pointwise [k0_pay5]

theorem pay6_at (v : Vec Ideal S8x1x1024 .f32) (b : Fin 8) (k : Fin 1024) : k0_pay6 v (ix3 0 b k) = v (ix3 b 0 k) := by
  pointwise [k0_pay6]

theorem pay7_at (v : Vec Ideal S8x1x1024 .f32) (b : Fin 8) (k : Fin 1024) : k0_pay7 v (ix3 0 b k) = v (ix3 b 0 k) := by
  pointwise [k0_pay7]

theorem pay8_at (v : Vec Ideal S8x1x1024 .f32) (b : Fin 8) (k : Fin 1024) : k0_pay8 v (ix3 0 b k) = v (ix3 b 0 k) := by
  pointwise [k0_pay8]

theorem pay16_at (v : Vec Ideal S64x1024 .f32) (b r : Fin 8) (k : Fin 1024) : k0_pay16 v (ix3 b r k) = v (ix2 ⟨b.val * 8 + r.val, by omega⟩ k) := by
  pointwise [k0_pay16]

theorem pay17_at (v : Vec Ideal S8x1x1024 .f32) (b : Fin 8) (k : Fin 1024) : k0_pay17 v (ix3 0 b k) = v (ix3 b 0 k) := by
  pointwise [k0_pay17]

theorem pay18_at (v : Vec Ideal S8x1x1024 .f32) (b : Fin 8) (k : Fin 1024) : k0_pay18 v (ix3 0 b k) = v (ix3 b 0 k) := by
  pointwise [k0_pay18]

theorem pay19_at (v : Vec Ideal S8x1x1024 .f32) (b : Fin 8) (k : Fin 1024) : k0_pay19 v (ix3 0 b k) = v (ix3 b 0 k) := by
  pointwise [k0_pay19]

theorem pay25_at (v : Vec Ideal S64x2048 .f32) (b r : Fin 8) (k : Fin 2048) : k0_pay25 v (ix3 b r k) = v (ix2 ⟨b.val * 8 + r.val, by omega⟩ k) := by
  pointwise [k0_pay25]

theorem pay26_at (v : Vec Ideal S8x1x2048 .f32) (b : Fin 8) (k : Fin 2048) : k0_pay26 v (ix3 0 b k) = v (ix3 b 0 k) := by
  pointwise [k0_pay26]

theorem pay27_at (v : Vec Ideal S8x1x2048 .f32) (b : Fin 8) (k : Fin 2048) : k0_pay27 v (ix3 0 b k) = v (ix3 b 0 k) := by
  pointwise [k0_pay27]

theorem pay28_at (v : Vec Ideal S8x1x2048 .f32) (b : Fin 8) (k : Fin 2048) : k0_pay28 v (ix3 0 b k) = v (ix3 b 0 k) := by
  pointwise [k0_pay28]

/-- Window 16 after a tile. -/
theorem out16 (c : Dev nD) (i : grid0.Coords) (arg2 : Memref sig .tc .vmem S64x1024 .f32) (harg2 : arg2.IsWhole) (arg3 : Memref sig .tc .vmem S64x1024 .f32) (harg3 : arg3.IsWhole) (arg4 : Memref sig .tc .vmem S64x2048 .f32) (harg4 : arg4.IsWhole) (arg5 : Memref sig .tc .vmem S64x2048 .f32) (harg5 : arg5.IsWhole) (arg6 : Memref sig .tc .vmem S1x3x8x1024 .f32) (harg6 : arg6.IsWhole) (arg7 : Memref sig .tc .vmem S1x3x8x1024 .f32) (harg7 : arg7.IsWhole) (arg8 : Memref sig .tc .vmem S1x3x8x2048 .f32) (harg8 : arg8.IsWhole) (arg9 : Memref sig .tc .vmem S64x128 .f32) (harg9 : arg9.IsWhole) (arg10 : Memref sig .tc .vmem S1x16x128 .f32) (harg10 : arg10.IsWhole) (arg11 : Memref sig .tc .vmem S1x4x1024 .f32) (harg11 : arg11.IsWhole) (arg12 : Memref sig .tc .vmem S1x4x1024 .f32) (harg12 : arg12.IsWhole) (arg13 : Memref sig .tc .vmem S1x4x2048 .f32) (harg13 : arg13.IsWhole) (arg14 : Memref sig .tc .vmem S1x1x128 .f32) (harg14 : arg14.IsWhole) (arg15 : Memref sig .tc .vmem S1x8x16x128x128 .f32) (harg15 : arg15.IsWhole) (arg17 : Memref sig .tc .vmem S64x2048 .bf16) (harg17 : arg17.IsWhole) (arg18 : Memref sig .tc .vmem S1x8x16x128x128 .f32) (harg18 : arg18.IsWhole) (arg19 : Memref sig .tc .vmem S3x8x1024 .f32) (harg19 : arg19.IsWhole) (arg20 : Memref sig .tc .vmem S3x8x1024 .f32) (harg20 : arg20.IsWhole) (arg21 : Memref sig .tc .vmem S3x8x2048 .f32) (harg21 : arg21.IsWhole) (arg22 : Memref sig .tc .vmem S8x16x1024 .f32) (harg22 : arg22.IsWhole) (arg23 : Memref sig .tc .vmem S8x16x1024 .f32) (harg23 : arg23.IsWhole) (arg24 : Memref sig .tc .vmem S8x16x2048 .f32) (harg24 : arg24.IsWhole)
    (x0 : Vec Ideal S64x1024 .f32) (x1 : Vec Ideal S64x1024 .f32) (x2 : Vec Ideal S64x2048 .f32) (x3 : Vec Ideal S64x2048 .f32) (x4 : Vec Ideal S1x3x8x1024 .f32) (x5 : Vec Ideal S1x3x8x1024 .f32) (x6 : Vec Ideal S1x3x8x2048 .f32) (x7 : Vec Ideal S64x128 .f32) (x8 : Vec Ideal S1x16x128 .f32) (x9 : Vec Ideal S1x4x1024 .f32) (x10 : Vec Ideal S1x4x1024 .f32) (x11 : Vec Ideal S1x4x2048 .f32) (x12 : Vec Ideal S1x1x128 .f32) (x13 : Vec Ideal S1x8x16x128x128 .f32) :
    out0_A_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg21 harg21 arg22 harg22 arg23 harg23 arg24 harg24 x0 x1 x2 x3 x4 x5 x6 x7 x8 x9 x10 x11 x12 x13 = cacheOf1024 x0 := by
  unfold out0_A_16
  rw [View.read_writes_eq_canon _ _ _ (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg21 harg21 arg22 harg22 arg23 harg23 arg24 harg24 x0 x1 x2 x3 x4 x5 x6 x7 x8 x9 x10 x11 x12 x13)]
  funext y
  refine View.canon_apply_of_pieces (cacheOf1024 x0) _ (View.PiecesOf.mem ?_) y (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg21 harg21 arg22 harg22 arg23 harg23 arg24 harg24 x0 x1 x2 x3 x4 x5 x6 x7 x8 x9 x10 x11 x12 x13 y)
  unfold kernelRun0_A
  dsimp only
  sl_unfold_words
  simp only [View.readAt_eq_ld, harg2.read_unread, View.readCov_eq_canon']
  rw [View.ld_unit_zero (S := S64x1024) z2]
  generalize hL : View.canon (Val := Elt Ideal) (s := S8x16x1024) (e := .f32) _ = e
  have he : ∀ (b r : Fin 8) (k : Fin 1024), e (ix3 b ⟨8 + r.val, by omega⟩ k) = x0 (ix2 ⟨b.val * 8 + r.val, by omega⟩ k) := fun b r k =>
    (congrFun hL.symm _).trans (own1024 x0 (k0_pay5 x0) (pay5_at _) [_, _, _, _] _ b r k)
  exact ⟨fun y => kept1024 x0 e he k0_pay8 pay8_at 2 (by norm_num) 15 rfl inb_S8x16x1024_S8x1x1024_0_15_0 inb_S3x8x1024_S1x8x1024_2_0_0 y,
    fun y => kept1024 x0 e he k0_pay7 pay7_at 1 (by norm_num) 14 rfl inb_S8x16x1024_S8x1x1024_0_14_0 inb_S3x8x1024_S1x8x1024_1_0_0 y,
    fun y => kept1024 x0 e he k0_pay6 pay6_at 0 (by norm_num) 13 rfl inb_S8x16x1024_S8x1x1024_0_13_0 inb_S3x8x1024_S1x8x1024_0_0_0 y, trivial⟩

/-- Window 17 after a tile. -/
theorem out17 (c : Dev nD) (i : grid0.Coords) (arg2 : Memref sig .tc .vmem S64x1024 .f32) (harg2 : arg2.IsWhole) (arg3 : Memref sig .tc .vmem S64x1024 .f32) (harg3 : arg3.IsWhole) (arg4 : Memref sig .tc .vmem S64x2048 .f32) (harg4 : arg4.IsWhole) (arg5 : Memref sig .tc .vmem S64x2048 .f32) (harg5 : arg5.IsWhole) (arg6 : Memref sig .tc .vmem S1x3x8x1024 .f32) (harg6 : arg6.IsWhole) (arg7 : Memref sig .tc .vmem S1x3x8x1024 .f32) (harg7 : arg7.IsWhole) (arg8 : Memref sig .tc .vmem S1x3x8x2048 .f32) (harg8 : arg8.IsWhole) (arg9 : Memref sig .tc .vmem S64x128 .f32) (harg9 : arg9.IsWhole) (arg10 : Memref sig .tc .vmem S1x16x128 .f32) (harg10 : arg10.IsWhole) (arg11 : Memref sig .tc .vmem S1x4x1024 .f32) (harg11 : arg11.IsWhole) (arg12 : Memref sig .tc .vmem S1x4x1024 .f32) (harg12 : arg12.IsWhole) (arg13 : Memref sig .tc .vmem S1x4x2048 .f32) (harg13 : arg13.IsWhole) (arg14 : Memref sig .tc .vmem S1x1x128 .f32) (harg14 : arg14.IsWhole) (arg15 : Memref sig .tc .vmem S1x8x16x128x128 .f32) (harg15 : arg15.IsWhole) (arg17 : Memref sig .tc .vmem S64x2048 .bf16) (harg17 : arg17.IsWhole) (arg18 : Memref sig .tc .vmem S1x8x16x128x128 .f32) (harg18 : arg18.IsWhole) (arg19 : Memref sig .tc .vmem S3x8x1024 .f32) (harg19 : arg19.IsWhole) (arg20 : Memref sig .tc .vmem S3x8x1024 .f32) (harg20 : arg20.IsWhole) (arg21 : Memref sig .tc .vmem S3x8x2048 .f32) (harg21 : arg21.IsWhole) (arg22 : Memref sig .tc .vmem S8x16x1024 .f32) (harg22 : arg22.IsWhole) (arg23 : Memref sig .tc .vmem S8x16x1024 .f32) (harg23 : arg23.IsWhole) (arg24 : Memref sig .tc .vmem S8x16x2048 .f32) (harg24 : arg24.IsWhole)
    (x0 : Vec Ideal S64x1024 .f32) (x1 : Vec Ideal S64x1024 .f32) (x2 : Vec Ideal S64x2048 .f32) (x3 : Vec Ideal S64x2048 .f32) (x4 : Vec Ideal S1x3x8x1024 .f32) (x5 : Vec Ideal S1x3x8x1024 .f32) (x6 : Vec Ideal S1x3x8x2048 .f32) (x7 : Vec Ideal S64x128 .f32) (x8 : Vec Ideal S1x16x128 .f32) (x9 : Vec Ideal S1x4x1024 .f32) (x10 : Vec Ideal S1x4x1024 .f32) (x11 : Vec Ideal S1x4x2048 .f32) (x12 : Vec Ideal S1x1x128 .f32) (x13 : Vec Ideal S1x8x16x128x128 .f32) :
    out0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg21 harg21 arg22 harg22 arg23 harg23 arg24 harg24 x0 x1 x2 x3 x4 x5 x6 x7 x8 x9 x10 x11 x12 x13 = cacheOf1024 x1 := by
  unfold out0_A_17
  rw [View.read_writes_eq_canon _ _ _ (cover0_A_17 c i arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg21 harg21 arg22 harg22 arg23 harg23 arg24 harg24 x0 x1 x2 x3 x4 x5 x6 x7 x8 x9 x10 x11 x12 x13)]
  funext y
  refine View.canon_apply_of_pieces (cacheOf1024 x1) _ (View.PiecesOf.mem ?_) y (cover0_A_17 c i arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg21 harg21 arg22 harg22 arg23 harg23 arg24 harg24 x0 x1 x2 x3 x4 x5 x6 x7 x8 x9 x10 x11 x12 x13 y)
  unfold kernelRun0_A
  dsimp only
  sl_unfold_words
  simp only [View.readAt_eq_ld, harg3.read_unread, View.readCov_eq_canon']
  rw [View.ld_unit_zero (S := S64x1024) z2]
  generalize hL : View.canon (Val := Elt Ideal) (s := S8x16x1024) (e := .f32) _ = e
  have he : ∀ (b r : Fin 8) (k : Fin 1024), e (ix3 b ⟨8 + r.val, by omega⟩ k) = x1 (ix2 ⟨b.val * 8 + r.val, by omega⟩ k) := fun b r k =>
    (congrFun hL.symm _).trans (own1024 x1 (k0_pay16 x1) (pay16_at _) [_, _, _, _] _ b r k)
  exact ⟨fun y => kept1024 x1 e he k0_pay19 pay19_at 2 (by norm_num) 15 rfl inb_S8x16x1024_S8x1x1024_0_15_0 inb_S3x8x1024_S1x8x1024_2_0_0 y,
    fun y => kept1024 x1 e he k0_pay18 pay18_at 1 (by norm_num) 14 rfl inb_S8x16x1024_S8x1x1024_0_14_0 inb_S3x8x1024_S1x8x1024_1_0_0 y,
    fun y => kept1024 x1 e he k0_pay17 pay17_at 0 (by norm_num) 13 rfl inb_S8x16x1024_S8x1x1024_0_13_0 inb_S3x8x1024_S1x8x1024_0_0_0 y, trivial⟩

/-- Window 18 after a tile. -/
theorem out18 (c : Dev nD) (i : grid0.Coords) (arg2 : Memref sig .tc .vmem S64x1024 .f32) (harg2 : arg2.IsWhole) (arg3 : Memref sig .tc .vmem S64x1024 .f32) (harg3 : arg3.IsWhole) (arg4 : Memref sig .tc .vmem S64x2048 .f32) (harg4 : arg4.IsWhole) (arg5 : Memref sig .tc .vmem S64x2048 .f32) (harg5 : arg5.IsWhole) (arg6 : Memref sig .tc .vmem S1x3x8x1024 .f32) (harg6 : arg6.IsWhole) (arg7 : Memref sig .tc .vmem S1x3x8x1024 .f32) (harg7 : arg7.IsWhole) (arg8 : Memref sig .tc .vmem S1x3x8x2048 .f32) (harg8 : arg8.IsWhole) (arg9 : Memref sig .tc .vmem S64x128 .f32) (harg9 : arg9.IsWhole) (arg10 : Memref sig .tc .vmem S1x16x128 .f32) (harg10 : arg10.IsWhole) (arg11 : Memref sig .tc .vmem S1x4x1024 .f32) (harg11 : arg11.IsWhole) (arg12 : Memref sig .tc .vmem S1x4x1024 .f32) (harg12 : arg12.IsWhole) (arg13 : Memref sig .tc .vmem S1x4x2048 .f32) (harg13 : arg13.IsWhole) (arg14 : Memref sig .tc .vmem S1x1x128 .f32) (harg14 : arg14.IsWhole) (arg15 : Memref sig .tc .vmem S1x8x16x128x128 .f32) (harg15 : arg15.IsWhole) (arg17 : Memref sig .tc .vmem S64x2048 .bf16) (harg17 : arg17.IsWhole) (arg18 : Memref sig .tc .vmem S1x8x16x128x128 .f32) (harg18 : arg18.IsWhole) (arg19 : Memref sig .tc .vmem S3x8x1024 .f32) (harg19 : arg19.IsWhole) (arg20 : Memref sig .tc .vmem S3x8x1024 .f32) (harg20 : arg20.IsWhole) (arg21 : Memref sig .tc .vmem S3x8x2048 .f32) (harg21 : arg21.IsWhole) (arg22 : Memref sig .tc .vmem S8x16x1024 .f32) (harg22 : arg22.IsWhole) (arg23 : Memref sig .tc .vmem S8x16x1024 .f32) (harg23 : arg23.IsWhole) (arg24 : Memref sig .tc .vmem S8x16x2048 .f32) (harg24 : arg24.IsWhole)
    (x0 : Vec Ideal S64x1024 .f32) (x1 : Vec Ideal S64x1024 .f32) (x2 : Vec Ideal S64x2048 .f32) (x3 : Vec Ideal S64x2048 .f32) (x4 : Vec Ideal S1x3x8x1024 .f32) (x5 : Vec Ideal S1x3x8x1024 .f32) (x6 : Vec Ideal S1x3x8x2048 .f32) (x7 : Vec Ideal S64x128 .f32) (x8 : Vec Ideal S1x16x128 .f32) (x9 : Vec Ideal S1x4x1024 .f32) (x10 : Vec Ideal S1x4x1024 .f32) (x11 : Vec Ideal S1x4x2048 .f32) (x12 : Vec Ideal S1x1x128 .f32) (x13 : Vec Ideal S1x8x16x128x128 .f32) :
    out0_A_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg21 harg21 arg22 harg22 arg23 harg23 arg24 harg24 x0 x1 x2 x3 x4 x5 x6 x7 x8 x9 x10 x11 x12 x13 = cacheOf2048 x2 := by
  unfold out0_A_18
  rw [View.read_writes_eq_canon _ _ _ (cover0_A_18 c i arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg21 harg21 arg22 harg22 arg23 harg23 arg24 harg24 x0 x1 x2 x3 x4 x5 x6 x7 x8 x9 x10 x11 x12 x13)]
  funext y
  refine View.canon_apply_of_pieces (cacheOf2048 x2) _ (View.PiecesOf.mem ?_) y (cover0_A_18 c i arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg21 harg21 arg22 harg22 arg23 harg23 arg24 harg24 x0 x1 x2 x3 x4 x5 x6 x7 x8 x9 x10 x11 x12 x13 y)
  unfold kernelRun0_A
  dsimp only
  sl_unfold_words
  simp only [View.readAt_eq_ld, harg4.read_unread, View.readCov_eq_canon']
  rw [View.ld_unit_zero (S := S64x2048) z2]
  generalize hL : View.canon (Val := Elt Ideal) (s := S8x16x2048) (e := .f32) _ = e
  have he : ∀ (b r : Fin 8) (k : Fin 2048), e (ix3 b ⟨8 + r.val, by omega⟩ k) = x2 (ix2 ⟨b.val * 8 + r.val, by omega⟩ k) := fun b r k =>
    (congrFun hL.symm _).trans (own2048 x2 (k0_pay25 x2) (pay25_at _) [_, _, _, _] _ b r k)
  exact ⟨fun y => kept2048 x2 e he k0_pay28 pay28_at 2 (by norm_num) 15 rfl inb_S8x16x2048_S8x1x2048_0_15_0 inb_S3x8x2048_S1x8x2048_2_0_0 y,
    fun y => kept2048 x2 e he k0_pay27 pay27_at 1 (by norm_num) 14 rfl inb_S8x16x2048_S8x1x2048_0_14_0 inb_S3x8x2048_S1x8x2048_1_0_0 y,
    fun y => kept2048 x2 e he k0_pay26 pay26_at 0 (by norm_num) 13 rfl inb_S8x16x2048_S8x1x2048_0_13_0 inb_S3x8x2048_S1x8x2048_0_0_0 y, trivial⟩

end Cert.DeltaSIdeal.Val

end
-- ==== Proof.DeltaSVal.lean ====
/- The delta mixer of the sample: the three parts of the convolution's cache make up what the reference computes. -/
module

public import proofs.«01_k».proof.Proof.DeltaSOut
public import proofs.«01_k».proof.Proof.Gen.DeltaSRefIdeal.Run
public import proofs.«01_k».proof.Defs
public import proofs.«01_k».proof.Proof.Gen.DeltaS.Frame
public import Idealize.ShloMosaic.Lib.Pointwise

@[expose] public section

set_option maxRecDepth 16384
set_option maxHeartbeats 1000000

noncomputable section

namespace Cert.DeltaSIdeal.Val

open Cert.DeltaSIdeal Cert.DeltaSIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Entry `(p, c)` of the projection, by numbers. -/
def U (u : S9216x12288.Idx → EReal) (p c : ℕ) : EReal := if h : p < 9216 ∧ c < 12288 then u (ix2 ⟨p, h.1⟩ ⟨c, h.2⟩) else 0

theorem U_at (u : S9216x12288.Idx → EReal) (i : S9216x12288.Idx) (p c : ℕ) (hp : (i 0).val = p) (hc : (i 1).val = c) : u i = U u p c := by
  subst hp
  subst hc
  have h0 : (i 0 : ℕ) < 9216 := (i 0).isLt
  have h1 : (i 1 : ℕ) < 12288 := (i 1).isLt
  unfold U
  rw [dif_pos ⟨h0, h1⟩]
  exact congrArg u (funext fun a => by match a with | ⟨0, _⟩ => rfl | ⟨1, _⟩ => rfl)

/-- The last three of every sequence's eight rows, in the columns that begin at `o`. -/
def G (o W : ℕ) (u : S9216x12288.Idx → EReal) : Shape.Idx ⟨3, ![3, 128, W]⟩ → EReal := fun i =>
  U u (8192 + (i 1).val * 8 + 5 + (i 0).val) (o + (i 2).val)

theorem idx (t : Fin cfg0.N) : (win0_0.index t 0 = 128 + t.val / 2 ∧ win0_0.index t 1 = t.val % 2)
    ∧ (win0_1.index t 0 = 128 + t.val / 2 ∧ win0_1.index t 1 = 2 + t.val % 2)
    ∧ (win0_2.index t 0 = 128 + t.val / 2 ∧ win0_2.index t 1 = 2 + t.val % 2)
    ∧ (win0_16.index t 0 = 0 ∧ win0_16.index t 1 = t.val / 2 ∧ win0_16.index t 2 = t.val % 2)
    ∧ (win0_17.index t 0 = 0 ∧ win0_17.index t 1 = t.val / 2 ∧ win0_17.index t 2 = t.val % 2)
    ∧ (win0_18.index t 0 = 0 ∧ win0_18.index t 1 = t.val / 2 ∧ win0_18.index t 2 = t.val % 2) := by
  revert t; decide +kernel

theorem flushed16_eq (c : Dev nD) (t : Fin cfg0.N) :
    (dats m 0 c).flushed 16 t = ((cfg0.win 16).blk t).view.read (Elt Ideal) (G 0 2048 (m ((c : Thread nD τ).loc main_arg0))) := by
  have hN : t.val < 32 := lt_of_lt_of_eq t.isLt N_0
  obtain ⟨⟨a0, a1⟩, -, -, ⟨o0, o1, o2⟩, -, -⟩ := idx t
  funext y
  have hy0 : (y 0).val < 3 := (y 0).isLt
  have hy1 : (y 1).val < 8 := (y 1).isLt
  have hy2 : (y 2).val < 1024 := (y 2).isLt
  have cut (v : Vec Ideal S3x8x1024 .f32) : (cfg0.win 16).cut (grid0.coords t) v y = v y := rfl
  have e0 : (((cfg0.win 16).blk t).view.emb y 0).val = (y 0).val := by
    show win0_16.index t 0 * 3 + 1 * (y 0).val = _; rw [o0]; omega
  have e1 : (((cfg0.win 16).blk t).view.emb y 1).val = t.val / 2 * 8 + (y 1).val := by
    show win0_16.index t 1 * 8 + 1 * (y 1).val = _; rw [o1]; omega
  have e2 : (((cfg0.win 16).blk t).view.emb y 2).val = t.val % 2 * 1024 + (y 2).val := by
    show win0_16.index t 2 * 1024 + 1 * (y 2).val = _; rw [o2]; omega
  rw [View.read_apply, cast_eq, Value.flushed16_A m c t]
  refine (cut _).trans ((congrFun (out16 ..) y).trans ?_)
  unfold cacheOf1024 iblk G
  rw [View.read_apply, cast_eq, e0, e1, e2]
  refine (congrFun (V_main_arg0 m c) _).trans (U_at _ _ _ _ ?_ ?_)
  · show win0_0.index t 0 * 64 + 1 * ((y 1).val * 8 + 5 + (y 0).val) = _; rw [a0]; omega
  · show win0_0.index t 1 * 1024 + 1 * (y 2).val = _; rw [a1]; omega

/-- Every entry lies in the block of some tile. -/
theorem cover16 (i : S3x128x2048.Idx) : ∃ t : Fin cfg0.N, (cfg0.win 16).flush t = true ∧ i ∈ ((cfg0.win 16).blk t).view.set := by
  have hN : cfg0.N = 32 := N_0
  have h0 : (i 0 : Nat) < 3 := (i 0).isLt
  have h1 : (i 1 : Nat) < 128 := (i 1).isLt
  have h2 : (i 2 : Nat) < 2048 := (i 2).isLt
  obtain ⟨t, ht⟩ : ∃ t : Fin cfg0.N, t.val = (i 1 : Nat) / 8 * 2 + (i 2 : Nat) / 1024 := ⟨⟨_, by omega⟩, rfl⟩
  obtain ⟨-, -, -, ⟨o0, o1, o2⟩, -, -⟩ := idx t
  refine ⟨t, flush0_16 t, ?_⟩
  show i ∈ ((View.whole main_v6_2).slice (win0_16.rect t)).set
  rw [View.set_slice_whole, Rect.mem_set_unit]
  intro a
  match a with
  | ⟨0, _⟩ => show win0_16.index t 0 * 3 ≤ (i 0 : Nat) ∧ (i 0 : Nat) < win0_16.index t 0 * 3 + 3
              rw [o0]; omega
  | ⟨1, _⟩ => show win0_16.index t 1 * 8 ≤ (i 1 : Nat) ∧ (i 1 : Nat) < win0_16.index t 1 * 8 + 8
              rw [o1]; omega
  | ⟨2, _⟩ => show win0_16.index t 2 * 1024 ≤ (i 2 : Nat) ∧ (i 2 : Nat) < win0_16.index t 2 * 1024 + 1024
              rw [o2]; omega

theorem flushed17_eq (c : Dev nD) (t : Fin cfg0.N) :
    (dats m 0 c).flushed 17 t = ((cfg0.win 17).blk t).view.read (Elt Ideal) (G 2048 2048 (m ((c : Thread nD τ).loc main_arg0))) := by
  have hN : t.val < 32 := lt_of_lt_of_eq t.isLt N_0
  obtain ⟨-, ⟨a0, a1⟩, -, -, ⟨o0, o1, o2⟩, -⟩ := idx t
  funext y
  have hy0 : (y 0).val < 3 := (y 0).isLt
  have hy1 : (y 1).val < 8 := (y 1).isLt
  have hy2 : (y 2).val < 1024 := (y 2).isLt
  have cut (v : Vec Ideal S3x8x1024 .f32) : (cfg0.win 17).cut (grid0.coords t) v y = v y := rfl
  have e0 : (((cfg0.win 17).blk t).view.emb y 0).val = (y 0).val := by
    show win0_17.index t 0 * 3 + 1 * (y 0).val = _; rw [o0]; omega
  have e1 : (((cfg0.win 17).blk t).view.emb y 1).val = t.val / 2 * 8 + (y 1).val := by
    show win0_17.index t 1 * 8 + 1 * (y 1).val = _; rw [o1]; omega
  have e2 : (((cfg0.win 17).blk t).view.emb y 2).val = t.val % 2 * 1024 + (y 2).val := by
    show win0_17.index t 2 * 1024 + 1 * (y 2).val = _; rw [o2]; omega
  rw [View.read_apply, cast_eq, Value.flushed17_A m c t]
  refine (cut _).trans ((congrFun (out17 ..) y).trans ?_)
  unfold cacheOf1024 iblk G
  rw [View.read_apply, cast_eq, e0, e1, e2]
  refine (congrFun (V_main_arg0 m c) _).trans (U_at _ _ _ _ ?_ ?_)
  · show win0_1.index t 0 * 64 + 1 * ((y 1).val * 8 + 5 + (y 0).val) = _; rw [a0]; omega
  · show win0_1.index t 1 * 1024 + 1 * (y 2).val = _; rw [a1]; omega

/-- Every entry lies in the block of some tile. -/
theorem cover17 (i : S3x128x2048.Idx) : ∃ t : Fin cfg0.N, (cfg0.win 17).flush t = true ∧ i ∈ ((cfg0.win 17).blk t).view.set := by
  have hN : cfg0.N = 32 := N_0
  have h0 : (i 0 : Nat) < 3 := (i 0).isLt
  have h1 : (i 1 : Nat) < 128 := (i 1).isLt
  have h2 : (i 2 : Nat) < 2048 := (i 2).isLt
  obtain ⟨t, ht⟩ : ∃ t : Fin cfg0.N, t.val = (i 1 : Nat) / 8 * 2 + (i 2 : Nat) / 1024 := ⟨⟨_, by omega⟩, rfl⟩
  obtain ⟨-, -, -, -, ⟨o0, o1, o2⟩, -⟩ := idx t
  refine ⟨t, flush0_17 t, ?_⟩
  show i ∈ ((View.whole main_v6_3).slice (win0_17.rect t)).set
  rw [View.set_slice_whole, Rect.mem_set_unit]
  intro a
  match a with
  | ⟨0, _⟩ => show win0_17.index t 0 * 3 ≤ (i 0 : Nat) ∧ (i 0 : Nat) < win0_17.index t 0 * 3 + 3
              rw [o0]; omega
  | ⟨1, _⟩ => show win0_17.index t 1 * 8 ≤ (i 1 : Nat) ∧ (i 1 : Nat) < win0_17.index t 1 * 8 + 8
              rw [o1]; omega
  | ⟨2, _⟩ => show win0_17.index t 2 * 1024 ≤ (i 2 : Nat) ∧ (i 2 : Nat) < win0_17.index t 2 * 1024 + 1024
              rw [o2]; omega

theorem flushed18_eq (c : Dev nD) (t : Fin cfg0.N) :
    (dats m 0 c).flushed 18 t = ((cfg0.win 18).blk t).view.read (Elt Ideal) (G 4096 4096 (m ((c : Thread nD τ).loc main_arg0))) := by
  have hN : t.val < 32 := lt_of_lt_of_eq t.isLt N_0
  obtain ⟨-, -, ⟨a0, a1⟩, -, -, ⟨o0, o1, o2⟩⟩ := idx t
  funext y
  have hy0 : (y 0).val < 3 := (y 0).isLt
  have hy1 : (y 1).val < 8 := (y 1).isLt
  have hy2 : (y 2).val < 2048 := (y 2).isLt
  have cut (v : Vec Ideal S3x8x2048 .f32) : (cfg0.win 18).cut (grid0.coords t) v y = v y := rfl
  have e0 : (((cfg0.win 18).blk t).view.emb y 0).val = (y 0).val := by
    show win0_18.index t 0 * 3 + 1 * (y 0).val = _; rw [o0]; omega
  have e1 : (((cfg0.win 18).blk t).view.emb y 1).val = t.val / 2 * 8 + (y 1).val := by
    show win0_18.index t 1 * 8 + 1 * (y 1).val = _; rw [o1]; omega
  have e2 : (((cfg0.win 18).blk t).view.emb y 2).val = t.val % 2 * 2048 + (y 2).val := by
    show win0_18.index t 2 * 2048 + 1 * (y 2).val = _; rw [o2]; omega
  rw [View.read_apply, cast_eq, Value.flushed18_A m c t]
  refine (cut _).trans ((congrFun (out18 ..) y).trans ?_)
  unfold cacheOf2048 iblk G
  rw [View.read_apply, cast_eq, e0, e1, e2]
  refine (congrFun (V_main_arg0 m c) _).trans (U_at _ _ _ _ ?_ ?_)
  · show win0_2.index t 0 * 64 + 1 * ((y 1).val * 8 + 5 + (y 0).val) = _; rw [a0]; omega
  · show win0_2.index t 1 * 2048 + 1 * (y 2).val = _; rw [a1]; omega

/-- Every entry lies in the block of some tile. -/
theorem cover18 (i : S3x128x4096.Idx) : ∃ t : Fin cfg0.N, (cfg0.win 18).flush t = true ∧ i ∈ ((cfg0.win 18).blk t).view.set := by
  have hN : cfg0.N = 32 := N_0
  have h0 : (i 0 : Nat) < 3 := (i 0).isLt
  have h1 : (i 1 : Nat) < 128 := (i 1).isLt
  have h2 : (i 2 : Nat) < 4096 := (i 2).isLt
  obtain ⟨t, ht⟩ : ∃ t : Fin cfg0.N, t.val = (i 1 : Nat) / 8 * 2 + (i 2 : Nat) / 2048 := ⟨⟨_, by omega⟩, rfl⟩
  obtain ⟨-, -, -, -, -, ⟨o0, o1, o2⟩⟩ := idx t
  refine ⟨t, flush0_18 t, ?_⟩
  show i ∈ ((View.whole main_v6_4).slice (win0_18.rect t)).set
  rw [View.set_slice_whole, Rect.mem_set_unit]
  intro a
  match a with
  | ⟨0, _⟩ => show win0_18.index t 0 * 3 ≤ (i 0 : Nat) ∧ (i 0 : Nat) < win0_18.index t 0 * 3 + 3
              rw [o0]; omega
  | ⟨1, _⟩ => show win0_18.index t 1 * 8 ≤ (i 1 : Nat) ∧ (i 1 : Nat) < win0_18.index t 1 * 8 + 8
              rw [o1]; omega
  | ⟨2, _⟩ => show win0_18.index t 2 * 2048 ≤ (i 2 : Nat) ∧ (i 2 : Nat) < win0_18.index t 2 * 2048 + 2048
              rw [o2]; omega

/-- The run of the kernel, read: the three parts of the cache, its arguments unchanged. -/
theorem run : θ_run defs (onTc (τ := τ) (main (F := Ideal))) ⟨m, fun _ => 0, ρ⟩ fun r => ∀ c : Dev nD,
      r.2.mem ((c : Thread nD τ).loc main_v6_2) = G 0 2048 (m ((c : Thread nD τ).loc main_arg0))
      ∧ r.2.mem ((c : Thread nD τ).loc main_v6_3) = G 2048 2048 (m ((c : Thread nD τ).loc main_arg0))
      ∧ r.2.mem ((c : Thread nD τ).loc main_v6_4) = G 4096 4096 (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).2.2.1.trans ((dats m 0 c).arrAt_eq_of_cover 16 _ (fun t _ => flushed16_eq m c t) cover16),
      (h c).2.2.2.1.trans ((dats m 0 c).arrAt_eq_of_cover 17 _ (fun t _ => flushed17_eq m c t) cover17),
      (h c).2.2.2.2.1.trans ((dats m 0 c).arrAt_eq_of_cover 18 _ (fun t _ => flushed18_eq m c t) cover18), (h c).2.2.2.2.2⟩)
    (Value.run_blocks m ρ)

/-- The three programs run and leave their arguments as they were; the third is the reference. -/
theorem frame : Cert.quiescent_DeltaS := fun m ρ _ => Cert.DeltaS.Gen.frame m ρ
theorem frameI : Cert.quiescent_DeltaSIdeal := fun m ρ _ => Cert.DeltaSIdeal.Gen.frame m ρ
theorem frameR : Cert.quiescent_DeltaSRefIdeal := fun m ρ _ =>
  (θ_run Cert.DeltaSRefIdeal.defs _ _).mono
    (fun r h => ⟨fun c => (h c).2.2.2, Idealize.ShloMosaic.sem_eq_zero_of_no_sems (by decide) r.2⟩)
    (Cert.DeltaSRefIdeal.Value.run (F := Ideal) m ρ)

/-- The reference's last rows. -/
def lasts (u : S9216x12288.Idx → EReal) (x : S2x128x3x8192.Idx → EReal) : Cert.DeltaSRefIdeal.S3x128x8192.Idx → EReal :=
  transpose Cert.DeltaSRefIdeal.S3x128x8192 [1, 0, 2] (extractStridedSlice Cert.DeltaSRefIdeal.S128x3x8192 ![0, 8, 0] (concatenate Cert.DeltaSRefIdeal.S128x11x8192 1 [⟨Cert.DeltaSRefIdeal.S128x3x8192, (shapeCast _ (extractStridedSlice Cert.DeltaSRefIdeal.S1x128x3x8192 ![1, 0, 0, 0] x Cert.DeltaSRefIdeal.Gen.slices_S2x128x3x8192_S1x128x3x8192_1_0_0_0) Cert.DeltaSRefIdeal.Gen.shapeCasts_S1x128x3x8192_S128x3x8192)⟩, ⟨Cert.DeltaSRefIdeal.S128x8x8192, (shapeCast _ (extractStridedSlice Cert.DeltaSRefIdeal.S1024x8192 ![8192, 0] u Cert.DeltaSRefIdeal.Gen.slices_S9216x12288_S1024x8192_8192_0) Cert.DeltaSRefIdeal.Gen.shapeCasts_S1024x8192_S128x8x8192)⟩] Cert.DeltaSRefIdeal.Gen.concatenates_S128x3x8192_S128x8x8192_S128x11x8192_d1) Cert.DeltaSRefIdeal.Gen.slices_S128x11x8192_S128x3x8192_0_8_0) Cert.DeltaSRefIdeal.Gen.transposes_S128x3x8192_S3x128x8192_1_0_2

theorem rows (u : S9216x12288.Idx → EReal) (b : Fin 128) (s : Fin 8) (c : Fin 8192) :
    (shapeCast Cert.DeltaSRefIdeal.S128x8x8192 (extractStridedSlice Cert.DeltaSRefIdeal.S1024x8192 ![8192, 0] u Cert.DeltaSRefIdeal.Gen.slices_S9216x12288_S1024x8192_8192_0) Cert.DeltaSRefIdeal.Gen.shapeCasts_S1024x8192_S128x8x8192 : _ → EReal) (ix3 b s c)
      = U u (8192 + b.val * 8 + s.val) c.val := by
  have hb := b.isLt
  have hs := s.isLt
  refine Eq.trans ?_ (U_at u (ix2 ⟨8192 + (b.val * 8 + s.val), by omega⟩ ⟨c.val, by omega⟩) _ _ (by show 8192 + (b.val * 8 + s.val) = _; omega) rfl)
  pointwise

theorem lasts_at (u : S9216x12288.Idx → EReal) (x : S2x128x3x8192.Idx → EReal) (t : Fin 3) (b : Fin 128) (c : Fin 8192) :
    lasts u x (ix3 t b c) = U u (8192 + b.val * 8 + 5 + t.val) c.val := by
  have ht := t.isLt
  unfold lasts
  refine Eq.trans ?_ ((rows u b ⟨5 + t.val, by omega⟩ c).trans (congrArg (U u · _) (by dsimp only; omega)))
  generalize (shapeCast Cert.DeltaSRefIdeal.S128x8x8192 (extractStridedSlice Cert.DeltaSRefIdeal.S1024x8192 ![8192, 0] u Cert.DeltaSRefIdeal.Gen.slices_S9216x12288_S1024x8192_8192_0) Cert.DeltaSRefIdeal.Gen.shapeCasts_S1024x8192_S128x8x8192 : _ → EReal) = v
  pointwise
  rw [dif_neg (by omega)]
  congr 2
  exact Fin.ext (show 8 + t.val - 3 = 5 + t.val by omega)

theorem part16 (u : S9216x12288.Idx → EReal) (x : S2x128x3x8192.Idx → EReal) :
    (extractStridedSlice Cert.DeltaSRefIdeal.S3x128x2048 ![0, 0, 0] (lasts u x) Cert.DeltaSRefIdeal.Gen.slices_S3x128x8192_S3x128x2048_0_0_0 : S3x128x2048.Idx → EReal) = G 0 2048 u := by
  funext i
  have h2 : (i 2 : ℕ) < 2048 := (i 2).isLt
  have hi : i = ix3 (i 0) (i 1) (i 2) := by funext a; fin_cases a <;> rfl
  refine (congrArg _ hi).trans (Eq.trans ?_ (lasts_at u x (i 0) (i 1) ⟨0 + (i 2).val, by omega⟩))
  generalize lasts u x = v
  pointwise

theorem part17 (u : S9216x12288.Idx → EReal) (x : S2x128x3x8192.Idx → EReal) :
    (extractStridedSlice Cert.DeltaSRefIdeal.S3x128x2048 ![0, 0, 2048] (lasts u x) Cert.DeltaSRefIdeal.Gen.slices_S3x128x8192_S3x128x2048_0_0_2048 : S3x128x2048.Idx → EReal) = G 2048 2048 u := by
  funext i
  have h2 : (i 2 : ℕ) < 2048 := (i 2).isLt
  have hi : i = ix3 (i 0) (i 1) (i 2) := by funext a; fin_cases a <;> rfl
  refine (congrArg _ hi).trans (Eq.trans ?_ (lasts_at u x (i 0) (i 1) ⟨2048 + (i 2).val, by omega⟩))
  generalize lasts u x = v
  pointwise

theorem part18 (u : S9216x12288.Idx → EReal) (x : S2x128x3x8192.Idx → EReal) :
    (extractStridedSlice Cert.DeltaSRefIdeal.S3x128x4096 ![0, 0, 4096] (lasts u x) Cert.DeltaSRefIdeal.Gen.slices_S3x128x8192_S3x128x4096_0_0_4096 : S3x128x4096.Idx → EReal) = G 4096 4096 u := by
  funext i
  have h2 : (i 2 : ℕ) < 4096 := (i 2).isLt
  have hi : i = ix3 (i 0) (i 1) (i 2) := by funext a; fin_cases a <;> rfl
  refine (congrArg _ hi).trans (Eq.trans ?_ (lasts_at u x (i 0) (i 1) ⟨4096 + (i 2).val, by omega⟩))
  generalize lasts u x = v
  pointwise

/-- Over the extended reals the kernel's results are the reference's. -/
theorem algebraic : Cert.algebraic_DeltaSIdeal_DeltaSRefIdeal := by
  intro m ρ m' ρ' _ hagree
  refine ⟨fun c => G 0 2048 (m ((c : Thread nD τ).loc main_arg0)), fun c => G 2048 2048 (m ((c : Thread nD τ).loc main_arg0)), fun c => G 4096 4096 (m ((c : Thread nD τ).loc main_arg0)), run m ρ, ?_⟩
  refine (θ_run Cert.DeltaSRefIdeal.defs _ _).mono (fun r h c => ?_) (Cert.DeltaSRefIdeal.Value.run (F := Ideal) m' ρ')
  obtain ⟨a0, -, -, -, -, -, -⟩ := hagree c
  refine ⟨(h c).1.trans ?_, (h c).2.1.trans ?_, (h c).2.2.1.trans ?_, (h c).2.2.2⟩
  · rw [a0]; exact part16 _ _
  · rw [a0]; exact part17 _ _
  · rw [a0]; exact part18 _ _

end Cert.DeltaSIdeal.Val

end
-- ==== Proof.lean ====
/- The certificate: every claim of `Cert.Claim`, each from the module that proves it. -/
module

public import proofs.«01_k».proof.Defs
public import proofs.«01_k».proof.Proof.PoolInVal
public import proofs.«01_k».proof.Proof.Gen.PoolInIdeal.Value
public import proofs.«01_k».proof.Proof.Gen.PoolInRefIdeal.Run
public import proofs.«01_k».proof.Proof.DeltaInVal
public import proofs.«01_k».proof.Proof.Gen.DeltaInIdeal.Value
public import proofs.«01_k».proof.Proof.Gen.DeltaInRefIdeal.Run
public import proofs.«01_k».proof.Proof.OutVal
public import proofs.«01_k».proof.Proof.Gen.OutIdeal.Value
public import proofs.«01_k».proof.Proof.Gen.OutRefIdeal.Run
public import proofs.«01_k».proof.Proof.OutZVal
public import proofs.«01_k».proof.Proof.Gen.OutZIdeal.Value
public import proofs.«01_k».proof.Proof.Gen.OutZRefIdeal.Run
public import proofs.«01_k».proof.Proof.NormVal
public import proofs.«01_k».proof.Proof.Gen.NormIdeal.Value
public import proofs.«01_k».proof.Proof.Gen.NormRefIdeal.Run
public import proofs.«01_k».proof.Proof.PoolVal
public import proofs.«01_k».proof.Proof.Gen.PoolIdeal.Value
public import proofs.«01_k».proof.Proof.Gen.PoolRefIdeal.Run
public import proofs.«01_k».proof.Proof.PoolSVal
public import proofs.«01_k».proof.Proof.Gen.PoolSIdeal.Value
public import proofs.«01_k».proof.Proof.Gen.PoolSRefIdeal.Run
public import proofs.«01_k».proof.Proof.NormPVal
public import proofs.«01_k».proof.Proof.Gen.NormPIdeal.Value
public import proofs.«01_k».proof.Proof.Gen.NormPRefIdeal.Run
public import proofs.«01_k».proof.Proof.NormSVal
public import proofs.«01_k».proof.Proof.Gen.NormSIdeal.Value
public import proofs.«01_k».proof.Proof.Gen.NormSRefIdeal.Run
public import proofs.«01_k».proof.Proof.NormZVal
public import proofs.«01_k».proof.Proof.Gen.NormZIdeal.Value
public import proofs.«01_k».proof.Proof.Gen.NormZRefIdeal.Run
public import proofs.«01_k».proof.Proof.DeltaVal
public import proofs.«01_k».proof.Proof.Gen.DeltaIdeal.Value
public import proofs.«01_k».proof.Proof.Gen.DeltaRefIdeal.Run
public import proofs.«01_k».proof.Proof.DeltaSVal
public import proofs.«01_k».proof.Proof.Gen.DeltaSIdeal.Value
public import proofs.«01_k».proof.Proof.Gen.DeltaSRefIdeal.Run

@[expose] public section

noncomputable section

namespace Cert.Proof

open Idealize.ShloMosaic Idealize.SL.Sem

theorem claim : Cert.Claim :=
  ⟨Cert.PoolIn.Gen.facts, Cert.PoolInIdeal.Gen.facts, Cert.PoolInRefIdeal.Gen.facts, Cert.DeltaIn.Gen.facts, Cert.DeltaInIdeal.Gen.facts, Cert.DeltaInRefIdeal.Gen.facts, Cert.Out.Gen.facts, Cert.OutIdeal.Gen.facts, Cert.OutRefIdeal.Gen.facts, Cert.OutZ.Gen.facts, Cert.OutZIdeal.Gen.facts, Cert.OutZRefIdeal.Gen.facts, Cert.Norm.Gen.facts, Cert.NormIdeal.Gen.facts, Cert.NormRefIdeal.Gen.facts, Cert.Pool.Gen.facts, Cert.PoolIdeal.Gen.facts, Cert.PoolRefIdeal.Gen.facts, Cert.PoolS.Gen.facts, Cert.PoolSIdeal.Gen.facts, Cert.PoolSRefIdeal.Gen.facts, Cert.NormP.Gen.facts, Cert.NormPIdeal.Gen.facts, Cert.NormPRefIdeal.Gen.facts, Cert.NormS.Gen.facts, Cert.NormSIdeal.Gen.facts, Cert.NormSRefIdeal.Gen.facts, Cert.NormZ.Gen.facts, Cert.NormZIdeal.Gen.facts, Cert.NormZRefIdeal.Gen.facts, Cert.Delta.Gen.facts, Cert.DeltaIdeal.Gen.facts, Cert.DeltaRefIdeal.Gen.facts, Cert.DeltaS.Gen.facts, Cert.DeltaSIdeal.Gen.facts, Cert.DeltaSRefIdeal.Gen.facts,
   Cert.PoolInIdeal.Val.frame,
   Cert.PoolInIdeal.Val.frameI,
   Cert.PoolInIdeal.Val.frameR,
   Cert.DeltaInIdeal.Val.frame,
   Cert.DeltaInIdeal.Val.frameI,
   Cert.DeltaInIdeal.Val.frameR,
   Cert.OutIdeal.Val.frame,
   Cert.OutIdeal.Val.frameI,
   Cert.OutIdeal.Val.frameR,
   Cert.OutZIdeal.Val.frame,
   Cert.OutZIdeal.Val.frameI,
   Cert.OutZIdeal.Val.frameR,
   Cert.NormIdeal.Val.frame,
   Cert.NormIdeal.Val.frameI,
   Cert.NormIdeal.Val.frameR,
   Cert.PoolIdeal.Val.frame,
   Cert.PoolIdeal.Val.frameI,
   Cert.PoolIdeal.Val.frameR,
   Cert.PoolSIdeal.Val.frame,
   Cert.PoolSIdeal.Val.frameI,
   Cert.PoolSIdeal.Val.frameR,
   Cert.NormPIdeal.Val.frame,
   Cert.NormPIdeal.Val.frameI,
   Cert.NormPIdeal.Val.frameR,
   Cert.NormSIdeal.Val.frame,
   Cert.NormSIdeal.Val.frameI,
   Cert.NormSIdeal.Val.frameR,
   Cert.NormZIdeal.Val.frame,
   Cert.NormZIdeal.Val.frameI,
   Cert.NormZIdeal.Val.frameR,
   Cert.DeltaIdeal.Val.frame,
   Cert.DeltaIdeal.Val.frameI,
   Cert.DeltaIdeal.Val.frameR,
   Cert.DeltaSIdeal.Val.frame,
   Cert.DeltaSIdeal.Val.frameI,
   Cert.DeltaSIdeal.Val.frameR,
   trivial,
   Cert.PoolInIdeal.Val.algebraic,
   trivial,
   Cert.DeltaInIdeal.Val.algebraic,
   trivial,
   Cert.OutIdeal.Val.algebraic,
   trivial,
   Cert.OutZIdeal.Val.algebraic,
   trivial,
   Cert.NormIdeal.Val.algebraic,
   trivial,
   Cert.PoolIdeal.Val.algebraic,
   trivial,
   Cert.PoolSIdeal.Val.algebraic,
   trivial,
   Cert.NormPIdeal.Val.algebraic,
   trivial,
   Cert.NormSIdeal.Val.algebraic,
   trivial,
   Cert.NormZIdeal.Val.algebraic,
   trivial,
   Cert.DeltaIdeal.Val.algebraic,
   trivial,
   Cert.DeltaSIdeal.Val.algebraic⟩

end Cert.Proof

end
